-- ==== Defs.lean ====
def Pre_Combine [hPre_in_range : Cert.Pre_in_range.Facts] (m : (ℓ : Loc Cert.Combine.nD Cert.Combine.τ Cert.Combine.sig) → Buf (Elt Bits) ℓ) : Prop :=
  ∀ c : Dev Cert.Combine.nD,
    (Cert.Pre_in_range.fn (F := Bits) (m ((c.tc : Thread Cert.Combine.nD Cert.Combine.τ).loc Cert.Combine.main_arg0)) (m ((c.tc : Thread Cert.Combine.nD Cert.Combine.τ).loc Cert.Combine.main_arg1))) = (fun _ => 1#1)

def Pre_CombineIdeal [hPre_in_range : Cert.Pre_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_sorted_rows : Cert.Pre_sorted_rows.Facts] (m : (ℓ : Loc Cert.Experts.nD Cert.Experts.τ Cert.Experts.sig) → Buf (Elt Bits) ℓ) : Prop :=
  ∀ c : Dev Cert.Experts.nD,
    (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_sorted_rows : Cert.Pre_sorted_rows.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_sorted_rows : Cert.Pre_sorted_rows.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_sorted_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def quiescent_Combine [hCombine : Cert.Combine.Facts] [hPre_in_range : Cert.Pre_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (Cert.Combine.threads (F := Bits)) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1))
      ∧ r.2.sem = fun _ => 0)

def quiescent_CombineIdeal [hCombineIdeal : Cert.CombineIdeal.Facts] [hPre_in_range : Cert.Pre_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (Cert.CombineIdeal.threads (F := Ideal)) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_sorted_rows : Cert.Pre_sorted_rows.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_sorted_rows : Cert.Pre_sorted_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_sorted_rows : Cert.Pre_sorted_rows.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6)
      ∧ r.2.mem ((c.tc : Thread Cert.ProjSample.nD Cert.ProjSample.τ).loc Cert.ProjSample.main_arg7) = m ((c.tc : Thread Cert.ProjSample.nD Cert.ProjSample.τ).loc Cert.ProjSample.main_arg7)
      ∧ r.2.mem ((c.tc : Thread Cert.ProjSample.nD Cert.ProjSample.τ).loc Cert.ProjSample.main_arg8) = m ((c.tc : Thread Cert.ProjSample.nD Cert.ProjSample.τ).loc Cert.ProjSample.main_arg8)
      ∧ r.2.mem ((c.tc : Thread Cert.ProjSample.nD Cert.ProjSample.τ).loc Cert.ProjSample.main_arg9) = m ((c.tc : Thread Cert.ProjSample.nD Cert.ProjSample.τ).loc Cert.ProjSample.main_arg9)
      ∧ r.2.mem ((c.tc : Thread Cert.ProjSample.nD Cert.ProjSample.τ).loc Cert.ProjSample.main_arg10) = m ((c.tc : Thread Cert.ProjSample.nD Cert.ProjSample.τ).loc Cert.ProjSample.main_arg10)
      ∧ r.2.mem ((c.tc : Thread Cert.ProjSample.nD Cert.ProjSample.τ).loc Cert.ProjSample.main_arg11) = m ((c.tc : Thread Cert.ProjSample.nD Cert.ProjSample.τ).loc Cert.ProjSample.main_arg11))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
      ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7)
      ∧ r.2.mem ((c.tc : Thread Cert.ProjSampleIdeal.nD Cert.ProjSampleIdeal.τ).loc Cert.ProjSampleIdeal.main_arg8) = m ((c.tc : Thread Cert.ProjSampleIdeal.nD Cert.ProjSampleIdeal.τ).loc Cert.ProjSampleIdeal.main_arg8)
      ∧ r.2.mem ((c.tc : Thread Cert.ProjSampleIdeal.nD Cert.ProjSampleIdeal.τ).loc Cert.ProjSampleIdeal.main_arg9) = m ((c.tc : Thread Cert.ProjSampleIdeal.nD Cert.ProjSampleIdeal.τ).loc Cert.ProjSampleIdeal.main_arg9)
      ∧ r.2.mem ((c.tc : Thread Cert.ProjSampleIdeal.nD Cert.ProjSampleIdeal.τ).loc Cert.ProjSampleIdeal.main_arg10) = m ((c.tc : Thread Cert.ProjSampleIdeal.nD Cert.ProjSampleIdeal.τ).loc Cert.ProjSampleIdeal.main_arg10)
      ∧ r.2.mem ((c.tc : Thread Cert.ProjSampleIdeal.nD Cert.ProjSampleIdeal.τ).loc Cert.ProjSampleIdeal.main_arg11) = m ((c.tc : Thread Cert.ProjSampleIdeal.nD Cert.ProjSampleIdeal.τ).loc Cert.ProjSampleIdeal.main_arg11))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4)
      ∧ r.2.mem ((c.tc : Thread Cert.ProjSampleRefIdeal.nD Cert.ProjSampleRefIdeal.τ).loc Cert.ProjSampleRefIdeal.main_arg5) = m ((c.tc : Thread Cert.ProjSampleRefIdeal.nD Cert.ProjSampleRefIdeal.τ).loc Cert.ProjSampleRefIdeal.main_arg5)
      ∧ r.2.mem ((c.tc : Thread Cert.ProjSampleRefIdeal.nD Cert.ProjSampleRefIdeal.τ).loc Cert.ProjSampleRefIdeal.main_arg6) = m ((c.tc : Thread Cert.ProjSampleRefIdeal.nD Cert.ProjSampleRefIdeal.τ).loc Cert.ProjSampleRefIdeal.main_arg6)
      ∧ r.2.mem ((c.tc : Thread Cert.ProjSampleRefIdeal.nD Cert.ProjSampleRefIdeal.τ).loc Cert.ProjSampleRefIdeal.main_arg7) = m ((c.tc : Thread Cert.ProjSampleRefIdeal.nD Cert.ProjSampleRefIdeal.τ).loc Cert.ProjSampleRefIdeal.main_arg7)
      ∧ r.2.mem ((c.tc : Thread Cert.ProjSampleRefIdeal.nD Cert.ProjSampleRefIdeal.τ).loc Cert.ProjSampleRefIdeal.main_arg8) = m ((c.tc : Thread Cert.ProjSampleRefIdeal.nD Cert.ProjSampleRefIdeal.τ).loc Cert.ProjSampleRefIdeal.main_arg8)
      ∧ r.2.mem ((c.tc : Thread Cert.ProjSampleRefIdeal.nD Cert.ProjSampleRefIdeal.τ).loc Cert.ProjSampleRefIdeal.main_arg9) = m ((c.tc : Thread Cert.ProjSampleRefIdeal.nD Cert.ProjSampleRefIdeal.τ).loc Cert.ProjSampleRefIdeal.main_arg9)
      ∧ r.2.mem ((c.tc : Thread Cert.ProjSampleRefIdeal.nD Cert.ProjSampleRefIdeal.τ).loc Cert.ProjSampleRefIdeal.main_arg10) = m ((c.tc : Thread Cert.ProjSampleRefIdeal.nD Cert.ProjSampleRefIdeal.τ).loc Cert.ProjSampleRefIdeal.main_arg10)
      ∧ r.2.mem ((c.tc : Thread Cert.ProjSampleRefIdeal.nD Cert.ProjSampleRefIdeal.τ).loc Cert.ProjSampleRefIdeal.main_arg11) = m ((c.tc : Thread Cert.ProjSampleRefIdeal.nD Cert.ProjSampleRefIdeal.τ).loc Cert.ProjSampleRefIdeal.main_arg11))
      ∧ r.2.sem = fun _ => 0)

def preserves_Combine_CombineIdeal : Prop :=
  True

def algebraic_CombineIdeal_ReferenceIdeal [hCombineIdeal : Cert.CombineIdeal.Facts] [hReferenceIdeal : Cert.ReferenceIdeal.Facts] [hPre_in_range : Cert.Pre_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_CombineIdeal m →
    (∀ c : Dev Cert.CombineIdeal.nD,
      m' ((c.tc : Thread Cert.ReferenceIdeal.nD Cert.ReferenceIdeal.τ).loc Cert.ReferenceIdeal.main_arg0) = m ((c.tc : Thread Cert.CombineIdeal.nD Cert.CombineIdeal.τ).loc Cert.CombineIdeal.main_arg0)
      ∧ m' ((c.tc : Thread Cert.ReferenceIdeal.nD Cert.ReferenceIdeal.τ).loc Cert.ReferenceIdeal.main_arg1) = m ((c.tc : Thread Cert.CombineIdeal.nD Cert.CombineIdeal.τ).loc Cert.CombineIdeal.main_arg1)) →
    ∃ (v0 : (c : Dev Cert.CombineIdeal.nD) → Buf (Elt Ideal) ((c.tc : Thread Cert.CombineIdeal.nD Cert.CombineIdeal.τ).loc Cert.CombineIdeal.main_v5)),
      θ_run (Cert.CombineIdeal.defs (F := Ideal)) (Cert.CombineIdeal.threads (F := Ideal)) ⟨m, fun _ => 0, g⟩ (fun r => ∀ c : Dev Cert.CombineIdeal.nD,
          r.2.mem ((c.tc : Thread Cert.CombineIdeal.nD Cert.CombineIdeal.τ).loc Cert.CombineIdeal.main_v5) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Combine_Reference [hCombine : Cert.Combine.Facts] [hReference : Cert.Reference.Facts] [hPre_in_range : Cert.Pre_in_range.Facts] : Prop :=
  ∀ (m : (ℓ : Loc Cert.Combine.nD Cert.Combine.τ Cert.Combine.sig) → Buf (Elt Bits) ℓ) (g : Dev Cert.Combine.nD → PrngReg)
    (m' : (ℓ : Loc Cert.Reference.nD Cert.Reference.τ Cert.Reference.sig) → Buf (Elt Bits) ℓ) (g' : Dev Cert.Reference.nD → PrngReg), Pre_Combine m →
    (∀ c : Dev Cert.Combine.nD,
      m' ((c.tc : Thread Cert.Reference.nD Cert.Reference.τ).loc Cert.Reference.main_arg0) = m ((c.tc : Thread Cert.Combine.nD Cert.Combine.τ).loc Cert.Combine.main_arg0)
      ∧ m' ((c.tc : Thread Cert.Reference.nD Cert.Reference.τ).loc Cert.Reference.main_arg1) = m ((c.tc : Thread Cert.Combine.nD Cert.Combine.τ).loc Cert.Combine.main_arg1)) →
    ∃ (v0 : (c : Dev Cert.Combine.nD) → Buf (Elt Bits) ((c.tc : Thread Cert.Combine.nD Cert.Combine.τ).loc Cert.Combine.main_v5)),
      θ_run (Cert.Combine.defs (F := Bits)) (Cert.Combine.threads (F := Bits)) ⟨m, fun _ => 0, g⟩ (fun r => ∀ c : Dev Cert.Combine.nD,
          r.2.mem ((c.tc : Thread Cert.Combine.nD Cert.Combine.τ).loc Cert.Combine.main_v5) = v0 c
          ∧ r.2.mem ((c.tc : Thread Cert.Combine.nD Cert.Combine.τ).loc Cert.Combine.main_arg0) = m ((c.tc : Thread Cert.Combine.nD Cert.Combine.τ).loc Cert.Combine.main_arg0)
          ∧ r.2.mem ((c.tc : Thread Cert.Combine.nD Cert.Combine.τ).loc Cert.Combine.main_arg1) = m ((c.tc : Thread Cert.Combine.nD Cert.Combine.τ).loc Cert.Combine.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_sorted_rows : Cert.Pre_sorted_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v66)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v66) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v66) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v31) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v16_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)
      ∧ m' ((c.tc : Thread Cert.ProjSampleRefIdeal.nD Cert.ProjSampleRefIdeal.τ).loc Cert.ProjSampleRefIdeal.main_arg5) = m ((c.tc : Thread Cert.ProjSampleIdeal.nD Cert.ProjSampleIdeal.τ).loc Cert.ProjSampleIdeal.main_arg5)
      ∧ m' ((c.tc : Thread Cert.ProjSampleRefIdeal.nD Cert.ProjSampleRefIdeal.τ).loc Cert.ProjSampleRefIdeal.main_arg6) = m ((c.tc : Thread Cert.ProjSampleIdeal.nD Cert.ProjSampleIdeal.τ).loc Cert.ProjSampleIdeal.main_arg6)
      ∧ m' ((c.tc : Thread Cert.ProjSampleRefIdeal.nD Cert.ProjSampleRefIdeal.τ).loc Cert.ProjSampleRefIdeal.main_arg7) = m ((c.tc : Thread Cert.ProjSampleIdeal.nD Cert.ProjSampleIdeal.τ).loc Cert.ProjSampleIdeal.main_arg7)
      ∧ m' ((c.tc : Thread Cert.ProjSampleRefIdeal.nD Cert.ProjSampleRefIdeal.τ).loc Cert.ProjSampleRefIdeal.main_arg8) = m ((c.tc : Thread Cert.ProjSampleIdeal.nD Cert.ProjSampleIdeal.τ).loc Cert.ProjSampleIdeal.main_arg8)
      ∧ m' ((c.tc : Thread Cert.ProjSampleRefIdeal.nD Cert.ProjSampleRefIdeal.τ).loc Cert.ProjSampleRefIdeal.main_arg9) = m ((c.tc : Thread Cert.ProjSampleIdeal.nD Cert.ProjSampleIdeal.τ).loc Cert.ProjSampleIdeal.main_arg9)
      ∧ m' ((c.tc : Thread Cert.ProjSampleRefIdeal.nD Cert.ProjSampleRefIdeal.τ).loc Cert.ProjSampleRefIdeal.main_arg10) = m ((c.tc : Thread Cert.ProjSampleIdeal.nD Cert.ProjSampleIdeal.τ).loc Cert.ProjSampleIdeal.main_arg10)
      ∧ m' ((c.tc : Thread Cert.ProjSampleRefIdeal.nD Cert.ProjSampleRefIdeal.τ).loc Cert.ProjSampleRefIdeal.main_arg11) = m ((c.tc : Thread Cert.ProjSampleIdeal.nD Cert.ProjSampleIdeal.τ).loc Cert.ProjSampleIdeal.main_arg11)) →
    ∃ (v0 : (c : Dev Cert.ProjSampleIdeal.nD) → Buf (Elt Ideal) ((c.tc : Thread Cert.ProjSampleIdeal.nD Cert.ProjSampleIdeal.τ).loc Cert.ProjSampleIdeal.main_v16_3)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v16_3) = v0 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6)
          ∧ r.2.mem ((c.tc : Thread Cert.ProjSampleIdeal.nD Cert.ProjSampleIdeal.τ).loc Cert.ProjSampleIdeal.main_arg7) = m ((c.tc : Thread Cert.ProjSampleIdeal.nD Cert.ProjSampleIdeal.τ).loc Cert.ProjSampleIdeal.main_arg7)
          ∧ r.2.mem ((c.tc : Thread Cert.ProjSampleIdeal.nD Cert.ProjSampleIdeal.τ).loc Cert.ProjSampleIdeal.main_arg8) = m ((c.tc : Thread Cert.ProjSampleIdeal.nD Cert.ProjSampleIdeal.τ).loc Cert.ProjSampleIdeal.main_arg8)
          ∧ r.2.mem ((c.tc : Thread Cert.ProjSampleIdeal.nD Cert.ProjSampleIdeal.τ).loc Cert.ProjSampleIdeal.main_arg9) = m ((c.tc : Thread Cert.ProjSampleIdeal.nD Cert.ProjSampleIdeal.τ).loc Cert.ProjSampleIdeal.main_arg9)
          ∧ r.2.mem ((c.tc : Thread Cert.ProjSampleIdeal.nD Cert.ProjSampleIdeal.τ).loc Cert.ProjSampleIdeal.main_arg10) = m ((c.tc : Thread Cert.ProjSampleIdeal.nD Cert.ProjSampleIdeal.τ).loc Cert.ProjSampleIdeal.main_arg10)
          ∧ r.2.mem ((c.tc : Thread Cert.ProjSampleIdeal.nD Cert.ProjSampleIdeal.τ).loc Cert.ProjSampleIdeal.main_arg11) = m ((c.tc : Thread Cert.ProjSampleIdeal.nD Cert.ProjSampleIdeal.τ).loc Cert.ProjSampleIdeal.main_arg11))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v27) = v0 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3)
          ∧ r.2.mem ((c.tc : Thread Cert.ProjSampleRefIdeal.nD Cert.ProjSampleRefIdeal.τ).loc Cert.ProjSampleRefIdeal.main_arg4) = m' ((c.tc : Thread Cert.ProjSampleRefIdeal.nD Cert.ProjSampleRefIdeal.τ).loc Cert.ProjSampleRefIdeal.main_arg4)
          ∧ r.2.mem ((c.tc : Thread Cert.ProjSampleRefIdeal.nD Cert.ProjSampleRefIdeal.τ).loc Cert.ProjSampleRefIdeal.main_arg5) = m' ((c.tc : Thread Cert.ProjSampleRefIdeal.nD Cert.ProjSampleRefIdeal.τ).loc Cert.ProjSampleRefIdeal.main_arg5)
          ∧ r.2.mem ((c.tc : Thread Cert.ProjSampleRefIdeal.nD Cert.ProjSampleRefIdeal.τ).loc Cert.ProjSampleRefIdeal.main_arg6) = m' ((c.tc : Thread Cert.ProjSampleRefIdeal.nD Cert.ProjSampleRefIdeal.τ).loc Cert.ProjSampleRefIdeal.main_arg6)
          ∧ r.2.mem ((c.tc : Thread Cert.ProjSampleRefIdeal.nD Cert.ProjSampleRefIdeal.τ).loc Cert.ProjSampleRefIdeal.main_arg7) = m' ((c.tc : Thread Cert.ProjSampleRefIdeal.nD Cert.ProjSampleRefIdeal.τ).loc Cert.ProjSampleRefIdeal.main_arg7)
          ∧ r.2.mem ((c.tc : Thread Cert.ProjSampleRefIdeal.nD Cert.ProjSampleRefIdeal.τ).loc Cert.ProjSampleRefIdeal.main_arg8) = m' ((c.tc : Thread Cert.ProjSampleRefIdeal.nD Cert.ProjSampleRefIdeal.τ).loc Cert.ProjSampleRefIdeal.main_arg8)
          ∧ r.2.mem ((c.tc : Thread Cert.ProjSampleRefIdeal.nD Cert.ProjSampleRefIdeal.τ).loc Cert.ProjSampleRefIdeal.main_arg9) = m' ((c.tc : Thread Cert.ProjSampleRefIdeal.nD Cert.ProjSampleRefIdeal.τ).loc Cert.ProjSampleRefIdeal.main_arg9)
          ∧ r.2.mem ((c.tc : Thread Cert.ProjSampleRefIdeal.nD Cert.ProjSampleRefIdeal.τ).loc Cert.ProjSampleRefIdeal.main_arg10) = m' ((c.tc : Thread Cert.ProjSampleRefIdeal.nD Cert.ProjSampleRefIdeal.τ).loc Cert.ProjSampleRefIdeal.main_arg10)
          ∧ r.2.mem ((c.tc : Thread Cert.ProjSampleRefIdeal.nD Cert.ProjSampleRefIdeal.τ).loc Cert.ProjSampleRefIdeal.main_arg11) = m' ((c.tc : Thread Cert.ProjSampleRefIdeal.nD Cert.ProjSampleRefIdeal.τ).loc Cert.ProjSampleRefIdeal.main_arg11))

def Claim : Prop :=
  ∃ (hCombine : Cert.Combine.Facts) (hCombineIdeal : Cert.CombineIdeal.Facts) (hReferenceIdeal : Cert.ReferenceIdeal.Facts) (hReference : Cert.Reference.Facts) (hExperts : Cert.Experts.Facts) (hExpertsIdeal : Cert.ExpertsIdeal.Facts) (hExpertsRefIdeal : Cert.ExpertsRefIdeal.Facts) (hPle : Cert.Ple.Facts) (hPleIdeal : Cert.PleIdeal.Facts) (hPleRefIdeal : Cert.PleRefIdeal.Facts) (hProj : Cert.Proj.Facts) (hProjIdeal : Cert.ProjIdeal.Facts) (hProjRefIdeal : Cert.ProjRefIdeal.Facts) (hProjSample : Cert.ProjSample.Facts) (hProjSampleIdeal : Cert.ProjSampleIdeal.Facts) (hProjSampleRefIdeal : Cert.ProjSampleRefIdeal.Facts) (hPre_in_range : Cert.Pre_in_range.Facts) (hPre_sorted_rows : Cert.Pre_sorted_rows.Facts),
    quiescent_Combine (hCombine := hCombine) (hPre_in_range := hPre_in_range)
    ∧ quiescent_CombineIdeal (hCombineIdeal := hCombineIdeal) (hPre_in_range := hPre_in_range)
    ∧ quiescent_ReferenceIdeal (hReferenceIdeal := hReferenceIdeal) (hPre_in_range := hPre_in_range)
    ∧ quiescent_Reference (hReference := hReference) (hPre_in_range := hPre_in_range)
    ∧ quiescent_Experts (hExperts := hExperts) (hPre_sorted_rows := hPre_sorted_rows)
    ∧ quiescent_ExpertsIdeal (hExpertsIdeal := hExpertsIdeal) (hPre_sorted_rows := hPre_sorted_rows)
    ∧ quiescent_ExpertsRefIdeal (hExpertsRefIdeal := hExpertsRefIdeal) (hPre_sorted_rows := hPre_sorted_rows)
    ∧ quiescent_Ple (hPle := hPle)
    ∧ quiescent_PleIdeal (hPleIdeal := hPleIdeal)
    ∧ quiescent_PleRefIdeal (hPleRefIdeal := hPleRefIdeal)
    ∧ quiescent_Proj (hProj := hProj)
    ∧ quiescent_ProjIdeal (hProjIdeal := hProjIdeal)
    ∧ quiescent_ProjRefIdeal (hProjRefIdeal := hProjRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ preserves_Combine_CombineIdeal
    ∧ algebraic_CombineIdeal_ReferenceIdeal (hCombineIdeal := hCombineIdeal) (hReferenceIdeal := hReferenceIdeal) (hPre_in_range := hPre_in_range)
    ∧ bitexact_Combine_Reference (hCombine := hCombine) (hReference := hReference) (hPre_in_range := hPre_in_range)
    ∧ preserves_Experts_ExpertsIdeal
    ∧ algebraic_ExpertsIdeal_ExpertsRefIdeal (hExpertsIdeal := hExpertsIdeal) (hExpertsRefIdeal := hExpertsRefIdeal) (hPre_sorted_rows := hPre_sorted_rows)
    ∧ preserves_Ple_PleIdeal
    ∧ algebraic_PleIdeal_PleRefIdeal (hPleIdeal := hPleIdeal) (hPleRefIdeal := hPleRefIdeal)
    ∧ preserves_Proj_ProjIdeal
    ∧ algebraic_ProjIdeal_ProjRefIdeal (hProjIdeal := hProjIdeal) (hProjRefIdeal := hProjRefIdeal)
    ∧ preserves_ProjSample_ProjSampleIdeal
    ∧ algebraic_ProjSampleIdeal_ProjSampleRefIdeal (hProjSampleIdeal := hProjSampleIdeal) (hProjSampleRefIdeal := hProjSampleRefIdeal)
-- ==== Pre_in_range.lean ====
abbrev S131072x1024 : Shape := ⟨2, ![131072, 1024]⟩
abbrev S4x32768 : Shape := ⟨2, ![4, 32768]⟩
abbrev S_ : Shape := ⟨0, ![]⟩

class Facts : Prop where
  bcast_S_S4x32768 : S_.BroadcastsInDim S4x32768 (![] : Fin 0 → Fin S4x32768.rank)
  reducesTo_S4x32768_S_d0_1 : S4x32768.ReducesTo [0, 1] S_
  h_S_ : 0 < S_.numel

variable [Facts]

def fn {F : FTy → Type} [FloatOps F] (main_arg0 : FVec F S131072x1024 .f32) (main_arg1 : IVec S4x32768 32) : IVec S_ 1 :=
  let main_c : IVec S_ 32 := constantI S_ 32 0#32
  let main_v0 : IVec S4x32768 32 := broadcastInDim S4x32768 ![] bcast_S_S4x32768 main_c
  let main_v1 : IVec S4x32768 1 := cmpi .sge main_arg1 main_v0
  let main_c_0 : IVec S_ 32 := constantI S_ 32 131072#32
  let main_v2 : IVec S4x32768 32 := broadcastInDim S4x32768 ![] bcast_S_S4x32768 main_c_0
  let main_v3 : IVec S4x32768 1 := cmpi .slt main_arg1 main_v2
  let main_v4 : IVec S4x32768 1 := andi main_v1 main_v3
  let main_c_1 : IVec S_ 1 := constantI S_ 1 1#1
  let main_v5 : IVec S_ 1 := (fun x v => Host.reduce IntOp.andi x v reducesTo_S4x32768_S_d0_1 h_S_) main_v4 main_c_1
  main_v5
-- ==== Pre_sorted_rows.lean ====
abbrev S131072x512 : Shape := ⟨2, ![131072, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S131072x512 32) (main_arg1 : IVec S32 32) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 32768#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg1 main_c_2
  let main_c_3 : IVec S_ 32 := constantI S_ 32 131072#32
  let main_v7 : IVec S_ 1 := cmpi .eq main_v6 main_c_3
  let main_v8 : IVec S_ 1 := andi main_v5 main_v7
  main_v8
-- ==== Combine.lean ====
abbrev S131072x1024 : Shape := ⟨2, ![131072, 1024]⟩
abbrev S4x32768 : Shape := ⟨2, ![4, 32768]⟩
abbrev S4x4096x8 : Shape := ⟨3, ![4, 4096, 8]⟩
abbrev S4096x4x8 : Shape := ⟨3, ![4096, 4, 8]⟩
abbrev S4096x32 : Shape := ⟨2, ![4096, 32]⟩
abbrev S_ : Shape := ⟨0, ![]⟩
abbrev S4096x96 : Shape := ⟨2, ![4096, 96]⟩
abbrev S4096x128 : Shape := ⟨2, ![4096, 128]⟩
abbrev S4096x32x1024 : Shape := ⟨3, ![4096, 32, 1024]⟩
abbrev S2x1x128 : Shape := ⟨3, ![2, 1, 128]⟩
abbrev S2 : Shape := ⟨1, ![2]⟩
abbrev S2x1x32x1024 : Shape := ⟨4, ![2, 1, 32, 1024]⟩
abbrev S1x1x128 : Shape := ⟨3, ![1, 1, 128]⟩
abbrev S1x128 : Shape := ⟨2, ![1, 128]⟩
abbrev S1 : Shape := ⟨1, ![1]⟩
abbrev S1x1x32x1024 : Shape := ⟨4, ![1, 1, 32, 1024]⟩
abbrev S1x32x1024 : Shape := ⟨3, ![1, 32, 1024]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S131072x128 : Shape := ⟨2, ![131072, 128]⟩

abbrev nBuf : Table → Nat
  | .hbm => 9
  | .local .scVector .vmem => 2
  | _ => 0

abbrev bufTy : (tb : Table) → Fin (nBuf tb) → BufTy
  | .hbm, ⟨0, _⟩ => ⟨S131072x1024, .f32⟩
  | .hbm, ⟨1, _⟩ => ⟨S4x32768, .i32⟩
  | .hbm, ⟨2, _⟩ => ⟨S4x4096x8, .i32⟩
  | .hbm, ⟨3, _⟩ => ⟨S4096x4x8, .i32⟩
  | .hbm, ⟨4, _⟩ => ⟨S4096x32, .i32⟩
  | .hbm, ⟨5, _⟩ => ⟨S_, .i32⟩
  | .hbm, ⟨6, _⟩ => ⟨S4096x96, .i32⟩
  | .hbm, ⟨7, _⟩ => ⟨S4096x128, .i32⟩
  | .hbm, ⟨8, _⟩ => ⟨S4096x32x1024, .f32⟩
  | .local .scVector .vmem, ⟨0, _⟩ => ⟨S2x1x128, .i32⟩
  | .local .scVector .vmem, ⟨1, _⟩ => ⟨S2x1x32x1024, .f32⟩
  | _, _ => ⟨S131072x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_v4_scv : Ref sig .scVector := ⟨.hbm, 7, rfl⟩
abbrev main_v5_scv : Ref sig .scVector := ⟨.hbm, 8, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c128_i32_28_r0 : BitVec 32 := 128#32
  let v32_r0 : BitVec 32 := Scalar.addi c0_i32_27_r0 c128_i32_28_r0
  let c1_i32_29_r0 : BitVec 32 := 1#32
  ⟨c0_i32_27_r0, v32_r0, c1_i32_29_r0⟩
def k0_off4 (arg6_r0 : BitVec 32) : Fin 3 → Nat :=
  let c2_i32_119_r0 : BitVec 32 := 2#32
  let v144_r0 : BitVec 32 := Scalar.remui arg6_r0 c2_i32_119_r0
  let c0_i32_121_r0 : BitVec 32 := 0#32
  let c0_i32_122_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c128_i32_67_r0 : BitVec 32 := 128#32
  let v74_r0 : BitVec 1 := Scalar.cmpi .eq v73_r0 c128_i32_67_r0
  let c0_i32_68_r0 : BitVec 32 := 0#32
  let v75_r0 : BitVec 32 := Scalar.select v74_r0 c0_i32_68_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c127_i32_73_r0 : BitVec 32 := 127#32
  let v83_r0 : BitVec 1 := Scalar.cmpi .sge arg5_r0 c127_i32_73_r0
  let true_74_r0 : BitVec 1 := 1#1
  let v84_r0 : BitVec 1 := Scalar.xori v83_r0 true_74_r0
  let v85_r0 : BitVec 1 := Scalar.andi v82_r0 v84_r0
  let true_75_r0 : BitVec 1 := 1#1
  let v86_r0 : BitVec 1 := Scalar.andi v85_r0 true_75_r0
  let v87_r0 : BitVec 32 := Scalar.extui v86_r0
  let c0_i32_76_r0 : BitVec 32 := 0#32
  let v88_r0 : BitVec 1 := Scalar.cmpi .ne v87_r0 c0_i32_76_r0
  v88_r0

def k0_off5 (i : grid0.Coords) (arg10_r0 : BitVec 32) : Fin 2 → Nat :=
  let c1_i32_120_r0 : BitVec 32 := 1#32
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c128_i32_67_r0 : BitVec 32 := 128#32
  let v74_r0 : BitVec 1 := Scalar.cmpi .eq v73_r0 c128_i32_67_r0
  let c0_i32_68_r0 : BitVec 32 := 0#32
  let v75_r0 : BitVec 32 := Scalar.select v74_r0 c0_i32_68_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v76_r0 : BitVec 32 := Scalar.addi v75_r0 v4
  let v145_r0 : BitVec 32 := Scalar.muli c1_i32_120_r0 v76_r0
  let c0_i32_123_r0 : BitVec 32 := 0#32
  ![v145_r0.toNat, 0]
def k0_off6 (arg6_r0 : BitVec 32) : Fin 1 → Nat :=
  let c2_i32_119_r0 : BitVec 32 := 2#32
  let v144_r0 : BitVec 32 := Scalar.remui arg6_r0 c2_i32_119_r0
  ![v144_r0.toNat]
def k0_off7 (arg7_r0 : BitVec 32) : Fin 3 → Nat :=
  let c2_i32_120_r0 : BitVec 32 := 2#32
  let v145_r0 : BitVec 32 := Scalar.remui arg7_r0 c2_i32_120_r0
  let c0_i32_121_r0 : BitVec 32 := 0#32
  let c0_i32_122_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c127_i32_64_r0 : BitVec 32 := 127#32
  let v70_r0 : BitVec 32 := Scalar.select v69_r0 c127_i32_64_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let v97_r0 : BitVec 1 := Scalar.ori v96_r0 v64_r0
  let c0_i32_81_r0 : BitVec 32 := 0#32
  let v98_r0 : BitVec 1 := Scalar.cmpi .sge arg5_r0 c0_i32_81_r0
  let v99_r0 : BitVec 1 := Scalar.andi v97_r0 v98_r0
  let v100_r0 : BitVec 32 := Scalar.extui v99_r0
  let c0_i32_82_r0 : BitVec 32 := 0#32
  let v101_r0 : BitVec 1 := Scalar.cmpi .ne v100_r0 c0_i32_82_r0
  v101_r0

def k0_off8 (i : grid0.Coords) (arg10_r0 : BitVec 32) : Fin 2 → Nat :=
  let c1_i32_119_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let v144_r0 : BitVec 32 := Scalar.muli c1_i32_119_r0 v66_r0
  let c0_i32_123_r0 : BitVec 32 := 0#32
  ![v144_r0.toNat, 0]
def k0_off9 (arg7_r0 : BitVec 32) : Fin 1 → Nat :=
  let c2_i32_120_r0 : BitVec 32 := 2#32
  let v145_r0 : BitVec 32 := Scalar.remui arg7_r0 c2_i32_120_r0
  ![v145_r0.toNat]
def k0_off10 (arg8_r0 : BitVec 32) : Fin 4 → Nat :=
  let c2_i32_86_r0 : BitVec 32 := 2#32
  let v109_r0 : BitVec 32 := Scalar.remui arg8_r0 c2_i32_86_r0
  let c0_i32_119_r1 : BitVec 32 := 0#32
  let c0_i32_120_r1 : BitVec 32 := 0#32
  let c0_i32_121_r1 : BitVec 32 := 0#32
  ![v109_r0.toNat, 0, 0, 0]

def k0_chk2 (arg8_r0 : BitVec 32) : Prop :=
  (∀ a, (k0_off10 arg8_r0) a + S1x1x32x1024.size a ≤ S2x1x32x1024.size a)
theorem k0_off10_inb : ∀ (arg8_r0 : BitVec 32) (k0_hw2 : k0_chk2 arg8_r0), ∀ a, (k0_off10 arg8_r0) a + S1x1x32x1024.size a ≤ S2x1x32x1024.size a := fun arg8_r0 k0_hw2 => k0_hw2

def k0_off11 (arg7_r0 : BitVec 32) : Fin 3 → Nat :=
  let c2_i32_85_r0 : BitVec 32 := 2#32
  let v108_r0 : BitVec 32 := Scalar.remui arg7_r0 c2_i32_85_r0
  let c0_i32_124_r1 : BitVec 32 := 0#32
  let c0_i32_125_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_119_r0 : BitVec 32 := 2#32
  let v144_r0 : BitVec 32 := Scalar.remui arg8_r0 c2_i32_119_r0
  let c0_i32_121_r0 : BitVec 32 := 0#32
  let c0_i32_122_r0 : BitVec 32 := 0#32
  let c0_i32_123_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_66_r0 : BitVec 1 := 1#1
  let c1_i32_65_r0 : BitVec 32 := 1#32
  let v72_r0 : BitVec 32 := Scalar.addi arg10_r0 c1_i32_65_r0
  let v73_r0 : BitVec 32 := Scalar.select true_66_r0 v72_r0 arg10_r0
  let c128_i32_67_r0 : BitVec 32 := 128#32
  let v74_r0 : BitVec 1 := Scalar.cmpi .eq v73_r0 c128_i32_67_r0
  let c0_i32_68_r0 : BitVec 32 := 0#32
  let v75_r0 : BitVec 32 := Scalar.select v74_r0 c0_i32_68_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c127_i32_60_r0 : BitVec 32 := 127#32
  let v65_r0 : BitVec 1 := Scalar.cmpi .eq arg5_r0 c127_i32_60_r0
  let v116_r0 : BitVec 1 := Scalar.ori v115_r0 v65_r0
  let v117_r0 : BitVec 32 := Scalar.extui v116_r0
  let c0_i32_104_r0 : BitVec 32 := 0#32
  let v118_r0 : BitVec 1 := Scalar.cmpi .ne v117_r0 c0_i32_104_r0
  v118_r0

def k0_off13 (i : grid0.Coords) (arg10_r0 : BitVec 32) : Fin 3 → Nat :=
  let c1_i32_120_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let v145_r0 : BitVec 32 := Scalar.muli c1_i32_120_r0 v66_r0
  let c0_i32_124_r0 : BitVec 32 := 0#32
  let c0_i32_125_r0 : BitVec 32 := 0#32
  ![v145_r0.toNat, 0, 0]
def k0_off14 (arg8_r0 : BitVec 32) : Fin 1 → Nat :=
  let c2_i32_119_r0 : BitVec 32 := 2#32
  let v144_r0 : BitVec 32 := Scalar.remui arg8_r0 c2_i32_119_r0
  ![v144_r0.toNat]
def k0_off15 (arg9_r0 : BitVec 32) : Fin 4 → Nat :=
  let c2_i32_119_r0 : BitVec 32 := 2#32
  let v144_r0 : BitVec 32 := Scalar.remui arg9_r0 c2_i32_119_r0
  let c0_i32_121_r0 : BitVec 32 := 0#32
  let c0_i32_122_r0 : BitVec 32 := 0#32
  let c0_i32_123_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c127_i32_64_r0 : BitVec 32 := 127#32
  let v70_r0 : BitVec 32 := Scalar.select v69_r0 c127_i32_64_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_59_r0 : BitVec 32 := 0#32
  let v64_r0 : BitVec 1 := Scalar.cmpi .eq arg5_r0 c0_i32_59_r0
  let true_110_r0 : BitVec 1 := 1#1
  let v129_r0 : BitVec 1 := Scalar.xori v64_r0 true_110_r0
  let v130_r0 : BitVec 1 := Scalar.andi v128_r0 v129_r0
  let v131_r0 : BitVec 32 := Scalar.extui v130_r0
  let c0_i32_111_r0 : BitVec 32 := 0#32
  let v132_r0 : BitVec 1 := Scalar.cmpi .ne v131_r0 c0_i32_111_r0
  v132_r0

def k0_off16 (i : grid0.Coords) (arg10_r0 : BitVec 32) : Fin 3 → Nat :=
  let c1_i32_120_r0 : BitVec 32 := 1#32
  let true_62_r0 : BitVec 1 := 1#1
  let c1_i32_61_r0 : BitVec 32 := 1#32
  let v67_r0 : BitVec 32 := Scalar.subi arg10_r0 c1_i32_61_r0
  let v68_r0 : BitVec 32 := Scalar.select true_62_r0 v67_r0 arg10_r0
  let c_m1_i32_63_r0 : BitVec 32 := 4294967295#32
  let v69_r0 : BitVec 1 := Scalar.cmpi .eq v68_r0 c_m1_i32_63_r0
  let c127_i32_64_r0 : BitVec 32 := 127#32
  let v70_r0 : BitVec 32 := Scalar.select v69_r0 c127_i32_64_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v71_r0 : BitVec 32 := Scalar.addi v70_r0 v4
  let v145_r0 : BitVec 32 := Scalar.muli c1_i32_120_r0 v71_r0
  let c0_i32_124_r0 : BitVec 32 := 0#32
  let c0_i32_125_r0 : BitVec 32 := 0#32
  ![v145_r0.toNat, 0, 0]
def k0_off17 (arg9_r0 : BitVec 32) : Fin 1 → Nat :=
  let c2_i32_119_r0 : BitVec 32 := 2#32
  let v144_r0 : BitVec 32 := Scalar.remui arg9_r0 c2_i32_119_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S4096x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S4096x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x1x32x1024.size a ≤ S2x1x32x1024.size a) ∧
  (∀ (k0_h5 : k0_cond5 i k0_t1 arg10_r0 = 1#1), ∀ a, (k0_off13 i arg10_r0) a + S1x32x1024.size a ≤ S4096x32x1024.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x1x32x1024.size a ≤ S2x1x32x1024.size a) ∧
  (∀ (k0_h7 : k0_cond7 i k0_t1 arg10_r0 = 1#1), ∀ a, (k0_off16 i arg10_r0) a + S1x32x1024.size a ≤ S4096x32x1024.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S4096x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S4096x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x1x32x1024.size a ≤ S2x1x32x1024.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S1x32x1024.size a ≤ S4096x32x1024.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x1x32x1024.size a ≤ S2x1x32x1024.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S1x32x1024.size a ≤ S4096x32x1024.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  let c0_i32_51_r0 : BitVec 32 := 0#32
  ![v54_r0.toNat, 0, 0, 0]

def k0_off19 (i : grid0.Coords) (v33_4_r0 : BitVec 32) : Fin 3 → Nat :=
  let c1_i32_48_r0 : BitVec 32 := 1#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c127_i32_34_r0 : BitVec 32 := 127#32
  let v37_r0 : BitVec 32 := Scalar.select v36_r0 c127_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v38_r0 : BitVec 32 := Scalar.addi v37_r0 v4
  let v55_r0 : BitVec 32 := Scalar.muli c1_i32_48_r0 v38_r0
  let c0_i32_52_r0 : BitVec 32 := 0#32
  let c0_i32_53_r0 : BitVec 32 := 0#32
  ![v55_r0.toNat, 0, 0]

def k0_chk5 (i : grid0.Coords) (v33_4_r0 : BitVec 32) : Prop :=
  (∀ a, (k0_off19 i v33_4_r0) a + S1x32x1024.size a ≤ S4096x32x1024.size a)
theorem k0_off19_inb : ∀ (i : grid0.Coords) (v33_4_r0 : BitVec 32) (k0_hw5 : k0_chk5 i v33_4_r0), ∀ a, (k0_off19 i v33_4_r0) a + S1x32x1024.size a ≤ S4096x32x1024.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 4 → Nat :=
  let c2_i32_47_r0 : BitVec 32 := 2#32
  let v54_r0 : BitVec 32 := Scalar.remui v33_3_r0 c2_i32_47_r0
  let c0_i32_56_r0 : BitVec 32 := 0#32
  let c0_i32_57_r0 : BitVec 32 := 0#32
  let c0_i32_58_r0 : BitVec 32 := 0#32
  ![v54_r0.toNat, 0, 0, 0]

def k0_chk4 (v33_3_r0 : BitVec 32) : Prop :=
  (∀ a, (k0_off18 v33_3_r0) a + S1x1x32x1024.size a ≤ S2x1x32x1024.size a) ∧
  (∀ a, (k0_off20 v33_3_r0) a + S1.size a ≤ S2.size a) ∧
  (∀ a, (k0_off21 v33_3_r0) a + S1x1x32x1024.size a ≤ S2x1x32x1024.size a)
theorem k0_off18_inb : ∀ (v33_3_r0 : BitVec 32) (k0_hw4 : k0_chk4 v33_3_r0), ∀ a, (k0_off18 v33_3_r0) a + S1x1x32x1024.size a ≤ S2x1x32x1024.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x1x32x1024.size a ≤ S2x1x32x1024.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S131072x1024 : Shape := ⟨2, ![131072, 1024]⟩
abbrev S4x32768 : Shape := ⟨2, ![4, 32768]⟩
abbrev S_ : Shape := ⟨0, ![]⟩
abbrev S4x32768x1 : Shape := ⟨3, ![4, 32768, 1]⟩
abbrev S4x32768x1024 : Shape := ⟨3, ![4, 32768, 1024]⟩
abbrev S4x4096x8x1024 : Shape := ⟨4, ![4, 4096, 8, 1024]⟩
abbrev S4096x4x8x1024 : Shape := ⟨4, ![4096, 4, 8, 1024]⟩
abbrev S4096x32x1024 : Shape := ⟨3, ![4096, 32, 1024]⟩

abbrev nBuf : Space → Nat
  | .hbm => 14
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S4x32768, .i32⟩
  | .hbm, ⟨2, _⟩ => ⟨S_, .i32⟩
  | .hbm, ⟨3, _⟩ => ⟨S4x32768, .i32⟩
  | .hbm, ⟨4, _⟩ => ⟨S4x32768, .i1⟩
  | .hbm, ⟨5, _⟩ => ⟨S_, .i32⟩
  | .hbm, ⟨6, _⟩ => ⟨S4x32768, .i32⟩
  | .hbm, ⟨7, _⟩ => ⟨S4x32768, .i32⟩
  | .hbm, ⟨8, _⟩ => ⟨S4x32768, .i32⟩
  | .hbm, ⟨9, _⟩ => ⟨S4x32768x1, .i32⟩
  | .hbm, ⟨10, _⟩ => ⟨S4x32768x1024, .f32⟩
  | .hbm, ⟨11, _⟩ => ⟨S4x4096x8x1024, .f32⟩
  | .hbm, ⟨12, _⟩ => ⟨S4096x4x8x1024, .f32⟩
  | .hbm, ⟨13, _⟩ => ⟨S4096x32x1024, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Experts.lean ====
abbrev S131072x512 : Shape := ⟨2, ![131072, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S_ : Shape := ⟨0, ![]⟩
abbrev S287 : Shape := ⟨1, ![287]⟩
abbrev S1 : Shape := ⟨1, ![1]⟩
abbrev S287x1 : Shape := ⟨2, ![287, 1]⟩
abbrev S1x32 : Shape := ⟨2, ![1, 32]⟩
abbrev S287x32 : Shape := ⟨2, ![287, 32]⟩
abbrev S286 : Shape := ⟨1, ![286]⟩
abbrev S131072x1024 : Shape := ⟨2, ![131072, 1024]⟩
abbrev S512x512 : Shape := ⟨2, ![512, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩
abbrev S512x1 : Shape := ⟨2, ![512, 1]⟩

abbrev nBuf : Space → Nat
  | .hbm => 136
  | .vmem => 14
  | .smem => 7
  | _ => 0

abbrev hbmTy0_0 (i : Nat) : BufTy := match i % 128 with
  | 0 => ⟨S131072x512, .i32⟩
  | 1 => ⟨S32, .i32⟩
  | 2 => ⟨S32x1024x2048, .f32⟩
  | 3 => ⟨S32x2048, .f32⟩
  | 4 => ⟨S32x1024x1024, .f32⟩
  | 5 => ⟨S32x1024, .f32⟩
  | 6 => ⟨S32x1x2048, .f32⟩
  | 7 => ⟨S32x1x1024, .f32⟩
  | 8 => ⟨S_, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i1⟩
  | 33 => ⟨S_, .i32⟩
  | 34 => ⟨S32, .i32⟩
  | 35 => ⟨S32, .i32⟩
  | 36 => ⟨S_, .i32⟩
  | 37 => ⟨S_, .i32⟩
  | 38 => ⟨S32, .i32⟩
  | 39 => ⟨S32, .i32⟩
  | 40 => ⟨S32, .i32⟩
  | 41 => ⟨S_, .i32⟩
  | 42 => ⟨S32, .i32⟩
  | 43 => ⟨S32, .i1⟩
  | 44 => ⟨S32, .i32⟩
  | 45 => ⟨S32, .i32⟩
  | 46 => ⟨S_, .i32⟩
  | 47 => ⟨S32, .i32⟩
  | 48 => ⟨S32, .i1⟩
  | 49 => ⟨S32, .i1⟩
  | 50 => ⟨S_, .i32⟩
  | 51 => ⟨S32, .i32⟩
  | 52 => ⟨S32, .i32⟩
  | 53 => ⟨S32, .i32⟩
  | 54 => ⟨S32, .i32⟩
  | 55 => ⟨S_, .i32⟩
  | 56 => ⟨S32, .i32⟩
  | 57 => ⟨S32, .i32⟩
  | 58 => ⟨S_, .i32⟩
  | 59 => ⟨S_, .i32⟩
  | 60 => ⟨S32, .i32⟩
  | 61 => ⟨S32, .i32⟩
  | 62 => ⟨S_, .i32⟩
  | 63 => ⟨S_, .i32⟩
  | 64 => ⟨S32, .i32⟩
  | 65 => ⟨S287, .i32⟩
  | 66 => ⟨S1, .i32⟩
  | 67 => ⟨S_, .i32⟩
  | 68 => ⟨S287, .i32⟩
  | 69 => ⟨S287, .i1⟩
  | 70 => ⟨S1, .i32⟩
  | 71 => ⟨S_, .i32⟩
  | 72 => ⟨S_, .i32⟩
  | 73 => ⟨S_, .i32⟩
  | 74 => ⟨S287, .i32⟩
  | 75 => ⟨S287, .i32⟩
  | 76 => ⟨S287x1, .i32⟩
  | 77 => ⟨S1x32, .i32⟩
  | 78 => ⟨S287x32, .i32⟩
  | 79 => ⟨S287x32, .i32⟩
  | 80 => ⟨S287x32, .i1⟩
  | 81 => ⟨S287x32, .i32⟩
  | 82 => ⟨S_, .i32⟩
  | 83 => ⟨S287x1, .i32⟩
  | 84 => ⟨S32, .i32⟩
  | 85 => ⟨S1x32, .i32⟩
  | 86 => ⟨S287x32, .i32⟩
  | 87 => ⟨S287x32, .i32⟩
  | 88 => ⟨S287x32, .i1⟩
  | 89 => ⟨S1x32, .i32⟩
  | 90 => ⟨S_, .i32⟩
  | 91 => ⟨S_, .i32⟩
  | 92 => ⟨S287x32, .i32⟩
  | 93 => ⟨S287x32, .i32⟩
  | 94 => ⟨S287x32, .i32⟩
  | 95 => ⟨S_, .i32⟩
  | 96 => ⟨S287, .i32⟩
  | 97 => ⟨S287, .i32⟩
  | 98 => ⟨S32, .i32⟩
  | 99 => ⟨S1x32, .i32⟩
  | 100 => ⟨S_, .i32⟩
  | 101 => ⟨S_, .i32⟩
  | 102 => ⟨S287x32, .i32⟩
  | 103 => ⟨S287x32, .i32⟩
  | 104 => ⟨S287x32, .i32⟩
  | 105 => ⟨S_, .i32⟩
  | 106 => ⟨S287, .i32⟩
  | 107 => ⟨S287, .i32⟩
  | 108 => ⟨S_, .i32⟩
  | 109 => ⟨S_, .i32⟩
  | 110 => ⟨S287, .i32⟩
  | 111 => ⟨S_, .i32⟩
  | 112 => ⟨S1, .i32⟩
  | 113 => ⟨S286, .i32⟩
  | 114 => ⟨S286, .i32⟩
  | 115 => ⟨S286, .i1⟩
  | 116 => ⟨S286, .i32⟩
  | 117 => ⟨S286, .i32⟩
  | 118 => ⟨S286, .i32⟩
  | 119 => ⟨S286, .i1⟩
  | 120 => ⟨S286, .i32⟩
  | 121 => ⟨S1x32, .i32⟩
  | 122 => ⟨S_, .i32⟩
  | 123 => ⟨S_, .i32⟩
  | 124 => ⟨S287x32, .i32⟩
  | 125 => ⟨S287x32, .i32⟩
  | 126 => ⟨S287x32, .i32⟩
  | 127 => ⟨S_, .i32⟩
  | _ => ⟨S131072x512, .i32⟩

abbrev hbmTy0_1 (i : Nat) : BufTy := match i % 128 with
  | 0 => ⟨S1x32, .i32⟩
  | 1 => ⟨S_, .i32⟩
  | 2 => ⟨S_, .i32⟩
  | 3 => ⟨S287x32, .i32⟩
  | 4 => ⟨S287x32, .i32⟩
  | 5 => ⟨S287x32, .i32⟩
  | 6 => ⟨S_, .i32⟩
  | 7 => ⟨S131072x1024, .f32⟩
  | _ => ⟨S131072x512, .i32⟩

abbrev hbmTy (i : Nat) : BufTy := match i / 128 with
  | 0 => hbmTy0_0 i
  | 1 => hbmTy0_1 i
  | _ => ⟨S131072x512, .i32⟩

abbrev bufTy : (tb : Table) → Fin (tcTables nBuf tb) → BufTy
  | .hbm, ⟨i, _⟩ => hbmTy i
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S287, .i32⟩
  | .local _ .smem, ⟨1, _⟩ => ⟨S287, .i32⟩
  | .local _ .smem, ⟨2, _⟩ => ⟨S287, .i32⟩
  | .local _ .smem, ⟨3, _⟩ => ⟨S287, .i32⟩
  | .local _ .smem, ⟨4, _⟩ => ⟨S287, .i32⟩
  | .local _ .smem, ⟨5, _⟩ => ⟨S287, .i32⟩
  | .local _ .smem, ⟨6, _⟩ => ⟨S287, .i32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_c : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_0 : Ref sig .tc := ⟨.hbm, 26, rfl⟩
abbrev main_call1_v12 : Ref sig .tc := ⟨.hbm, 27, rfl⟩
abbrev main_call1_v13 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v9 : Ref sig .tc := ⟨.hbm, 53, rfl⟩
abbrev main_v10 : Ref sig .tc := ⟨.hbm, 54, rfl⟩
abbrev main_c_3 : Ref sig .tc := ⟨.hbm, 55, rfl⟩
abbrev main_v11 : Ref sig .tc := ⟨.hbm, 56, rfl⟩
abbrev main_v12 : Ref sig .tc := ⟨.hbm, 57, rfl⟩
abbrev main_c_4 : Ref sig .tc := ⟨.hbm, 58, rfl⟩
abbrev main_call3_v0 : Ref sig .tc := ⟨.hbm, 59, rfl⟩
abbrev main_call3_v1 : Ref sig .tc := ⟨.hbm, 60, rfl⟩
abbrev main_v13 : Ref sig .tc := ⟨.hbm, 61, rfl⟩
abbrev main_call4_call0_c : Ref sig .tc := ⟨.hbm, 62, rfl⟩
abbrev main_call4_call0_v0 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_5 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_6 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_c_7 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v39 : Ref sig .tc := ⟨.hbm, 94, rfl⟩
abbrev main_c_8 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_9 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_v44 : Ref sig .tc := ⟨.hbm, 104, rfl⟩
abbrev main_c_10 : Ref sig .tc := ⟨.hbm, 105, rfl⟩
abbrev main_v45 : Ref sig .tc := ⟨.hbm, 106, rfl⟩
abbrev main_v46 : Ref sig .tc := ⟨.hbm, 107, rfl⟩
abbrev main_c_11 : Ref sig .tc := ⟨.hbm, 108, rfl⟩
abbrev main_call7_v0 : Ref sig .tc := ⟨.hbm, 109, rfl⟩
abbrev main_call7_v1 : Ref sig .tc := ⟨.hbm, 110, rfl⟩
abbrev main_c_12 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v60 : Ref sig .tc := ⟨.hbm, 121, rfl⟩
abbrev main_c_13 : Ref sig .tc := ⟨.hbm, 122, rfl⟩
abbrev main_call8_v0 : Ref sig .tc := ⟨.hbm, 123, rfl⟩
abbrev main_call8_v1 : Ref sig .tc := ⟨.hbm, 124, rfl⟩
abbrev main_call8_v2 : Ref sig .tc := ⟨.hbm, 125, rfl⟩
abbrev main_v61 : Ref sig .tc := ⟨.hbm, 126, rfl⟩
abbrev main_c_14 : Ref sig .tc := ⟨.hbm, 127, rfl⟩
abbrev main_v63 : Ref sig .tc := ⟨.hbm, 128, rfl⟩
abbrev main_c_15 : Ref sig .tc := ⟨.hbm, 129, rfl⟩
abbrev main_call9_v0 : Ref sig .tc := ⟨.hbm, 130, rfl⟩
abbrev main_call9_v1 : Ref sig .tc := ⟨.hbm, 131, rfl⟩
abbrev main_call9_v2 : Ref sig .tc := ⟨.hbm, 132, rfl⟩
abbrev main_v64 : Ref sig .tc := ⟨.hbm, 133, rfl⟩
abbrev main_c_16 : Ref sig .tc := ⟨.hbm, 134, rfl⟩
abbrev main_v66 : Ref sig .tc := ⟨.hbm, 135, rfl⟩
abbrev main_v47 : Ref sig .tc := ⟨.smem, 0, rfl⟩
abbrev main_v31 : Ref sig .tc := ⟨.smem, 1, rfl⟩
abbrev main_v53 : Ref sig .tc := ⟨.smem, 2, rfl⟩
abbrev main_v59 : Ref sig .tc := ⟨.smem, 3, rfl⟩
abbrev main_v62 : Ref sig .tc := ⟨.smem, 4, rfl⟩
abbrev main_v65 : Ref sig .tc := ⟨.smem, 5, rfl⟩
abbrev main_v58 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![287], ![false]⟩

abbrev pre0 : Pipeline.Prefetch sig := ⟨7, ![main_v47.idx, main_v31.idx, main_v53.idx, main_v59.idx, main_v62.idx, main_v65.idx, main_v58.idx], fun | 0 => main_v47.names | 1 => main_v31.names | 2 => main_v53.names | 3 => main_v59.names | 4 => main_v62.names | 5 => main_v65.names | 6 => main_v58.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v47 : Index := Scalar.indexCast arg0
  ![v47.toNat]
def k0_off4 (i : grid0.Coords) : Fin 1 → Nat :=
  let arg0 : BitVec 32 := BitVec.ofNat 32 (i 0).val
  let v67 : Index := Scalar.indexCast arg0
  ![v67.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond3 (v63 : BitVec 32) : BitVec 1 :=
  let c1_i32_19 : BitVec 32 := 1#32
  let v64 : BitVec 1 := Scalar.cmpi .eq v63 c1_i32_19
  let v65 : BitVec 32 := Scalar.extui v64
  let c0_i32_20 : BitVec 32 := 0#32
  let v66 : BitVec 1 := Scalar.cmpi .ne v65 c0_i32_20
  v66

def k0_cond4 (v68 : BitVec 32) : BitVec 1 :=
  let c0_i32_21 : BitVec 32 := 0#32
  let v69 : BitVec 1 := Scalar.cmpi .eq v68 c0_i32_21
  let v70 : BitVec 32 := Scalar.extui v69
  let c0_i32_22 : BitVec 32 := 0#32
  let v71 : BitVec 1 := Scalar.cmpi .ne v70 c0_i32_22
  v71

def cc0_transform_0 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S131072x512 : Shape := ⟨2, ![131072, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S131072x1024 : Shape := ⟨2, ![131072, 1024]⟩
abbrev S131072 : Shape := ⟨1, ![131072]⟩
abbrev S131072x1 : Shape := ⟨2, ![131072, 1]⟩
abbrev S1x32 : Shape := ⟨2, ![1, 32]⟩
abbrev S131072x32 : Shape := ⟨2, ![131072, 32]⟩
abbrev S131072x1024x2048 : Shape := ⟨3, ![131072, 1024, 2048]⟩
abbrev S131072x2048 : Shape := ⟨2, ![131072, 2048]⟩
abbrev S131072x1024x1024 : Shape := ⟨3, ![131072, 1024, 1024]⟩

abbrev nBuf : Space → Nat
  | .hbm => 99
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S131072x512, .i32⟩
  | .hbm, ⟨8, _⟩ => ⟨S131072x512, .i32⟩
  | .hbm, ⟨9, _⟩ => ⟨S131072x512, .f32⟩
  | .hbm, ⟨10, _⟩ => ⟨S_, .i32⟩
  | .hbm, ⟨11, _⟩ => ⟨S131072x512, .i32⟩
  | .hbm, ⟨12, _⟩ => ⟨S131072x512, .i32⟩
  | .hbm, ⟨13, _⟩ => ⟨S_, .i32⟩
  | .hbm, ⟨14, _⟩ => ⟨S131072x512, .i32⟩
  | .hbm, ⟨15, _⟩ => ⟨S131072x512, .i32⟩
  | .hbm, ⟨16, _⟩ => ⟨S131072x512, .f32⟩
  | .hbm, ⟨17, _⟩ => ⟨S131072x1024, .f32⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S131072, .i32⟩
  | .hbm, ⟨22, _⟩ => ⟨S131072x1, .i32⟩
  | .hbm, ⟨23, _⟩ => ⟨S1x32, .i32⟩
  | .hbm, ⟨24, _⟩ => ⟨S131072x32, .i32⟩
  | .hbm, ⟨25, _⟩ => ⟨S131072x32, .i32⟩
  | .hbm, ⟨26, _⟩ => ⟨S131072x32, .i1⟩
  | .hbm, ⟨27, _⟩ => ⟨S131072x32, .i32⟩
  | .hbm, ⟨28, _⟩ => ⟨S_, .i32⟩
  | .hbm, ⟨29, _⟩ => ⟨S131072, .i32⟩
  | .hbm, ⟨30, _⟩ => ⟨S_, .i32⟩
  | .hbm, ⟨31, _⟩ => ⟨S131072, .i32⟩
  | .hbm, ⟨32, _⟩ => ⟨S131072, .i1⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S131072x1024x2048, .f32⟩
  | .hbm, ⟨39, _⟩ => ⟨S131072x2048, .f32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x2048, .f32⟩
  | .hbm, ⟨49, _⟩ => ⟨S131072x2048, .f32⟩
  | .hbm, ⟨50, _⟩ => ⟨S131072x1024, .f32⟩
  | .hbm, ⟨51, _⟩ => ⟨S_, .f32⟩
  | .hbm, ⟨52, _⟩ => ⟨S131072x1024, .f32⟩
  | .hbm, ⟨53, _⟩ => ⟨S131072x1024, .f32⟩
  | .hbm, ⟨54, _⟩ => ⟨S131072x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S131072x1024, .f32⟩
  | .hbm, ⟨59, _⟩ => ⟨S131072x1024, .f32⟩
  | .hbm, ⟨60, _⟩ => ⟨S_, .f32⟩
  | .hbm, ⟨61, _⟩ => ⟨S131072x1024, .f32⟩
  | .hbm, ⟨62, _⟩ => ⟨S131072x1024, .f32⟩
  | .hbm, ⟨63, _⟩ => ⟨S_, .f32⟩
  | .hbm, ⟨64, _⟩ => ⟨S131072x1024, .f32⟩
  | .hbm, ⟨65, _⟩ => ⟨S131072x1024, .f32⟩
  | .hbm, ⟨66, _⟩ => ⟨S131072x1024, .f32⟩
  | .hbm, ⟨67, _⟩ => ⟨S131072x1024, .f32⟩
  | .hbm, ⟨68, _⟩ => ⟨S_, .f32⟩
  | .hbm, ⟨69, _⟩ => ⟨S131072x1024, .f32⟩
  | .hbm, ⟨70, _⟩ => ⟨S131072x1024, .f32⟩
  | .hbm, ⟨71, _⟩ => ⟨S_, .f32⟩
  | .hbm, ⟨72, _⟩ => ⟨S131072x1024, .f32⟩
  | .hbm, ⟨73, _⟩ => ⟨S131072x1024, .f32⟩
  | .hbm, ⟨74, _⟩ => ⟨S131072x1024, .f32⟩
  | .hbm, ⟨75, _⟩ => ⟨S_, .f32⟩
  | .hbm, ⟨76, _⟩ => ⟨S131072x1024, .f32⟩
  | .hbm, ⟨77, _⟩ => ⟨S131072x1024, .f32⟩
  | .hbm, ⟨78, _⟩ => ⟨S131072x1024, .f32⟩
  | .hbm, ⟨79, _⟩ => ⟨S_, .i32⟩
  | .hbm, ⟨80, _⟩ => ⟨S131072, .i32⟩
  | .hbm, ⟨81, _⟩ => ⟨S131072, .i1⟩
  | .hbm, ⟨82, _⟩ => ⟨S_, .i32⟩
  | .hbm, ⟨83, _⟩ => ⟨S131072, .i32⟩
  | .hbm, ⟨84, _⟩ => ⟨S131072, .i32⟩
  | .hbm, ⟨85, _⟩ => ⟨S131072, .i32⟩
  | .hbm, ⟨86, _⟩ => ⟨S131072x1, .i32⟩
  | .hbm, ⟨87, _⟩ => ⟨S131072x1024x1024, .f32⟩
  | .hbm, ⟨88, _⟩ => ⟨S131072x1024, .f32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S131072x1024, .f32⟩
  | .hbm, ⟨98, _⟩ => ⟨S131072x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_call0_c : Ref sig .tc := ⟨.hbm, 18, rfl⟩
abbrev main_call0_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]
-- ==== Ple.lean ====
abbrev S32768x1024 : Shape := ⟨2, ![32768, 1024]⟩
abbrev S4096x32x1024 : Shape := ⟨3, ![4096, 32, 1024]⟩
abbrev S32768x16 : Shape := ⟨2, ![32768, 16]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x16 : Shape := ⟨2, ![512, 16]⟩
abbrev S512x256 : Shape := ⟨2, ![512, 256]⟩
abbrev S3x64x32x1024 : Shape := ⟨4, ![3, 64, 32, 1024]⟩
abbrev S3 : Shape := ⟨1, ![3]⟩
abbrev S1 : Shape := ⟨1, ![1]⟩
abbrev S_ : Shape := ⟨0, ![]⟩
abbrev S1x64x32x1024 : Shape := ⟨4, ![1, 64, 32, 1024]⟩
abbrev S64x32x1024 : Shape := ⟨3, ![64, 32, 1024]⟩
abbrev S64x8x1024 : Shape := ⟨3, ![64, 8, 1024]⟩
abbrev S512x1 : Shape := ⟨2, ![512, 1]⟩
abbrev S512 : Shape := ⟨1, ![512]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S4096x32x1024, .f32⟩
  | .hbm, ⟨2, _⟩ => ⟨S32768x16, .f32⟩
  | .hbm, ⟨3, _⟩ => ⟨S32768x256, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x16, .f32⟩
  | .local _ .vmem, ⟨3, _⟩ => ⟨S512x16, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S3x64x32x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c64_i32 : BitVec 32 := 64#32
  let v5 : BitVec 1 := Scalar.cmpi .slt v4 c64_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_52 : BitVec 32 := 3#32
  let c0_i32_53 : BitVec 32 := 0#32
  let v85 : BitVec 1 := Scalar.cmpi .eq c3_i32_52 c0_i32_53
  let c1_i32_54 : BitVec 32 := 1#32
  let v86 : BitVec 32 := Scalar.select v85 c1_i32_54 c3_i32_52
  let v87 : BitVec 32 := Scalar.remsi v4 v86
  let c0_i32_56 : BitVec 32 := 0#32
  let v89 : BitVec 1 := Scalar.cmpi .slt v87 c0_i32_56
  let c0_i32_57 : BitVec 32 := 0#32
  let v90 : BitVec 1 := Scalar.cmpi .slt v86 c0_i32_57
  let v91 : BitVec 1 := Scalar.xori v89 v90
  let c0_i32_55 : BitVec 32 := 0#32
  let v88 : BitVec 1 := Scalar.cmpi .ne v87 c0_i32_55
  let v92 : BitVec 1 := Scalar.andi v91 v88
  let v93 : BitVec 32 := Scalar.addi v87 v86
  let v94 : BitVec 32 := Scalar.select v92 v93 v87
  ![v94.toNat]
def k0_off2 (i : grid0.Coords) : Fin 4 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_52 : BitVec 32 := 3#32
  let c0_i32_53 : BitVec 32 := 0#32
  let v85 : BitVec 1 := Scalar.cmpi .eq c3_i32_52 c0_i32_53
  let c1_i32_54 : BitVec 32 := 1#32
  let v86 : BitVec 32 := Scalar.select v85 c1_i32_54 c3_i32_52
  let v87 : BitVec 32 := Scalar.remsi v4 v86
  let c0_i32_56 : BitVec 32 := 0#32
  let v89 : BitVec 1 := Scalar.cmpi .slt v87 c0_i32_56
  let c0_i32_57 : BitVec 32 := 0#32
  let v90 : BitVec 1 := Scalar.cmpi .slt v86 c0_i32_57
  let v91 : BitVec 1 := Scalar.xori v89 v90
  let c0_i32_55 : BitVec 32 := 0#32
  let v88 : BitVec 1 := Scalar.cmpi .ne v87 c0_i32_55
  let v92 : BitVec 1 := Scalar.andi v91 v88
  let v93 : BitVec 32 := Scalar.addi v87 v86
  let v94 : BitVec 32 := Scalar.select v92 v93 v87
  let c0_i32_59 : BitVec 32 := 0#32
  let c0_i32_60 : BitVec 32 := 0#32
  let c0_i32_61 : BitVec 32 := 0#32
  ![v94.toNat, 0, 0, 0]
def k0_off3 (i : grid0.Coords) : Fin 3 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c64_i32_58 : BitVec 32 := 64#32
  let v95 : BitVec 32 := Scalar.muli v4 c64_i32_58
  let c0_i32_62 : BitVec 32 := 0#32
  let c0_i32_63 : BitVec 32 := 0#32
  ![v95.toNat, 0, 0]
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 4 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_9 : BitVec 32 := 0#32
  let c0_i32_10 : BitVec 32 := 0#32
  let c0_i32_11 : BitVec 32 := 0#32
  ![v17.toNat, 0, 0, 0]
def k0_off6 (i : grid0.Coords) : Fin 3 → Nat :=
  let arg0 : BitVec 32 := BitVec.ofNat 32 (i 0).val
  let c64_i32_8 : BitVec 32 := 64#32
  let v18 : BitVec 32 := Scalar.muli arg0 c64_i32_8
  let c0_i32_12 : BitVec 32 := 0#32
  let c0_i32_13 : BitVec 32 := 0#32
  ![v18.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S32768x1024 : Shape := ⟨2, ![32768, 1024]⟩
abbrev S4096x32x1024 : Shape := ⟨3, ![4096, 32, 1024]⟩
abbrev S32768x16 : Shape := ⟨2, ![32768, 16]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S4096x4x8x1024 : Shape := ⟨4, ![4096, 4, 8, 1024]⟩
abbrev S4096x8x4x1024 : Shape := ⟨4, ![4096, 8, 4, 1024]⟩
abbrev S32768x4x1024 : Shape := ⟨3, ![32768, 4, 1024]⟩
abbrev S32768x4 : Shape := ⟨2, ![32768, 4]⟩
abbrev S32768x4x1 : Shape := ⟨3, ![32768, 4, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x32x1024, .f32⟩
  | .hbm, ⟨2, _⟩ => ⟨S32768x16, .f32⟩
  | .hbm, ⟨3, _⟩ => ⟨S32768x256, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S4096x4x8x1024, .f32⟩
  | .hbm, ⟨8, _⟩ => ⟨S4096x8x4x1024, .f32⟩
  | .hbm, ⟨9, _⟩ => ⟨S32768x4x1024, .f32⟩
  | .hbm, ⟨10, _⟩ => ⟨S32768x4, .f32⟩
  | .hbm, ⟨11, _⟩ => ⟨S32768x4x1, .f32⟩
  | .hbm, ⟨12, _⟩ => ⟨S32768x4x1024, .f32⟩
  | .hbm, ⟨13, _⟩ => ⟨S32768x4x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proj.lean ====
abbrev S32768x1024 : Shape := ⟨2, ![32768, 1024]⟩
abbrev S4096x128 : Shape := ⟨2, ![4096, 128]⟩
abbrev S1024 : Shape := ⟨1, ![1024]⟩
abbrev S1024x1184 : Shape := ⟨2, ![1024, 1184]⟩
abbrev S384 : Shape := ⟨1, ![384]⟩
abbrev S384x2048 : Shape := ⟨2, ![384, 2048]⟩
abbrev S256 : Shape := ⟨1, ![256]⟩
abbrev S256x1024 : Shape := ⟨2, ![256, 1024]⟩
abbrev S1x128 : Shape := ⟨2, ![1, 128]⟩
abbrev S1024x32 : Shape := ⟨2, ![1024, 32]⟩
abbrev S_ : Shape := ⟨0, ![]⟩
abbrev S1024x64 : Shape := ⟨2, ![1024, 64]⟩
abbrev S1024x1152 : Shape := ⟨2, ![1024, 1152]⟩
abbrev S1024x128 : Shape := ⟨2, ![1024, 128]⟩
abbrev S1024x16 : Shape := ⟨2, ![1024, 16]⟩
abbrev S1024x1408 : Shape := ⟨2, ![1024, 1408]⟩
abbrev S1x1024 : Shape := ⟨2, ![1, 1024]⟩
abbrev S1x384 : Shape := ⟨2, ![1, 384]⟩
abbrev S1x256 : Shape := ⟨2, ![1, 256]⟩
abbrev S32768x512 : Shape := ⟨2, ![32768, 512]⟩
abbrev S32768x256 : Shape := ⟨2, ![32768, 256]⟩
abbrev S32768x32 : Shape := ⟨2, ![32768, 32]⟩
abbrev S32768x8 : Shape := ⟨2, ![32768, 8]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x32 : Shape := ⟨2, ![512, 32]⟩
abbrev S512x8 : Shape := ⟨2, ![512, 8]⟩
abbrev S512 : Shape := ⟨1, ![512]⟩
abbrev S512x1 : Shape := ⟨2, ![512, 1]⟩
abbrev S512x1408 : Shape := ⟨2, ![512, 1408]⟩
abbrev S512x384 : Shape := ⟨2, ![512, 384]⟩
abbrev S512x2048 : Shape := ⟨2, ![512, 2048]⟩

abbrev nBuf : Space → Nat
  | .hbm => 38
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S4096x128, .f32⟩
  | .hbm, ⟨2, _⟩ => ⟨S4096x128, .f32⟩
  | .hbm, ⟨3, _⟩ => ⟨S1024, .f32⟩
  | .hbm, ⟨4, _⟩ => ⟨S1024x1184, .f32⟩
  | .hbm, ⟨5, _⟩ => ⟨S384, .f32⟩
  | .hbm, ⟨6, _⟩ => ⟨S384x2048, .bf16⟩
  | .hbm, ⟨7, _⟩ => ⟨S256, .f32⟩
  | .hbm, ⟨8, _⟩ => ⟨S256x1024, .bf16⟩
  | .hbm, ⟨9, _⟩ => ⟨S256x1024, .bf16⟩
  | .hbm, ⟨10, _⟩ => ⟨S1x128, .f32⟩
  | .hbm, ⟨11, _⟩ => ⟨S1x128, .f32⟩
  | .hbm, ⟨12, _⟩ => ⟨S1024x32, .f32⟩
  | .hbm, ⟨13, _⟩ => ⟨S_, .f32⟩
  | .hbm, ⟨14, _⟩ => ⟨S1024x64, .f32⟩
  | .hbm, ⟨15, _⟩ => ⟨S1024x1152, .f32⟩
  | .hbm, ⟨16, _⟩ => ⟨S_, .f32⟩
  | .hbm, ⟨17, _⟩ => ⟨S1024x32, .f32⟩
  | .hbm, ⟨18, _⟩ => ⟨S1024x128, .f32⟩
  | .hbm, ⟨19, _⟩ => ⟨S1024x16, .f32⟩
  | .hbm, ⟨20, _⟩ => ⟨S1024x16, .f32⟩
  | .hbm, ⟨21, _⟩ => ⟨S1024x16, .f32⟩
  | .hbm, ⟨22, _⟩ => ⟨S1024x32, .f32⟩
  | .hbm, ⟨23, _⟩ => ⟨S_, .f32⟩
  | .hbm, ⟨24, _⟩ => ⟨S1024x32, .f32⟩
  | .hbm, ⟨25, _⟩ => ⟨S1024x128, .f32⟩
  | .hbm, ⟨26, _⟩ => ⟨S1024x1408, .f32⟩
  | .hbm, ⟨27, _⟩ => ⟨S1024x1408, .bf16⟩
  | .hbm, ⟨28, _⟩ => ⟨S1x1024, .f32⟩
  | .hbm, ⟨29, _⟩ => ⟨S1x384, .f32⟩
  | .hbm, ⟨30, _⟩ => ⟨S1x256, .f32⟩
  | .hbm, ⟨31, _⟩ => ⟨S32768x512, .f32⟩
  | .hbm, ⟨32, _⟩ => ⟨S32768x1024, .bf16⟩
  | .hbm, ⟨33, _⟩ => ⟨S32768x1024, .bf16⟩
  | .hbm, ⟨34, _⟩ => ⟨S32768x1024, .bf16⟩
  | .hbm, ⟨35, _⟩ => ⟨S32768x256, .f32⟩
  | .hbm, ⟨36, _⟩ => ⟨S32768x32, .f32⟩
  | .hbm, ⟨37, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x1408, .bf16⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x1024, .bf16⟩
  | .local _ .vmem, ⟨12, _⟩ => ⟨S256x1024, .bf16⟩
  | .local _ .vmem, ⟨13, _⟩ => ⟨S1x128, .f32⟩
  | .local _ .vmem, ⟨14, _⟩ => ⟨S1x128, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x256, .f32⟩
  | .local _ .vmem, ⟨24, _⟩ => ⟨S512x256, .f32⟩
  | .local _ .vmem, ⟨25, _⟩ => ⟨S512x32, .f32⟩
  | .local _ .vmem, ⟨26, _⟩ => ⟨S512x32, .f32⟩
  | .local _ .vmem, ⟨27, _⟩ => ⟨S512x8, .f32⟩
  | .local _ .vmem, ⟨28, _⟩ => ⟨S512x8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev main_v16_6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x8 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjRefIdeal.lean ====
abbrev S32768x1024 : Shape := ⟨2, ![32768, 1024]⟩
abbrev S4096x128 : Shape := ⟨2, ![4096, 128]⟩
abbrev S1024 : Shape := ⟨1, ![1024]⟩
abbrev S1024x1184 : Shape := ⟨2, ![1024, 1184]⟩
abbrev S384 : Shape := ⟨1, ![384]⟩
abbrev S384x2048 : Shape := ⟨2, ![384, 2048]⟩
abbrev S256 : Shape := ⟨1, ![256]⟩
abbrev S256x1024 : Shape := ⟨2, ![256, 1024]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x256 : Shape := ⟨2, ![1024, 256]⟩
abbrev S32768x256 : Shape := ⟨2, ![32768, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x128, .f32⟩
  | .hbm, ⟨2, _⟩ => ⟨S4096x128, .f32⟩
  | .hbm, ⟨3, _⟩ => ⟨S1024, .f32⟩
  | .hbm, ⟨4, _⟩ => ⟨S1024x1184, .f32⟩
  | .hbm, ⟨5, _⟩ => ⟨S384, .f32⟩
  | .hbm, ⟨6, _⟩ => ⟨S384x2048, .bf16⟩
  | .hbm, ⟨7, _⟩ => ⟨S256, .f32⟩
  | .hbm, ⟨8, _⟩ => ⟨S256x1024, .bf16⟩
  | .hbm, ⟨9, _⟩ => ⟨S256x1024, .bf16⟩
  | .hbm, ⟨10, _⟩ => ⟨S1x128, .f32⟩
  | .hbm, ⟨11, _⟩ => ⟨S1x128, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1024x256, .f32⟩
  | .hbm, ⟨29, _⟩ => ⟨S32768x256, .f32⟩
  | .hbm, ⟨30, _⟩ => ⟨S32768x256, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x256, .f32⟩
  | .hbm, ⟨42, _⟩ => ⟨S32768x256, .f32⟩
  | .hbm, ⟨43, _⟩ => ⟨S1x256, .f32⟩
  | .hbm, ⟨44, _⟩ => ⟨S32768x256, .f32⟩
  | .hbm, ⟨45, _⟩ => ⟨S32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== ProjSample.lean ====
abbrev S512x1024 : Shape := ⟨2, ![512, 1024]⟩
abbrev S512x128 : Shape := ⟨2, ![512, 128]⟩
abbrev S1024 : Shape := ⟨1, ![1024]⟩
abbrev S1024x1184 : Shape := ⟨2, ![1024, 1184]⟩
abbrev S384 : Shape := ⟨1, ![384]⟩
abbrev S384x2048 : Shape := ⟨2, ![384, 2048]⟩
abbrev S256 : Shape := ⟨1, ![256]⟩
abbrev S256x1024 : Shape := ⟨2, ![256, 1024]⟩
abbrev S8x128x256 : Shape := ⟨3, ![8, 128, 256]⟩
abbrev S1x128 : Shape := ⟨2, ![1, 128]⟩
abbrev S1024x32 : Shape := ⟨2, ![1024, 32]⟩
abbrev S_ : Shape := ⟨0, ![]⟩
abbrev S1024x64 : Shape := ⟨2, ![1024, 64]⟩
abbrev S1024x1152 : Shape := ⟨2, ![1024, 1152]⟩
abbrev S1024x128 : Shape := ⟨2, ![1024, 128]⟩
abbrev S1024x16 : Shape := ⟨2, ![1024, 16]⟩
abbrev S1024x1408 : Shape := ⟨2, ![1024, 1408]⟩
abbrev S1x1024 : Shape := ⟨2, ![1, 1024]⟩
abbrev S1x384 : Shape := ⟨2, ![1, 384]⟩
abbrev S1x256 : Shape := ⟨2, ![1, 256]⟩
abbrev S512x512 : Shape := ⟨2, ![512, 512]⟩
abbrev S512x2048 : Shape := ⟨2, ![512, 2048]⟩
abbrev S512x256 : Shape := ⟨2, ![512, 256]⟩
abbrev S512x32 : Shape := ⟨2, ![512, 32]⟩
abbrev S512x8 : Shape := ⟨2, ![512, 8]⟩
abbrev S512 : Shape := ⟨1, ![512]⟩
abbrev S512x1 : Shape := ⟨2, ![512, 1]⟩
abbrev S512x1408 : Shape := ⟨2, ![512, 1408]⟩
abbrev S512x384 : Shape := ⟨2, ![512, 384]⟩
abbrev S1x128x256 : Shape := ⟨3, ![1, 128, 256]⟩
abbrev S128x256 : Shape := ⟨2, ![128, 256]⟩

abbrev nBuf : Space → Nat
  | .hbm => 37
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x128, .f32⟩
  | .hbm, ⟨2, _⟩ => ⟨S512x128, .f32⟩
  | .hbm, ⟨3, _⟩ => ⟨S1024, .f32⟩
  | .hbm, ⟨4, _⟩ => ⟨S1024x1184, .f32⟩
  | .hbm, ⟨5, _⟩ => ⟨S384, .f32⟩
  | .hbm, ⟨6, _⟩ => ⟨S384x2048, .bf16⟩
  | .hbm, ⟨7, _⟩ => ⟨S256, .f32⟩
  | .hbm, ⟨8, _⟩ => ⟨S256x1024, .bf16⟩
  | .hbm, ⟨9, _⟩ => ⟨S8x128x256, .bf16⟩
  | .hbm, ⟨10, _⟩ => ⟨S1x128, .f32⟩
  | .hbm, ⟨11, _⟩ => ⟨S1x128, .f32⟩
  | .hbm, ⟨12, _⟩ => ⟨S1024x32, .f32⟩
  | .hbm, ⟨13, _⟩ => ⟨S_, .f32⟩
  | .hbm, ⟨14, _⟩ => ⟨S1024x64, .f32⟩
  | .hbm, ⟨15, _⟩ => ⟨S1024x1152, .f32⟩
  | .hbm, ⟨16, _⟩ => ⟨S_, .f32⟩
  | .hbm, ⟨17, _⟩ => ⟨S1024x32, .f32⟩
  | .hbm, ⟨18, _⟩ => ⟨S1024x128, .f32⟩
  | .hbm, ⟨19, _⟩ => ⟨S1024x16, .f32⟩
  | .hbm, ⟨20, _⟩ => ⟨S1024x16, .f32⟩
  | .hbm, ⟨21, _⟩ => ⟨S1024x16, .f32⟩
  | .hbm, ⟨22, _⟩ => ⟨S1024x32, .f32⟩
  | .hbm, ⟨23, _⟩ => ⟨S_, .f32⟩
  | .hbm, ⟨24, _⟩ => ⟨S1024x32, .f32⟩
  | .hbm, ⟨25, _⟩ => ⟨S1024x128, .f32⟩
  | .hbm, ⟨26, _⟩ => ⟨S1024x1408, .f32⟩
  | .hbm, ⟨27, _⟩ => ⟨S1024x1408, .bf16⟩
  | .hbm, ⟨28, _⟩ => ⟨S1x1024, .f32⟩
  | .hbm, ⟨29, _⟩ => ⟨S1x384, .f32⟩
  | .hbm, ⟨30, _⟩ => ⟨S1x256, .f32⟩
  | .hbm, ⟨31, _⟩ => ⟨S512x512, .f32⟩
  | .hbm, ⟨32, _⟩ => ⟨S512x1024, .bf16⟩
  | .hbm, ⟨33, _⟩ => ⟨S512x2048, .bf16⟩
  | .hbm, ⟨34, _⟩ => ⟨S512x256, .f32⟩
  | .hbm, ⟨35, _⟩ => ⟨S512x32, .f32⟩
  | .hbm, ⟨36, _⟩ => ⟨S512x8, .f32⟩
  | .local _ .vmem, ⟨0, _⟩ => ⟨S512x1024, .f32⟩
  | .local _ .vmem, ⟨1, _⟩ => ⟨S512x128, .f32⟩
  | .local _ .vmem, ⟨2, _⟩ => ⟨S512x128, .f32⟩
  | .local _ .vmem, ⟨3, _⟩ => ⟨S1x1024, .f32⟩
  | .local _ .vmem, ⟨4, _⟩ => ⟨S1024x1408, .bf16⟩
  | .local _ .vmem, ⟨5, _⟩ => ⟨S1x384, .f32⟩
  | .local _ .vmem, ⟨6, _⟩ => ⟨S384x2048, .bf16⟩
  | .local _ .vmem, ⟨7, _⟩ => ⟨S1x256, .f32⟩
  | .local _ .vmem, ⟨8, _⟩ => ⟨S256x1024, .bf16⟩
  | .local _ .vmem, ⟨9, _⟩ => ⟨S8x128x256, .bf16⟩
  | .local _ .vmem, ⟨10, _⟩ => ⟨S1x128, .f32⟩
  | .local _ .vmem, ⟨11, _⟩ => ⟨S1x128, .f32⟩
  | .local _ .vmem, ⟨12, _⟩ => ⟨S512x512, .f32⟩
  | .local _ .vmem, ⟨13, _⟩ => ⟨S512x1024, .bf16⟩
  | .local _ .vmem, ⟨14, _⟩ => ⟨S512x2048, .bf16⟩
  | .local _ .vmem, ⟨15, _⟩ => ⟨S512x256, .f32⟩
  | .local _ .vmem, ⟨16, _⟩ => ⟨S512x32, .f32⟩
  | .local _ .vmem, ⟨17, _⟩ => ⟨S512x8, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S512x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S512x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== ProjSampleRefIdeal.lean ====
abbrev S512x1024 : Shape := ⟨2, ![512, 1024]⟩
abbrev S512x128 : Shape := ⟨2, ![512, 128]⟩
abbrev S1024 : Shape := ⟨1, ![1024]⟩
abbrev S1024x1184 : Shape := ⟨2, ![1024, 1184]⟩
abbrev S384 : Shape := ⟨1, ![384]⟩
abbrev S384x2048 : Shape := ⟨2, ![384, 2048]⟩
abbrev S256 : Shape := ⟨1, ![256]⟩
abbrev S256x1024 : Shape := ⟨2, ![256, 1024]⟩
abbrev S8x128x256 : Shape := ⟨3, ![8, 128, 256]⟩
abbrev S1x128 : Shape := ⟨2, ![1, 128]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S1024x256 : Shape := ⟨2, ![1024, 256]⟩
abbrev S512x256 : Shape := ⟨2, ![512, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x128, .f32⟩
  | .hbm, ⟨2, _⟩ => ⟨S512x128, .f32⟩
  | .hbm, ⟨3, _⟩ => ⟨S1024, .f32⟩
  | .hbm, ⟨4, _⟩ => ⟨S1024x1184, .f32⟩
  | .hbm, ⟨5, _⟩ => ⟨S384, .f32⟩
  | .hbm, ⟨6, _⟩ => ⟨S384x2048, .bf16⟩
  | .hbm, ⟨7, _⟩ => ⟨S256, .f32⟩
  | .hbm, ⟨8, _⟩ => ⟨S256x1024, .bf16⟩
  | .hbm, ⟨9, _⟩ => ⟨S8x128x256, .bf16⟩
  | .hbm, ⟨10, _⟩ => ⟨S1x128, .f32⟩
  | .hbm, ⟨11, _⟩ => ⟨S1x128, .f32⟩
  | .hbm, ⟨12, _⟩ => ⟨S512x1024, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x1024, .f32⟩
  | .hbm, ⟨24, _⟩ => ⟨S512x1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S1024x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x256, .f32⟩
  | .hbm, ⟨42, _⟩ => ⟨S512x256, .f32⟩
  | .hbm, ⟨43, _⟩ => ⟨S1x256, .f32⟩
  | .hbm, ⟨44, _⟩ => ⟨S512x256, .f32⟩
  | .hbm, ⟨45, _⟩ => ⟨S512x256, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Proof.Slots.lean ====
/-
  Where the combine's pipeline keeps things: the words its loop carries, read
  as numbers of a trip; the slots of its two staging buffers, the rows of its
  index table and of its result, as sets of positions; and the placement of
  each view the kernel forms, coordinate by coordinate.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.Combine
public import proofs.«01_k».proof.Proof.Gen.Combine.Skeleton

@[expose] public section

noncomputable section

namespace Cert.Proof.Slots

open Cert.Combine Cert.Combine.Gen
open Idealize.ShloMosaic Idealize.ShloMosaic.ValueIdx

/-! ## Words -/

/-- The first result row of the tile at `i`. -/
def base (i : grid0.Coords) : ℕ := ((i 1).val + (i 0).val * 16) * 128

theorem base_lt (i : grid0.Coords) : base i + 128 ≤ 4096 := by
  have h0 : (i 0).val < 2 := (i 0).isLt
  have h1 : (i 1).val < 16 := (i 1).isLt
  unfold base; omega

/-- The word of a number. -/
abbrev wd (n : ℕ) : BitVec 32 := BitVec.ofNat 32 n

theorem add_wd (a b : ℕ) : Scalar.addi (wd a) (wd b) = wd (a + b) := by
  simp [Scalar.addi, IntOp.addi, BitVec.ofNat_add]
theorem mul_wd (a b : ℕ) : Scalar.muli (wd a) (wd b) = wd (a * b) := by
  simp [Scalar.muli, IntOp.muli, BitVec.ofNat_mul]
theorem toNat_wd {n : ℕ} (h : n < 4294967296) : (wd n).toNat = n := by
  simp [BitVec.toNat_ofNat]; omega
theorem eq_wd {a b : ℕ} (ha : a < 4294967296) (hb : b < 4294967296) : (wd a = wd b) ↔ a = b := by
  constructor
  · intro h; have := congrArg BitVec.toNat h; rwa [toNat_wd ha, toNat_wd hb] at this
  · rintro rfl; rfl
theorem cmp_eq {a b : ℕ} (ha : a < 4294967296) (hb : b < 4294967296) :
    Scalar.cmpi .eq (wd a) (wd b) = if a = b then 1#1 else 0#1 := by
  have := eq_wd ha hb
  simp only [Scalar.cmpi, IntOp.cmpi]
  by_cases h : a = b
  · subst h; simp
  · rw [if_neg h, beq_eq_false_iff_ne.2 (mt this.1 h)]; rfl
theorem cmp_ne {a b : ℕ} (ha : a < 4294967296) (hb : b < 4294967296) :
    Scalar.cmpi .ne (wd a) (wd b) = if a = b then 0#1 else 1#1 := by
  have := eq_wd ha hb
  simp only [Scalar.cmpi, IntOp.cmpi]
  by_cases h : a = b
  · subst h; simp
  · rw [if_neg h, bne, beq_eq_false_iff_ne.2 (mt this.1 h)]; rfl

/-- The word the kernel multiplies out for a tile's first row. -/
theorem base_word (i : grid0.Coords) :
    Scalar.muli (Scalar.addi (Scalar.addi 0#32 (Scalar.muli (BitVec.ofNat 32 (i 1).val) 1#32))
      (Scalar.muli (BitVec.ofNat 32 (i 0).val) 16#32)) 128#32 = wd (base i) := by
  rw [mul_wd, mul_wd, add_wd, add_wd, mul_wd]; unfold base; congr 1; omega

theorem rem_wd {t : ℕ} (h : t < 4294967296) : Scalar.remui (wd t) 2#32 = wd (t % 2) := by
  have e : t % 4294967296 = t := Nat.mod_eq_of_lt h
  apply BitVec.eq_of_toNat_eq
  simp [Scalar.remui, IntOp.remui, BitVec.toNat_umod, BitVec.toNat_ofNat, e]
  omega

theorem slot_off {t : ℕ} (h : t < 4294967296) : (Scalar.remui (wd t) 2#32).toNat = t % 2 := by
  rw [rem_wd h, toNat_wd (by omega)]

/-- The step after `t`, as a word: round again after 127. -/
theorem next_word {t : ℕ} (h : t < 128) :
    Scalar.select (Scalar.cmpi .eq (Scalar.select 1#1 (Scalar.addi (wd t) 1#32) (wd t)) 128#32) 0#32
      (Scalar.select 1#1 (Scalar.addi (wd t) 1#32) (wd t)) = wd ((t + 1) % 128) := by
  have e : Scalar.select 1#1 (Scalar.addi (wd t) 1#32) (wd t) = wd (t + 1) := by
    rw [add_wd]; rfl
  rw [e, cmp_eq (by omega) (by omega)]
  by_cases h' : t + 1 = 128
  · rw [if_pos h', h']; rfl
  · rw [if_neg h', Nat.mod_eq_of_lt (by omega)]; rfl

/-- The step before `t`, as a word: 127 before the first. -/
theorem prev_word {t : ℕ} (h : t < 128) :
    Scalar.select (Scalar.cmpi .eq (Scalar.select 1#1 (Scalar.subi (wd t) 1#32) (wd t)) 4294967295#32) 127#32
      (Scalar.select 1#1 (Scalar.subi (wd t) 1#32) (wd t)) = wd ((t + 127) % 128) := by
  interval_cases t <;> rfl

/-! ## The offsets the kernel computes, at the words of trip `t` -/

section Offsets

variable (i : grid0.Coords) {t : ℕ}

theorem off2_eq : k0_off2 i = ![base i, 0] := by
  have := base_lt i
  have h : Scalar.muli 1#32 (Scalar.addi 0#32 (wd (base i))) = wd (base i) := by
    rw [add_wd, mul_wd]; congr 1; omega
  simp only [k0_off2, base_word, h]
  rw [toNat_wd (by omega)]

theorem row_word {b : ℕ} (h : b < 128) : (Scalar.muli 1#32 (Scalar.addi (wd b) (wd (base i)))).toNat = base i + b := by
  have := base_lt i
  rw [add_wd, mul_wd, toNat_wd (by omega)]; omega

theorem off4_eq (h : t < 256) : k0_off4 (wd t) = ![t % 2, 0, 0] := by
  simp only [k0_off4, slot_off (t := t) (by omega)]
theorem off6_eq (h : t < 256) : k0_off6 (wd t) = ![t % 2] := by
  simp only [k0_off6, slot_off (t := t) (by omega)]
theorem off7_eq (h : t < 256) : k0_off7 (wd t) = ![t % 2, 0, 0] := by
  simp only [k0_off7, slot_off (t := t) (by omega)]
theorem off9_eq (h : t < 256) : k0_off9 (wd t) = ![t % 2] := by
  simp only [k0_off9, slot_off (t := t) (by omega)]
theorem off10_eq (h : t < 256) : k0_off10 (wd t) = ![t % 2, 0, 0, 0] := by
  simp only [k0_off10, slot_off (t := t) (by omega)]
theorem off11_eq (h : t < 256) : k0_off11 (wd t) = ![t % 2, 0, 0] := by
  simp only [k0_off11, slot_off (t := t) (by omega)]
theorem off12_eq (h : t < 256) : k0_off12 (wd t) = ![t % 2, 0, 0, 0] := by
  simp only [k0_off12, slot_off (t := t) (by omega)]
theorem off14_eq (h : t < 256) : k0_off14 (wd t) = ![t % 2] := by
  simp only [k0_off14, slot_off (t := t) (by omega)]
theorem off15_eq (h : t < 256) : k0_off15 (wd t) = ![t % 2, 0, 0, 0] := by
  simp only [k0_off15, slot_off (t := t) (by omega)]
theorem off17_eq (h : t < 256) : k0_off17 (wd t) = ![t % 2] := by
  simp only [k0_off17, slot_off (t := t) (by omega)]
theorem off18_eq (h : t < 256) : k0_off18 (wd t) = ![t % 2, 0, 0, 0] := by
  simp only [k0_off18, slot_off (t := t) (by omega)]
theorem off20_eq (h : t < 256) : k0_off20 (wd t) = ![t % 2] := by
  simp only [k0_off20, slot_off (t := t) (by omega)]
theorem off21_eq (h : t < 256) : k0_off21 (wd t) = ![t % 2, 0, 0, 0] := by
  simp only [k0_off21, slot_off (t := t) (by omega)]

theorem off5_eq (h : t < 128) : k0_off5 i (wd t) = ![base i + (t + 1) % 128, 0] := by
  simp only [k0_off5, base_word, next_word h, row_word i (b := (t + 1) % 128) (by omega)]
theorem off8_eq (h : t < 128) : k0_off8 i (wd t) = ![base i + t, 0] := by
  simp only [k0_off8, base_word, row_word i h]
theorem off13_eq (h : t < 128) : k0_off13 i (wd t) = ![base i + t, 0, 0] := by
  simp only [k0_off13, base_word, row_word i h]
theorem off16_eq (h : t < 128) : k0_off16 i (wd t) = ![base i + (t + 127) % 128, 0, 0] := by
  simp only [k0_off16, base_word, prev_word h, row_word i (b := (t + 127) % 128) (by omega)]
theorem off19_eq (h : t < 128) : k0_off19 i (wd t) = ![base i + (t + 127) % 128, 0, 0] := by
  simp only [k0_off19, base_word, prev_word h, row_word i (b := (t + 127) % 128) (by omega)]

end Offsets

/-! ## The loop's conditions at trip `t` -/

theorem trips_eq : k0_t1_loop.trips = 128 := rfl

theorem iv_word (t : ℕ) : Scf.iv 0#32 1#32 t = wd t := by
  simp [Scf.iv]

section Conds

variable (i : grid0.Coords) (t : Fin k0_t1_loop.trips)

theorem ne_next : Scalar.cmpi .ne (Scalar.addi (wd t.val) (wd (base i))) (Scalar.addi (wd ((t.val + 1) % 128)) (wd (base i))) = 1#1 := by
  have := base_lt i
  have ht : t.val < 128 := t.isLt
  rw [add_wd, add_wd, cmp_ne (by omega) (by omega), if_neg (by omega)]
theorem ne_prev : Scalar.cmpi .ne (Scalar.addi (wd t.val) (wd (base i))) (Scalar.addi (wd ((t.val + 127) % 128)) (wd (base i))) = 1#1 := by
  have := base_lt i
  have ht : t.val < 128 := t.isLt
  rw [add_wd, add_wd, cmp_ne (by omega) (by omega), if_neg (by omega)]

theorem cond1_eq : k0_cond1 i t (wd t.val) = if t.val < 127 then 1#1 else 0#1 := by
  have ht : t.val < 128 := t.isLt
  simp only [k0_cond1, base_word, next_word ht, ne_next, iv_word]
  generalize t.val = n at ht
  interval_cases n <;> rfl
theorem cond2_eq : k0_cond2 i t (wd t.val) = 1#1 := by
  have ht : t.val < 128 := t.isLt
  simp only [k0_cond2, base_word, prev_word ht, ne_prev, iv_word]
  generalize t.val = n at ht
  interval_cases n <;> rfl
theorem cond5_eq : k0_cond5 i t (wd t.val) = 1#1 := by
  have ht : t.val < 128 := t.isLt
  simp only [k0_cond5, base_word, next_word ht, ne_next, iv_word]
  generalize t.val = n at ht
  interval_cases n <;> rfl
theorem cond7_eq : k0_cond7 i t (wd t.val) = if 0 < t.val then 1#1 else 0#1 := by
  have ht : t.val < 128 := t.isLt
  simp only [k0_cond7, base_word, prev_word ht, ne_prev, iv_word]
  generalize t.val = n at ht
  interval_cases n <;> rfl

/-! ## The checks the kernel makes hold -/

theorem slot3_inb (s : ℕ) : ∀ a, (![s % 2, 0, 0] : Fin 3 → ℕ) a + S1x1x128.size a ≤ S2x1x128.size a := by
  have : s % 2 < 2 := Nat.mod_lt _ (by omega)
  intro a; fin_cases a <;> simp <;> omega
theorem slot4_inb (s : ℕ) : ∀ a, (![s % 2, 0, 0, 0] : Fin 4 → ℕ) a + S1x1x32x1024.size a ≤ S2x1x32x1024.size a := by
  have : s % 2 < 2 := Nat.mod_lt _ (by omega)
  intro a; fin_cases a <;> simp <;> omega
theorem slot1_inb (s : ℕ) : ∀ a, (![s % 2] : Fin 1 → ℕ) a + S1.size a ≤ S2.size a := by
  have : s % 2 < 2 := Nat.mod_lt _ (by omega)
  intro a; fin_cases a; simp; omega
theorem row2_inb (b : ℕ) (h : b < 4096) : ∀ a, (![b, 0] : Fin 2 → ℕ) a + S1x128.size a ≤ S4096x128.size a := by
  intro a; fin_cases a <;> simp; omega
theorem row3_inb (b : ℕ) (h : b < 4096) : ∀ a, (![b, 0, 0] : Fin 3 → ℕ) a + S1x32x1024.size a ≤ S4096x32x1024.size a := by
  intro a; fin_cases a <;> simp; omega

theorem chk2_ok : k0_chk2 (wd t.val) := by
  have ht : t.val < 128 := t.isLt
  unfold k0_chk2; rw [off10_eq (by omega)]; exact slot4_inb _
theorem chk3_ok : k0_chk3 (wd t.val) := by
  have ht : t.val < 128 := t.isLt
  unfold k0_chk3; rw [off11_eq (by omega)]; exact slot3_inb _
theorem chk1_ok : k0_chk1 i t (wd (t.val + 1)) (wd t.val) (wd t.val) (wd (t.val - 1)) (wd t.val) := by
  have ht : t.val < 128 := t.isLt
  have hb := base_lt i
  unfold k0_chk1
  rw [off4_eq (by omega), off5_eq i ht, off6_eq (by omega), off7_eq (by omega), off8_eq i ht, off9_eq (by omega),
    off12_eq (by omega), off13_eq i ht, off14_eq (by omega), off15_eq (by omega), off16_eq i ht, off17_eq (by omega)]
  exact ⟨fun _ => slot3_inb _, fun _ => row2_inb _ (by omega), fun _ => slot1_inb _, fun _ => slot3_inb _,
    fun _ => row2_inb _ (by omega), fun _ => slot1_inb _, fun _ => slot4_inb _, fun _ => row3_inb _ (by omega),
    fun _ => slot1_inb _, fun _ => slot4_inb _, fun _ => row3_inb _ (by omega), fun _ => slot1_inb _⟩
theorem chk4_ok : k0_chk4 (wd 127) := by
  unfold k0_chk4; rw [off18_eq (by omega), off20_eq (by omega), off21_eq (by omega)]
  exact ⟨slot4_inb _, slot1_inb _, slot4_inb _⟩
theorem chk5_ok : k0_chk5 i (wd 0) := by
  have hb := base_lt i
  unfold k0_chk5; rw [off19_eq i (by omega)]; exact row3_inb _ (by omega)

end Conds

/-! ## Squeezed indices, coordinate by coordinate -/

theorem unsq_2_3 {a b : ℕ} (h : (⟨2, ![a, b]⟩ : Shape).numel = (⟨3, ![1, a, b]⟩ : Shape).numel) (x : (⟨2, ![a, b]⟩ : Shape).Idx) :
    (Shape.reshapeEquiv h x 0).val = 0 ∧ (Shape.reshapeEquiv h x 1).val = (x 0).val ∧ (Shape.reshapeEquiv h x 2).val = (x 1).val := by
  rw [Shape.reshapeEquiv_cons_one (d := ![a, b]) h x]
  exact ⟨rfl, rfl, rfl⟩
theorem unsq_3_4 {a b c : ℕ} (h : (⟨3, ![a, b, c]⟩ : Shape).numel = (⟨4, ![1, a, b, c]⟩ : Shape).numel)
    (x : (⟨3, ![a, b, c]⟩ : Shape).Idx) :
    (Shape.reshapeEquiv h x 0).val = 0 ∧ (Shape.reshapeEquiv h x 1).val = (x 0).val ∧ (Shape.reshapeEquiv h x 2).val = (x 1).val
      ∧ (Shape.reshapeEquiv h x 3).val = (x 2).val := by
  rw [Shape.reshapeEquiv_cons_one (d := ![a, b, c]) h x]
  exact ⟨rfl, rfl, rfl, rfl⟩
theorem unsq_1_2 {a : ℕ} (h : (⟨1, ![a]⟩ : Shape).numel = (⟨2, ![1, a]⟩ : Shape).numel) (x : (⟨1, ![a]⟩ : Shape).Idx) :
    (Shape.reshapeEquiv h x 0).val = 0 ∧ (Shape.reshapeEquiv h x 1).val = (x 0).val := by
  rw [Shape.reshapeEquiv_cons_one (d := ![a]) h x]
  exact ⟨rfl, rfl⟩

/-! ## The kernel's views -/

/-- The tile's views of the whole arrays and of its two staging buffers. -/
abbrev yM : Memref sig .scVector .hbm S131072x1024 .f32 := Memref.whole main_arg0_scv
abbrev tM : Memref sig .scVector .hbm S4096x128 .i32 := Memref.whole main_v4_scv
abbrev oM : Memref sig .scVector .hbm S4096x32x1024 .f32 := Memref.whole main_v5_scv
abbrev iM : Memref sig .scVector .vmem S2x1x128 .i32 := Memref.whole cc0_scoped0
abbrev uM : Memref sig .scVector .vmem S2x1x32x1024 .f32 := Memref.whole cc0_scoped2

/-- A slot of the staged index rows. -/
abbrev inV (off : Fin 3 → ℕ) (h : ∀ a, off a + S1x1x128.size a ≤ S2x1x128.size a) : Memref sig .scVector .vmem S1x128 .i32 :=
  (iM.slice (Rect.unit (s := S2x1x128) off S1x1x128.size h) (fun _ => rfl)).squeeze S1x128 squeezes_S1x1x128_S1x128
/-- Its first thirty-two entries, the list an indirect gather reads. -/
abbrev idxV (off : Fin 3 → ℕ) (h : ∀ a, off a + S1x1x128.size a ≤ S2x1x128.size a) : Memref sig .scVector .vmem S32 .i32 :=
  ((inV off h).slice (Rect.unit (s := S1x128) ![0, 0] S1x32.size inb_S1x128_S1x32_0_0) (fun _ => rfl)).squeeze S32 squeezes_S1x32_S32
/-- A slot of the gathered rows. -/
abbrev outV (off : Fin 4 → ℕ) (h : ∀ a, off a + S1x1x32x1024.size a ≤ S2x1x32x1024.size a) : Memref sig .scVector .vmem S1x32x1024 .f32 :=
  (uM.slice (Rect.unit (s := S2x1x32x1024) off S1x1x32x1024.size h) (fun _ => rfl)).squeeze S1x32x1024 squeezes_S1x1x32x1024_S1x32x1024
/-- A hundred and twenty-eight columns of it, from `n`: what one gather fills. -/
abbrev colV (off : Fin 4 → ℕ) (h : ∀ a, off a + S1x1x32x1024.size a ≤ S2x1x32x1024.size a) (n : ℕ)
    (hn : ∀ a, (![0, 0, n] : Fin 3 → ℕ) a + S1x32x128.size a ≤ S1x32x1024.size a) : Memref sig .scVector .vmem S32x128 .f32 :=
  ((outV off h).slice (Rect.unit (s := S1x32x1024) ![0, 0, n] S1x32x128.size hn) (fun _ => rfl)).squeeze S32x128 squeezes_S1x32x128_S32x128
/-- The same columns of the gathered array. -/
abbrev yV (n : ℕ) (hn : ∀ a, (![0, n] : Fin 2 → ℕ) a + S131072x128.size a ≤ S131072x1024.size a) : Memref sig .scVector .hbm S131072x128 .f32 :=
  yM.slice (Rect.unit (s := S131072x1024) ![0, n] S131072x128.size hn) (fun _ => rfl)
/-- A row of the index table. -/
abbrev tV (off : Fin 2 → ℕ) (h : ∀ a, off a + S1x128.size a ≤ S4096x128.size a) : Memref sig .scVector .hbm S1x128 .i32 :=
  tM.slice (Rect.unit (s := S4096x128) off S1x128.size h) (fun _ => rfl)
/-- A row of the result. -/
abbrev oV (off : Fin 3 → ℕ) (h : ∀ a, off a + S1x32x1024.size a ≤ S4096x32x1024.size a) : Memref sig .scVector .hbm S1x32x1024 .f32 :=
  oM.slice (Rect.unit (s := S4096x32x1024) off S1x32x1024.size h) (fun _ => rfl)

/-- The sets of positions they cover. -/
def inSet (s : ℕ) : Finset S2x1x128.Idx := Finset.univ.filter fun j => (j 0).val = s
def idxSet (s : ℕ) : Finset S2x1x128.Idx := Finset.univ.filter fun j => (j 0).val = s ∧ (j 2).val < 32
def outSet (s : ℕ) : Finset S2x1x32x1024.Idx := Finset.univ.filter fun j => (j 0).val = s
def colSet (s n : ℕ) : Finset S2x1x32x1024.Idx := Finset.univ.filter fun j => (j 0).val = s ∧ n ≤ (j 3).val ∧ (j 3).val < n + 128
def yCol (n : ℕ) : Finset S131072x1024.Idx := Finset.univ.filter fun j => n ≤ (j 1).val ∧ (j 1).val < n + 128
def tRow (b : ℕ) : Finset S4096x128.Idx := Finset.univ.filter fun j => (j 0).val = b
def oRow (b : ℕ) : Finset S4096x32x1024.Idx := Finset.univ.filter fun j => (j 0).val = b

section Emb

theorem unit_val {S : Shape} {off size : Fin S.rank → ℕ} {inb} (j : (Rect.unit (s := S) off size inb).shape.Idx) (a : Fin S.rank) :
    ((Rect.unit (s := S) off size inb).emb j a).val = off a + (j a).val := by
  rw [Rect.emb_apply, Rect.off_unit, Rect.stride_unit, Nat.one_mul]

theorem inV_emb {off : Fin 3 → ℕ} {h} {s : ℕ} (e : off = ![s, 0, 0]) (x : S1x128.Idx) :
    ((inV off h).view.emb x 0).val = s ∧ ((inV off h).view.emb x 2).val = (x 1).val := by
  have o0 : off 0 = s := by rw [e]; rfl
  have o1 : off 1 = 0 := by rw [e]; rfl
  have o2 : off 2 = 0 := by rw [e]; rfl
  obtain ⟨h0, h1, h2⟩ := unsq_2_3 (a := 1) (b := 128) squeezes_S1x1x128_S1x128.numel_eq x
  have hv : (inV off h).view.emb x
      = (Rect.unit (s := S2x1x128) off S1x1x128.size h).emb (Shape.reshapeEquiv squeezes_S1x1x128_S1x128.numel_eq x) := rfl
  rw [hv]
  refine ⟨(unit_val _ 0).trans ?_, (unit_val _ 2).trans ?_⟩
  · rw [h0, o0, Nat.add_zero]
  · rw [h2, o2, Nat.zero_add]

theorem idxV_emb {off : Fin 3 → ℕ} {h} {s : ℕ} (e : off = ![s, 0, 0]) (x : S32.Idx) :
    ((idxV off h).view.emb x 0).val = s ∧ ((idxV off h).view.emb x 2).val = (x 0).val := by
  obtain ⟨h0, h1⟩ := unsq_1_2 (a := 32) squeezes_S1x32_S32.numel_eq x
  obtain ⟨g0, g2⟩ := inV_emb (h := h) e
    ((Rect.unit (s := S1x128) ![0, 0] S1x32.size inb_S1x128_S1x32_0_0).emb (Shape.reshapeEquiv squeezes_S1x32_S32.numel_eq x))
  have hv : (idxV off h).view.emb x = (inV off h).view.emb
      ((Rect.unit (s := S1x128) ![0, 0] S1x32.size inb_S1x128_S1x32_0_0).emb (Shape.reshapeEquiv squeezes_S1x32_S32.numel_eq x)) := rfl
  rw [hv]
  refine ⟨g0, g2.trans ((unit_val _ 1).trans ?_)⟩
  rw [h1]; exact Nat.zero_add _

theorem outV_emb {off : Fin 4 → ℕ} {h} {s : ℕ} (e : off = ![s, 0, 0, 0]) (x : S1x32x1024.Idx) :
    ((outV off h).view.emb x 0).val = s ∧ ((outV off h).view.emb x 2).val = (x 1).val ∧ ((outV off h).view.emb x 3).val = (x 2).val := by
  have o0 : off 0 = s := by rw [e]; rfl
  have o1 : off 1 = 0 := by rw [e]; rfl
  have o2 : off 2 = 0 := by rw [e]; rfl
  have o3 : off 3 = 0 := by rw [e]; rfl
  obtain ⟨h0, h1, h2, h3⟩ := unsq_3_4 (a := 1) (b := 32) (c := 1024) squeezes_S1x1x32x1024_S1x32x1024.numel_eq x
  have hv : (outV off h).view.emb x
      = (Rect.unit (s := S2x1x32x1024) off S1x1x32x1024.size h).emb (Shape.reshapeEquiv squeezes_S1x1x32x1024_S1x32x1024.numel_eq x) := rfl
  rw [hv]
  refine ⟨(unit_val _ 0).trans ?_, (unit_val _ 2).trans ?_, (unit_val _ 3).trans ?_⟩
  · rw [h0, o0, Nat.add_zero]
  · rw [h2, o2, Nat.zero_add]
  · rw [h3, o3, Nat.zero_add]

/-- The place of a squeezed slice's element. -/
theorem sq_emb {κ : Kind} {sp : Space} {S : Shape} {e : EltTy} (m : Memref sig κ sp S e) (r : Rect S) (hr) (s' : Shape)
    (sq : r.shape.Squeezes s') (x : s'.Idx) :
    ((m.slice r hr).squeeze s' sq).view.emb x = m.view.emb (r.emb (Shape.reshapeEquiv sq.numel_eq x)) := rfl

theorem colV_emb {off : Fin 4 → ℕ} {h} {n : ℕ} {hn} {s : ℕ} (e : off = ![s, 0, 0, 0]) (x : S32x128.Idx) :
    ((colV off h n hn).view.emb x 0).val = s ∧ ((colV off h n hn).view.emb x 2).val = (x 0).val
      ∧ ((colV off h n hn).view.emb x 3).val = n + (x 1).val := by
  have hv := sq_emb (outV off h) (Rect.unit (s := S1x32x1024) ![0, 0, n] S1x32x128.size hn) (fun _ => rfl) S32x128
    squeezes_S1x32x128_S32x128 x
  obtain ⟨h0, h1, h2⟩ := unsq_2_3 (a := 32) (b := 128) squeezes_S1x32x128_S32x128.numel_eq x
  have u1 := unit_val (S := S1x32x1024) (off := ![0, 0, n]) (size := S1x32x128.size) (inb := hn)
    (Shape.reshapeEquiv squeezes_S1x32x128_S32x128.numel_eq x) 1
  have u2 := unit_val (S := S1x32x1024) (off := ![0, 0, n]) (size := S1x32x128.size) (inb := hn)
    (Shape.reshapeEquiv squeezes_S1x32x128_S32x128.numel_eq x) 2
  generalize (Rect.unit (s := S1x32x1024) ![0, 0, n] S1x32x128.size hn).emb
    (Shape.reshapeEquiv squeezes_S1x32x128_S32x128.numel_eq x) = y at hv u1 u2
  generalize (Shape.reshapeEquiv squeezes_S1x32x128_S32x128.numel_eq x) = z at h0 h1 h2 u1 u2
  obtain ⟨g0, g2, g3⟩ := outV_emb (h := h) e y
  rw [hv]
  have o1 : (![0, 0, n] : Fin 3 → ℕ) 1 = 0 := rfl
  have o2 : (![0, 0, n] : Fin 3 → ℕ) 2 = n := rfl
  rw [o1, h1, Nat.zero_add] at u1
  rw [o2, h2] at u2
  exact ⟨g0, g2.trans u1, g3.trans u2⟩

theorem yV_emb {n : ℕ} {hn} (x : S131072x128.Idx) :
    ((yV n hn).view.emb x 0).val = (x 0).val ∧ ((yV n hn).view.emb x 1).val = n + (x 1).val := by
  have hv : (yV n hn).view.emb x = (Rect.unit (s := S131072x1024) ![0, n] S131072x128.size hn).emb x := rfl
  rw [hv]
  exact ⟨(unit_val _ 0).trans (Nat.zero_add _), unit_val _ 1⟩
theorem tV_emb {off : Fin 2 → ℕ} {h} {b : ℕ} (e : off = ![b, 0]) (x : S1x128.Idx) :
    ((tV off h).view.emb x 0).val = b ∧ ((tV off h).view.emb x 1).val = (x 1).val := by
  have o0 : off 0 = b := by rw [e]; rfl
  have o1 : off 1 = 0 := by rw [e]; rfl
  have hv : (tV off h).view.emb x = (Rect.unit (s := S4096x128) off S1x128.size h).emb x := rfl
  have hx : (x 0).val < 1 := (x 0).isLt
  rw [hv]
  refine ⟨(unit_val _ 0).trans ?_, (unit_val _ 1).trans ?_⟩
  · rw [o0]; omega
  · rw [o1, Nat.zero_add]
theorem oV_emb {off : Fin 3 → ℕ} {h} {b : ℕ} (e : off = ![b, 0, 0]) (x : S1x32x1024.Idx) :
    ((oV off h).view.emb x 0).val = b ∧ ((oV off h).view.emb x 1).val = (x 1).val ∧ ((oV off h).view.emb x 2).val = (x 2).val := by
  have o0 : off 0 = b := by rw [e]; rfl
  have o1 : off 1 = 0 := by rw [e]; rfl
  have o2 : off 2 = 0 := by rw [e]; rfl
  have hv : (oV off h).view.emb x = (Rect.unit (s := S4096x32x1024) off S1x32x1024.size h).emb x := rfl
  have hx : (x 0).val < 1 := (x 0).isLt
  rw [hv]
  refine ⟨(unit_val _ 0).trans ?_, (unit_val _ 1).trans ?_, (unit_val _ 2).trans ?_⟩
  · rw [o0]; omega
  · rw [o1, Nat.zero_add]
  · rw [o2, Nat.zero_add]

end Emb

section Sets

/-- A view's set, from the places of its elements: `p` holds of them, and each
    position of which `p` holds is one. -/
theorem set_eq_filter {κ : Kind} {sp : Space} {s : Shape} {e : EltTy} (v : View sig κ sp s e) (p : v.ty.Idx → Prop) [DecidablePred p]
    (h : ∀ x, p (v.emb x)) (h' : ∀ j, p j → ∃ x, v.emb x = j) : v.set = Finset.univ.filter p := by
  ext j
  rw [View.set, Finset.mem_map, Finset.mem_filter]
  constructor
  · rintro ⟨x, -, rfl⟩; exact ⟨Finset.mem_univ _, h x⟩
  · rintro ⟨-, hj⟩; obtain ⟨x, hx⟩ := h' j hj; exact ⟨x, Finset.mem_univ _, hx⟩

theorem inV_set {off : Fin 3 → ℕ} {h} {s : ℕ} (e : off = ![s, 0, 0]) : (inV off h).view.set = inSet s :=
  set_eq_filter (inV off h).view (fun j => (j 0).val = s) (fun x => (inV_emb e x).1) fun j hj => by
    refine ⟨ix2 (⟨0, by decide⟩ : Fin 1) (j 2), ?_⟩
    obtain ⟨g0, g2⟩ := inV_emb (h := h) e (ix2 (⟨0, by decide⟩ : Fin 1) (j 2))
    generalize (inV off h).view.emb _ = y at g0 g2
    funext a; apply Fin.ext
    have e1 : (y 1).val < 1 := (y 1).isLt
    have e2 : (j 1).val < 1 := (j 1).isLt
    match a with
    | 0 => exact g0.trans hj.symm
    | 1 => show (y 1).val = (j 1).val; omega
    | 2 => exact g2

theorem idxV_set {off : Fin 3 → ℕ} {h} {s : ℕ} (e : off = ![s, 0, 0]) : (idxV off h).view.set = idxSet s :=
  set_eq_filter (idxV off h).view (fun j => (j 0).val = s ∧ (j 2).val < 32)
    (fun x => ⟨(idxV_emb e x).1, by rw [(idxV_emb e x).2]; exact (x 0).isLt⟩) fun j hj => by
    refine ⟨ix1 (⟨(j 2).val, hj.2⟩ : Fin 32), ?_⟩
    obtain ⟨g0, g2⟩ := idxV_emb (h := h) e (ix1 (⟨(j 2).val, hj.2⟩ : Fin 32))
    generalize (idxV off h).view.emb _ = y at g0 g2
    funext a; apply Fin.ext
    have e1 : (y 1).val < 1 := (y 1).isLt
    have e2 : (j 1).val < 1 := (j 1).isLt
    match a with
    | 0 => exact g0.trans hj.1.symm
    | 1 => show (y 1).val = (j 1).val; omega
    | 2 => exact g2

theorem outV_set {off : Fin 4 → ℕ} {h} {s : ℕ} (e : off = ![s, 0, 0, 0]) : (outV off h).view.set = outSet s :=
  set_eq_filter (outV off h).view (fun j => (j 0).val = s) (fun x => (outV_emb e x).1) fun j hj => by
    refine ⟨ix3 (⟨0, by decide⟩ : Fin 1) (j 2) (j 3), ?_⟩
    obtain ⟨g0, g2, g3⟩ := outV_emb (h := h) e (ix3 (⟨0, by decide⟩ : Fin 1) (j 2) (j 3))
    generalize (outV off h).view.emb _ = y at g0 g2 g3
    funext a; apply Fin.ext
    have e1 : (y 1).val < 1 := (y 1).isLt
    have e2 : (j 1).val < 1 := (j 1).isLt
    match a with
    | 0 => exact g0.trans hj.symm
    | 1 => show (y 1).val = (j 1).val; omega
    | 2 => exact g2
    | 3 => exact g3

theorem colV_set {off : Fin 4 → ℕ} {h} {n : ℕ} {hn} {s : ℕ} (e : off = ![s, 0, 0, 0]) : (colV off h n hn).view.set = colSet s n :=
  set_eq_filter (colV off h n hn).view (fun j => (j 0).val = s ∧ n ≤ (j 3).val ∧ (j 3).val < n + 128)
    (fun x => by
      obtain ⟨g0, g2, g3⟩ := colV_emb (h := h) (hn := hn) e x
      have : (x 1).val < 128 := (x 1).isLt
      exact ⟨g0, by omega, by omega⟩) fun j hj => by
    refine ⟨ix2 (j 2) (⟨(j 3).val - n, by omega⟩ : Fin 128), ?_⟩
    obtain ⟨g0, g2, g3⟩ := colV_emb (h := h) (hn := hn) e (ix2 (j 2) (⟨(j 3).val - n, by omega⟩ : Fin 128))
    generalize (colV off h n hn).view.emb _ = y at g0 g2 g3
    funext a; apply Fin.ext
    have e1 : (y 1).val < 1 := (y 1).isLt
    have e2 : (j 1).val < 1 := (j 1).isLt
    match a with
    | 0 => exact g0.trans hj.1.symm
    | 1 => show (y 1).val = (j 1).val; omega
    | 2 => exact g2
    | 3 => refine g3.trans ?_; show n + ((j 3).val - n) = (j 3).val; omega

theorem yV_set {n : ℕ} {hn} : (yV n hn).view.set = yCol n :=
  set_eq_filter (yV n hn).view (fun j => n ≤ (j 1).val ∧ (j 1).val < n + 128)
    (fun x => by
      obtain ⟨g0, g1⟩ := yV_emb (hn := hn) x
      have : (x 1).val < 128 := (x 1).isLt
      exact ⟨by omega, by omega⟩) fun j hj => by
    refine ⟨ix2 (j 0) (⟨(j 1).val - n, by omega⟩ : Fin 128), ?_⟩
    obtain ⟨g0, g1⟩ := yV_emb (hn := hn) (ix2 (j 0) (⟨(j 1).val - n, by omega⟩ : Fin 128))
    generalize (yV n hn).view.emb _ = y at g0 g1
    funext a; apply Fin.ext
    match a with
    | 0 => exact g0
    | 1 => refine g1.trans ?_; show n + ((j 1).val - n) = (j 1).val; omega

theorem tV_set {off : Fin 2 → ℕ} {h} {b : ℕ} (e : off = ![b, 0]) : (tV off h).view.set = tRow b :=
  set_eq_filter (tV off h).view (fun j => (j 0).val = b) (fun x => (tV_emb e x).1) fun j hj => by
    refine ⟨ix2 (⟨0, by decide⟩ : Fin 1) (j 1), ?_⟩
    obtain ⟨g0, g1⟩ := tV_emb (h := h) e (ix2 (⟨0, by decide⟩ : Fin 1) (j 1))
    generalize (tV off h).view.emb _ = y at g0 g1
    funext a; apply Fin.ext
    match a with
    | 0 => exact g0.trans hj.symm
    | 1 => exact g1

theorem oV_set {off : Fin 3 → ℕ} {h} {b : ℕ} (e : off = ![b, 0, 0]) : (oV off h).view.set = oRow b :=
  set_eq_filter (oV off h).view (fun j => (j 0).val = b) (fun x => (oV_emb e x).1) fun j hj => by
    refine ⟨ix3 (⟨0, by decide⟩ : Fin 1) (j 1) (j 2), ?_⟩
    obtain ⟨g0, g1, g2⟩ := oV_emb (h := h) e (ix3 (⟨0, by decide⟩ : Fin 1) (j 1) (j 2))
    generalize (oV off h).view.emb _ = y at g0 g1 g2
    funext a; apply Fin.ext
    match a with
    | 0 => exact g0.trans hj.symm
    | 1 => exact g1
    | 2 => exact g2

end Sets

/-! ## The completion semaphores -/

/-- The semaphore of a slot of the staged index rows; of the gathered rows. -/
abbrev inSem (s : ℕ) (h : s < 2) : DmaSem sig := ⟨s, lt_trans h (by decide)⟩
abbrev outSem (s : ℕ) (h : s < 2) : DmaSem sig := ⟨2 + s, lt_of_lt_of_le (Nat.add_lt_add_left h 2) (by decide)⟩

theorem sem_place {base : ℕ} {hb} {off : Fin 1 → ℕ} {h} {s : ℕ} (e : off = ![s]) :
    ((((SemArray.consecutive (n := 12) base S2 hb).slice (Rect.unit (s := S2) off S1.size h)).squeeze S_ squeezes_S1_S_).sem).val
      = base + s := by
  have o0 : off 0 = s := by rw [e]; rfl
  set j : S1.Idx := Shape.reshapeEquiv squeezes_S1_S_.numel_eq (fun i => i.elim0) with hj
  have hj0 : (j 0).val < 1 := (j 0).isLt
  have hv : ((((SemArray.consecutive (n := 12) base S2 hb).slice (Rect.unit (s := S2) off S1.size h)).squeeze S_ squeezes_S1_S_).sem).val
      = base + (S2.rowMajor ((Rect.unit (s := S2) off S1.size h).emb j)).val := rfl
  rw [hv, Shape.rowMajor_val_one]
  have := unit_val (S := S2) (off := off) (size := S1.size) (inb := h) j 0
  omega

theorem inSem_eq {off : Fin 1 → ℕ} {h} {s : ℕ} (hs : s < 2) (e : off = ![s]) :
    ((cc0_scoped1.slice (Rect.unit (s := S2) off S1.size h)).squeeze S_ squeezes_S1_S_).sem = inSem s hs :=
  Fin.ext ((sem_place e).trans (Nat.zero_add _))
theorem outSem_eq {off : Fin 1 → ℕ} {h} {s : ℕ} (hs : s < 2) (e : off = ![s]) :
    ((cc0_scoped3.slice (Rect.unit (s := S2) off S1.size h)).squeeze S_ squeezes_S1_S_).sem = outSem s hs :=
  Fin.ext (sem_place e)

end Cert.Proof.Slots
-- ==== Proof.Ops.lean ====
/-
  The steps of the combine's pipeline as rules: a transfer between two views
  and its wait, an indirect gather and its wait, each handed what it moves as a
  set of positions and giving back its destination at named contents.
-/
module

public import proofs.«01_k».proof.Proof.Slots

@[expose] public section

noncomputable section

namespace Cert.Proof.Ops

open Cert.Combine Cert.Combine.Gen Cert.Proof.Slots

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev MM (F : FTy → Type) : Type := MT nD τ sig (HIx 1) (Elt F) ℕ UU ℕ
abbrev EH : Emb UH (MM F) := embL

/-- A credit on semaphore `sem` of the thread `c` for the delivery `D`. -/
abbrev Fl (c : Thread nD τ) (sem : DmaSem sig) (N : ℕ) (D : sProp (MM F)) : sProp (MM F) :=
  Transfers.Flight countersEmb c (.dma sem) (default : HIx 1) N D

variable [FloatOps F]

/-! ## Rules -/

section Rules

variable (c : Thread nD τ) {sp sp' : Space} {s : Shape} {e : EltTy} {Q : PUnit → sProp (MM F)}

omit [FloatOps F] in
/-- Written contents named: at the places of the view they are `g`. -/
theorem written {κ : Kind} (v : View sig κ sp s e) (f g : v.ty.Contents (Elt F)) (w : s.Idx → Elt F e)
    (hg : ∀ x, g (v.emb x) = _root_.cast (congrArg (Elt F) v.elt_eq.symm) (w x)) :
    ∀ i ∈ v.set, v.write (Elt F) f w Finset.univ i = g i := by
  intro i hi
  obtain ⟨x, -, rfl⟩ := Finset.mem_map.mp hi
  rw [View.write_emb_of_mem _ _ (Finset.mem_univ x)]
  exact (hg x).symm

/-- A transfer started: the destination's positions and a share of the source's
    are handed in with the semaphore at zero; the credit delivers the
    destination at `g` and the share back. -/
theorem wp_enq {src : Memref sig c.2.kind sp s e} {dst : Memref sig c.2.kind sp' s e} {sem sem' : DmaSem sig}
    {hsrc : src.view.WordExact} {hdst : dst.view.WordExact} {hsem : DmaTarget.Typed (nD := nD) sp (SemLoc.dma sem) (.here dst)}
    {q : PosShare TreeShare} {fs : Buf (Elt F) (src.view.loc c)} {fd g : Buf (Elt F) (dst.view.loc c)}
    {S' : Finset (Idx (dst.view.loc c))} {T' : Finset (Idx (src.view.loc c))}
    (N : ℕ) (hN : dst.view.amount (SemLoc.dma sem) = N) (hN0 : 0 < N) (hsem' : sem = sem') (hS : dst.view.set = S') (hT : src.view.set = T')
    (hg : ∀ x, g (dst.view.emb x) = _root_.cast (congrArg (Elt F) dst.view.elt_eq.symm) (src.view.read (Elt F) fs x)) :
    iprop((src.view.loc c ↦[T']{q} fs) ∗ (dst.view.loc c ↦[S']{fullShare} fd) ∗ semVal (c, SemLoc.dma sem') 0)
      ⊢ iprop((Fl c sem' N iprop((dst.view.loc c ↦[S']{fullShare} g) ∗ (src.view.loc c ↦[T']{q} fs)) -∗ Q ⟨⟩)
          -∗ wp frame (wpE (defs₀ (F := F)) 𝒱₀ c none) Set.univ
              (Prog.lift (.enqueueDmaAs src (.here dst) .same (SemLoc.dma sem) hsrc hdst hsem)) Q) := by
  subst hsem' hS hT
  iintro H Hk
  iapply (Transfers.wp_dmaLocal countersEmb 𝒱₀ c none (default : HIx 1) N hN hN0 (fun _ h => h)) $$ H
  iintro Hf
  rw [wp_ret]
  imodintro
  iapply Hk
  iapply (Transfers.Flight_mono countersEmb c ?_) $$ Hf
  iintro ⟨Hd, Hs⟩
  isplitl [Hd]
  · iapply (Entails.of_eq (pointsTo_congr (written dst.view fd g _ hg))) $$ Hd
  · iexact Hs

/-- A wait answered: the credit's delivery, the semaphore at zero, the wait recorded. -/
theorem wp_wt {s' : Shape} {e' : EltTy} {κ' : Kind} {sem sem' : DmaSem sig}
    {srcw : Memref sig c.2.kind sp' s' e'} {dstw : Memref sig κ' sp s e} {hsrc : srcw.view.WordExact} {hdst : dstw.view.WordExact}
    {N : ℕ} (hN : dstw.view.dmaCredit = N) (hsem' : sem = sem') {D : sProp (MM F)}
    {O : CellTallies nD τ sig (HIx 1)} {W : Waits sig (HIx 1)} :
    iprop(Transfers.MayWaits c (default : HIx 1) O ∗ Fl c sem' N D
        ∗ ∃ W', ⌜∀ p ∈ W', p ∈ W ∨ p.2 = none⌝ ∗ owes c O W')
      ⊢ iprop((iprop(D ∗ semVal (c, SemLoc.dma sem') 0 ∗ ∃ W', ⌜∀ p ∈ W', p ∈ W ∨ p.2 = none⌝ ∗ owes c O W') -∗ Q ⟨⟩)
          -∗ wp frame (wpE (defs₀ (F := F)) 𝒱₀ c none) Set.univ (Prog.lift (.waitDma2 sem srcw dstw hsrc hdst)) Q) := by
  subst hsem'
  iintro ⟨Hmw, Hf, %W', %hW', HO⟩ Hk
  iapply (Transfers.wp_waitLocalO countersEmb 𝒱₀ c none (default : HIx 1) hN) $$ [Hmw Hf HO]
  · isplitl [Hf]; · iexact Hf
    isplitl [HO]; · iexact HO
    iapply (Transfers.MayWaits.elim (SemLoc.dma sem)) $$ Hmw
  iintro ⟨HD, Hv, HO⟩
  rw [wp_ret]
  imodintro
  iapply Hk
  isplitl [HD]; · iexact HD
  isplitl [Hv]; · iexact Hv
  iexists _
  isplitr
  swap; · iexact HO
  ipureintro
  intro p hp
  rcases Finset.mem_insert.mp hp with hp | hp
  · exact .inr (hp ▸ rfl)
  · exact hW' p hp

/-- An indirect gather started: the destination's positions, a share of the
    source's, the list's and the semaphore at zero are handed in; the credit
    delivers the destination at `g`, and source and list back. -/
theorem wp_gather {s₀ si : Shape} {a : Nat} {src : Memref sig c.2.kind sp s₀ e} {dst : Memref sig c.2.kind .vmem s e} {hgt : s₀.Gathers a s}
    {offs : Memref sig c.2.kind .vmem si .i32} {hn : si.numel = s.size hgt.axis'} {sem : DmaSem sig}
    {hp : c.2.kind = .scVector} {hsrc : src.view.WordExact} {he : e.bits = 32} {hsp : sp = .hbm ∨ sp = .shared} {hr : s₀.StreamRows a}
    {q qo : PosShare TreeShare} {fs : Buf (Elt F) (src.view.loc c)} {fd g : Buf (Elt F) (dst.view.loc c)} {fo : Buf (Elt F) (offs.view.loc c)}
    {S' : Finset (Idx (dst.view.loc c))} {T' : Finset (Idx (src.view.loc c))} {U' : Finset (Idx (offs.view.loc c))}
    (N : ℕ) (hN : ∑ j, (dst.slice (s.rowRect hgt.axis' j) (s.stride_rowRect hgt.axis' j)).view.dmaCredit = N)
    (hs : 0 < s.numel) (hin : ∀ x, (offs.view.read (Elt F) fo x).toNat < s₀.size hgt.axis)
    (hS : dst.view.set = S') (hT : src.view.set = T') (hU : offs.view.set = U')
    (hg : ∀ x, g (dst.view.emb x) = _root_.cast (congrArg (Elt F) dst.view.elt_eq.symm)
      (SparseCore.gatherPayload hgt (src.view.read (Elt F) fs) (SparseCore.rows (offs.view.read (Elt F) fo) hn hin) x)) :
    iprop((src.view.loc c ↦[T']{q} fs) ∗ (dst.view.loc c ↦[S']{fullShare} fd) ∗ (offs.view.loc c ↦[U']{qo} fo) ∗ semVal (c, SemLoc.dma sem) 0)
      ⊢ iprop((Fl c sem N iprop((dst.view.loc c ↦[S']{fullShare} g) ∗ (src.view.loc c ↦[T']{q} fs) ∗ (offs.view.loc c ↦[U']{qo} fo)) -∗ Q ⟨⟩)
          -∗ wp frame (wpE (defs₀ (F := F)) 𝒱₀ c none) Set.univ
              (SparseCore.enqueueIndirectGather hp src dst hgt offs hn sem hsrc he hsp hr) Q) := by
  subst hS hT hU
  iintro H Hk
  rw [← bind_pure (SparseCore.enqueueIndirectGather (F := F) (nD := nD) (Λ := Λ₀) hp src dst hgt offs hn sem hsrc he hsp hr)]
  iapply (SparseCore.wp_indirectGatherLocal countersEmb 𝒱₀ c none (default : HIx 1) N hN hs hin) $$ H
  iintro Hf
  rw [wp_pure]
  imodintro
  iapply Hk
  iapply (Transfers.Flight_mono countersEmb c ?_) $$ Hf
  iintro ⟨Hd, Hs⟩
  isplitl [Hd]
  · iapply (Entails.of_eq (pointsTo_congr (written dst.view fd g _ hg))) $$ Hd
  · iexact Hs

end Rules

end Cert.Proof.Ops
-- ==== Proof.Tile.lean ====
/-
  One tile's steps: the fetch of an index row into a slot, the gather of a
  hundred and twenty-eight columns of the rows it names, the write-out of a
  slot, each with what it holds afterwards named as a function of the gathered
  array and of the index table.
-/
module

public import proofs.«01_k».proof.Proof.Ops

@[expose] public section

noncomputable section

namespace Cert.Proof.Tile

open Cert.Combine Cert.Combine.Gen Cert.Proof.Slots Cert.Proof.Ops

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The values -/

/-- Entry `k` of row `b` of the index table. -/
def tAt (tb : S4096x128.Idx → BitVec 32) (b k : ℕ) : BitVec 32 := tb (ix2 (Fin.ofNat 4096 b) (Fin.ofNat 128 k))
/-- A slot of staged indices once row `b` has landed. -/
def inC (tb : S4096x128.Idx → BitVec 32) (b : ℕ) : S2x1x128.Idx → BitVec 32 := fun j => tAt tb b (j 2).val
/-- The array row a word names. -/
abbrev rowOfWord (w : BitVec 32) : Fin 131072 := Fin.ofNat 131072 w.toNat
/-- A slot of gathered rows once row `b` of the table has been followed. -/
def outC (ys : S131072x1024.Idx → F .f32) (tb : S4096x128.Idx → BitVec 32) (b : ℕ) : S2x1x32x1024.Idx → F .f32 :=
  fun j => ys (ix2 (rowOfWord (tAt tb b (j 2).val)) (j 3))
/-- The result: at block `b`, row `k`, the gathered array's row that entry `k` of row `b` of the table names. -/
def outF (ys : S131072x1024.Idx → F .f32) (tb : S4096x128.Idx → BitVec 32) : S4096x32x1024.Idx → F .f32 :=
  fun j => ys (ix2 (rowOfWord (tAt tb (j 0).val (j 1).val)) (j 2))

theorem tAt_eq (tb : S4096x128.Idx → BitVec 32) (j : S4096x128.Idx) {b k : ℕ} (hb : (j 0).val = b) (hk : (j 1).val = k) : tb j = tAt tb b k := by
  subst hb hk
  unfold tAt
  congr 1
  funext a; apply Fin.ext
  have h0 : (j 0).val < 4096 := (j 0).isLt
  have h1 : (j 1).val < 128 := (j 1).isLt
  match a with
  | 0 => exact (Nat.mod_eq_of_lt h0).symm
  | 1 => exact (Nat.mod_eq_of_lt h1).symm

/-- Every word of the table is a row of the gathered array. -/
abbrev InRange (tb : S4096x128.Idx → BitVec 32) : Prop := ∀ j, (tb j).toNat < 131072

variable [FloatOps F]

section Rules

variable (d : Dev nD) (i : grid0.Coords)

abbrev cV (i : grid0.Coords) : Fin τ.nSC := (i 0).castLE hcore0
abbrev jV (i : grid0.Coords) : Fin τ.nSub := (i 1).castLE hsub0
/-- The tile at `i` of device `d`. -/
abbrev tl (d : Dev nD) (i : grid0.Coords) : Thread nD τ := V d (cV i) (jV i)

abbrev yL : Loc nD τ sig := yM.view.loc (tl d i)
abbrev tL : Loc nD τ sig := tM.view.loc (tl d i)
abbrev oL : Loc nD τ sig := oM.view.loc (tl d i)
abbrev iL : Loc nD τ sig := iM.view.loc (tl d i)
abbrev uL : Loc nD τ sig := uM.view.loc (tl d i)

/-- What a transfer of each kind credits. -/
abbrev nIn : ℕ := (cc0_scoped0 : Ref sig .scVector).dmaCredit S1x128 .i32
abbrev nOut : ℕ := (main_v5_scv : Ref sig .scVector).dmaCredit S1x32x1024 .f32
abbrev nCol : ℕ := (cc0_scoped2 : Ref sig .scVector).dmaCredit S32x128 .f32

variable (ys : S131072x1024.Idx → F .f32) (tb : S4096x128.Idx → BitVec 32) (q : PosShare TreeShare)

/-- What each transfer delivers. -/
abbrev InD (s b : ℕ) : sProp (MM F) := iprop((iL d i ↦[inSet s]{fullShare} inC tb b) ∗ (tL d i ↦[tRow b]{q} tb))
abbrev OutD (s b : ℕ) : sProp (MM F) := iprop((oL d i ↦[oRow b]{fullShare} outF ys tb) ∗ (uL d i ↦[outSet s]{fullShare} outC ys tb b))
abbrev ColD (s b n : ℕ) : sProp (MM F) :=
  iprop((uL d i ↦[colSet s n]{fullShare} outC ys tb b) ∗ (yL d i ↦[yCol n]{q} ys) ∗ (iL d i ↦[idxSet s]{fullShare} inC tb b))

variable {Q : PUnit → sProp (MM F)}

/-- The fetch of row `b` of the table into slot `s`. -/
theorem enq_in {offT : Fin 2 → ℕ} {hT} {offI : Fin 3 → ℕ} {hI} {offS : Fin 1 → ℕ} {hS} {h1 h2 h3} {s b : ℕ} (hs : s < 2)
    (eT : offT = ![b, 0]) (eI : offI = ![s, 0, 0]) (eS : offS = ![s]) (fd : S2x1x128.Idx → BitVec 32) :
    iprop((tL d i ↦[tRow b]{q} tb) ∗ (iL d i ↦[inSet s]{fullShare} fd) ∗ semVal (tl d i, SemLoc.dma (inSem s hs)) 0)
      ⊢ iprop((Fl (tl d i) (inSem s hs) nIn (InD (F := F) d i tb q s b) -∗ Q ⟨⟩)
          -∗ wp frame (wpE (defs₀ (F := F)) 𝒱₀ (tl d i) none) Set.univ
              (Prog.lift (.enqueueDma (tV offT hT) (.here (inV offI hI))
                (.dma ((cc0_scoped1.slice (Rect.unit (s := S2) offS S1.size hS)).squeeze S_ squeezes_S1_S_).sem) h1 h2 h3)) Q) :=
  wp_enq (tl d i) (src := tV offT hT) (dst := inV offI hI) (fs := tb) (fd := fd) (g := inC tb b) nIn rfl (by decide) (inSem_eq hs eS)
    (inV_set eI) (tV_set eT) fun x => by
      obtain ⟨g0, g2⟩ := inV_emb (h := hI) eI x
      obtain ⟨t0, t1⟩ := tV_emb (h := hT) eT x
      rw [View.read_apply]
      exact ((tAt_eq tb _ t0 t1).trans (congrArg (tAt tb b) g2.symm)).symm

/-- The write-out of slot `s` to row `b` of the result. -/
theorem enq_out {offO : Fin 3 → ℕ} {hO} {offU : Fin 4 → ℕ} {hU} {offS : Fin 1 → ℕ} {hS} {h1 h2 h3} {s b : ℕ} (hs : s < 2)
    (eO : offO = ![b, 0, 0]) (eU : offU = ![s, 0, 0, 0]) (eS : offS = ![s]) (fd : S4096x32x1024.Idx → F .f32) :
    iprop((uL d i ↦[outSet s]{fullShare} outC ys tb b) ∗ (oL d i ↦[oRow b]{fullShare} fd) ∗ semVal (tl d i, SemLoc.dma (outSem s hs)) 0)
      ⊢ iprop((Fl (tl d i) (outSem s hs) nOut (OutD d i ys tb s b) -∗ Q ⟨⟩)
          -∗ wp frame (wpE (defs₀ (F := F)) 𝒱₀ (tl d i) none) Set.univ
              (Prog.lift (.enqueueDma (outV offU hU) (.here (oV offO hO))
                (.dma ((cc0_scoped3.slice (Rect.unit (s := S2) offS S1.size hS)).squeeze S_ squeezes_S1_S_).sem) h1 h2 h3)) Q) :=
  wp_enq (tl d i) (src := outV offU hU) (dst := oV offO hO) (fs := outC ys tb b) (fd := fd) (g := outF ys tb) nOut rfl (by decide) (outSem_eq hs eS)
    (oV_set eO) (outV_set eU) fun x => by
      obtain ⟨g0, g1, g2⟩ := oV_emb (h := hO) eO x
      obtain ⟨u0, u2, u3⟩ := outV_emb (h := hU) eU x
      rw [View.read_apply]
      show outF ys tb ((oV offO hO).view.emb x) = outC ys tb b ((outV offU hU).view.emb x)
      unfold outF outC
      rw [g0, g1, u2]
      congr 2
      exact Fin.ext (g2.trans u3.symm)

theorem nCol_sum : ∀ {off : Fin 4 → ℕ} {h} {n : ℕ} {hn}, ∑ j, ((colV off h n hn).slice (S32x128.rowRect gathers_S131072x128_S32x128.axis' j)
    (S32x128.stride_rowRect gathers_S131072x128_S32x128.axis' j)).view.dmaCredit = nCol := by
  intro off h n hn
  exact SparseCore.sum_rowCredit_eq_dmaCredit (colV off h n hn) _ fun _ => rfl

theorem rowMajor_symm_one (k : Fin S32.numel) : (S32.rowMajor.symm k 0).val = k.val := by
  have := Shape.rowMajor_val_one (d := ![32]) (S32.rowMajor.symm k)
  rw [← this]; exact congrArg Fin.val (Equiv.apply_symm_apply _ _)

/-- The gather of columns `n` to `n + 127` into slot `s`, along the list staged in the slot `s` of the indices. -/
theorem enq_col (htb : InRange tb) {offU : Fin 4 → ℕ} {hU} {offI : Fin 3 → ℕ} {hI} {n : ℕ} {hn2 hn3} {sem : DmaSem sig} {h1 h2 h3 h4 h5 h6} {s b : ℕ}
    (eU : offU = ![s, 0, 0, 0]) (eI : offI = ![s, 0, 0]) (fd : S2x1x32x1024.Idx → F .f32) :
    iprop((yL d i ↦[yCol n]{q} ys) ∗ (uL d i ↦[colSet s n]{fullShare} fd) ∗ (iL d i ↦[idxSet s]{fullShare} inC tb b) ∗ semVal (tl d i, SemLoc.dma sem) 0)
      ⊢ iprop((Fl (tl d i) sem nCol (ColD d i ys tb q s b n) -∗ Q ⟨⟩)
          -∗ wp frame (wpE (defs₀ (F := F)) 𝒱₀ (tl d i) none) Set.univ
              (SparseCore.enqueueIndirectGather h1 (yV n hn2) (colV offU hU n hn3) gathers_S131072x128_S32x128 (idxV offI hI) h2 sem h3 h4 h5 h6) Q) := by
  have hrd : ∀ x, ((idxV offI hI).view.read (Elt F) (inC tb b) x : BitVec 32) = tAt tb b (x 0).val := fun x => by
    rw [View.read_apply]
    exact congrArg (tAt tb b) (idxV_emb (h := hI) eI x).2
  have hin : ∀ x, ((idxV offI hI).view.read (Elt F) (inC tb b) x : BitVec 32).toNat < S131072x128.size gathers_S131072x128_S32x128.axis := fun x => by
    rw [hrd]; exact htb _
  refine wp_gather (tl d i) (src := yV n hn2) (dst := colV offU hU n hn3) (offs := idxV offI hI) (fs := ys) (fd := fd) (g := outC ys tb b) (fo := inC tb b)
    nCol nCol_sum (by decide) hin (colV_set eU) yV_set (idxV_set eI) fun x => ?_
  obtain ⟨u0, u2, u3⟩ := colV_emb (h := hU) (hn := hn3) eU x
  unfold SparseCore.gatherPayload
  rw [View.read_apply]
  have y1 := yV_emb (hn := hn2) (gathers_S131072x128_S32x128.idx (SparseCore.rows ((idxV offI hI).view.read (Elt F) (inC tb b)) h2 hin) x)
  have a0 := congrArg Fin.val (Shape.Gathers.idx_axis gathers_S131072x128_S32x128 (SparseCore.rows ((idxV offI hI).view.read (Elt F) (inC tb b)) h2 hin) x)
  have a1 := Shape.Gathers.idx_of_ne gathers_S131072x128_S32x128 (SparseCore.rows ((idxV offI hI).view.read (Elt F) (inC tb b)) h2 hin) x 1 (by decide)
  have r0 : (SparseCore.rows ((idxV offI hI).view.read (Elt F) (inC tb b)) h2 hin (x gathers_S131072x128_S32x128.axis')).val
      = (tAt tb b (x 0).val).toNat := by
    unfold SparseCore.rows
    show ((idxV offI hI).view.read (Elt F) (inC tb b) _ : BitVec 32).toNat = _
    rw [hrd, rowMajor_symm_one]; rfl
  show outC ys tb b ((colV offU hU n hn3).view.emb x) = ys ((yV n hn2).view.emb _)
  unfold outC
  congr 1
  funext a; apply Fin.ext
  match a with
  | 0 =>
    refine Eq.trans ?_ (y1.1.trans (a0.trans r0)).symm
    show (tAt tb b ((colV offU hU n hn3).view.emb x 2).val).toNat % 131072 = _
    rw [u2]; exact Nat.mod_eq_of_lt (htb _)
  | 1 => exact u3.trans ((y1.2.trans (congrArg (n + ·) a1)).symm)

end Rules

end Cert.Proof.Tile
-- ==== Proof.Trip.lean ====
/-
  One trip of a tile's loop: the next row's fetch started, this row's fetch
  awaited, its eight gathers one after another, the slot's write-out started and
  the previous one awaited.
-/
module

public import proofs.«01_k».proof.Proof.Tile

@[expose] public section

noncomputable section

namespace Cert.Proof.Tile

open Cert.Combine Cert.Combine.Gen Cert.Proof.Slots Cert.Proof.Ops

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## A slot as its eight columns -/

/-- The columns of slot `s` from `n` on. -/
def outGe (s n : ℕ) : Finset S2x1x32x1024.Idx := Finset.univ.filter fun j => (j 0).val = s ∧ n ≤ (j 3).val
/-- The columns of the gathered array from `n` on. -/
def yGe (n : ℕ) : Finset S131072x1024.Idx := Finset.univ.filter fun j => n ≤ (j 1).val

theorem outGe_zero (s : ℕ) : outSet s = outGe s 0 := by
  ext j; simp [outSet, outGe]
theorem outGe_last (s : ℕ) : outGe s 896 = colSet s 896 := by
  ext j
  have : (j 3).val < 1024 := (j 3).isLt
  simp only [outGe, colSet, Finset.mem_filter, Finset.mem_univ, true_and]; omega
theorem outGe_step (s n : ℕ) : outGe s n = colSet s n ∪ outGe s (n + 128) := by
  ext j
  simp only [outGe, colSet, Finset.mem_filter, Finset.mem_univ, true_and, Finset.mem_union]; omega
theorem outGe_disj (s n : ℕ) : Disjoint (colSet s n) (outGe s (n + 128)) := by
  refine Finset.disjoint_left.mpr fun j h h' => ?_
  simp only [outGe, colSet, Finset.mem_filter, Finset.mem_univ, true_and] at h h'; omega
theorem yGe_zero : (Finset.univ : Finset S131072x1024.Idx) = yGe 0 := by
  ext j; simp [yGe]
theorem yGe_last : yGe 896 = yCol 896 := by
  ext j
  have : (j 1).val < 1024 := (j 1).isLt
  simp only [yGe, yCol, Finset.mem_filter, Finset.mem_univ, true_and]; omega
theorem yGe_step (n : ℕ) : yGe n = yCol n ∪ yGe (n + 128) := by
  ext j
  simp only [yGe, yCol, Finset.mem_filter, Finset.mem_univ, true_and, Finset.mem_union]; omega
theorem yGe_disj (n : ℕ) : Disjoint (yCol n) (yGe (n + 128)) := by
  refine Finset.disjoint_left.mpr fun j h h' => ?_
  simp only [yGe, yCol, Finset.mem_filter, Finset.mem_univ, true_and] at h h'; omega
theorem idxSet_sub (s : ℕ) : idxSet s ⊆ inSet s := fun j h => by
  simp only [inSet, idxSet, Finset.mem_filter, Finset.mem_univ, true_and] at h ⊢; exact h.1

/-- Eight assertions side by side. -/
abbrev eight (A : ℕ → sProp (MM F)) : sProp (MM F) :=
  iprop(A 0 ∗ A 128 ∗ A 256 ∗ A 384 ∗ A 512 ∗ A 640 ∗ A 768 ∗ A 896)

theorem eight_of {A B : ℕ → sProp (MM F)} (h0 : ∀ n, B n ⊣⊢ iprop(A n ∗ B (n + 128))) (hl : B 896 ⊣⊢ A 896) : B 0 ⊣⊢ eight A := by
  have e : ∀ n, B n = iprop(A n ∗ B (n + 128)) := fun n => (h0 n).1.antisymm (h0 n).2
  have el : B 896 = A 896 := hl.1.antisymm hl.2
  have : B 0 = eight A := by
    rw [e 0, e (0 + 128), e (0 + 128 + 128), e (0 + 128 + 128 + 128), e (0 + 128 + 128 + 128 + 128), e (0 + 128 + 128 + 128 + 128 + 128),
      e (0 + 128 + 128 + 128 + 128 + 128 + 128)]
    show iprop(A 0 ∗ A 128 ∗ A 256 ∗ A 384 ∗ A 512 ∗ A 640 ∗ A 768 ∗ B 896) = _
    rw [el]
  rw [this]

variable [FloatOps F]

section Pieces

variable (d : Dev nD) (i : grid0.Coords) (ys : S131072x1024.Idx → F .f32) (tb : S4096x128.Idx → BitVec 32) (q : PosShare TreeShare)

theorem out_eight (s : ℕ) (f : S2x1x32x1024.Idx → F .f32) :
    (uL d i ↦[outSet s]{fullShare} f : sProp (MM F)) ⊣⊢ eight fun n => iprop(uL d i ↦[colSet s n]{fullShare} f) := by
  rw [outGe_zero]
  refine eight_of (B := fun n => iprop(uL d i ↦[outGe s n]{fullShare} f)) (fun n => ?_) ?_
  · show (uL d i ↦[outGe s n]{fullShare} f : sProp (MM F)) ⊣⊢ _
    rw [outGe_step]; exact pointsTo_union (outGe_disj s n)
  · show (uL d i ↦[outGe s 896]{fullShare} f : sProp (MM F)) ⊣⊢ _
    rw [outGe_last]
theorem y_eight :
    (yL d i ↦{q} ys : sProp (MM F)) ⊣⊢ eight fun n => iprop(yL d i ↦[yCol n]{q} ys) := by
  show (yL d i ↦[(Finset.univ : Finset S131072x1024.Idx)]{q} ys : sProp (MM F)) ⊣⊢ _
  rw [yGe_zero]
  refine eight_of (B := fun n => iprop(yL d i ↦[yGe n]{q} ys)) (fun n => ?_) ?_
  · show (yL d i ↦[yGe n]{q} ys : sProp (MM F)) ⊣⊢ _
    rw [yGe_step]; exact pointsTo_union (yGe_disj n)
  · show (yL d i ↦[yGe 896]{q} ys : sProp (MM F)) ⊣⊢ _
    rw [yGe_last]

/-- What a tile owes its launch, unchanged, its waits so far recorded. -/
abbrev Owe (O : CellTallies nD τ sig (HIx 1)) (W : Waits sig (HIx 1)) : sProp (MM F) :=
  iprop(∃ W', ⌜∀ p ∈ W', p ∈ W ∨ p.2 = none⌝ ∗ owes (tl d i) O W')
abbrev MW (O : CellTallies nD τ sig (HIx 1)) : sProp (MM F) := Transfers.MayWaits (tl d i) (default : HIx 1) O

/-- The slot `s` of the indices: free; with the fetch of row `n` of the tile on its way. `qt s` is the share of the table the slot borrows. -/
abbrev InFree (qt : ℕ → PosShare TreeShare) (s : ℕ) (hs : s < 2) : sProp (MM F) :=
  iprop((∃ f : S2x1x128.Idx → BitVec 32, iL d i ↦[inSet s]{fullShare} f) ∗ semVal (tl d i, SemLoc.dma (inSem s hs)) 0 ∗ (tL d i ↦{qt s} tb))
abbrev InBusy (qt : ℕ → PosShare TreeShare) (s : ℕ) (hs : s < 2) (b : ℕ) : sProp (MM F) :=
  iprop(Fl (tl d i) (inSem s hs) nIn (InD (F := F) d i tb (qt s) s b) ∗ (tL d i ↦[(Finset.univ : Finset S4096x128.Idx) \ tRow b]{qt s} tb))
/-- The slot `s` of the gathered rows: free; with its write-out to row `b` on its way. -/
abbrev OutFree (s : ℕ) (hs : s < 2) : sProp (MM F) :=
  iprop((∃ f : S2x1x32x1024.Idx → F .f32, uL d i ↦[outSet s]{fullShare} f) ∗ semVal (tl d i, SemLoc.dma (outSem s hs)) 0)
abbrev OutBusy (s : ℕ) (hs : s < 2) (b : ℕ) : sProp (MM F) := Fl (tl d i) (outSem s hs) nOut (OutD d i ys tb s b)

/-- The list staged for the gathers; the columns of slot `s` before and after the gather from `n`. -/
abbrev Idxs (s b : ℕ) : sProp (MM F) := iprop(iL d i ↦[idxSet s]{fullShare} inC tb b)
abbrev Before (sem : DmaSem sig) (s n : ℕ) : sProp (MM F) :=
  iprop((yL d i ↦[yCol n]{q} ys) ∗ (∃ f : S2x1x32x1024.Idx → F .f32, uL d i ↦[colSet s n]{fullShare} f) ∗ semVal (tl d i, SemLoc.dma sem) 0)
abbrev During (sem : DmaSem sig) (s b n : ℕ) : sProp (MM F) := Fl (tl d i) sem nCol (ColD d i ys tb q s b n)
abbrev After (sem : DmaSem sig) (s b n : ℕ) : sProp (MM F) :=
  iprop((yL d i ↦[yCol n]{q} ys) ∗ (uL d i ↦[colSet s n]{fullShare} outC ys tb b) ∗ semVal (tl d i, SemLoc.dma sem) 0)

end Pieces

section Steps

variable (d : Dev nD) (i : grid0.Coords) (ys : S131072x1024.Idx → F .f32) (tb : S4096x128.Idx → BitVec 32) (q : PosShare TreeShare)
  (qt : ℕ → PosShare TreeShare) (O : CellTallies nD τ sig (HIx 1)) (W : Waits sig (HIx 1)) {Q : PUnit → sProp (MM F)}

theorem start_in {offT : Fin 2 → ℕ} {hT} {offI : Fin 3 → ℕ} {hI} {offS : Fin 1 → ℕ} {hS} {h1 h2 h3} {s b : ℕ} (hs : s < 2)
    (eT : offT = ![b, 0]) (eI : offI = ![s, 0, 0]) (eS : offS = ![s]) :
    InFree (F := F) d i tb qt s hs
      ⊢ iprop((InBusy (F := F) d i tb qt s hs b -∗ Q ⟨⟩)
          -∗ wp frame (wpE (defs₀ (F := F)) 𝒱₀ (tl d i) none) Set.univ
              (Prog.lift (.enqueueDma (tV offT hT) (.here (inV offI hI))
                (.dma ((cc0_scoped1.slice (Rect.unit (s := S2) offS S1.size hS)).squeeze S_ squeezes_S1_S_).sem) h1 h2 h3)) Q) := by
  iintro ⟨⟨%f, Hi⟩, Hs, Ht⟩ Hk
  ihave Ht := (pointsTo_split_subset (ℓ := tL d i) (I := tRow b) (S := Finset.univ) (Finset.subset_univ _)).1 $$ Ht
  icases Ht with ⟨Ht, Hr⟩
  iapply (enq_in (F := F) d i tb (qt s) hs eT eI eS f) $$ [Hi Hs Ht]
  · isplitl [Ht]; · iexact Ht
    isplitl [Hi]; · iexact Hi
    iexact Hs
  iintro Hf
  iapply Hk
  isplitl [Hf]; · iexact Hf
  iexact Hr

theorem wait_in {offT : Fin 2 → ℕ} {hT} {offI : Fin 3 → ℕ} {hI} {offS : Fin 1 → ℕ} {hS} {h1 h2} {s b : ℕ} (hs : s < 2) (eS : offS = ![s]) :
    iprop(MW (F := F) d i O ∗ InBusy (F := F) d i tb qt s hs b ∗ Owe (F := F) d i O W)
      ⊢ iprop((iprop(Idxs (F := F) d i tb s b ∗ (iL d i ↦[inSet s \ idxSet s]{fullShare} inC tb b) ∗ semVal (tl d i, SemLoc.dma (inSem s hs)) 0
              ∗ (tL d i ↦{qt s} tb) ∗ Owe (F := F) d i O W) -∗ Q ⟨⟩)
          -∗ wp frame (wpE (defs₀ (F := F)) 𝒱₀ (tl d i) none) Set.univ
              (Prog.lift (.waitDma2 ((cc0_scoped1.slice (Rect.unit (s := S2) offS S1.size hS)).squeeze S_ squeezes_S1_S_).sem
                (tV offT hT) (inV offI hI) h1 h2)) Q) := by
  iintro ⟨Hm, ⟨Hf, Hr⟩, HO⟩ Hk
  iapply (wp_wt (F := F) (tl d i) (N := nIn) rfl (inSem_eq hs eS)) $$ [Hm Hf HO]
  · isplitl [Hm]; · iexact Hm
    isplitl [Hf]; · iexact Hf
    iexact HO
  iintro ⟨⟨Hi, Ht⟩, Hs, HO⟩
  iapply Hk
  ihave Hi := (pointsTo_split_subset (idxSet_sub s)).1 $$ Hi
  icases Hi with ⟨Hi, Hi'⟩
  ihave Ht := (pointsTo_split_subset (ℓ := tL d i) (I := tRow b) (S := Finset.univ) (Finset.subset_univ _)).2 $$ [Ht Hr]
  · isplitl [Ht] <;> iassumption
  isplitl [Hi]; · iexact Hi
  isplitl [Hi']; · iexact Hi'
  isplitl [Hs]; · iexact Hs
  isplitl [Ht]; · iexact Ht
  iexact HO

theorem start_col (htb : InRange tb) {offU : Fin 4 → ℕ} {hU} {offI : Fin 3 → ℕ} {hI} {n : ℕ} {hn2 hn3} {sem : DmaSem sig} {h1 h2 h3 h4 h5 h6} {s b : ℕ}
    (eU : offU = ![s, 0, 0, 0]) (eI : offI = ![s, 0, 0]) :
    iprop(Idxs (F := F) d i tb s b ∗ Before d i ys q sem s n)
      ⊢ iprop((During d i ys tb q sem s b n -∗ Q ⟨⟩)
          -∗ wp frame (wpE (defs₀ (F := F)) 𝒱₀ (tl d i) none) Set.univ
              (SparseCore.enqueueIndirectGather h1 (yV n hn2) (colV offU hU n hn3) gathers_S131072x128_S32x128 (idxV offI hI) h2 sem h3 h4 h5 h6) Q) := by
  iintro ⟨Hi, Hy, ⟨%f, Hu⟩, Hs⟩ Hk
  iapply (enq_col d i ys tb q htb eU eI f) $$ [Hi Hy Hu Hs]
  · isplitl [Hy]; · iexact Hy
    isplitl [Hu]; · iexact Hu
    isplitl [Hi]; · iexact Hi
    iexact Hs
  iexact Hk

theorem wait_col {offU : Fin 4 → ℕ} {hU} {n : ℕ} {hn2 hn3} {sem : DmaSem sig} {h1 h2} {s b : ℕ} :
    iprop(MW (F := F) d i O ∗ During d i ys tb q sem s b n ∗ Owe (F := F) d i O W)
      ⊢ iprop((iprop(Idxs (F := F) d i tb s b ∗ After d i ys tb q sem s b n ∗ Owe (F := F) d i O W) -∗ Q ⟨⟩)
          -∗ wp frame (wpE (defs₀ (F := F)) 𝒱₀ (tl d i) none) Set.univ
              (SparseCore.waitIndirectGather sem (yV n hn2) (colV offU hU n hn3) h1 h2) Q) := by
  iintro ⟨Hm, Hf, HO⟩ Hk
  iapply (wp_wt (F := F) (tl d i) (N := nCol) rfl rfl) $$ [Hm Hf HO]
  · isplitl [Hm]; · iexact Hm
    isplitl [Hf]; · iexact Hf
    iexact HO
  iintro ⟨⟨Hu, Hy, Hi⟩, Hs, HO⟩
  iapply Hk
  isplitl [Hi]; · iexact Hi
  isplitl [Hu Hy Hs]
  · isplitl [Hy]; · iexact Hy
    isplitl [Hu]; · iexact Hu
    iexact Hs
  iexact HO

theorem wait_out {offO : Fin 3 → ℕ} {hO} {offU : Fin 4 → ℕ} {hU} {offS : Fin 1 → ℕ} {hS} {h1 h2} {s b : ℕ} (hs : s < 2) (eS : offS = ![s]) :
    iprop(MW (F := F) d i O ∗ OutBusy d i ys tb s hs b ∗ Owe (F := F) d i O W)
      ⊢ iprop((iprop((oL d i ↦[oRow b]{fullShare} outF ys tb) ∗ OutFree (F := F) d i s hs ∗ Owe (F := F) d i O W) -∗ Q ⟨⟩)
          -∗ wp frame (wpE (defs₀ (F := F)) 𝒱₀ (tl d i) none) Set.univ
              (Prog.lift (.waitDma2 ((cc0_scoped3.slice (Rect.unit (s := S2) offS S1.size hS)).squeeze S_ squeezes_S1_S_).sem
                (outV offU hU) (oV offO hO) h1 h2)) Q) := by
  iintro ⟨Hm, Hf, HO⟩ Hk
  iapply (wp_wt (F := F) (tl d i) (N := nOut) rfl (outSem_eq hs eS)) $$ [Hm Hf HO]
  · isplitl [Hm]; · iexact Hm
    isplitl [Hf]; · iexact Hf
    iexact HO
  iintro ⟨⟨Ho, Hu⟩, Hs, HO⟩
  iapply Hk
  isplitl [Ho]; · iexact Ho
  isplitl [Hu Hs]
  · isplitl [Hu]; · iexists _; iexact Hu
    iexact Hs
  iexact HO

end Steps

end Cert.Proof.Tile
-- ==== Proof.Parts.lean ====
/-
  The stretches of a trip, one after another, each with what it takes and what it
  leaves.
-/
module

public import proofs.«01_k».proof.Proof.Trip

@[expose] public section

noncomputable section

namespace Cert.Proof.Tile

open Cert.Combine Cert.Combine.Gen Cert.Proof.Slots Cert.Proof.Ops

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

section Parts

variable (d : Dev nD) (i : grid0.Coords) (ys : S131072x1024.Idx → F .f32) (tb : S4096x128.Idx → BitVec 32) (q : PosShare TreeShare)
  (qt : ℕ → PosShare TreeShare) (O : CellTallies nD τ sig (HIx 1)) (W : Waits sig (HIx 1)) (t : Fin k0_t1_loop.trips)

theorem m2 (n : ℕ) : n % 2 < 2 := Nat.mod_lt _ (by decide)

/-- A check that holds is passed. -/
theorem wp_chk {P : Prop} {hd : Decidable P} (h : P) {Q : PLift P → sProp (MM F)} :
    Q ⟨h⟩ ⊢ wp frame (wpE (defs₀ (F := F)) 𝒱₀ (tl d i) none) Set.univ (Prog.lift (TpuEff.assume P hd)) Q := by
  show _ ⊢ wp frame (wpE (defs₀ (F := F)) 𝒱₀ (tl d i) none) Set.univ (.op (TpuEff.assume P hd) .ret) Q
  rw [wp_assume_of 𝒱₀ (tl d i) none Set.univ h, wp_ret]
  iintro H
  imodintro
  iexact H

/-- The rows before, at and after trip `t`, as the kernel's words. -/
abbrev wAt : BitVec 32 := Scalar.addi (wd t.val) (wd (base i))
abbrev wPrev : BitVec 32 := Scalar.addi (wd ((t.val + 127) % 128)) (wd (base i))
abbrev wNext : BitVec 32 := Scalar.addi (wd ((t.val + 1) % 128)) (wd (base i))
/-- Is this the first trip, the last? -/
abbrev wFirst : BitVec 1 := Scalar.cmpi .eq (wd t.val) 0#32
abbrev wLast : BitVec 1 := Scalar.cmpi .eq (wd t.val) 127#32

/-- What the first stretch hands on. -/
abbrev R1 : Σ' (_ : k0_chk3 (wd t.val)) (_ : k0_chk2 (wd t.val)) (_ : k0_chk1 i t (wd (t.val + 1)) (wd t.val) (wd t.val) (wd (t.val - 1)) (wd t.val))
    (_ : BitVec 32) (_ : BitVec 1) (_ : BitVec 1) (_ : BitVec 32) (_ : BitVec 32) (_ : BitVec 32) (_ : BitVec 32), BitVec 1 :=
  ⟨chk3_ok t, chk2_ok t, chk1_ok i t, wd t.val, wFirst t, wLast t, wAt i t, wPrev i t, wNext i t,
    Scalar.select (Scalar.andi (Scalar.andi (Scalar.cmpi .ne (wAt i t) (wNext i t)) (Scalar.xori (Scalar.cmpi .sge (wd t.val) 127#32) 1#1)) 1#1)
      (Scalar.addi (wd (t.val + 1)) 1#32) (wd (t.val + 1)), Scalar.cmpi .ne (wAt i t) (wPrev i t)⟩

theorem part1_mid (h : t.val < 127) {Q : _ → sProp (MM F)} :
    InFree (F := F) d i tb qt ((t.val + 1) % 2) (m2 _)
      ⊢ iprop((InBusy (F := F) d i tb qt ((t.val + 1) % 2) (m2 _) (base i + (t.val + 1)) -∗ Q (R1 i t))
          -∗ wp frame (wpE (defs₀ (F := F)) 𝒱₀ (tl d i) none) Set.univ
              (k0_part1 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd (base i)) 0#32 1#32 t (wd (t.val + 1)) (wd t.val) (wd t.val) (wd (t.val - 1)) (wd t.val)) Q) := by
  have ht : t.val < 128 := t.isLt
  simp only [k0_part1_eq_skeleton]; unfold k0_part1_skel
  simp only [iv_word, next_word ht, prev_word ht, wp_bind]
  iintro Hf Hk
  iapply (wp_chk d i (chk3_ok t))
  iapply (wp_chk d i (chk2_ok t))
  iapply (wp_chk d i (chk1_ok i t))
  rw [dif_pos ((cond1_eq i t).trans (if_pos h))]
  simp only [wp_bind]
  iapply (start_in (F := F) d i tb qt (m2 (t.val + 1)) ((off5_eq i ht).trans (by rw [Nat.mod_eq_of_lt (show t.val + 1 < 128 by omega)]))
    (off4_eq (by omega)) (off6_eq (by omega))) $$ Hf
  iintro Hf
  rw [wp_pure]; imodintro
  iapply Hk; iexact Hf

theorem part1_last (h : t.val = 127) {Q : _ → sProp (MM F)} :
    Q (R1 i t) ⊢ wp frame (wpE (defs₀ (F := F)) 𝒱₀ (tl d i) none) Set.univ
              (k0_part1 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd (base i)) 0#32 1#32 t (wd (t.val + 1)) (wd t.val) (wd t.val) (wd (t.val - 1)) (wd t.val)) Q := by
  have ht : t.val < 128 := t.isLt
  simp only [k0_part1_eq_skeleton]; unfold k0_part1_skel
  simp only [iv_word, next_word ht, prev_word ht, wp_bind]
  iintro Hk
  iapply (wp_chk d i (chk3_ok t))
  iapply (wp_chk d i (chk2_ok t))
  iapply (wp_chk d i (chk1_ok i t))
  rw [dif_neg (by rw [cond1_eq i t, if_neg (by omega)]; decide)]
  rw [wp_pure]; imodintro
  iexact Hk

theorem part2 (htb : InRange tb) {b : ℕ} {v5 v64 v66 v71 v96} {Q : PUnit → sProp (MM F)} :
    iprop(MW (F := F) d i O ∗ InBusy (F := F) d i tb qt (t.val % 2) (m2 _) b ∗ Before d i ys q cc0_scoped4.sem (t.val % 2) 0 ∗ Owe (F := F) d i O W)
      ⊢ iprop((iprop((iL d i ↦[inSet (t.val % 2) \ idxSet (t.val % 2)]{fullShare} inC tb b) ∗ semVal (tl d i, SemLoc.dma (inSem (t.val % 2) (m2 _))) 0
              ∗ (tL d i ↦{qt (t.val % 2)} tb) ∗ During d i ys tb q cc0_scoped4.sem (t.val % 2) b 0 ∗ Owe (F := F) d i O W) -∗ Q ⟨⟩)
          -∗ wp frame (wpE (defs₀ (F := F)) 𝒱₀ (tl d i) none) Set.univ
              (k0_part2 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 t (wd (t.val + 1)) (wd t.val) (wd t.val) (wd (t.val - 1)) (wd t.val) (chk3_ok t) (chk2_ok t) (chk1_ok i t) v5 v64 v66 v71 v96) Q) := by
  have ht : t.val < 128 := t.isLt
  simp only [k0_part2_eq_skeleton]; unfold k0_part2_skel
  simp only [wp_bind, ite_self]
  iintro ⟨#Hm, Hf, HB, HO⟩ Hk
  rw [dif_pos (cond2_eq i t)]
  simp only [wp_bind]
  iapply (wait_in (F := F) d i tb qt O W (m2 t.val) (off9_eq (by omega))) $$ [Hf HO]
  · isplitr; · iexact Hm
    isplitl [Hf]; · iexact Hf
    iexact HO
  iintro ⟨Hi, Hi', Hs, Ht, HO⟩
  simp only [wp_pure]
  iapply (start_col d i ys tb q htb (off10_eq (by omega)) (off11_eq (by omega))) $$ [Hi HB]
  · isplitl [Hi]; · iexact Hi
    iexact HB
  iintro HD
  imodintro
  iapply Hk
  isplitl [Hi']; · iexact Hi'
  isplitl [Hs]; · iexact Hs
  isplitl [Ht]; · iexact Ht
  isplitl [HD]; · iexact HD
  iexact HO

theorem part3 (htb : InRange tb) {b : ℕ} {Q : PUnit → sProp (MM F)} :
    iprop(MW (F := F) d i O ∗ During d i ys tb q cc0_scoped4.sem (t.val % 2) b 0 ∗ Before d i ys q cc0_scoped5.sem (t.val % 2) 128 ∗ Owe (F := F) d i O W)
      ⊢ iprop((iprop(Idxs (F := F) d i tb (t.val % 2) b ∗ After d i ys tb q cc0_scoped4.sem (t.val % 2) b 0 ∗ After d i ys tb q cc0_scoped5.sem (t.val % 2) b 128
              ∗ Owe (F := F) d i O W) -∗ Q ⟨⟩)
          -∗ wp frame (wpE (defs₀ (F := F)) 𝒱₀ (tl d i) none) Set.univ
              (k0_part3 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd t.val) (wd t.val) (chk3_ok t) (chk2_ok t)) Q) := by
  have ht : t.val < 128 := t.isLt
  simp only [k0_part3_eq_skeleton]; unfold k0_part3_skel
  simp only [wp_bind]
  iintro ⟨#Hm, HD, HB, HO⟩ Hk
  iapply (wait_col d i ys tb q O W) $$ [HD HO]
  · isplitr; · iexact Hm
    isplitl [HD]; · iexact HD
    iexact HO
  iintro ⟨Hi, HA, HO⟩
  iapply (start_col d i ys tb q htb (off10_eq (by omega)) (off11_eq (by omega))) $$ [Hi HB]
  · isplitl [Hi]; · iexact Hi
    iexact HB
  iintro HD
  iapply (wait_col d i ys tb q O W) $$ [HD HO]
  · isplitr; · iexact Hm
    isplitl [HD]; · iexact HD
    iexact HO
  iintro ⟨Hi, HA2, HO⟩
  rw [wp_pure]; imodintro
  iapply Hk
  isplitl [Hi]; · iexact Hi
  isplitl [HA]; · iexact HA
  isplitl [HA2]; · iexact HA2
  iexact HO

theorem part4 (htb : InRange tb) {b : ℕ} {Q : PUnit → sProp (MM F)} :
    iprop(MW (F := F) d i O ∗ Idxs (F := F) d i tb (t.val % 2) b ∗ Before d i ys q cc0_scoped6.sem (t.val % 2) 256 ∗ Before d i ys q cc0_scoped7.sem (t.val % 2) 384 ∗ Owe (F := F) d i O W)
      ⊢ iprop((iprop(After d i ys tb q cc0_scoped6.sem (t.val % 2) b 256 ∗ During d i ys tb q cc0_scoped7.sem (t.val % 2) b 384
              ∗ Owe (F := F) d i O W) -∗ Q ⟨⟩)
          -∗ wp frame (wpE (defs₀ (F := F)) 𝒱₀ (tl d i) none) Set.univ
              (k0_part4 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd t.val) (wd t.val) (chk3_ok t) (chk2_ok t)) Q) := by
  have ht : t.val < 128 := t.isLt
  simp only [k0_part4_eq_skeleton]; unfold k0_part4_skel
  simp only [wp_bind]
  iintro ⟨#Hm, Hi, HB, HB2, HO⟩ Hk
  iapply (start_col d i ys tb q htb (off10_eq (by omega)) (off11_eq (by omega))) $$ [Hi HB]
  · isplitl [Hi]; · iexact Hi
    iexact HB
  iintro HD
  iapply (wait_col d i ys tb q O W) $$ [HD HO]
  · isplitr; · iexact Hm
    isplitl [HD]; · iexact HD
    iexact HO
  iintro ⟨Hi, HA, HO⟩
  iapply (start_col d i ys tb q htb (off10_eq (by omega)) (off11_eq (by omega))) $$ [Hi HB2]
  · isplitl [Hi]; · iexact Hi
    iexact HB2
  iintro HD
  rw [wp_pure]; imodintro
  iapply Hk
  isplitl [HA]; · iexact HA
  isplitl [HD]; · iexact HD
  iexact HO

theorem part5 (htb : InRange tb) {b : ℕ} {Q : PUnit → sProp (MM F)} :
    iprop(MW (F := F) d i O ∗ During d i ys tb q cc0_scoped7.sem (t.val % 2) b 384 ∗ Before d i ys q cc0_scoped8.sem (t.val % 2) 512 ∗ Owe (F := F) d i O W)
      ⊢ iprop((iprop(Idxs (F := F) d i tb (t.val % 2) b ∗ After d i ys tb q cc0_scoped7.sem (t.val % 2) b 384 ∗ After d i ys tb q cc0_scoped8.sem (t.val % 2) b 512
              ∗ Owe (F := F) d i O W) -∗ Q ⟨⟩)
          -∗ wp frame (wpE (defs₀ (F := F)) 𝒱₀ (tl d i) none) Set.univ
              (k0_part5 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd t.val) (wd t.val) (chk3_ok t) (chk2_ok t)) Q) := by
  have ht : t.val < 128 := t.isLt
  simp only [k0_part5_eq_skeleton]; unfold k0_part5_skel
  simp only [wp_bind]
  iintro ⟨#Hm, HD, HB, HO⟩ Hk
  iapply (wait_col d i ys tb q O W) $$ [HD HO]
  · isplitr; · iexact Hm
    isplitl [HD]; · iexact HD
    iexact HO
  iintro ⟨Hi, HA, HO⟩
  iapply (start_col d i ys tb q htb (off10_eq (by omega)) (off11_eq (by omega))) $$ [Hi HB]
  · isplitl [Hi]; · iexact Hi
    iexact HB
  iintro HD
  iapply (wait_col d i ys tb q O W) $$ [HD HO]
  · isplitr; · iexact Hm
    isplitl [HD]; · iexact HD
    iexact HO
  iintro ⟨Hi, HA2, HO⟩
  rw [wp_pure]; imodintro
  iapply Hk
  isplitl [Hi]; · iexact Hi
  isplitl [HA]; · iexact HA
  isplitl [HA2]; · iexact HA2
  iexact HO

theorem part6 (htb : InRange tb) {b : ℕ} {Q : PUnit → sProp (MM F)} :
    iprop(MW (F := F) d i O ∗ Idxs (F := F) d i tb (t.val % 2) b ∗ Before d i ys q cc0_scoped9.sem (t.val % 2) 640 ∗ Before d i ys q cc0_scoped10.sem (t.val % 2) 768 ∗ Owe (F := F) d i O W)
      ⊢ iprop((iprop(After d i ys tb q cc0_scoped9.sem (t.val % 2) b 640 ∗ During d i ys tb q cc0_scoped10.sem (t.val % 2) b 768
              ∗ Owe (F := F) d i O W) -∗ Q ⟨⟩)
          -∗ wp frame (wpE (defs₀ (F := F)) 𝒱₀ (tl d i) none) Set.univ
              (k0_part6 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd t.val) (wd t.val) (chk3_ok t) (chk2_ok t)) Q) := by
  have ht : t.val < 128 := t.isLt
  simp only [k0_part6_eq_skeleton]; unfold k0_part6_skel
  simp only [wp_bind]
  iintro ⟨#Hm, Hi, HB, HB2, HO⟩ Hk
  iapply (start_col d i ys tb q htb (off10_eq (by omega)) (off11_eq (by omega))) $$ [Hi HB]
  · isplitl [Hi]; · iexact Hi
    iexact HB
  iintro HD
  iapply (wait_col d i ys tb q O W) $$ [HD HO]
  · isplitr; · iexact Hm
    isplitl [HD]; · iexact HD
    iexact HO
  iintro ⟨Hi, HA, HO⟩
  iapply (start_col d i ys tb q htb (off10_eq (by omega)) (off11_eq (by omega))) $$ [Hi HB2]
  · isplitl [Hi]; · iexact Hi
    iexact HB2
  iintro HD
  rw [wp_pure]; imodintro
  iapply Hk
  isplitl [HA]; · iexact HA
  isplitl [HD]; · iexact HD
  iexact HO

/-- What the last stretch hands on. -/
abbrev R7 : Σ' (_ : BitVec 1), BitVec 32 :=
  ⟨Scalar.ori (Scalar.cmpi .ne (wAt i t) (wNext i t)) (wLast t), Scalar.extui (Scalar.ori (Scalar.cmpi .ne (wAt i t) (wNext i t)) (wLast t))⟩

theorem part7 (htb : InRange tb) {b : ℕ} {Q : (Σ' (_ : BitVec 1), BitVec 32) → sProp (MM F)} :
    iprop(MW (F := F) d i O ∗ During d i ys tb q cc0_scoped10.sem (t.val % 2) b 768 ∗ Before d i ys q cc0_scoped11.sem (t.val % 2) 896 ∗ Owe (F := F) d i O W)
      ⊢ iprop((iprop(Idxs (F := F) d i tb (t.val % 2) b ∗ After d i ys tb q cc0_scoped10.sem (t.val % 2) b 768 ∗ After d i ys tb q cc0_scoped11.sem (t.val % 2) b 896
              ∗ Owe (F := F) d i O W) -∗ Q (R7 i t))
          -∗ wp frame (wpE (defs₀ (F := F)) 𝒱₀ (tl d i) none) Set.univ
              (k0_part7 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd t.val) (wd t.val) (chk3_ok t) (chk2_ok t) (wLast t) (wAt i t) (wNext i t)) Q) := by
  have ht : t.val < 128 := t.isLt
  simp only [k0_part7_eq_skeleton]; unfold k0_part7_skel
  simp only [wp_bind]
  iintro ⟨#Hm, HD, HB, HO⟩ Hk
  iapply (wait_col d i ys tb q O W) $$ [HD HO]
  · isplitr; · iexact Hm
    isplitl [HD]; · iexact HD
    iexact HO
  iintro ⟨Hi, HA, HO⟩
  iapply (start_col d i ys tb q htb (off10_eq (by omega)) (off11_eq (by omega))) $$ [Hi HB]
  · isplitl [Hi]; · iexact Hi
    iexact HB
  iintro HD
  iapply (wait_col d i ys tb q O W) $$ [HD HO]
  · isplitr; · iexact Hm
    isplitl [HD]; · iexact HD
    iexact HO
  iintro ⟨Hi, HA2, HO⟩
  rw [wp_pure]; imodintro
  iapply Hk
  isplitl [Hi]; · iexact Hi
  isplitl [HA]; · iexact HA
  isplitl [HA2]; · iexact HA2
  iexact HO

end Parts

end Cert.Proof.Tile
-- ==== Proof.Loop.lean ====
/-
  The loop: what holds before each trip, and that a trip takes it to the next.
-/
module

public import proofs.«01_k».proof.Proof.Parts

@[expose] public section

noncomputable section

namespace Cert.Proof.Tile

open Cert.Combine Cert.Combine.Gen Cert.Proof.Slots Cert.Proof.Ops

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- Rows `a` to `b` of the result. -/
def oRows (a b : ℕ) : Finset S4096x32x1024.Idx := Finset.univ.filter fun j => a ≤ (j 0).val ∧ (j 0).val < b

theorem oRows_first {a b : ℕ} (h : a < b) : oRows a b = oRow a ∪ oRows (a + 1) b := by
  ext j
  simp only [oRows, oRow, Finset.mem_filter, Finset.mem_univ, true_and, Finset.mem_union]; omega
theorem oRows_first_disj (a b : ℕ) : Disjoint (oRow a) (oRows (a + 1) b) := by
  refine Finset.disjoint_left.mpr fun j h h' => ?_
  simp only [oRows, oRow, Finset.mem_filter, Finset.mem_univ, true_and] at h h'; omega
theorem oRows_last {a b : ℕ} (h : a ≤ b) : oRows a (b + 1) = oRows a b ∪ oRow b := by
  ext j
  simp only [oRows, oRow, Finset.mem_filter, Finset.mem_univ, true_and, Finset.mem_union]; omega
theorem oRows_last_disj (a b : ℕ) : Disjoint (oRows a b) (oRow b) := by
  refine Finset.disjoint_left.mpr fun j h h' => ?_
  simp only [oRows, oRow, Finset.mem_filter, Finset.mem_univ, true_and] at h h'; omega
theorem oRows_none (a : ℕ) : oRows a a = ∅ := by
  ext j
  simp only [oRows, Finset.mem_filter, Finset.mem_univ, true_and, Finset.notMem_empty, iff_false]; omega

variable [FloatOps F]

section Loop

variable (d : Dev nD) (i : grid0.Coords) (ys : S131072x1024.Idx → F .f32) (tb : S4096x128.Idx → BitVec 32) (q : PosShare TreeShare)
  (qt : ℕ → PosShare TreeShare) (O : CellTallies nD τ sig (HIx 1)) (W : Waits sig (HIx 1)) (o₀ : S4096x32x1024.Idx → F .f32)

/-- The slot of row `n`'s indices: its fetch on the way while there is a row `n`, free past the last. -/
def InAt (n : ℕ) : sProp (MM F) :=
  if n < 128 then InBusy (F := F) d i tb qt (n % 2) (m2 n) (base i + n) else InFree (F := F) d i tb qt (n % 2) (m2 n)
/-- The slot written out by the trip before `n`: on its way out, or free before the first trip. -/
def OutAt (n : ℕ) : sProp (MM F) :=
  if 0 < n then OutBusy d i ys tb ((n + 1) % 2) (m2 (n + 1)) (base i + (n - 1)) else OutFree (F := F) d i ((n + 1) % 2) (m2 (n + 1))

/-- The gathers' semaphores at zero. -/
abbrev Cells : sProp (MM F) :=
  iprop(semVal (tl d i, SemLoc.dma cc0_scoped4.sem) 0 ∗ semVal (tl d i, SemLoc.dma cc0_scoped5.sem) 0 ∗ semVal (tl d i, SemLoc.dma cc0_scoped6.sem) 0
    ∗ semVal (tl d i, SemLoc.dma cc0_scoped7.sem) 0 ∗ semVal (tl d i, SemLoc.dma cc0_scoped8.sem) 0 ∗ semVal (tl d i, SemLoc.dma cc0_scoped9.sem) 0
    ∗ semVal (tl d i, SemLoc.dma cc0_scoped10.sem) 0 ∗ semVal (tl d i, SemLoc.dma cc0_scoped11.sem) 0)

/-- The words a trip is entered with. -/
abbrev words (n : ℕ) : BitVec 32 × BitVec 32 × BitVec 32 × BitVec 32 × BitVec 32 :=
  (wd (min (n + 1) 128), wd n, wd n, wd (n - 1), wd (n % 128))

/-- What is held before trip `n`. -/
def Held (n : ℕ) : sProp (MM F) :=
  iprop(MW (F := F) d i O ∗ InAt (F := F) d i tb qt n ∗ InFree (F := F) d i tb qt ((n + 1) % 2) (m2 (n + 1))
    ∗ OutFree (F := F) d i (n % 2) (m2 n) ∗ OutAt d i ys tb n ∗ (yL d i ↦{q} ys) ∗ Cells (F := F) d i
    ∗ (oL d i ↦[oRows (base i) (base i + (n - 1))]{fullShare} outF ys tb) ∗ (oL d i ↦[oRows (base i + n) (base i + 128)]{fullShare} o₀)
    ∗ Owe (F := F) d i O W)

theorem InFree_congr {s s' : ℕ} (e : s = s') (hs : s < 2) (hs' : s' < 2) : InFree (F := F) d i tb qt s hs = InFree (F := F) d i tb qt s' hs' := by
  subst e; rfl
theorem OutFree_congr {s s' : ℕ} (e : s = s') (hs : s < 2) (hs' : s' < 2) : OutFree (F := F) d i s hs = OutFree (F := F) d i s' hs' := by
  subst e; rfl
theorem OutBusy_congr {s s' : ℕ} (e : s = s') (hs : s < 2) (hs' : s' < 2) (b : ℕ) : OutBusy d i ys tb s hs b = OutBusy d i ys tb s' hs' b := by
  subst e; rfl

theorem part1 (t : Fin k0_t1_loop.trips) {Q : _ → sProp (MM F)} :
    InFree (F := F) d i tb qt ((t.val + 1) % 2) (m2 _)
      ⊢ iprop((InAt (F := F) d i tb qt (t.val + 1) -∗ Q (R1 i t))
          -∗ wp frame (wpE (defs₀ (F := F)) 𝒱₀ (tl d i) none) Set.univ
              (k0_part1 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd (base i)) 0#32 1#32 t (wd (t.val + 1)) (wd t.val) (wd t.val) (wd (t.val - 1)) (wd t.val)) Q) := by
  have ht : t.val < 128 := t.isLt
  unfold InAt
  by_cases h : t.val < 127
  · rw [if_pos (by omega)]; exact part1_mid d i tb qt t h
  · rw [if_neg (by omega)]
    iintro Hf Hk
    iapply (part1_last d i t (by omega))
    iapply Hk; iexact Hf

/-- The words the next trip is entered with. -/
theorem next_words (t : Fin k0_t1_loop.trips) :
    (Scalar.select (Scalar.andi (Scalar.andi (Scalar.cmpi .ne (wAt i t) (wNext i t)) (Scalar.xori (Scalar.cmpi .sge (wd t.val) 127#32) 1#1)) 1#1)
        (Scalar.addi (wd (t.val + 1)) 1#32) (wd (t.val + 1)),
      Scalar.select (Scalar.ori (Scalar.cmpi .ne (wAt i t) (wNext i t)) (wLast t)) (Scalar.addi (wd t.val) 1#32) (wd t.val),
      Scalar.select (Scalar.andi (Scalar.ori (Scalar.cmpi .ne (wAt i t) (wNext i t)) (wLast t)) 1#1) (Scalar.addi (wd t.val) 1#32) (wd t.val),
      Scalar.select (Scalar.andi (Scalar.andi (Scalar.cmpi .ne (wAt i t) (wPrev i t)) (Scalar.xori (wFirst t) 1#1)) 1#1) (Scalar.addi (wd (t.val - 1)) 1#32) (wd (t.val - 1)),
      Scalar.select (Scalar.cmpi .eq (Scalar.select 1#1 (Scalar.addi (wd t.val) 1#32) (wd t.val)) 128#32) 0#32 (Scalar.select 1#1 (Scalar.addi (wd t.val) 1#32) (wd t.val)))
    = words (t.val + 1) := by
  have ht : t.val < 128 := t.isLt
  simp only [wAt, wNext, wPrev, wLast, wFirst, ne_next, ne_prev, next_word ht]
  generalize t.val = n at ht
  interval_cases n <;> rfl

set_option maxHeartbeats 1000000 in
theorem trip (htb : InRange tb) (t : Fin k0_t1_loop.trips) :
    Held d i ys tb q qt O W o₀ t.val
      ⊢ wp frame (wpE (defs₀ (F := F)) 𝒱₀ (tl d i) none) Set.univ
          (k0_t1_body i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd (base i)) t (wd (t.val + 1), wd t.val, wd t.val, wd (t.val - 1), wd t.val))
          (fun acc => iprop(⌜acc = words (t.val + 1)⌝ ∗ Held d i ys tb q qt O W o₀ (t.val + 1))) := by
  have ht : t.val < 128 := t.isLt
  have hb := base_lt i
  unfold Held k0_t1_body
  simp only [wp_bind, ite_self]
  iintro ⟨#Hm, Hin, Hfr, ⟨⟨%f, Hu⟩, Hos⟩, Hoa, Hy, ⟨C0, C1, C2, C3, C4, C5, C6, C7⟩, Hdone, Htodo, HO⟩
  iapply (part1 (F := F) d i tb qt t) $$ Hfr
  iintro Hnext
  ihave Hu := (out_eight (F := F) d i (t.val % 2) f).1 $$ Hu
  icases Hu with ⟨U0, U1, U2, U3, U4, U5, U6, U7⟩
  ihave Hy := (y_eight (F := F) d i ys q).1 $$ Hy
  icases Hy with ⟨Y0, Y1, Y2, Y3, Y4, Y5, Y6, Y7⟩
  ihave Hin := (Entails.of_eq (show InAt (F := F) d i tb qt t.val = InBusy (F := F) d i tb qt (t.val % 2) (m2 _) (base i + t.val) from if_pos ht)) $$ Hin
  iapply (part2 d i ys tb q qt O W t htb) $$ [Hin Y0 U0 C0 HO]
  · isplitr; · iexact Hm
    isplitl [Hin]; · iexact Hin
    isplitl [Y0 U0 C0]
    · isplitl [Y0]; · iexact Y0
      isplitl [U0]; · iexists _; iexact U0
      iexact C0
    iexact HO
  iintro ⟨Hi', His, Htab, HD, HO⟩
  iapply (part3 d i ys tb q O W t htb) $$ [HD Y1 U1 C1 HO]
  · isplitr; · iexact Hm
    isplitl [HD]; · iexact HD
    isplitl [Y1 U1 C1]
    · isplitl [Y1]; · iexact Y1
      isplitl [U1]; · iexists _; iexact U1
      iexact C1
    iexact HO
  iintro ⟨Hi, ⟨Y0, U0, C0⟩, ⟨Y1, U1, C1⟩, HO⟩
  iapply (part4 d i ys tb q O W t htb) $$ [Hi Y2 U2 C2 Y3 U3 C3 HO]
  · isplitr; · iexact Hm
    isplitl [Hi]; · iexact Hi
    isplitl [Y2 U2 C2]
    · isplitl [Y2]; · iexact Y2
      isplitl [U2]; · iexists _; iexact U2
      iexact C2
    isplitl [Y3 U3 C3]
    · isplitl [Y3]; · iexact Y3
      isplitl [U3]; · iexists _; iexact U3
      iexact C3
    iexact HO
  iintro ⟨⟨Y2, U2, C2⟩, HD, HO⟩
  iapply (part5 d i ys tb q O W t htb) $$ [HD Y4 U4 C4 HO]
  · isplitr; · iexact Hm
    isplitl [HD]; · iexact HD
    isplitl [Y4 U4 C4]
    · isplitl [Y4]; · iexact Y4
      isplitl [U4]; · iexists _; iexact U4
      iexact C4
    iexact HO
  iintro ⟨Hi, ⟨Y3, U3, C3⟩, ⟨Y4, U4, C4⟩, HO⟩
  iapply (part6 d i ys tb q O W t htb) $$ [Hi Y5 U5 C5 Y6 U6 C6 HO]
  · isplitr; · iexact Hm
    isplitl [Hi]; · iexact Hi
    isplitl [Y5 U5 C5]
    · isplitl [Y5]; · iexact Y5
      isplitl [U5]; · iexists _; iexact U5
      iexact C5
    isplitl [Y6 U6 C6]
    · isplitl [Y6]; · iexact Y6
      isplitl [U6]; · iexists _; iexact U6
      iexact C6
    iexact HO
  iintro ⟨⟨Y5, U5, C5⟩, HD, HO⟩
  iapply (part7 d i ys tb q O W t htb) $$ [HD Y7 U7 C7 HO]
  · isplitr; · iexact Hm
    isplitl [HD]; · iexact HD
    isplitl [Y7 U7 C7]
    · isplitl [Y7]; · iexact Y7
      isplitl [U7]; · iexists _; iexact U7
      iexact C7
    iexact HO
  iintro ⟨Hi, ⟨Y6, U6, C6⟩, ⟨Y7, U7, C7⟩, HO⟩
  ihave Hu := (out_eight (F := F) d i (t.val % 2) (outC ys tb (base i + t.val))).2 $$ [U0 U1 U2 U3 U4 U5 U6 U7]
  · isplitl [U0]; · iexact U0
    isplitl [U1]; · iexact U1
    isplitl [U2]; · iexact U2
    isplitl [U3]; · iexact U3
    isplitl [U4]; · iexact U4
    isplitl [U5]; · iexact U5
    isplitl [U6]; · iexact U6
    iexact U7
  ihave Hy := (y_eight (F := F) d i ys q).2 $$ [Y0 Y1 Y2 Y3 Y4 Y5 Y6 Y7]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  ihave Hi := (pointsTo_split_subset (ℓ := iL d i) (I := idxSet (t.val % 2)) (S := inSet (t.val % 2)) (idxSet_sub (t.val % 2))).2 $$ [Hi Hi']
  · isplitl [Hi] <;> iassumption
  -- the write-out of the slot just filled
  ihave Htodo := (Entails.of_eq (congrArg (fun S => (oL d i ↦[S]{fullShare} o₀ : sProp (MM F))) (oRows_first (a := base i + t.val) (b := base i + 128) (by omega)))) $$ Htodo
  ihave Htodo := (pointsTo_union (oRows_first_disj _ _)).1 $$ Htodo
  icases Htodo with ⟨Ho, Htodo⟩
  rw [dif_pos (cond5_eq i t)]
  simp only [wp_bind]
  iapply (enq_out d i ys tb (m2 t.val) (off13_eq i ht) (off12_eq (by omega)) (off14_eq (by omega)) o₀) $$ [Hu Ho Hos]
  · isplitl [Hu]; · iexact Hu
    isplitl [Ho]; · iexact Ho
    iexact Hos
  iintro Hout
  rw [next_words i t]
  ihave Hout := (Entails.of_eq (show Fl (tl d i) (outSem (t.val % 2) (m2 t.val)) nOut (OutD d i ys tb (t.val % 2) (base i + t.val)) = OutAt d i ys tb (t.val + 1) from
    (OutBusy_congr d i ys tb (show t.val % 2 = (t.val + 1 + 1) % 2 by omega) (m2 t.val) (m2 (t.val + 1 + 1)) (base i + t.val)).trans (if_pos (by omega)).symm)) $$ Hout
  ihave Hfree := (Entails.of_eq (InFree_congr (F := F) d i tb qt (show t.val % 2 = (t.val + 1 + 1) % 2 by omega) (m2 t.val) (m2 (t.val + 1 + 1)))) $$ [Hi His Htab]
  · isplitl [Hi]; · iexists _; iexact Hi
    isplitl [His]; · iexact His
    iexact Htab
  by_cases h0 : 0 < t.val
  · rw [dif_pos ((cond7_eq i t).trans (if_pos h0))]
    simp only [wp_bind]
    ihave Hoa := (Entails.of_eq (show OutAt d i ys tb t.val = OutBusy d i ys tb ((t.val + 1) % 2) (m2 (t.val + 1)) (base i + (t.val - 1)) from if_pos h0)) $$ Hoa
    iapply (wait_out (F := F) d i ys tb O W (m2 (t.val + 1)) ((off17_eq (t := t.val - 1) (by omega)).trans
      (by rw [show (t.val - 1) % 2 = (t.val + 1) % 2 by omega]))) $$ [Hoa HO]
    · isplitr; · iexact Hm
      isplitl [Hoa]; · iexact Hoa
      iexact HO
    iintro ⟨Ho, Hof, HO⟩
    ihave Hdone := (pointsTo_union (ℓ := oL d i) (oRows_last_disj (base i) (base i + (t.val - 1)))).2 $$ [Hdone Ho]
    · isplitl [Hdone] <;> iassumption
    ihave Hdone := (Entails.of_eq (congrArg (fun S => (oL d i ↦[S]{fullShare} outF ys tb : sProp (MM F)))
      ((oRows_last (a := base i) (b := base i + (t.val - 1)) (by omega)).symm.trans
        (by rw [show base i + (t.val - 1) + 1 = base i + (t.val + 1 - 1) by omega])))) $$ Hdone
    rw [wp_pure]; imodintro
    isplitr; · ipureintro; rfl
    isplitr; · iexact Hm
    isplitl [Hnext]; · iexact Hnext
    isplitl [Hfree]; · iexact Hfree
    isplitl [Hof]; · iexact Hof
    isplitl [Hout]; · iexact Hout
    isplitl [Hy]; · iexact Hy
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [Hdone]; · iexact Hdone
    isplitl [Htodo]; · iexact Htodo
    iexact HO
  · rw [dif_neg (by rw [cond7_eq i t, if_neg h0]; decide)]
    have e0 : t.val = 0 := by omega
    ihave Hof := (Entails.of_eq (show OutAt d i ys tb t.val = OutFree (F := F) d i ((t.val + 1) % 2) (m2 (t.val + 1)) from if_neg h0)) $$ Hoa
    ihave Hdone := (Entails.of_eq (congrArg (fun S => (oL d i ↦[S]{fullShare} outF ys tb : sProp (MM F)))
      (show oRows (base i) (base i + (t.val - 1)) = oRows (base i) (base i + (t.val + 1 - 1)) by rw [e0]))) $$ Hdone
    rw [wp_pure]; imodintro
    isplitr; · ipureintro; rfl
    isplitr; · iexact Hm
    isplitl [Hnext]; · iexact Hnext
    isplitl [Hfree]; · iexact Hfree
    isplitl [Hof]; · iexact Hof
    isplitl [Hout]; · iexact Hout
    isplitl [Hy]; · iexact Hy
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [Hdone]; · iexact Hdone
    isplitl [Htodo]; · iexact Htodo
    iexact HO

theorem part8 {Q : BitVec 32 → sProp (MM F)} :
    InFree (F := F) d i tb qt 0 (by decide)
      ⊢ iprop((InAt (F := F) d i tb qt 0 -∗ Q (wd (base i)))
          -∗ wp frame (wpE (defs₀ (F := F)) 𝒱₀ (tl d i) none) Set.univ (k0_part8 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11) Q) := by
  simp only [k0_part8_eq_skeleton]; unfold k0_part8_skel
  simp only [base_word, wp_bind]
  iintro Hf Hk
  iapply (start_in (F := F) d i tb qt (s := 0) (b := base i) Nat.zero_lt_two (off2_eq i) rfl rfl) $$ Hf
  iintro Hf
  rw [wp_pure]; imodintro
  iapply Hk
  iapply (Entails.of_eq (show InAt (F := F) d i tb qt 0 = InBusy (F := F) d i tb qt 0 (by decide) (base i) from if_pos (by decide)).symm)
  iexact Hf

theorem loop (htb : InRange tb) {Q : _ → sProp (MM F)} :
    Held d i ys tb q qt O W o₀ 0
      ⊢ iprop((Held d i ys tb q qt O W o₀ 128 -∗ Q ⟨wd 127, wd 0, chk5_ok i, chk4_ok⟩)
          -∗ wp frame (wpE (defs₀ (F := F)) 𝒱₀ (tl d i) none) Set.univ (k0_part9 i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11 (wd (base i))) Q) := by
  simp only [k0_part9_eq_skeleton]; unfold k0_part9_skel
  iintro HH Hk
  rw [wp_bind]
  iapply (Scf.wp_for _ _ _ _ _ _ _ _ _ (fun n acc => iprop(⌜acc = words n⌝ ∗ ⌜n ≤ 128⌝ ∗ Held d i ys tb q qt O W o₀ n)) ?_)
  · intro t acc
    have ht : t.val < 128 := t.isLt
    iintro ⟨%hacc, -, HH⟩
    subst hacc
    rw [show words t.val = (wd (t.val + 1), wd t.val, wd t.val, wd (t.val - 1), wd t.val) by
      rw [words, Nat.min_eq_left (by omega), Nat.mod_eq_of_lt ht]]
    iapply (wp_wand_r frame (wpE (defs₀ (F := F)) 𝒱₀ (tl d i) none) Set.univ)
    isplitl [HH]
    · iapply (trip d i ys tb q qt O W o₀ htb t); iexact HH
    · iintro %acc' ⟨%h', HH⟩
      isplitr; · ipureintro; exact h'
      isplitr; · ipureintro; omega
      iexact HH
  isplitl [HH]
  · isplitr; · ipureintro; rfl
    isplitr; · ipureintro; omega
    iexact HH
  iintro %acc ⟨%hacc, -, HH⟩
  have hacc' : acc = (wd 128, wd 128, wd 128, wd 127, wd 0) := hacc
  subst hacc'
  ihave HH := (Entails.of_eq (show Held d i ys tb q qt O W o₀ k0_t1_loop.trips = Held d i ys tb q qt O W o₀ 128 by rw [trips_eq])) $$ HH
  simp only [wp_bind]
  iapply (wp_chk d i (chk5_ok i))
  iapply (wp_chk d i chk4_ok)
  rw [wp_pure]; imodintro
  iapply Hk; iexact HH

/-- What a tile starts and ends with: its rows of the result at `o`. -/
abbrev Tile (o : S4096x32x1024.Idx → F .f32) : sProp (MM F) :=
  iprop(InFree (F := F) d i tb qt 0 (by decide) ∗ InFree (F := F) d i tb qt 1 (by decide) ∗ OutFree (F := F) d i 0 (by decide) ∗ OutFree (F := F) d i 1 (by decide)
    ∗ (yL d i ↦{q} ys) ∗ Cells (F := F) d i ∗ (oL d i ↦[oRows (base i) (base i + 128)]{fullShare} o) ∗ Owe (F := F) d i O W)

/-- A tile's run: its rows of the result filled. -/
theorem tile_run (htb : InRange tb) :
    iprop(MW (F := F) d i O ∗ Tile d i ys tb q qt O W o₀)
      ⊢ wp frame (wpE (defs₀ (F := F)) 𝒱₀ (tl d i) none) Set.univ (cc0_gather i yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11)
          fun _ => Tile d i ys tb q qt O W (outF ys tb) := by
  have hb := base_lt i
  simp only [cc0_gather_eq_skeleton]; unfold cc0_gather_skel
  simp only [wp_bind]
  iintro ⟨#Hm, I0, I1, U0, U1, Hy, HC, Ho, HO⟩
  iapply (part8 (F := F) d i tb qt) $$ I0
  iintro I0
  iapply (loop d i ys tb q qt O W o₀ htb) $$ [I0 I1 U0 U1 Hy HC Ho HO]
  · unfold Held
    isplitr; · iexact Hm
    isplitl [I0]; · iexact I0
    isplitl [I1]; · iexact I1
    isplitl [U0]; · iexact U0
    isplitl [U1]
    · iapply (Entails.of_eq (show OutAt d i ys tb 0 = OutFree (F := F) d i 1 (by decide) from if_neg (by decide)).symm)
      iexact U1
    isplitl [Hy]; · iexact Hy
    isplitl [HC]; · iexact HC
    isplitr
    · rw [show base i + (0 - 1) = base i from rfl, oRows_none]
      rw [pointsTo_empty]
      iempintro
    isplitl [Ho]; · iexact Ho
    iexact HO
  unfold Held
  iintro ⟨-, I0, I1, U0, Hoa, Hy, HC, Hdone, -, HO⟩
  ihave I0 := (Entails.of_eq (show InAt (F := F) d i tb qt 128 = InFree (F := F) d i tb qt 0 (by decide) from if_neg (by decide))) $$ I0
  ihave Hoa := (Entails.of_eq (show OutAt d i ys tb 128 = OutBusy d i ys tb 1 (by decide) (base i + 127) from if_pos (by decide))) $$ Hoa
  iapply (wait_out (F := F) d i ys tb O W (s := 1) (b := base i + 127) Nat.one_lt_two (off20_eq (t := 127) (by decide))) $$ [Hoa HO]
  · isplitr; · iexact Hm
    isplitl [Hoa]; · iexact Hoa
    iexact HO
  iintro ⟨Ho, U1, HO⟩
  ihave Hdone := (pointsTo_union (ℓ := oL d i) (oRows_last_disj (base i) (base i + 127))).2 $$ [Hdone Ho]
  · isplitl [Hdone] <;> iassumption
  ihave Hdone := (Entails.of_eq (congrArg (fun S => (oL d i ↦[S]{fullShare} outF ys tb : sProp (MM F)))
    (oRows_last (a := base i) (b := base i + 127) (by omega)).symm)) $$ Hdone
  rw [wp_pure]; imodintro
  isplitl [I0]; · iexact I0
  isplitl [I1]; · iexact I1
  isplitl [U0]; · iexact U0
  isplitl [U1]; · iexact U1
  isplitl [Hy]; · iexact Hy
  isplitl [HC]; · iexact HC
  isplitl [Hdone]; · iexact Hdone
  iexact HO

end Loop

end Cert.Proof.Tile
-- ==== Proof.Launch.lean ====
/-
  The combine's launch: what the call hands each tile (a share of the gathered
  rows and of the index table, its own rows of the result) and what comes back,
  the host operations that build the table, and the whole program's run — both
  arguments as they were, the result named entry by entry.
-/
module

public import proofs.«01_k».proof.Proof.Loop

@[expose] public section

noncomputable section

namespace Cert.Proof.Launch

open Cert.Combine Cert.Combine.Gen Cert.Proof.Slots Cert.Proof.Ops Cert.Proof.Tile

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## Shares peeled off one after the other -/

/-- What is left of a share once `n` pieces are off. -/
def rest (q : PosShare TreeShare) : ℕ → PosShare TreeShare
  | 0 => q
  | n + 1 => (rest q n).right
/-- The piece taken off after `n` others. -/
def peel (q : PosShare TreeShare) (n : ℕ) : PosShare TreeShare := (rest q n).left

theorem peel_off {ℓ : Loc nD τ sig} (I : Finset (Idx ℓ)) (f : Buf (Elt F) ℓ) (q : PosShare TreeShare) :
    ∀ n : ℕ, (ℓ ↦[I]{q} f : sProp (MM F)) ⊢ iprop((bigSep Finset.univ fun k : Fin n => ℓ ↦[I]{peel q k.val} f) ∗ ℓ ↦[I]{rest q n} f)
  | 0 => by
    iintro H
    isplitr
    · rw [Finset.univ_eq_empty, bigSep_empty]; iempintro
    · iexact H
  | n + 1 => by
    refine (peel_off I f q n).trans ?_
    iintro ⟨Hs, Hr⟩
    ihave Hlr := (pointsTo_share (ℓ := ℓ) (I := I) (f := f) (PosShare.mem_left_op_right (rest q n))).1 $$ Hr
    icases Hlr with ⟨Hl, Hr⟩
    isplitr [Hr]
    · rw [Fin.univ_castSuccEmb, Finset.cons_eq_insert, SparseCore.bigSep_insert' (by simp [Fin.castSucc_ne_last]), bigSep_map]
      isplitl [Hl]; · iexact Hl
      iexact Hs
    · iexact Hr

/-! ## Tiles, by core and subcore -/

/-- The tile of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of an array that all of them read. -/
def sh (L : grid0.Coords) : PosShare TreeShare := peel (peel fullShare (L 0).val) (L 1).val

abbrev yLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v4
abbrev oLoc (d : Dev nD) : Loc nD τ sig := (SparseCore.T d).loc main_v5

theorem rows_disj (c : Fin (grid0.bound 0)) : ∀ s ∈ (Finset.univ : Finset (Fin (grid0.bound 1))), ∀ s' ∈ (Finset.univ : Finset (Fin (grid0.bound 1))), s ≠ s' →
    Disjoint (oRows (base (coordsV c s)) (base (coordsV c s) + 128)) (oRows (base (coordsV c s')) (base (coordsV c s') + 128)) := by
  intro s _ s' _ h
  have hv : s.val ≠ s'.val := fun e => h (Fin.ext e)
  rw [Finset.disjoint_left]
  intro j hj hj'
  simp only [oRows, Finset.mem_filter, Finset.mem_univ, true_and] at hj hj'
  have e : base (coordsV c s) = (s.val + c.val * 16) * 128 := rfl
  have e' : base (coordsV c s') = (s'.val + c.val * 16) * 128 := rfl
  rw [e] at hj; rw [e'] at hj'
  omega

theorem rows_union (c : Fin (grid0.bound 0)) :
    (Finset.univ : Finset (Fin (grid0.bound 1))).biUnion (fun s => oRows (base (coordsV c s)) (base (coordsV c s) + 128)) = oRows (c.val * 2048) (c.val * 2048 + 2048) := by
  ext j
  simp only [oRows, Finset.mem_biUnion, Finset.mem_filter, Finset.mem_univ, true_and]
  constructor
  · rintro ⟨s, h⟩
    have hs : s.val < 16 := s.isLt
    have e : base (coordsV c s) = (s.val + c.val * 16) * 128 := rfl
    rw [e] at h; omega
  · intro h
    refine ⟨⟨((j 0).val - c.val * 2048) / 128, show _ < 16 by omega⟩, ?_⟩
    have e : base (coordsV c ⟨((j 0).val - c.val * 2048) / 128, show _ < 16 by omega⟩) = (((j 0).val - c.val * 2048) / 128 + c.val * 16) * 128 := rfl
    rw [e]; omega

theorem cores_disj : ∀ c ∈ (Finset.univ : Finset (Fin (grid0.bound 0))), ∀ c' ∈ (Finset.univ : Finset (Fin (grid0.bound 0))), c ≠ c' →
    Disjoint (oRows (c.val * 2048) (c.val * 2048 + 2048)) (oRows (c'.val * 2048) (c'.val * 2048 + 2048)) := by
  intro c _ c' _ h
  have hv : c.val ≠ c'.val := fun e => h (Fin.ext e)
  rw [Finset.disjoint_left]
  intro j hj hj'
  simp only [oRows, Finset.mem_filter, Finset.mem_univ, true_and] at hj hj'
  omega

theorem cores_union : (Finset.univ : Finset (Fin (grid0.bound 0))).biUnion (fun c => oRows (c.val * 2048) (c.val * 2048 + 2048)) = Finset.univ := by
  ext j
  have hj : (j 0).val < 4096 := (j 0).isLt
  simp only [oRows, Finset.mem_biUnion, Finset.mem_filter, Finset.mem_univ, true_and, iff_true]
  refine ⟨⟨(j 0).val / 2048, show _ < 2 by omega⟩, ?_⟩
  show (j 0).val / 2048 * 2048 ≤ _ ∧ _ < (j 0).val / 2048 * 2048 + 2048
  omega

/-- The result's buffer is its tiles' rows. -/
theorem out_tiles (d : Dev nD) (f : S4096x32x1024.Idx → F .f32) :
    (oLoc d ↦{fullShare} f : sProp (MM F)) = bigSep Finset.univ fun c : Fin (grid0.bound 0) => bigSep Finset.univ fun s : Fin (grid0.bound 1) =>
      oLoc d ↦[oRows (base (coordsV c s)) (base (coordsV c s) + 128)]{fullShare} f := by
  rw [← cores_union]
  refine (pointsTo_biUnion (ℓ := oLoc d) Finset.univ (fun c : Fin (grid0.bound 0) => oRows (c.val * 2048) (c.val * 2048 + 2048)) cores_disj).trans ?_
  refine bigSep_congr fun c _ => ?_
  rw [← rows_union c]
  exact pointsTo_biUnion (ℓ := oLoc d) Finset.univ (fun s : Fin (grid0.bound 1) => oRows (base (coordsV c s)) (base (coordsV c s) + 128)) (rows_disj c)

/-- An array held whole gives every tile its share, and some is left. -/
theorem share_tiles {ℓ : Loc nD τ sig} (f : Buf (Elt F) ℓ) :
    (ℓ ↦{fullShare} f : sProp (MM F)) ⊢ iprop((bigSep Finset.univ fun c : Fin (grid0.bound 0) => bigSep Finset.univ fun s : Fin (grid0.bound 1) =>
      ℓ ↦{sh (coordsV c s)} f) ∗ ℓ ↦{rest fullShare (grid0.bound 0)} f) := by
  refine (peel_off Finset.univ f fullShare (grid0.bound 0)).trans ?_
  refine BI.sep_mono (bigSep_mono fun c _ => ?_) (BI.Entails.refl _)
  refine (peel_off Finset.univ f (peel fullShare c.val) (grid0.bound 1)).trans ?_
  iintro ⟨H, -⟩
  iexact H

/-! ## The index table -/

/-- The table the host operations build of the positions: row `b` holds the 32 of block `b`, then zeros. -/
def tblOf (x : S4x32768.Idx → BitVec 32) : S4096x128.Idx → BitVec 32 :=
  concatenate S4096x128 1 [⟨S4096x32, shapeCast S4096x32 (transpose S4096x4x8 [1, 0, 2] (shapeCast S4x4096x8 x shapeCasts_S4x32768_S4x4096x8)
      transposes_S4x4096x8_S4096x4x8_1_0_2) shapeCasts_S4096x4x8_S4096x32⟩,
    ⟨S4096x96, broadcastInDim S4096x96 ![] bcast_S_S4096x96 (constantI S_ 32 0#32)⟩] concatenates_S4096x32_S4096x96_S4096x128_d1

variable [FloatOps F]

abbrev op0 : HloOp τ sig (Elt F) := StableHlo.reshape main_arg1 main_v0 (rfl : (.i32 : EltTy) = .i32) shapeCasts_S4x32768_S4x4096x8
abbrev op1 : HloOp τ sig (Elt F) := StableHlo.unary main_v0 main_v1 ((transpose S4096x4x8 [1, 0, 2] · transposes_S4x4096x8_S4096x4x8_1_0_2) : (⟨S4x4096x8, .i32⟩ : BufTy).Contents (Elt F) → (⟨S4096x4x8, .i32⟩ : BufTy).Contents (Elt F))
abbrev op2 : HloOp τ sig (Elt F) := StableHlo.reshape main_v1 main_v2 (rfl : (.i32 : EltTy) = .i32) shapeCasts_S4096x4x8_S4096x32
abbrev op3 : HloOp τ sig (Elt F) := StableHlo.nullary main_c (constantI S_ 32 0#32)
abbrev op4 : HloOp τ sig (Elt F) := StableHlo.unary main_c main_v3 (broadcastInDim S4096x96 ![] bcast_S_S4096x96 : (⟨S_, .i32⟩ : BufTy).Contents (Elt F) → (⟨S4096x96, .i32⟩ : BufTy).Contents (Elt F))
abbrev op5 : HloOp τ sig (Elt F) := StableHlo.binary main_v2 main_v3 main_v4 ((fun a b => concatenate S4096x128 1 [⟨S4096x32, a⟩, ⟨S4096x96, b⟩] concatenates_S4096x32_S4096x96_S4096x128_d1) : (⟨S4096x32, .i32⟩ : BufTy).Contents (Elt F) → (⟨S4096x96, .i32⟩ : BufTy).Contents (Elt F) → (⟨S4096x128, .i32⟩ : BufTy).Contents (Elt F))

/-- A device's contents once the host operations before the call are done. -/
def after (V : Valuation τ sig (Elt F)) : Valuation τ sig (Elt F) :=
  (op5 (F := F)).result ((op4 (F := F)).result ((op3 (F := F)).result ((op2 (F := F)).result ((op1 (F := F)).result ((op0 (F := F)).result V)))))

theorem op3_ne {V : Valuation τ sig (Elt F)} {r : Ref sig .tc} (h : Proc.devRef .tc r ∉ ({Proc.devRef .tc main_c} : Finset (DevRef τ sig))) :
    (op3 (F := F)).result V (Proc.devRef .tc r) = V (Proc.devRef .tc r) := (op3 (F := F)).result_of_not_mem V h

theorem after_arg0 (V : Valuation τ sig (Elt F)) : after V (Proc.devRef .tc main_arg0) = V (Proc.devRef .tc main_arg0) := by
  unfold after
  rw [StableHlo.binary_result_ne (h := by decide), StableHlo.unary_result_ne (h := by decide), op3_ne (by decide),
    StableHlo.reshape_result_ne (h := by decide), StableHlo.unary_result_ne (h := by decide), StableHlo.reshape_result_ne (h := by decide)]
theorem after_arg1 (V : Valuation τ sig (Elt F)) : after V (Proc.devRef .tc main_arg1) = V (Proc.devRef .tc main_arg1) := by
  unfold after
  rw [StableHlo.binary_result_ne (h := by decide), StableHlo.unary_result_ne (h := by decide), op3_ne (by decide),
    StableHlo.reshape_result_ne (h := by decide), StableHlo.unary_result_ne (h := by decide), StableHlo.reshape_result_ne (h := by decide)]
theorem after_v5 (V : Valuation τ sig (Elt F)) : after V (Proc.devRef .tc main_v5) = V (Proc.devRef .tc main_v5) := by
  unfold after
  rw [StableHlo.binary_result_ne (h := by decide), StableHlo.unary_result_ne (h := by decide), op3_ne (by decide),
    StableHlo.reshape_result_ne (h := by decide), StableHlo.unary_result_ne (h := by decide), StableHlo.reshape_result_ne (h := by decide)]
theorem after_v4 (V : Valuation τ sig (Elt F)) : after V (Proc.devRef .tc main_v4) = tblOf (V (Proc.devRef .tc main_arg1)) := by
  unfold after
  rw [StableHlo.binary_result, StableHlo.unary_result, StableHlo.nullary_result, StableHlo.unary_result_ne (h := by decide),
    op3_ne (by decide), StableHlo.reshape_result, StableHlo.unary_result, StableHlo.reshape_result]
  rfl

/-! ## What the call hands over -/

variable (m : (ℓ : Loc nD τ sig) → Buf (Elt F) ℓ) (ρ : Dev nD → PrngReg)

/-- The gathered array and the table, as the call finds them. -/
abbrev ysOf (d : Dev nD) : S131072x1024.Idx → F .f32 := m (yLoc d)
abbrev tbOf (d : Dev nD) : S4096x128.Idx → BitVec 32 := tblOf (m (xLoc d))

abbrev Go (d : Dev nD) (L : grid0.Coords) : sProp (MM F) :=
  iprop((yLoc d ↦{sh L} ysOf m d) ∗ (tLoc d ↦{sh L} tbOf m d) ∗ (oLoc d ↦[oRows (base L) (base L + 128)]{fullShare} m (oLoc d)))
abbrev Td (d : Dev nD) (L : grid0.Coords) : sProp (MM F) :=
  iprop(oLoc d ↦[oRows (base L) (base L + 128)]{fullShare} outF (ysOf m d) (tbOf m d))

/-- Each tile takes its shares and its rows and brings back its rows, filled; a core takes and brings its tiles'. -/
def P : (K (F := F)).Pay (nD := nD) (Val := Elt F) (Name := ℕ) (U := UU) where
  st := fun q d c => match q with | 0 => bigSep Finset.univ fun i : Fin (grid0.bound 1) => Go m d (coordsV c i)
  dn := fun q d c => match q with | 0 => bigSep Finset.univ fun i : Fin (grid0.bound 1) => Td m d (coordsV c i)
  go := fun q d c i => match q with | 0 => Go m d (coordsV c i)
  td := fun q d c i => match q with | 0 => Td m d (coordsV c i)
  x := fun _ _ => iprop(emp)

instance P_storable : (P (F := F) m).IsStorable where
  st q d c := match q with
    | 0 => (inferInstance : BI.Storable (upEmb : UEmb _ (MM F)) (bigSep Finset.univ fun i : Fin (grid0.bound 1) => Go m d (coordsV c i)))
  dn q d c := match q with
    | 0 => (inferInstance : BI.Storable (upEmb : UEmb _ (MM F)) (bigSep Finset.univ fun i : Fin (grid0.bound 1) => Td m d (coordsV c i)))
  go q d c i := match q with | 0 => (inferInstance : BI.Storable (upEmb : UEmb _ (MM F)) (Go m d (coordsV c i)))
  td q d c i := match q with | 0 => (inferInstance : BI.Storable (upEmb : UEmb _ (MM F)) (Td m d (coordsV c i)))

theorem vecSplit : (K (F := F)).VecSplit' (P m) 0 := by
  intro d c
  show (bigSep Finset.univ fun i : Fin (grid0.bound 1) => Go m d (coordsV c i)) ⊢ |={Set.univ}=> iprop(
    (bigSep Finset.univ fun i : Fin (grid0.bound 1) => Go m d (coordsV c i))
      ∗ ((bigSep Finset.univ fun i : Fin (grid0.bound 1) => Td m d (coordsV c i)) -∗ bigSep Finset.univ fun i : Fin (grid0.bound 1) => Td m d (coordsV c i)))
  iintro H; imodintro
  isplitl [H]; · iexact H
  iintro H; iexact H

/-! ## The tile's run, from what the launch hands it -/

section Body

variable (d : Dev nD) (L : grid0.Coords)

theorem in_cover : inSet 0 ∪ inSet 1 = Finset.univ := by
  ext j
  have h : (j 0).val < 2 := (j 0).isLt
  simp only [inSet, Finset.mem_union, Finset.mem_filter, Finset.mem_univ, true_and, iff_true]
  omega
theorem in_disj : Disjoint (inSet 0) (inSet 1) := by
  rw [Finset.disjoint_left]; intro j h h'
  simp only [inSet, Finset.mem_filter, Finset.mem_univ, true_and] at h h'
  omega
theorem out_cover : outSet 0 ∪ outSet 1 = Finset.univ := by
  ext j
  have h : (j 0).val < 2 := (j 0).isLt
  simp only [outSet, Finset.mem_union, Finset.mem_filter, Finset.mem_univ, true_and, iff_true]
  omega
theorem out_disj : Disjoint (outSet 0) (outSet 1) := by
  rw [Finset.disjoint_left]; intro j h h'
  simp only [outSet, Finset.mem_filter, Finset.mem_univ, true_and] at h h'
  omega

/-- A staging buffer held whole is its two slots. -/
theorem in_split (f : S2x1x128.Idx → BitVec 32) :
    (iL d L ↦{fullShare} f : sProp (MM F)) ⊢ iprop((iL d L ↦[inSet 0]{fullShare} f) ∗ iL d L ↦[inSet 1]{fullShare} f) := by
  rw [← in_cover]; exact (pointsTo_union (ℓ := iL d L) in_disj).1
theorem out_split (f : S2x1x32x1024.Idx → F .f32) :
    (uL d L ↦{fullShare} f : sProp (MM F)) ⊢ iprop((uL d L ↦[outSet 0]{fullShare} f) ∗ uL d L ↦[outSet 1]{fullShare} f) := by
  rw [← out_cover]; exact (pointsTo_union (ℓ := uL d L) out_disj).1
theorem in_join (f g : S2x1x128.Idx → BitVec 32) :
    iprop((iL d L ↦[inSet 0]{fullShare} f) ∗ iL d L ↦[inSet 1]{fullShare} g) ⊢ (iprop(∃ f, iL d L ↦{fullShare} f) : sProp (MM F)) := by
  refine (pointsTo_join (ℓ := iL d L) in_disj).trans ?_
  rw [in_cover]
  iintro H; iexists _; iexact H
theorem out_join (f g : S2x1x32x1024.Idx → F .f32) :
    iprop((uL d L ↦[outSet 0]{fullShare} f) ∗ uL d L ↦[outSet 1]{fullShare} g) ⊢ (iprop(∃ f, uL d L ↦{fullShare} f) : sProp (MM F)) := by
  refine (pointsTo_join (ℓ := uL d L) out_disj).trans ?_
  rw [out_cover]
  iintro H; iexists _; iexact H

/-- A tile's transfer cells. -/
def cell : Fin 12 ↪ GSem nD τ sig := ⟨fun k => (tl d L, .dma k), fun a b h => by
  have := congrArg Prod.snd h
  exact SemLoc.dma.inj this⟩

theorem cell_own : Finset.univ.map (cell d L) ⊆ ownCells (tl d L) := by
  intro g hg
  obtain ⟨k, -, rfl⟩ := Finset.mem_map.1 hg
  refine mem_ownCells.mpr ⟨rfl, ?_⟩
  exact (by decide : ∀ k : Fin 12, (SemLoc.dma k : SemLoc sig).isScoped .scVector = true) k

theorem sems_split :
    (ownSems0 (tl d L) : sProp (MM F)) = iprop((semVal (tl d L, .dma 0) 0 ∗ semVal (tl d L, .dma 1) 0 ∗ semVal (tl d L, .dma 2) 0 ∗ semVal (tl d L, .dma 3) 0
      ∗ semVal (tl d L, .dma 4) 0 ∗ semVal (tl d L, .dma 5) 0 ∗ semVal (tl d L, .dma 6) 0 ∗ semVal (tl d L, .dma 7) 0
      ∗ semVal (tl d L, .dma 8) 0 ∗ semVal (tl d L, .dma 9) 0 ∗ semVal (tl d L, .dma 10) 0 ∗ semVal (tl d L, .dma 11) 0)
      ∗ bigSep (ownCells (tl d L) \ Finset.univ.map (cell d L)) fun g => semVal g 0) := by
  unfold SparseCore.Cfg.ownSems0
  rw [bigSep_sdiff_split (cell_own d L), bigSep_map, show (Finset.univ : Finset (Fin 12)) = {0, 1, 2, 3, 4, 5, 6, 7, 8, 9, 10, 11} by decide]
  iterate 11 rw [SparseCore.bigSep_insert' (by decide)]
  rw [bigSep_singleton]
  rfl

/-- A tile's two staging buffers are among its own. -/
theorem bufs_split :
    (ownBufs (tl d L) : sProp (MM F))
      = iprop((∃ f, iL d L ↦{fullShare} f) ∗ (∃ f, uL d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- What the run asks of the launch memory: every word of the table the host builds names a gathered row. -/
def PreOK : Prop := ∀ d : Dev nD, InRange (tbOf m d)

/-- Slot `s`'s half of a tile's share of the table. -/
def half (q : PosShare TreeShare) (s : ℕ) : PosShare TreeShare := if s = 0 then q.left else q.right

theorem tile_body (hpre : PreOK m) (O : CellTallies nD τ sig (HIx 1)) (W : Waits sig (HIx 1)) (hO : ∀ g, O g none = 0) :
    iprop(levAts (K (F := F)).L (K (F := F)).lev ∗ emp ∗ Go m d L ∗ scopedBufs (tl d L) ∗ scopedSems0 (tl d L) ∗ owes (tl d L) O W)
      ⊢ wp frame (wpE (defs₀ (F := F)) 𝒱₀ (tl d L) none) Set.univ
          (cc0_gather L yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11)
          fun _ => iprop(Td m d L ∗ scopedBufs (tl d L) ∗ scopedSems0 (tl d L)
            ∗ ∃ W', ⌜∀ p ∈ W', p ∈ W ∨ p.2 = none⌝ ∗ owes (tl d L) O W') := by
  rw [(K (F := F)).scopedBufs_V facts d (cV L) (jV L), SparseCore.Cfg.scopedSems0_V (Val := Elt F) d (cV L) (jV L), sems_split, bufs_split]
  iintro ⟨#Hlv, -, ⟨Hy, Ht, Ho⟩, ⟨⟨%fi, Hi⟩, ⟨%fu, Hu⟩, Hbufs⟩, ⟨⟨S0, S1, S2, S3, C0, C1, C2, C3, C4, C5, C6, C7⟩, Hsems⟩, HO⟩
  ihave Hmw := (show levAts (K (F := F)).L (K (F := F)).lev ⊢ Transfers.MayWaits (tl d L) (default : HIx 1) O from
    (K (F := F)).mayWaits_none (thr := tl d L) hO) $$ Hlv
  ihave Hi := (in_split (F := F) d L fi) $$ Hi
  icases Hi with ⟨I0, I1⟩
  ihave Hu := (out_split (F := F) d L fu) $$ Hu
  icases Hu with ⟨U0, U1⟩
  ihave Ht := (pointsTo_share (ℓ := tLoc d) (I := Finset.univ) (f := tbOf m d) (PosShare.mem_left_op_right (sh L))).1 $$ Ht
  icases Ht with ⟨T0, T1⟩
  iapply (wp_wand_r frame (wpE (defs₀ (F := F)) 𝒱₀ (tl d L) none) Set.univ)
  isplitl [Hmw I0 I1 U0 U1 T0 T1 S0 S1 S2 S3 C0 C1 C2 C3 C4 C5 C6 C7 Hy Ho HO]
  · iapply (tile_run d L (ysOf m d) (tbOf m d) (sh L) (half (sh L)) O W (m (oLoc d)) (hpre d))
    isplitl [Hmw]; · iexact Hmw
    isplitl [I0 S0 T0]
    · isplitl [I0]; · iexists _; iexact I0
      isplitl [S0]; · iexact S0
      iexact T0
    isplitl [I1 S1 T1]
    · isplitl [I1]; · iexists _; iexact I1
      isplitl [S1]; · iexact S1
      iexact T1
    isplitl [U0 S2]
    · isplitl [U0]; · iexists _; iexact U0
      iexact S2
    isplitl [U1 S3]
    · isplitl [U1]; · iexists _; iexact U1
      iexact S3
    isplitl [Hy]; · iexact Hy
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [Ho]; · iexact Ho
    iexists W
    isplitr; · ipureintro; exact fun p hp => .inl hp
    iexact HO
  iintro %_ ⟨⟨⟨%f0, I0⟩, S0, -⟩, ⟨⟨%f1, I1⟩, S1, -⟩, ⟨⟨%g0, U0⟩, S2⟩, ⟨⟨%g1, U1⟩, S3⟩, -, ⟨C0, C1, C2, C3, C4, C5, C6, C7⟩, Ho, HO⟩
  isplitl [Ho]; · iexact Ho
  isplitl [I0 I1 U0 U1 Hbufs]
  · isplitl [I0 I1]
    · iapply (in_join (F := F) d L f0 f1); isplitl [I0] <;> iassumption
    isplitl [U0 U1]
    · iapply (out_join (F := F) d L g0 g1); isplitl [U0] <;> iassumption
    iexact Hbufs
  isplitl [S0 S1 S2 S3 C0 C1 C2 C3 C4 C5 C6 C7 Hsems]
  · isplitr [Hsems]
    · isplitl [S0]; · iexact S0
      isplitl [S1]; · iexact S1
      isplitl [S2]; · iexact S2
      isplitl [S3]; · iexact S3
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    · iexact Hsems
  iexact HO

end Body

/-! ## The obligation -/

theorem defs₀_vector (c : Fin τ.nSC) (s : Fin τ.nSub) :
    defs₀ (F := F) (.scVector c s) 0 ()
      = SparseCore.onTile hcore0 hsub0 (fun c s => cc0_gather (coordsV c s) yM (Memref.isWhole_whole _) tM (Memref.isWhole_whole _) oM (Memref.isWhole_whole _) iM (Memref.isWhole_whole _) cc0_scoped1 uM (Memref.isWhole_whole _) cc0_scoped3 cc0_scoped4 cc0_scoped5 cc0_scoped6 cc0_scoped7 cc0_scoped8 cc0_scoped9 cc0_scoped10 cc0_scoped11) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

/-! ## The launch element of the ghost state -/

def u₀ : UU := (initOf (K (F := F)).hsCells (K (F := F)).hsToks, 1)

theorem emp_all {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## @main on the TensorCore -/

abbrev dv (r : Ref sig .tc) : DevRef τ sig := Proc.devRef .tc r
/-- The TensorCore's arrays. -/
abbrev S9 : Finset (DevRef τ sig) := {dv main_arg0, dv main_arg1, dv main_v4, dv main_v5, dv main_v0, dv main_v1, dv main_v2, dv main_c, dv main_v3}

theorem held_S9 (d : Dev nD) (V : Valuation τ sig (Elt F)) :
    (held (T d) S9 V : sProp (MM F)) = iprop((yLoc d ↦{fullShare} V (dv main_arg0)) ∗ (xLoc d ↦{fullShare} V (dv main_arg1)) ∗ (tLoc d ↦{fullShare} V (dv main_v4))
      ∗ (oLoc d ↦{fullShare} V (dv main_v5)) ∗ bigSep ({dv main_v0, dv main_v1, dv main_v2, dv main_c, dv main_v3} : Finset (DevRef τ sig)) fun b => ((d, b) : Loc nD τ sig) ↦{fullShare} V b) := by
  unfold held S9
  rw [SparseCore.bigSep_insert' (by decide), SparseCore.bigSep_insert' (by decide), SparseCore.bigSep_insert' (by decide), SparseCore.bigSep_insert' (by decide)]

def V0 (d : Dev nD) : Valuation τ sig (Elt F) := fun b => m (d, b)

theorem unscoped_held (d : Dev nD) : (unscopedBufs d (fun b => m ((SparseCore.T d).loc b)) : sProp (MM F)) = held (T d) S9 (V0 m d) := by
  unfold unscopedBufs held S9
  rw [show (Finset.univ.filter fun b : Ref sig .tc => ¬ b.isScoped)
    = {main_arg0, main_arg1, main_v4, main_v5, main_v0, main_v1, main_v2, main_c, main_v3} by decide]
  iterate 8 rw [SparseCore.bigSep_insert' (by decide)]
  rw [bigSep_singleton]
  iterate 8 rw [SparseCore.bigSep_insert' (by decide)]
  rw [bigSep_singleton]
  rfl

/-- What the call takes for its cores, and what it hands back. -/
theorem st0_eq (d : Dev nD) : (bigSep Finset.univ fun c : Fin ((K (F := F)).nCore 0) => (P m).st 0 d c)
    = bigSep Finset.univ fun c : Fin (grid0.bound 0) => bigSep Finset.univ fun i : Fin (grid0.bound 1) => Go m d (coordsV c i) := rfl
theorem dn0_eq (d : Dev nD) : (bigSep Finset.univ fun c : Fin ((K (F := F)).nCore 0) => (P m).dn 0 d c)
    = bigSep Finset.univ fun c : Fin (grid0.bound 0) => bigSep Finset.univ fun i : Fin (grid0.bound 1) => Td m d (coordsV c i) := rfl

theorem go_split (d : Dev nD) :
    (bigSep Finset.univ fun c : Fin (grid0.bound 0) => bigSep Finset.univ fun i : Fin (grid0.bound 1) => Go m d (coordsV c i))
      = iprop((bigSep Finset.univ fun c : Fin (grid0.bound 0) => bigSep Finset.univ fun i : Fin (grid0.bound 1) => (yLoc d ↦{sh (coordsV c i)} ysOf m d : sProp (MM F)))
        ∗ (bigSep Finset.univ fun c : Fin (grid0.bound 0) => bigSep Finset.univ fun i : Fin (grid0.bound 1) => (tLoc d ↦{sh (coordsV c i)} tbOf m d : sProp (MM F)))
        ∗ (bigSep Finset.univ fun c : Fin (grid0.bound 0) => bigSep Finset.univ fun i : Fin (grid0.bound 1) =>
            (oLoc d ↦[oRows (base (coordsV c i)) (base (coordsV c i) + 128)]{fullShare} m (oLoc d) : sProp (MM F)))) := by
  rw [← bigSep_sep', ← bigSep_sep']
  refine bigSep_congr fun c _ => ?_
  rw [← bigSep_sep', ← bigSep_sep']

theorem sub0 : (op0 (F := F)).bufs ⊆ S9 := show ({dv main_arg1, dv main_v0} : Finset (DevRef τ sig)) ⊆ S9 by decide
theorem sub1 : (op1 (F := F)).bufs ⊆ S9 := show ({dv main_v0, dv main_v1} : Finset (DevRef τ sig)) ⊆ S9 by decide
theorem sub2 : (op2 (F := F)).bufs ⊆ S9 := show ({dv main_v1, dv main_v2} : Finset (DevRef τ sig)) ⊆ S9 by decide
theorem sub3 : (op3 (F := F)).bufs ⊆ S9 := show ({dv main_c} : Finset (DevRef τ sig)) ⊆ S9 by decide
theorem sub4 : (op4 (F := F)).bufs ⊆ S9 := show ({dv main_c, dv main_v3} : Finset (DevRef τ sig)) ⊆ S9 by decide
theorem sub5 : (op5 (F := F)).bufs ⊆ S9 := show ({dv main_v2, dv main_v3, dv main_v4} : Finset (DevRef τ sig)) ⊆ S9 by decide

/-- What @main leaves the claim: what was left of the gathered array, the positions, and the result. -/
abbrev FIN (d : Dev nD) : sProp (MM F) :=
  iprop((yLoc d ↦{rest fullShare (grid0.bound 0)} ysOf m d) ∗ (xLoc d ↦{fullShare} m (xLoc d)) ∗ (oLoc d ↦{fullShare} outF (ysOf m d) (tbOf m d)))

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S9) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) sub1) $$ [Hb Hheld]
  · isplitl [Hb] <;> iassumption
  iintro ⟨Hb, Hheld⟩
  rw [wp_ret]; imodintro
  iapply (wp_hlo_within 𝒱 (SparseCore.T d) none Set.univ (op := op2) (S := S9) sub2) $$ [Hb Hheld]
  · isplitl [Hb] <;> iassumption
  iintro ⟨Hb, Hheld⟩
  rw [wp_ret]; imodintro
  iapply (wp_hlo_within 𝒱 (SparseCore.T d) none Set.univ (op := op3) (S := S9) sub3) $$ [Hb Hheld]
  · isplitl [Hb] <;> iassumption
  iintro ⟨Hb, Hheld⟩
  rw [wp_ret]; imodintro
  iapply (wp_hlo_within 𝒱 (SparseCore.T d) none Set.univ (op := op4) (S := S9) sub4) $$ [Hb Hheld]
  · isplitl [Hb] <;> iassumption
  iintro ⟨Hb, Hheld⟩
  rw [wp_ret]; imodintro
  iapply (wp_hlo_within 𝒱 (SparseCore.T d) none Set.univ (op := op5) (S := S9) sub5) $$ [Hb Hheld]
  · isplitl [Hb] <;> iassumption
  iintro ⟨Hb, Hheld⟩
  rw [wp_ret]; imodintro
  ihave Hheld := (Entails.of_eq (show (held (T d) S9 ((op5 (F := F)).result ((op4 (F := F)).result ((op3 (F := F)).result ((op2 (F := F)).result
    ((op1 (F := F)).result ((op0 (F := F)).result (V0 m d))))))) : sProp (MM F)) = held (T d) S9 (after (V0 m d)) from rfl)) $$ Hheld
  ihave Hh := (Entails.of_eq (held_S9 (F := F) d (after (V0 m d)))) $$ Hheld
  icases Hh with ⟨Hy, Hx, Ht, Ho, -⟩
  ihave Hy := (Entails.of_eq (show (yLoc d ↦{fullShare} after (V0 m d) (dv main_arg0) : sProp (MM F)) = yLoc d ↦{fullShare} ysOf m d from
    congrArg (fun f => (yLoc d ↦{fullShare} f : sProp (MM F))) (after_arg0 (V0 m d)))) $$ Hy
  ihave Hx := (Entails.of_eq (show (xLoc d ↦{fullShare} after (V0 m d) (dv main_arg1) : sProp (MM F)) = xLoc d ↦{fullShare} m (xLoc d) from
    congrArg (fun f => (xLoc d ↦{fullShare} f : sProp (MM F))) (after_arg1 (V0 m d)))) $$ Hx
  ihave Ht := (Entails.of_eq (show (tLoc d ↦{fullShare} after (V0 m d) (dv main_v4) : sProp (MM F)) = tLoc d ↦{fullShare} tbOf m d from
    congrArg (fun f => (tLoc d ↦{fullShare} f : sProp (MM F))) (after_v4 (V0 m d)))) $$ Ht
  ihave Ho := (Entails.of_eq (show (oLoc d ↦{fullShare} after (V0 m d) (dv main_v5) : sProp (MM F)) = oLoc d ↦{fullShare} m (oLoc d) from
    congrArg (fun f => (oLoc d ↦{fullShare} f : sProp (MM F))) (after_v5 (V0 m d)))) $$ Ho
  ihave Hy := (share_tiles (ℓ := yLoc d) (ysOf m d)) $$ Hy
  icases Hy with ⟨Hy, Hyr⟩
  ihave Ht := (share_tiles (ℓ := tLoc d) (tbOf m d)) $$ Ht
  icases Ht with ⟨Ht, -⟩
  ihave Ho := (Entails.of_eq (out_tiles (F := F) d (m (oLoc d)))) $$ Ho
  iapply ((K (F := F)).wp_run (D (F := F)) 𝒱 (EH := EH) (P := P m) κ d 0) $$ [Hst Hy Ht Ho Hb Hx Hyr Hts]
  isplitr; · iexact Hctx
  isplitl [Hst]; · iexact Hst
  isplitl [Hy Ht Ho]
  · rw [st0_eq, go_split]
    isplitl [Hy]; · iexact Hy
    isplitl [Ht]; · iexact Ht
    iexact Ho
  iintro ⟨Hst, Hdn⟩
  ihave Ho := (Entails.of_eq ((dn0_eq m d).trans (out_tiles (F := F) d (outF (ysOf m d) (tbOf m d))).symm)) $$ Hdn
  imodintro
  isplitl [Hst]; · iexact Hst
  isplitr [Hb Hts]
  · isplitl [Hyr]; · iexact Hyr
    isplitl [Hx]; · iexact Hx
    iexact Ho
  isplitl [Hb] <;> iassumption

/-! ## The run -/

def fq (d : Dev nD) (s' : Phys nD τ sig (Elt F)) : Prop :=
  s'.mem.mem (yLoc d) = ysOf m d ∧ s'.mem.mem (xLoc d) = m (xLoc d) ∧ s'.mem.mem (oLoc d) = outF (ysOf m d) (tbOf m d)

theorem agree {ℓ : Loc nD τ sig} {q : PosShare TreeShare} {f : Buf (Elt F) ℓ} (s' : Phys nD τ sig (Elt F)) :
    iprop((ℓ ↦{q} f) ∗ SI s') ⊢ (⌜s'.mem.mem ℓ = f⌝ : sProp (MM F)) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (MM F)) := by
  have h1 : iprop(FIN m d ∗ SI s') ⊢ (⌜s'.mem.mem (yLoc d) = ysOf m d⌝ : sProp (MM F)) := by
    iintro ⟨⟨Hy, -, -⟩, HSI⟩
    iapply (agree s'); isplitl [Hy] <;> iassumption
  have h2 : iprop(FIN m d ∗ SI s') ⊢ (⌜s'.mem.mem (xLoc d) = m (xLoc d)⌝ : sProp (MM F)) := by
    iintro ⟨⟨-, Hy, -⟩, HSI⟩
    iapply (agree s'); isplitl [Hy] <;> iassumption
  have h3 : iprop(FIN m d ∗ SI s') ⊢ (⌜s'.mem.mem (oLoc d) = outF (ysOf m d) (tbOf m d)⌝ : sProp (MM F)) := by
    iintro ⟨⟨-, -, Hy⟩, HSI⟩
    iapply (agree s'); isplitl [Hy] <;> iassumption
  iintro H
  ihave H := (persistent_entails_right h1) $$ H
  icases H with ⟨%a, H⟩
  ihave H := (persistent_entails_right h2) $$ H
  icases H with ⟨%b, H⟩
  ihave H := h3 $$ H
  icases H with %c
  ipureintro; exact ⟨a, b, c⟩

def QC : PUnit × MemSt nD τ sig (Elt F) → Prop := fun r =>
  (∀ d : Dev nD, r.2.mem (yLoc d) = ysOf m d ∧ r.2.mem (xLoc d) = m (xLoc d) ∧ r.2.mem (oLoc d) = outF (ysOf m d) (tbOf m d)) ∧ r.2.sem = fun _ => 0

/-- Every schedule of the program ends with both arguments as they were, the result the gathered rows, and every semaphore at zero. -/
theorem run_main [∀ e, Nonempty (Elt F e)] (hpre : PreOK m) : θ_run (Cert.Combine.defs (F := F)) (Cert.Combine.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch
-- ==== Proof.Value.lean ====
/-
  What the combine's result and the reference's both come to: row `b`, place `k`
  holds the expert row named by the word at `(k / 8, 8 b + k % 8)`. On the kernel's
  side the word is read out of the window table, on the reference's out of the
  index argument, once it is known to lie in range.
-/
module

public import proofs.«01_k».proof.Defs
public import proofs.«01_k».proof.Proof.Launch
public import proofs.«01_k».proof.Proof.Gen.Reference.Run
public import proofs.«01_k».proof.Proof.Gen.ReferenceIdeal.Run
public import proofs.«01_k».proof.Proof.Gen.Pre_in_range
public import Idealize.ShloMosaic.Lib.ReduceAll
public import Idealize.ShloMosaic.Lib.Pipeline.Value

@[expose] public section

noncomputable section

namespace Cert.Proof.Value

open Cert.Combine Cert.Combine.Gen Cert.Proof.Tile Cert.Proof.Launch
open Idealize.ShloMosaic Idealize.ShloMosaic.ValueIdx

variable {F : FTy → Type}

/-- Every word of the index argument names a row. -/
def Named (x : S4x32768.Idx → BitVec 32) : Prop := ∀ i, (x i).toNat < 131072

/-! ## The precondition, read word by word -/

theorem named_of_pre [FloatOps F] (ys : S131072x1024.Idx → F .f32) (x : S4x32768.Idx → BitVec 32)
    (e : @Cert.Pre_in_range.fn Cert.Pre_in_range.Gen.facts F _ ys x = fun _ => 1#1) : Named x := by
  intro i
  have e0 := congrFun e (fun a => a.elim0)
  haveI : Subsingleton Cert.Pre_in_range.S_.Idx := ⟨fun a b => funext fun d => d.elim0⟩
  have e1 := Host.reduce_andi_all _ _ _ _ _ e0 i
  have key : ∀ w : BitVec 32, IntOp.andi (IntOp.cmpi .sge w 0#32) (IntOp.cmpi .slt w 131072#32) = 1#1 → w.toNat < 131072 := by
    intro w hw
    have hand : ∀ p q : Bool, IntOp.andi (BitVec.ofBool p) (BitVec.ofBool q) = 1#1 → p = true ∧ q = true := by decide
    obtain ⟨hge, hlt⟩ := hand _ _ hw
    simp only [BitVec.sle_eq_decide, BitVec.slt_eq_decide, decide_eq_true_eq, BitVec.toInt_eq_toNat_cond, BitVec.toNat_ofNat,
      Nat.reducePow, Nat.reduceMod] at hge hlt
    have := w.isLt
    omega
  exact key _ e1

/-! ## The window table -/

theorem place_lt (b : Fin 4096) (k : ℕ) : b.val * 8 + k % 8 < 32768 := by have := b.isLt; omega

/-- Where in the index argument the word of row `b`, place `k` stands. -/
def place (b : Fin 4096) (k : Fin 32) : S4x32768.Idx :=
  ix2 (⟨k.val / 8, by have := k.isLt; omega⟩ : Fin 4) (⟨b.val * 8 + k.val % 8, place_lt b k.val⟩ : Fin 32768)

/-- The first 32 words of a table row. -/
theorem tbl_word (x : S4x32768.Idx → BitVec 32) (j : S4096x128.Idx) (k : Fin 32) (hk : (j 1).val = k.val) :
    tblOf x j = x (place (j 0) k) := by
  have hb : (j 0).val < 4096 := (j 0).isLt
  have hk' := k.isLt
  unfold tblOf
  rw [concatenate_pair_apply_left (s₁ := S4096x32) (s₂ := S4096x96) _ _ _ _ j rfl (ix2 (j 0) k : S4096x32.Idx) (fun b => by
      match b with | ⟨0, _⟩ => rfl | ⟨1, _⟩ => exact hk.symm)]
  rw [shapeCast_apply _ _ _ (ix3 (j 0) (⟨k.val / 8, by omega⟩ : Fin 4) (⟨k.val % 8, by omega⟩ : Fin 8) : S4096x4x8.Idx) (by
      rw [Shape.rowMajor_val_three, Shape.rowMajor_val_two]
      show ((j 0).val * 4 + k.val / 8) * 8 + k.val % 8 = (j 0).val * 32 + k.val
      omega)]
  rw [transpose_apply _ _ _ _ (ix3 (⟨k.val / 8, by omega⟩ : Fin 4) (j 0) (⟨k.val % 8, by omega⟩ : Fin 8) : S4x4096x8.Idx) (fun b => by
      match b with | ⟨0, _⟩ => rfl | ⟨1, _⟩ => rfl | ⟨2, _⟩ => rfl)]
  rw [shapeCast_apply _ _ _ (place (j 0) k) (by
      rw [Shape.rowMajor_val_three, Shape.rowMajor_val_two]
      show k.val / 8 * 32768 + ((j 0).val * 8 + k.val % 8) = (k.val / 8 * 4096 + (j 0).val) * 8 + k.val % 8
      omega)]

/-- The words after the first 32. -/
theorem tbl_pad (x : S4x32768.Idx → BitVec 32) (j : S4096x128.Idx) (hk : 32 ≤ (j 1).val) : tblOf x j = 0#32 := by
  have h1 : (j 1).val < 128 := (j 1).isLt
  unfold tblOf
  rw [concatenate_pair_apply_right (s₁ := S4096x32) (s₂ := S4096x96) _ _ _ _ j rfl rfl (ix2 (j 0) (⟨(j 1).val - 32, by omega⟩ : Fin 96) : S4096x96.Idx) (fun b hb => by
      match b with | ⟨0, _⟩ => rfl | ⟨1, _⟩ => exact absurd rfl hb) (by
      show (j 1).val - 32 + 32 = (j 1).val
      omega)]
  rfl

/-- With the argument's words in range, so are the table's. -/
theorem inRange_tbl {x : S4x32768.Idx → BitVec 32} (h : Named x) : InRange (tblOf x) := by
  intro j
  by_cases hk : (j 1).val < 32
  · rw [tbl_word x j ⟨(j 1).val, hk⟩ rfl]; exact h _
  · rw [tbl_pad x j (by omega)]; decide

/-! ## The reference -/

/-- The reference's row gather at one entry: the word that picks the row, clamped, and the entry's own column. -/
theorem rows_apply {w : ℕ} (ys : Cert.Reference.S131072x1024.Idx → F .f32) (idx : IVec Cert.Reference.S4x32768x1 w) (g : Cert.Reference.S4x32768x1024.Idx)
    (r : Fin 131072) (hr : min (idx (ix3 (g 0) (g 1) (0 : Fin 1))).toInt.toNat 131071 = r.val) :
    Host.gather (@Cert.Reference.gather_S131072x1024_S4x32768x1_S4x32768x1024_2_0_n_n_0_2_11024 Cert.Reference.Gen.facts₀) ys idx g = ys (ix2 r (g 2)) := by
  set D := @Cert.Reference.gather_S131072x1024_S4x32768x1_S4x32768x1024_2_0_n_n_0_2_11024 Cert.Reference.Gen.facts₀ with hD
  unfold Host.gather
  refine congrArg ys (funext fun a => Fin.ext ?_)
  show D.start g idx a + D.batchCoord g a + D.offCoord g a = _
  rw [GatherDims.batchCoord_eq_zero _ _ _ (show a ∉ D.operandBatchingDims from List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ D.startIndexMap from List.mem_singleton.mpr rfl)).trans ?_
    refine Eq.trans ?_ hr
    refine congrArg (fun q => min (idx q).toInt.toNat 131071) (funext fun b => Fin.ext ?_)
    match b with
    | ⟨0, _⟩ => rfl
    | ⟨1, _⟩ => rfl
    | ⟨2, _⟩ => rfl
  | ⟨1, _⟩ =>
    unfold GatherDims.start
    refine (congrArg (· + D.offCoord g 1) (dif_neg (show (1 : Fin 2) ∉ D.startIndexMap from fun h => absurd (List.mem_singleton.mp h) (by decide)))).trans ?_
    exact Nat.zero_add _

/-- The reference's index array: a negative word counted from the end, one trailing axis. -/
def refIdx (x : S4x32768.Idx → BitVec 32) : IVec Cert.Reference.S4x32768x1 32 :=
  letI := Cert.Reference.Gen.facts₀
  broadcastInDim Cert.Reference.S4x32768x1 ![0, 1] Cert.Reference.Facts₀.bcast_S4x32768_S4x32768x1_0_1
    (select (cmpi .slt x (broadcastInDim S4x32768 ![] Cert.Reference.Facts₀.bcast_S_S4x32768 (constantI S_ 32 0#32)))
      (addi x (broadcastInDim S4x32768 ![] Cert.Reference.Facts₀.bcast_S_S4x32768 (constantI S_ 32 131072#32))) x)

theorem refIdx_apply {x : S4x32768.Idx → BitVec 32} (h : Named x) (i : S4x32768.Idx) : refIdx x (ix3 (i 0) (i 1) (0 : Fin 1)) = x i := by
  unfold refIdx
  rw [broadcastInDim_apply _ _ _ _ i (fun a => by match a with | ⟨0, _⟩ => rfl | ⟨1, _⟩ => rfl)]
  have key : ∀ w : BitVec 32, w.toNat < 131072 → (if IntOp.cmpi .slt w 0#32 = 1#1 then IntOp.addi w 131072#32 else w) = w := by
    intro w hw
    refine if_neg ?_
    have hb : ∀ p : Bool, BitVec.ofBool p = 1#1 → p = true := by decide
    intro hc
    have := hb _ hc
    simp only [BitVec.slt_eq_decide, decide_eq_true_eq, BitVec.toInt_eq_toNat_cond, BitVec.toNat_ofNat, Nat.reducePow, Nat.reduceMod] at this
    omega
  exact key _ (h i)

/-- The reference's result as its operations compose it. -/
def refOut (ys : S131072x1024.Idx → F .f32) (x : S4x32768.Idx → BitVec 32) : S4096x32x1024.Idx → F .f32 :=
  letI := Cert.Reference.Gen.facts₀
  shapeCast _ (transpose Cert.Reference.S4096x4x8x1024 [1, 0, 2, 3]
    (shapeCast _ (Host.gather Cert.Reference.gather_S131072x1024_S4x32768x1_S4x32768x1024_2_0_n_n_0_2_11024 ys (refIdx x))
      Cert.Reference.Facts₀.shapeCasts_S4x32768x1024_S4x4096x8x1024)
    Cert.Reference.Facts₀.transposes_S4x4096x8x1024_S4096x4x8x1024_1_0_2_3)
    Cert.Reference.Facts₀.shapeCasts_S4096x4x8x1024_S4096x32x1024

/-- The reference's result is the kernel's, entry by entry. -/
theorem refOut_eq (ys : S131072x1024.Idx → F .f32) {x : S4x32768.Idx → BitVec 32} (h : Named x) : refOut ys x = outF ys (tblOf x) := by
  funext j
  have hb : (j 0).val < 4096 := (j 0).isLt
  have hk : (j 1).val < 32 := (j 1).isLt
  have hc : (j 2).val < 1024 := (j 2).isLt
  have hp := h (place (j 0) (j 1))
  unfold refOut outF
  rw [shapeCast_apply _ _ _ (ix4 (j 0) (⟨(j 1).val / 8, by omega⟩ : Fin 4) (⟨(j 1).val % 8, by omega⟩ : Fin 8) (j 2) : Cert.Reference.S4096x4x8x1024.Idx) (by
      rw [Shape.rowMajor_val_four, Shape.rowMajor_val_three]
      show (((j 0).val * 4 + (j 1).val / 8) * 8 + (j 1).val % 8) * 1024 + (j 2).val = ((j 0).val * 32 + (j 1).val) * 1024 + (j 2).val
      omega)]
  rw [transpose_apply _ _ _ _ (ix4 (⟨(j 1).val / 8, by omega⟩ : Fin 4) (j 0) (⟨(j 1).val % 8, by omega⟩ : Fin 8) (j 2) : Cert.Reference.S4x4096x8x1024.Idx) (fun b => by
      match b with | ⟨0, _⟩ => rfl | ⟨1, _⟩ => rfl | ⟨2, _⟩ => rfl | ⟨3, _⟩ => rfl)]
  rw [shapeCast_apply _ _ _ (ix3 (place (j 0) (j 1) 0) (place (j 0) (j 1) 1) (j 2) : Cert.Reference.S4x32768x1024.Idx) (by
      rw [Shape.rowMajor_val_four, Shape.rowMajor_val_three]
      show ((j 1).val / 8 * 32768 + ((j 0).val * 8 + (j 1).val % 8)) * 1024 + (j 2).val
        = (((j 1).val / 8 * 4096 + (j 0).val) * 8 + (j 1).val % 8) * 1024 + (j 2).val
      omega)]
  have hw : tAt (tblOf x) (j 0).val (j 1).val = x (place (j 0) (j 1)) := by
    have e := tbl_word x (ix2 (Fin.ofNat 4096 (j 0).val) (Fin.ofNat 128 (j 1).val) : S4096x128.Idx) (j 1) (Nat.mod_eq_of_lt (by omega))
    refine e.trans (congrArg (fun q => x (place q (j 1))) (Fin.ext ?_))
    exact Nat.mod_eq_of_lt hb
  rw [hw]
  refine rows_apply ys (refIdx x) _ (rowOfWord (x (place (j 0) (j 1)))) ?_
  refine (congrArg (fun v : BitVec 32 => min v.toInt.toNat 131071) (refIdx_apply h (place (j 0) (j 1)))).trans ?_
  show min (x (place (j 0) (j 1))).toInt.toNat 131071 = (x (place (j 0) (j 1))).toNat % 131072
  rw [BitVec.toInt_eq_toNat_cond]
  have := (x (place (j 0) (j 1))).isLt
  split <;> omega

end Cert.Proof.Value

end
-- ==== Proof.Experts.Body.lean ====
/-
  One grid point of the experts' kernel, from its staged blocks to what it leaves.
-/
module

public import proofs.«01_k».proof.Proof.Gen.ExpertsIdeal.Launch
public import proofs.«01_k».proof.Proof.Gen.ExpertsIdeal.Skeleton
public import Idealize.ShloMosaic.Lib.Pipeline.TableIdle
public import Idealize.ShloMosaic.Lib.Tactic
public import Idealize.ShloMosaic.Lib.VecWindow
public import Idealize.ShloMosaic.Lib.ValueLayout

@[expose] public section

noncomputable section

namespace Cert.Proof.Experts

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)

variable {F : FTy → Type} [FloatOps F]

abbrev UU : Type := UR sig nD τ

local notation "𝕄" => MT nD τ sig Unit (Elt F) ℕ UU ℕ

/-- Memref `M`'s buffer on core `c`, held whole at `f`. -/
abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- Entry `i` of a table. -/
abbrev word (T : S287.Idx → BitVec 32) (i : grid0.Coords) : BitVec 32 := T (ix1 (i 0))

/-! ## Words -/

theorem off_eq (i : grid0.Coords) : k0_off1 i = ![(i 0).val] := by
  have h : (i 0).val < 287 := (i 0).isLt
  funext a
  match a with
  | ⟨0, _⟩ =>
    show (BitVec.ofNat 32 (i 0).val).toNat = (i 0).val
    simp [BitVec.toNat_ofNat]; omega

/-- A one-bit test carried to a word and back. -/
theorem bit_iff (C : BitVec 1) : (Scalar.cmpi .ne (Scalar.extui C : BitVec 32) 0#32 = 1#1) ↔ C = 1#1 := by
  revert C; decide

theorem eq_iff (x y : BitVec 32) : (Scalar.cmpi .eq x y = 1#1) ↔ x = y := by
  simp only [Scalar.cmpi, IntOp.cmpi]
  by_cases h : x = y
  · subst h; simp
  · have hb : (x == y) = false := by simpa using h
    rw [hb]; exact ⟨fun h' => absurd h' (by decide), fun h' => absurd h' h⟩

theorem cond2_iff (x : BitVec 32) : k0_cond2 x = 1#1 ↔ x = 1#32 := (bit_iff _).trans (eq_iff _ _)
theorem cond3_iff (x : BitVec 32) : k0_cond3 x = 1#1 ↔ x = 1#32 := (bit_iff _).trans (eq_iff _ _)
theorem cond4_iff (x : BitVec 32) : k0_cond4 x = 1#1 ↔ x = 0#32 := (bit_iff _).trans (eq_iff _ _)

/-- The index a scalar load at the grid point forms. -/
theorem first_idx (i : grid0.Coords) (h : ∀ a, (k0_off1 i) a + S1.size a ≤ S287.size a) (x : (Rect.unit (s := S287) (k0_off1 i) S1.size h).shape.Idx) :
    (Rect.unit (s := S287) (k0_off1 i) S1.size h).emb x = ix1 (i 0) := by
  funext a
  match a with
  | ⟨0, _⟩ =>
    apply Fin.ext
    have hx : (x 0).val < 1 := (x 0).isLt
    show (k0_off1 i) 0 + 1 * (x 0).val = (i 0).val
    have ho : (k0_off1 i) 0 = (i 0).val := congrFun (off_eq i) 0
    omega

/-! ## What a point leaves -/

/-- What the scratch of the gate and up weights holds after the point. -/
def g14 (T6 : S287.Idx → BitVec 32) (i : grid0.Coords) (X9 : Vec F S1x1024x2048 .f32) (f14 : Vec F S1024x2048 .bf16) : Vec F S1024x2048 .bf16 :=
  if word T6 i = 1#32 then k0_pay1 X9 else f14
/-- What the scratch of the down weights holds after the point. -/
def g15 (T6 : S287.Idx → BitVec 32) (i : grid0.Coords) (X11 : Vec F S1x1024x1024 .f32) (f15 : Vec F S1024x1024 .bf16) : Vec F S1024x1024 .bf16 :=
  if word T6 i = 1#32 then k0_pay2 X11 else f15
/-- What the result's block holds after the point, from the rows `y` the point computes. -/
def g13 (T0 T2 T3 T4 T5 : S287.Idx → BitVec 32) (i : grid0.Coords) (y X13 : Vec F S512x1024 .f32) : Vec F S512x1024 .f32 :=
  if word T3 i = 1#32 then
    if word T2 i = 0#32 then k0_pay5 y (word T0 i) (word T4 i) (word T5 i) X13
    else if word T2 i = 1#32 then k0_pay4 y (word T0 i) (word T4 i) (word T5 i) else X13
  else X13

/-- A whole memref at contents that read `X` is held at the contents `X` names. -/
theorem pt_rep (c : Dev nD) {sp : Space} {S : Shape} {e : EltTy} (M : Memref sig .tc sp S e) (h : M.IsWhole)
    (f : Buf (Elt F) (M.view.loc (c : Thread nD τ))) (X : S.Idx → Elt F e) (hX : M.view.read (Elt F) f = X) :
    pt (F := F) c M fullShare f ⊢ pt (F := F) c M fullShare (M.view.rep (Val := Elt F) X) := by
  have hs : M.view.set = Finset.univ := h.set_eq_univ
  have := pointsTo_rep_of_read (Ix := Unit) (Name := ℕ) (U := UU) (Lvl := ℕ) (c : Thread nD τ) M f fullShare X hX
  rw [hs] at this
  exact this

theorem full_read {sp : Space} {S : Shape} {e : EltTy} (M : Memref sig .tc sp S e) (f : M.view.ty.Contents (Elt F)) {off : Fin S.rank → ℕ}
    (inb : ∀ a, off a + S.size a ≤ S.size a) (w : S.Idx → Elt F e) :
    M.view.read (Elt F) (M.view.writes (Elt F) f [⟨Rect.unit off S.size inb, w⟩]) = w := by
  funext y
  have := View.read_writes_cons_emb M.view f (Rect.unit off S.size inb) w [] y
  have he : (Rect.unit off S.size inb).emb y = y := by
    funext a; apply Fin.ext
    show off a + 1 * (y a).val = (y a).val
    have := inb a; omega
  rw [he] at this
  exact this

/-- The body at a point. -/
theorem body_run (c : Dev nD) (i : grid0.Coords) (M8 : Memref sig .tc .vmem S512x512 .i32) (h8 : M8.IsWhole)
    (M9 : Memref sig .tc .vmem S1x1024x2048 .f32) (h9 : M9.IsWhole) (M10 : Memref sig .tc .vmem S1x1x2048 .f32) (h10 : M10.IsWhole)
    (M11 : Memref sig .tc .vmem S1x1024x1024 .f32) (h11 : M11.IsWhole) (M12 : Memref sig .tc .vmem S1x1x1024 .f32) (h12 : M12.IsWhole)
    (M13 : Memref sig .tc .vmem S512x1024 .f32) (h13 : M13.IsWhole)
    (q : PosShare TreeShare) (T0 T2 T3 T4 T5 T6 : S287.Idx → BitVec 32)
    (X8 : Vec F S512x512 .i32) (X9 : Vec F S1x1024x2048 .f32) (X10 : Vec F S1x1x2048 .f32) (X11 : Vec F S1x1024x1024 .f32)
    (X12 : Vec F S1x1x1024 .f32) (X13 : Vec F S512x1024 .f32) (f14 : Vec F S1024x2048 .bf16) (f15 : Vec F S1024x1024 .bf16)
    (E : Set ℕ) (Q : PUnit → sProp 𝕄) :
    iprop(pt (F := F) c (Memref.whole main_v47) q T0 ∗ pt (F := F) c (Memref.whole main_v53) q T2 ∗ pt (F := F) c (Memref.whole main_v59) q T3
        ∗ pt (F := F) c (Memref.whole main_v62) q T4 ∗ pt (F := F) c (Memref.whole main_v65) q T5 ∗ pt (F := F) c (Memref.whole main_v58) q T6
        ∗ pt c M8 fullShare (M8.view.rep (Val := Elt F) X8) ∗ pt c M9 fullShare (M9.view.rep (Val := Elt F) X9) ∗ pt c M10 fullShare (M10.view.rep (Val := Elt F) X10)
        ∗ pt c M11 fullShare (M11.view.rep (Val := Elt F) X11) ∗ pt c M12 fullShare (M12.view.rep (Val := Elt F) X12) ∗ pt c M13 fullShare (M13.view.rep (Val := Elt F) X13)
        ∗ pt (F := F) c (Memref.whole cc0_scratch0) fullShare ((Memref.whole cc0_scratch0).view.rep (Val := Elt F) f14) ∗ pt (F := F) c (Memref.whole cc0_scratch1) fullShare ((Memref.whole cc0_scratch1).view.rep (Val := Elt F) f15)
        ∗ (iprop(pt (F := F) c (Memref.whole main_v47) q T0 ∗ pt (F := F) c (Memref.whole main_v53) q T2 ∗ pt (F := F) c (Memref.whole main_v59) q T3
            ∗ pt (F := F) c (Memref.whole main_v62) q T4 ∗ pt (F := F) c (Memref.whole main_v65) q T5 ∗ pt (F := F) c (Memref.whole main_v58) q T6
            ∗ pt c M8 fullShare (M8.view.rep (Val := Elt F) X8) ∗ pt c M9 fullShare (M9.view.rep (Val := Elt F) X9) ∗ pt c M10 fullShare (M10.view.rep (Val := Elt F) X10)
            ∗ pt c M11 fullShare (M11.view.rep (Val := Elt F) X11) ∗ pt c M12 fullShare (M12.view.rep (Val := Elt F) X12)
            ∗ pt c M13 fullShare (M13.view.rep (Val := Elt F) (g13 T0 T2 T3 T4 T5 i (k0_pay6 X8 (g14 T6 i X9 f14) X10 (g15 T6 i X11 f15) X12) X13))
            ∗ pt (F := F) c (Memref.whole cc0_scratch0) fullShare ((Memref.whole cc0_scratch0).view.rep (Val := Elt F) (g14 T6 i X9 f14)) ∗ pt (F := F) c (Memref.whole cc0_scratch1) fullShare ((Memref.whole cc0_scratch1).view.rep (Val := Elt F) (g15 T6 i X11 f15))) -∗ Q ⟨⟩))
      ⊢ wp frame (wpE (defs₀ (F := F)) Variants.none c none) E
        (cc0_experts i (Memref.whole main_v47) (Memref.isWhole_whole _) (Memref.whole main_v31) (Memref.isWhole_whole _) (Memref.whole main_v53) (Memref.isWhole_whole _) (Memref.whole main_v59) (Memref.isWhole_whole _) (Memref.whole main_v62) (Memref.isWhole_whole _) (Memref.whole main_v65) (Memref.isWhole_whole _) (Memref.whole main_v58) (Memref.isWhole_whole _)
          M8 h8 M9 h9 M10 h10 M11 h11 M12 h12 M13 h13 (Memref.whole cc0_scratch0) (Memref.isWhole_whole _) (Memref.whole cc0_scratch1) (Memref.isWhole_whole _)) Q := by
  rw [cc0_experts_eq_skeleton]
  unfold cc0_experts_skel
  iintro ⟨H0, H2, H3, H4, H5, H6, H8, H9, H10, H11, H12, H13, H14, H15, Hk⟩
  sl_exec!
  sl_step
  have w6 : body_run.sl.r (F := F) i T6 = word T6 i := by
    unfold body_run.sl.r; exact congrArg T6 (first_idx i _ _)
  have w3 : body_run.sl.r_1 (F := F) i T3 = word T3 i := by
    unfold body_run.sl.r_1; exact congrArg T3 (first_idx i _ _)
  have w0 : body_run.sl.r_2 (F := F) i T0 = word T0 i := by
    unfold body_run.sl.r_2; exact congrArg T0 (first_idx i _ _)
  have w4 : body_run.sl.r_4 (F := F) i T4 = word T4 i := by
    unfold body_run.sl.r_4; exact congrArg T4 (first_idx i _ _)
  have w5 : body_run.sl.r_5 (F := F) i T5 = word T5 i := by
    unfold body_run.sl.r_5; exact congrArg T5 (first_idx i _ _)
  have w2 : body_run.sl.r_6 (F := F) i T2 = word T2 i := by
    unfold body_run.sl.r_6; exact congrArg T2 (first_idx i _ _)
  have w2' : body_run.sl.r_7 (F := F) i T2 = word T2 i := by
    unfold body_run.sl.r_7; exact congrArg T2 (first_idx i _ _)
  have c6 : (body_run.sl.v4 (F := F) i T6 = 1#1) ↔ word T6 i = 1#32 := by
    unfold body_run.sl.v4 body_run.sl.v3 body_run.sl.v2
    rw [w6]; exact (bit_iff _).trans (eq_iff _ _)
  have e11 : body_run.sl.v19 i M9 T6 X9 f14 = g14 T6 i X9 f14 := by
    unfold body_run.sl.v19
    unfold g14
    by_cases h : word T6 i = 1#32
    · rw [if_pos h, dif_pos (c6.2 h)]
      exact (View.readAt_full _ _ _).trans ((full_read _ _ _ _).trans (congrArg k0_pay1 (View.readAt_rep_full _ _ _)))
    · rw [if_neg h, dif_neg (fun h' => h (c6.1 h'))]; exact View.readAt_rep_full _ _ _
  have e33 : body_run.sl.v41 i M11 T6 X11 f15 = g15 T6 i X11 f15 := by
    unfold body_run.sl.v41
    unfold g15
    by_cases h : word T6 i = 1#32
    · rw [if_pos h, dif_pos (c6.2 h)]
      exact (View.readAt_full _ _ _).trans ((full_read _ _ _ _).trans (congrArg k0_pay2 (View.readAt_rep_full _ _ _)))
    · rw [if_neg h, dif_neg (fun h' => h (c6.1 h'))]; exact View.readAt_rep_full _ _ _
  have ey : body_run.sl.r_3 i M8 M9 M10 M11 M12 T6 X8 X9 X10 X11 X12 f14 f15
      = k0_pay6 X8 (g14 T6 i X9 f14) X10 (g15 T6 i X11 f15) X12 := by
    unfold body_run.sl.r_3
    rw [View.readAt_rep_full, View.readAt_rep_full, View.readAt_rep_full, e11, e33]
  iapply Hk
  isplitl [H0]; · iexact H0
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [H12]; · iexact H12
  isplitl [H13]
  · iapply (pt_rep (F := F) c M13 h13 _ _ ?e13) $$ H13
    unfold g13
    by_cases h3 : word T3 i = 1#32
    · rw [if_pos h3, dif_pos ((cond2_iff _).2 (w3.trans h3))]
      by_cases h0 : word T2 i = 0#32
      · have hn : ¬ k0_cond3 (body_run.sl.r_6 (F := F) i T2) = 1#1 := by
          rw [w2, h0]; decide
        have ev : body_run.sl.v72 i M8 M9 M10 M11 M12 M13 T0 T2 T4 T5 T6 X8 X9 X10 X11 X12 X13 f14 f15 = X13 := by
          unfold body_run.sl.v72
          rw [dif_neg hn, View.readAt_rep_full]
        rw [if_pos h0, dif_pos ((cond4_iff _).2 (w2'.trans h0)), full_read, ey, w0, w4, w5, ev]
      · rw [if_neg h0, dif_neg (fun h => h0 (w2'.symm.trans ((cond4_iff _).1 h)))]
        by_cases h1 : word T2 i = 1#32
        · rw [if_pos h1, dif_pos ((cond3_iff _).2 (w2.trans h1)), full_read, ey, w0, w4, w5]
        · rw [if_neg h1, dif_neg (fun h => h1 (w2.symm.trans ((cond3_iff _).1 h))), View.read_rep]
    · rw [if_neg h3, dif_neg (fun h => h3 (w3.symm.trans ((cond2_iff _).1 h))), View.read_rep]
  isplitl [H14]
  · iapply (pt_rep (F := F) c (Memref.whole cc0_scratch0) (Memref.isWhole_whole _) _ _ ?e14) $$ H14
    unfold g14
    by_cases h : word T6 i = 1#32
    · rw [if_pos h, dif_pos (c6.2 h)]
      exact (full_read (Memref.whole cc0_scratch0) _ _ _).trans (congrArg k0_pay1 (View.readAt_rep_full _ _ _))
    · rw [if_neg h, dif_neg (fun h' => h (c6.1 h'))]; exact View.read_rep _ _
  · iapply (pt_rep (F := F) c (Memref.whole cc0_scratch1) (Memref.isWhole_whole _) _ _ ?e15) $$ H15
    unfold g15
    by_cases h : word T6 i = 1#32
    · rw [if_pos h, dif_pos (c6.2 h)]
      exact (full_read (Memref.whole cc0_scratch1) _ _ _).trans (congrArg k0_pay2 (View.readAt_rep_full _ _ _))
    · rw [if_neg h, dif_neg (fun h' => h (c6.1 h'))]; exact View.read_rep _ _

end Cert.Proof.Experts
-- ==== Proof.Experts.Items.lean ====
/-
  The items of the experts' grid, as numbers: 32 groups of rows, one after the
  other, cut at the tiles of 512 rows. Item `t` is one group's part of one tile.
-/
module

public import Idealize.ShloMosaic.Lib.Tactic

@[expose] public section

namespace Cert.Proof.Items

/-! ## Counting the steps of a monotone sequence below a number -/

/-- How many of `f 1 … f 32` are at most `r`. -/
def cnt (f : ℕ → ℕ) (r : ℕ) : ℕ := ((Finset.range 32).filter fun k => f (k + 1) ≤ r).card

theorem cnt_eq {f : ℕ → ℕ} (hf : Monotone f) {r E : ℕ} (hE : E < 32) (h0 : f E ≤ r) (h1 : r < f (E + 1)) : cnt f r = E := by
  have : ((Finset.range 32).filter fun k => f (k + 1) ≤ r) = Finset.range E := by
    ext k
    simp only [Finset.mem_filter, Finset.mem_range]
    constructor
    · rintro ⟨hk, h⟩
      by_contra hn
      have := hf (show E + 1 ≤ k + 1 by omega)
      omega
    · intro hk
      exact ⟨by omega, (hf (show k + 1 ≤ E by omega)).trans h0⟩
  rw [cnt, this, Finset.card_range]

theorem exists_step {f : ℕ → ℕ} (h0 : f 0 = 0) {r : ℕ} : ∀ n, r < f n → ∃ E, E < n ∧ f E ≤ r ∧ r < f (E + 1)
  | 0, h => by omega
  | n + 1, h => by
    by_cases hn : r < f n
    · obtain ⟨E, hE, h'⟩ := exists_step h0 n hn
      exact ⟨E, by omega, h'⟩
    · exact ⟨n, by omega, by omega, h⟩

theorem cnt_spec {f : ℕ → ℕ} (hf : Monotone f) (h0 : f 0 = 0) {r : ℕ} (hr : r < f 32) :
    cnt f r < 32 ∧ f (cnt f r) ≤ r ∧ r < f (cnt f r + 1) := by
  obtain ⟨E, hE, ha, hb⟩ := exists_step h0 32 hr
  rw [cnt_eq hf hE ha hb]
  exact ⟨hE, ha, hb⟩

/-! ## Groups and items -/

variable (c : ℕ → ℕ)

/-- The first row of group `k`; the end of group `k` is `S (k + 1)`. -/
def S (k : ℕ) : ℕ := ∑ j ∈ Finset.range k, c j
/-- How many tiles group `k` meets. -/
def per (k : ℕ) : ℕ := if 0 < c k then (S c (k + 1) - 1) / 512 - S c k / 512 + 1 else 0
/-- The first item of group `k`. -/
def I (k : ℕ) : ℕ := ∑ j ∈ Finset.range k, per c j

@[simp] theorem S_zero : S c 0 = 0 := rfl
@[simp] theorem I_zero : I c 0 = 0 := rfl
theorem S_succ (k : ℕ) : S c (k + 1) = S c k + c k := Finset.sum_range_succ _ _
theorem I_succ (k : ℕ) : I c (k + 1) = I c k + per c k := Finset.sum_range_succ _ _
theorem S_mono : Monotone (S c) := monotone_nat_of_le_succ fun k => by rw [S_succ]; omega
theorem I_mono : Monotone (I c) := monotone_nat_of_le_succ fun k => by rw [I_succ]; omega

theorem I_le : ∀ k, (S c k = 0 → I c k = 0) ∧ (0 < S c k → I c k ≤ (S c k - 1) / 512 + k)
  | 0 => ⟨fun _ => rfl, fun _ => by simp⟩
  | k + 1 => by
    obtain ⟨a, b⟩ := I_le k
    rw [I_succ]
    have hs := S_succ c k
    by_cases hc : 0 < c k
    · have hp : per c k = (S c (k + 1) - 1) / 512 - S c k / 512 + 1 := if_pos hc
      refine ⟨fun h => by omega, fun h => ?_⟩
      by_cases h0 : S c k = 0
      · rw [a h0, hp]; omega
      · have := b (by omega)
        rw [hp]; omega
    · have hp : per c k = 0 := if_neg hc
      have he : S c (k + 1) = S c k := by omega
      rw [hp, he]
      exact ⟨fun h => a h, fun h => by have := b h; omega⟩

/-- Between two groups with no item between them there is no row. -/
theorem S_eq_of_I_eq {a : ℕ} : ∀ n, I c (a + n) = I c a → S c (a + n) = S c a
  | 0, _ => rfl
  | n + 1, h => by
    have h1 := I_mono c (show a ≤ a + n by omega)
    have h2 := I_succ c (a + n)
    have h3 := S_succ c (a + n)
    have h : I c (a + n + 1) = I c a := h
    show S c (a + n + 1) = S c a
    have hI : I c (a + n) = I c a := by omega
    have := S_eq_of_I_eq n hI
    have hp : per c (a + n) = 0 := by omega
    have : ¬ 0 < c (a + n) := fun hc => by rw [per, if_pos hc] at hp; omega
    omega

/-! ## The tables -/

/-- How many items there are. -/
def M : ℕ := I c 32
/-- The group of item `t` (of the last item, past the last). -/
def ex (t : ℕ) : ℕ := cnt (I c) (min t (M c - 1))
/-- The tile of item `t` (the last tile, past the last item). -/
def tile (t : ℕ) : ℕ := if t < M c then S c (ex c t) / 512 + t - I c (ex c t) else 255
/-- Item `t` is the first of its tile. -/
def First (t : ℕ) : Prop := t = 0 ∨ tile c t ≠ tile c (t - 1)
/-- Item `t` is the first of its group. -/
def New (t : ℕ) : Prop := t = 0 ∨ ex c t ≠ ex c (t - 1)
instance (t : ℕ) : Decidable (First c t) := by unfold First; infer_instance
instance (t : ℕ) : Decidable (New c t) := by unfold New; infer_instance
/-- The first row of item `t`'s group. -/
def lo (t : ℕ) : ℕ := S c (ex c t)
/-- The end of item `t`'s group. -/
def hi (t : ℕ) : ℕ := S c (ex c t + 1)

variable {c} (hN : S c 32 = 131072)
include hN

theorem M_pos : 0 < M c := by
  by_contra h
  have h0 : I c (0 + 32) = I c 0 := by rw [I_zero]; unfold M at h; simpa using h
  have := S_eq_of_I_eq c 32 h0
  rw [Nat.zero_add, hN] at this
  exact absurd this (by simp)

theorem M_le : M c ≤ 287 := by
  have := (I_le c 32).2 (by omega)
  unfold M; omega

theorem S_le {k : ℕ} (hk : k ≤ 32) : S c k ≤ 131072 := by rw [← hN]; exact S_mono c hk

theorem ex_spec (t : ℕ) : ex c t < 32 ∧ I c (ex c t) ≤ min t (M c - 1) ∧ min t (M c - 1) < I c (ex c t + 1) :=
  cnt_spec (I_mono c) (I_zero c) (by have := M_pos hN; unfold M at *; omega)

theorem ex_lt (t : ℕ) : ex c t < 32 := (ex_spec hN t).1

theorem ex_mono {s t : ℕ} (h : s ≤ t) : ex c s ≤ ex c t := by
  unfold ex cnt
  refine Finset.card_le_card fun k hk => ?_
  simp only [Finset.mem_filter] at hk ⊢
  exact ⟨hk.1, by omega⟩

/-- A present item: its group has rows, and its tile is one the group meets. -/
theorem valid_spec {t : ℕ} (ht : t < M c) :
    I c (ex c t) ≤ t ∧ t < I c (ex c t + 1) ∧ S c (ex c t) < S c (ex c t + 1)
      ∧ per c (ex c t) = (S c (ex c t + 1) - 1) / 512 - S c (ex c t) / 512 + 1
      ∧ tile c t = S c (ex c t) / 512 + (t - I c (ex c t)) ∧ tile c t ≤ (S c (ex c t + 1) - 1) / 512 := by
  obtain ⟨h1, h2, h3⟩ := ex_spec hN t
  have hm : min t (M c - 1) = t := by omega
  rw [hm] at h2 h3
  have hi := I_succ c (ex c t)
  have hs := S_succ c (ex c t)
  have hc : 0 < c (ex c t) := by
    by_contra hc
    have : per c (ex c t) = 0 := if_neg hc
    omega
  have hp : per c (ex c t) = (S c (ex c t + 1) - 1) / 512 - S c (ex c t) / 512 + 1 := if_pos hc
  have ht' : tile c t = S c (ex c t) / 512 + t - I c (ex c t) := if_pos ht
  have hd : S c (ex c t) / 512 ≤ (S c (ex c t + 1) - 1) / 512 := Nat.div_le_div_right (by omega)
  refine ⟨h2, h3, by omega, hp, by omega, by omega⟩

theorem tile_lt (t : ℕ) : tile c t < 256 := by
  by_cases ht : t < M c
  · have h := (valid_spec hN ht).2.2.2.2.2
    have := S_le hN (show ex c t + 1 ≤ 32 from ex_lt hN t)
    omega
  · rw [tile, if_neg ht]; omega

/-- From one present item to the next: the next tile of the same group, or the first tile of the next group with rows. -/
theorem step {t : ℕ} (ht : t + 1 < M c) :
    (ex c (t + 1) = ex c t ∧ tile c (t + 1) = tile c t + 1)
      ∨ (S c (ex c (t + 1)) = S c (ex c t + 1) ∧ tile c t = (S c (ex c t + 1) - 1) / 512 ∧ tile c (t + 1) = S c (ex c t + 1) / 512) := by
  obtain ⟨a1, a2, a3, a4, a5, a6⟩ := valid_spec hN (show t < M c by omega)
  obtain ⟨b1, b2, b3, b4, b5, b6⟩ := valid_spec hN ht
  have hi := I_succ c (ex c t)
  by_cases h : ex c (t + 1) = ex c t
  · left
    rw [h] at b5 b1
    exact ⟨h, by omega⟩
  · right
    have hm := ex_mono hN (show t ≤ t + 1 by omega)
    have hle : I c (ex c t + 1) ≤ I c (ex c (t + 1)) := I_mono c (by omega)
    have he : I c (ex c t + 1 + (ex c (t + 1) - (ex c t + 1))) = I c (ex c t + 1) := by
      rw [show ex c t + 1 + (ex c (t + 1) - (ex c t + 1)) = ex c (t + 1) by omega]; omega
    have hs := S_eq_of_I_eq c _ he
    rw [show ex c t + 1 + (ex c (t + 1) - (ex c t + 1)) = ex c (t + 1) by omega] at hs
    have hd : S c (ex c t) / 512 ≤ (S c (ex c t + 1) - 1) / 512 := Nat.div_le_div_right (by omega)
    refine ⟨hs, by omega, ?_⟩
    rw [b5, hs]; omega

theorem last_spec {t : ℕ} (ht : M c ≤ t + 1) : hi c t = 131072 ∧ tile c t = 255 := by
  have hM := M_pos hN
  have hex : ex c t = ex c (M c - 1) := by
    have : min t (M c - 1) = min (M c - 1) (M c - 1) := by omega
    unfold ex; rw [this]
  obtain ⟨a1, a2, a3, a4, a5, a6⟩ := valid_spec hN (show M c - 1 < M c by omega)
  have hlt := ex_lt hN (M c - 1)
  have hle : I c (ex c (M c - 1) + 1) ≤ M c := I_mono c (by omega)
  have he : I c (ex c (M c - 1) + 1 + (32 - (ex c (M c - 1) + 1))) = I c (ex c (M c - 1) + 1) := by
    rw [show ex c (M c - 1) + 1 + (32 - (ex c (M c - 1) + 1)) = 32 by omega]
    show M c = _; omega
  have hs := S_eq_of_I_eq c _ he
  rw [show ex c (M c - 1) + 1 + (32 - (ex c (M c - 1) + 1)) = 32 by omega, hN] at hs
  have hi' := I_succ c (ex c (M c - 1))
  have hd : S c (ex c (M c - 1)) / 512 ≤ (S c (ex c (M c - 1) + 1) - 1) / 512 := Nat.div_le_div_right (by omega)
  refine ⟨by unfold hi; rw [hex]; exact hs.symm, ?_⟩
  by_cases h : t < M c
  · have : t = M c - 1 := by omega
    rw [this, a5]; omega
  · rw [tile, if_neg h]

/-- A first item of a tile starts at or before the tile. -/
theorem first_lo {t : ℕ} (ht : t < M c) (hf : First c t) : lo c t ≤ tile c t * 512 := by
  unfold lo
  rcases Nat.eq_zero_or_pos t with rfl | h0
  · obtain ⟨a1, -⟩ := valid_spec hN ht
    have := S_eq_of_I_eq c (a := 0) (ex c 0) (by rw [Nat.zero_add, I_zero]; omega)
    rw [Nat.zero_add, S_zero] at this
    omega
  · obtain ⟨s, rfl⟩ := Nat.exists_eq_succ_of_ne_zero (by omega : t ≠ 0)
    have hne : tile c (s + 1) ≠ tile c s := by rcases hf with h | h; · omega
                                               exact h
    obtain ⟨a1, a2, a3, a4, a5, a6⟩ := valid_spec hN (show s < M c by omega)
    obtain ⟨b1, b2, b3, b4, b5, b6⟩ := valid_spec hN ht
    rcases step hN ht with ⟨h1, h2⟩ | ⟨h1, h2, h3⟩
    · show S c (ex c (s + 1)) ≤ tile c (s + 1) * 512
      rw [h1, h2, a5]; omega
    · show S c (ex c (s + 1)) ≤ tile c (s + 1) * 512
      rw [h1, h3]; rw [h2, h3] at hne; omega

theorem hi_mono {s t : ℕ} (h : s ≤ t) : hi c s ≤ hi c t := S_mono c (by have := ex_mono hN h; omega)

theorem lo_le_hi (t : ℕ) : lo c t ≤ hi c t := S_mono c (by omega)

/-- An item that continues its tile starts where the item before ends. -/
theorem rest_lo {t : ℕ} (ht : t + 1 < M c) (hf : ¬ First c (t + 1)) : lo c (t + 1) ≤ hi c t := by
  have he : tile c (t + 1) = tile c t := by
    by_contra h; exact hf (Or.inr h)
  rcases step hN ht with ⟨h1, h2⟩ | ⟨h1, h2, h3⟩
  · omega
  · exact h1.le

/-- Past the last item nothing changes. -/
theorem past {t : ℕ} (ht : ¬ t < M c) : t ≠ 0 ∧ tile c t = tile c (t - 1) ∧ ex c t = ex c (t - 1) := by
  have hM := M_pos hN
  refine ⟨by omega, ?_, by
    have : min t (M c - 1) = min (t - 1) (M c - 1) := by omega
    unfold ex; rw [this]⟩
  rw [(last_spec hN (show M c ≤ t + 1 by omega)).2, (last_spec hN (show M c ≤ t - 1 + 1 by omega)).2]

theorem first_valid {t : ℕ} (hf : First c t) : t < M c := by
  by_contra h
  obtain ⟨h0, h1, -⟩ := past hN h
  rcases hf with h' | h'
  · exact h0 h'
  · exact h' h1

/-- The last item of a tile ends at or after the tile. -/
theorem flush_hi {t : ℕ} (ht : t < 287) (h : t = 286 ∨ tile c (t + 1) ≠ tile c t) : (tile c t + 1) * 512 ≤ hi c t := by
  by_cases hv : t + 1 < M c
  · have hM := M_le hN
    have hne : tile c (t + 1) ≠ tile c t := by rcases h with h | h; · omega
                                               exact h
    obtain ⟨a1, a2, a3, a4, a5, a6⟩ := valid_spec hN (show t < M c by omega)
    obtain ⟨b1, b2, b3, b4, b5, b6⟩ := valid_spec hN hv
    unfold hi
    rcases step hN hv with ⟨h1, h2⟩ | ⟨h1, h2, h3⟩
    · rw [h1] at b6; omega
    · omega
  · obtain ⟨h1, h2⟩ := last_spec hN (show M c ≤ t + 1 by omega)
    rw [h1, h2]

theorem tile_zero : tile c 0 = 0 := by
  have hM := M_pos hN
  obtain ⟨a1, a2, a3, a4, a5, a6⟩ := valid_spec hN hM
  have := S_eq_of_I_eq c (a := 0) (ex c 0) (by rw [Nat.zero_add, I_zero]; omega)
  rw [Nat.zero_add, S_zero] at this
  omega

theorem tile_step (t : ℕ) : tile c (t + 1) ≤ tile c t + 1 := by
  by_cases hv : t + 1 < M c
  · rcases step hN hv with ⟨h1, h2⟩ | ⟨h1, h2, h3⟩
    · omega
    · omega
  · rw [(last_spec hN (show M c ≤ t + 1 by omega)).2, (last_spec hN (show M c ≤ t + 1 + 1 by omega)).2]; omega

theorem reach {T : ℕ} (n : ℕ) (h : T ≤ tile c n) : ∃ t, t ≤ n ∧ tile c t = T := by
  induction n with
  | zero =>
    have h0 := tile_zero hN
    exact ⟨0, le_rfl, by omega⟩
  | succ n ih =>
    by_cases hn : T ≤ tile c n
    · obtain ⟨t, a, b⟩ := ih hn; exact ⟨t, by omega, b⟩
    · exact ⟨n + 1, le_rfl, by have := tile_step hN n; omega⟩

/-- Every tile has an item after which it is left. -/
theorem cover {T : ℕ} (hT : T < 256) : ∃ t, t < 287 ∧ tile c t = T ∧ (t = 286 ∨ tile c (t + 1) ≠ tile c t) := by
  have hl : tile c 286 = 255 := (last_spec hN (by have := M_le hN; omega)).2
  obtain ⟨t0, h0, h1⟩ := reach hN (T := T) 286 (by omega)
  -- the last item at the tile
  have hex : ∃ t, t ≤ 286 ∧ tile c t = T := ⟨t0, h0, h1⟩
  have key : ∀ d t, t + d = 286 → tile c t = T → ∃ t, t < 287 ∧ tile c t = T ∧ (t = 286 ∨ tile c (t + 1) ≠ tile c t) := by
    intro d
    induction d with
    | zero => exact fun t ht he => ⟨t, by omega, he, Or.inl (by omega)⟩
    | succ d ih =>
      intro t ht he
      by_cases hs : tile c (t + 1) = T
      · exact ih (t + 1) (by omega) hs
      · exact ⟨t, by omega, he, Or.inr (by rw [he]; exact hs)⟩
  exact key (286 - t0) t0 (by omega) h1

/-- The group of a row of item `t`'s group. -/
theorem group_of {t r : ℕ} (h0 : lo c t ≤ r) (h1 : r < hi c t) : cnt (S c) r = ex c t :=
  cnt_eq (S_mono c) (ex_lt hN t) h0 h1

end Cert.Proof.Items
-- ==== Proof.Experts.Tables.lean ====
/-
  What the experts' seven tables hold, and what the pipeline over them does at each grid point.
-/
module

public import proofs.«01_k».proof.Proof.Experts.Body
public import proofs.«01_k».proof.Proof.Experts.Items

@[expose] public section

noncomputable section

namespace Cert.Proof.Experts

open Cert.ExpertsIdeal Cert.ExpertsIdeal.Gen

open Idealize.ShloMosaic
open Idealize.ShloMosaic.TcCoe Idealize.ShloMosaic.Tactic
open Idealize.ShloMosaic.ValueIdx (ix1 ix2 ix3)
open Cert.Proof

variable {F : FTy → Type} [FloatOps F]

/-- The tables hold the item numbers of the group sizes `n`. -/
structure Good (n : ℕ → ℕ) (pf : pre0.Contents (Elt F)) : Prop where
  total : Items.S n 32 = 131072
  tile : ∀ t : Fin 287, (pf 0 : S287.Idx → BitVec 32) (ix1 t) = BitVec.ofNat 32 (Items.tile n t.val)
  grp : ∀ t : Fin 287, (pf 1 : S287.Idx → BitVec 32) (ix1 t) = BitVec.ofNat 32 (Items.ex n t.val)
  first : ∀ t : Fin 287, (Items.First n t.val ∧ (pf 2 : S287.Idx → BitVec 32) (ix1 t) = 1#32)
    ∨ (¬ Items.First n t.val ∧ (pf 2 : S287.Idx → BitVec 32) (ix1 t) = 0#32)
  valid : ∀ t : Fin 287, (t.val < Items.M n ∧ (pf 3 : S287.Idx → BitVec 32) (ix1 t) = 1#32)
    ∨ (¬ t.val < Items.M n ∧ (pf 3 : S287.Idx → BitVec 32) (ix1 t) = 0#32)
  lo : ∀ t : Fin 287, (pf 4 : S287.Idx → BitVec 32) (ix1 t) = BitVec.ofNat 32 (Items.lo n t.val)
  hi : ∀ t : Fin 287, (pf 5 : S287.Idx → BitVec 32) (ix1 t) = BitVec.ofNat 32 (Items.hi n t.val)
  new : ∀ t : Fin 287, (Items.New n t.val ∧ (pf 6 : S287.Idx → BitVec 32) (ix1 t) = 1#32)
    ∨ (¬ Items.New n t.val ∧ (pf 6 : S287.Idx → BitVec 32) (ix1 t) = 0#32)

variable {n : ℕ → ℕ} {pf : pre0.Contents (Elt F)} (hg : Good n pf)
include hg

theorem tile_toNat (t : Fin 287) : ((pf 0 : S287.Idx → BitVec 32) (ix1 t)).toNat = Items.tile n t.val := by
  have := Items.tile_lt hg.total t.val
  rw [hg.tile]; simp [BitVec.toNat_ofNat]; omega

theorem grp_toNat (t : Fin 287) : ((pf 1 : S287.Idx → BitVec 32) (ix1 t)).toNat = Items.ex n t.val := by
  have := Items.ex_lt hg.total t.val
  rw [hg.grp]; simp [BitVec.toNat_ofNat]; omega

theorem tr0 (i : grid0.Coords) : cc0_transform_0 k0_off1_inb numel1_S1 pf i = ![Items.tile n (i 0).val, 0] := by
  rw [← tile_toNat hg (i 0)]
  exact congrArg (fun x => ![((pf 0 : S287.Idx → BitVec 32) x).toNat, 0]) (first_idx i (k0_off1_inb i) _)
theorem tr5 (i : grid0.Coords) : cc0_transform_5 k0_off1_inb numel1_S1 pf i = ![Items.tile n (i 0).val, 0] := by
  rw [← tile_toNat hg (i 0)]
  exact congrArg (fun x => ![((pf 0 : S287.Idx → BitVec 32) x).toNat, 0]) (first_idx i (k0_off1_inb i) _)
theorem tr1 (i : grid0.Coords) : cc0_transform_1 k0_off1_inb numel1_S1 pf i = ![Items.ex n (i 0).val, 0, 0] := by
  rw [← grp_toNat hg (i 0)]
  exact congrArg (fun x => ![((pf 1 : S287.Idx → BitVec 32) x).toNat, 0, 0]) (first_idx i (k0_off1_inb i) _)
theorem tr2 (i : grid0.Coords) : cc0_transform_2 k0_off1_inb numel1_S1 pf i = ![Items.ex n (i 0).val, 0, 0] := by
  rw [← grp_toNat hg (i 0)]
  exact congrArg (fun x => ![((pf 1 : S287.Idx → BitVec 32) x).toNat, 0, 0]) (first_idx i (k0_off1_inb i) _)
theorem tr3 (i : grid0.Coords) : cc0_transform_3 k0_off1_inb numel1_S1 pf i = ![Items.ex n (i 0).val, 0, 0] := by
  rw [← grp_toNat hg (i 0)]
  exact congrArg (fun x => ![((pf 1 : S287.Idx → BitVec 32) x).toNat, 0, 0]) (first_idx i (k0_off1_inb i) _)
theorem tr4 (i : grid0.Coords) : cc0_transform_4 k0_off1_inb numel1_S1 pf i = ![Items.ex n (i 0).val, 0, 0] := by
  rw [← grp_toNat hg (i 0)]
  exact congrArg (fun x => ![((pf 1 : S287.Idx → BitVec 32) x).toNat, 0, 0]) (first_idx i (k0_off1_inb i) _)

omit hg in
theorem head_eq {a b : ℕ} (h : (![a, 0] : Fin 2 → ℕ) = ![b, 0]) : a = b := congrFun h 0

omit hg in
theorem words5 (T : ℕ) (h : T < 256) (a : Fin 2) : ((![T, 0] : Fin 2 → ℕ) a + 1) * S512x1024.size a ≤ S131072x1024.size a := by
  match a with
    | ⟨0, _⟩ => show (T + 1) * 512 ≤ 131072; omega
    | ⟨1, _⟩ => show (0 + 1) * 1024 ≤ 1024; omega

omit hg in
/-- Tile `T` lies within the rows, and on whole words. -/
theorem words0 (T : ℕ) (h : T < 256) : ∃ h : (∀ a, ((![T, 0] : Fin 2 → ℕ) a + 1) * S512x512.size a ≤ S131072x512.size a),
    EltTy.bits .i32 = 32 ∨ (Rect.block (s := S131072x512) S512x512.size ![T, 0] h).WholeWords (EltTy.packing .i32) := by
  refine ⟨fun a => ?_, .inl rfl⟩
  match a with
    | ⟨0, _⟩ => show (T + 1) * 512 ≤ 131072; omega
    | ⟨1, _⟩ => show (0 + 1) * 512 ≤ 512; omega

theorem good_ok : ok0 pf := by
  have ht : ∀ i : grid0.Coords, Items.tile n (i 0).val < 256 := fun i => Items.tile_lt hg.total _
  have he : ∀ i : grid0.Coords, Items.ex n (i 0).val < 32 := fun i => Items.ex_lt hg.total _
  refine ⟨fun i => ?_, fun i => ⟨?_, .inl rfl⟩, fun i => ⟨?_, .inl rfl⟩, fun i => ⟨?_, .inl rfl⟩,
    fun i => ⟨?_, .inl rfl⟩, fun i => ⟨?_, .inl rfl⟩⟩
  · have := ht i
    rw [tr0 hg]; exact words0 _ this
  all_goals have h1 := ht i; have h2 := he i
  · rw [tr1 hg]
    intro a; match a with
    | ⟨0, _⟩ => show (Items.ex n (i 0).val + 1) * 1 ≤ 32; omega
    | ⟨1, _⟩ => show (0 + 1) * 1024 ≤ 1024; omega
    | ⟨2, _⟩ => show (0 + 1) * 2048 ≤ 2048; omega
  · rw [tr2 hg]
    intro a; match a with
    | ⟨0, _⟩ => show (Items.ex n (i 0).val + 1) * 1 ≤ 32; omega
    | ⟨1, _⟩ => show (0 + 1) * 1 ≤ 1; omega
    | ⟨2, _⟩ => show (0 + 1) * 2048 ≤ 2048; omega
  · rw [tr3 hg]
    intro a; match a with
    | ⟨0, _⟩ => show (Items.ex n (i 0).val + 1) * 1 ≤ 32; omega
    | ⟨1, _⟩ => show (0 + 1) * 1024 ≤ 1024; omega
    | ⟨2, _⟩ => show (0 + 1) * 1024 ≤ 1024; omega
  · rw [tr4 hg]
    intro a; match a with
    | ⟨0, _⟩ => show (Items.ex n (i 0).val + 1) * 1 ≤ 32; omega
    | ⟨1, _⟩ => show (0 + 1) * 1 ≤ 1; omega
    | ⟨2, _⟩ => show (0 + 1) * 1024 ≤ 1024; omega
  · rw [tr5 hg]; exact words5 _ h1

omit hg in
theorem atD_eq (k : Fin 7) (T : S287.Idx → BitVec 32) (i : grid0.Coords) :
    (if h : ∀ a, (k0_off1 i) a + 1 ≤ S287.size a then T (fun a => ⟨k0_off1 i a, h a⟩) else default) = T (ix1 (i 0)) := by
  have hi : (i 0).val < 287 := (i 0).isLt
  refine (dif_pos ?_).trans (congrArg T ?_)
  · intro a; rw [off_eq]; match a with
    | ⟨0, _⟩ => show (i 0).val + 1 ≤ 287; omega
  · funext a; match a with
    | ⟨0, _⟩ => exact Fin.ext (congrFun (off_eq i) 0)

/-- The result's window is idle exactly past the last item. -/
theorem idle_iff (i : grid0.Coords) : idle0 pf 5 i = decide (¬ (i 0).val < Items.M n) := by
  have e3 : (pf.atD 3 (k0_off2 i) : BitVec 32) = (pf 3 : S287.Idx → BitVec 32) (ix1 (i 0)) := atD_eq 3 _ i
  have e2 : (pf.atD 2 (k0_off3 i) : BitVec 32) = (pf 2 : S287.Idx → BitVec 32) (ix1 (i 0)) := atD_eq 2 _ i
  have e2' : (pf.atD 2 (k0_off4 i) : BitVec 32) = (pf 2 : S287.Idx → BitVec 32) (ix1 (i 0)) := atD_eq 2 _ i
  show (!(k0_cond2 (pf.atD 3 (k0_off2 i)) == 1#1 && k0_cond3 (pf.atD 2 (k0_off3 i)) == 1#1) && !(k0_cond2 (pf.atD 3 (k0_off2 i)) == 1#1 && k0_cond4 (pf.atD 2 (k0_off4 i)) == 1#1)) = _
  rw [e3, e2, e2']
  rcases hg.valid (i 0) with ⟨h, h'⟩ | ⟨h, h'⟩ <;> rcases hg.first (i 0) with ⟨-, h2⟩ | ⟨-, h2⟩ <;> rw [h', h2] <;> simp only [h] <;> decide

omit hg in
theorem coord (t : Fin grid0.N) : (grid0.coords t 0).val = t.val := by
  have h : t.val < 287 := t.isLt.trans_eq N_0
  rw [Pipeline.Grid.coords_val t 0 (S := 1) (B := 287) (by decide) rfl]; omega

variable (hok : ok0 pf)

/-- The pipeline at these tables. -/
abbrev cfgA (hok : ok0 pf) : Pipeline.Cfg sig Λ₀ := cfg0 ⟨pf, hok⟩

theorem index5 (t : Fin grid0.N) : ((cfgA hok).win 5).index t = ![Items.tile n t.val, 0] := by
  rw [← coord t]; exact tr5 hg (grid0.coords t)

theorem flush5 (t : Fin grid0.N) :
    ((cfgA hok).win 5).flush t = decide (t.val = 286 ∨ Items.tile n (t.val + 1) ≠ Items.tile n t.val) := by
  have hN := N_0
  have ht : t.val < 287 := t.isLt.trans_eq N_0
  have hN' : (pcfg0.gridAt pf).N = 287 := N_0
  unfold Pipeline.Window.flush
  rw [Bool.eq_iff_iff]
  simp only [Bool.and_eq_true, Bool.or_eq_true, decide_eq_true_eq]
  constructor
  · rintro ⟨-, h | ⟨h, h'⟩⟩
    · left; omega
    · right; intro e; apply h'
      exact (index5 hg hok ⟨t.val + 1, h⟩).trans ((congrArg (fun x => ![x, 0]) e).trans (index5 hg hok t).symm)
  · intro h
    refine ⟨rfl, ?_⟩
    by_cases h6 : t.val = 286
    · left; omega
    · right
      have hl : t.val + 1 < (pcfg0.gridAt pf).N := by omega
      refine ⟨hl, fun e => ?_⟩
      have e' := (index5 hg hok ⟨t.val + 1, hl⟩).symm.trans (e.trans (index5 hg hok t))
      exact (h.resolve_left h6) (head_eq e')

theorem fresh5 : ∀ m, m < 287 → (cfgA hok).fresh 5 m = decide (Items.First n m)
  | 0, _ => by
    rw [Pipeline.Cfg.fresh_zero]; exact (decide_eq_true (Or.inl rfl)).symm
  | m + 1, h => by
    have hm : m < (cfgA hok).N := by show m < grid0.N; rw [N_0]; omega
    rw [Pipeline.Cfg.fresh_succ _ 5 m hm, fresh5 m (by omega)]
    have hf := flush5 hg hok ⟨m, hm⟩
    have hi : (cfgA hok).idle 5 ((cfgA hok).grid.coords ⟨m, hm⟩) = decide (¬ m < Items.M n) :=
      (idle_iff hg _).trans (by rw [coord])
    rw [hf, hi, Bool.eq_iff_iff]
    simp only [Bool.or_eq_true, Bool.and_eq_true, decide_eq_true_eq]
    constructor
    · rintro ((h' | h') | ⟨h1, h2⟩)
      · omega
      · exact Or.inr h'
      · exact absurd (Items.first_valid hg.total h2) h1
    · rintro (h' | h')
      · omega
      · exact Or.inl (Or.inr h')

end Cert.Proof.Experts
-- ==== Proof.Experts.Step.lean ====
/-
  What the experts' steps compute: the rows of one group in one tile, and how a tile fills up.
-/
module

public import proofs.«01_k».proof.Proof.Experts.Tables
public import Idealize.ShloMosaic.Lib.Pipeline.ValueKit

@[expose] public section

noncomputable section

namespace Cert.Proof.Experts

open Cert.ExpertsIdeal Cert.ExpertsIdeal.Gen

open Idealize.ShloMosaic
open Idealize.ShloMosaic.TcCoe Idealize.ShloMosaic.Tactic
open Cert.Proof

variable {F : FTy → Type} [FloatOps F]

/-! ## Which rows a step takes -/

/-- A row's number within 32 bits. -/
theorem row_word (T q : ℕ) (hT : T < 256) (hq : q < 512) :
    (BitVec.ofNat 32 T * 512#32 + BitVec.ofNat 32 q) = BitVec.ofNat 32 (T * 512 + q) := by
  apply BitVec.eq_of_toNat_eq
  simp [BitVec.toNat_add, BitVec.toNat_mul, BitVec.toNat_ofNat]

theorem int_word (a : ℕ) (ha : a < 2147483648) : (BitVec.ofNat 32 a).toInt = a := by
  have h : (BitVec.ofNat 32 a).toNat = a := by rw [BitVec.toNat_ofNat]; omega
  rw [BitVec.toInt_eq_toNat_of_lt (by omega), h]

theorem sge_word (a b : ℕ) (ha : a < 2147483648) (hb : b < 2147483648) :
    (IntOp.cmpi .sge (BitVec.ofNat 32 a) (BitVec.ofNat 32 b) = 1#1) ↔ b ≤ a := by
  unfold IntOp.cmpi
  have h1 := int_word a ha
  have h2 := int_word b hb
  simp only [BitVec.sle, h1, h2, Nat.cast_le]
  by_cases h : b ≤ a <;> simp [h]

theorem slt_word (a b : ℕ) (ha : a < 2147483648) (hb : b < 2147483648) :
    (IntOp.cmpi .slt (BitVec.ofNat 32 a) (BitVec.ofNat 32 b) = 1#1) ↔ a < b := by
  unfold IntOp.cmpi
  have h1 := int_word a ha
  have h2 := int_word b hb
  simp only [BitVec.slt, h1, h2, Nat.cast_lt]
  by_cases h : a < b <;> simp [h]

theorem mine_iff (T l h : ℕ) (hT : T < 256) (hl : l ≤ 131072) (hh : h ≤ 131072) (q : Fin 512) :
    k0_pay3 (F := F) (BitVec.ofNat 32 T) (BitVec.ofNat 32 l) (BitVec.ofNat 32 h) (ix2 q 0) = 1#1
      ↔ l ≤ T * 512 + q.val ∧ T * 512 + q.val < h := by
  have e3 : k0_pay3 (F := F) (BitVec.ofNat 32 T) (BitVec.ofNat 32 l) (BitVec.ofNat 32 h) (ix2 q 0)
      = IntOp.cmpi .sge (BitVec.ofNat 32 (T * 512 + q.val)) (BitVec.ofNat 32 l) &&& IntOp.cmpi .slt (BitVec.ofNat 32 (T * 512 + q.val)) (BitVec.ofNat 32 h) := by
    rw [← row_word T q.val hT q.isLt]
    unfold k0_pay3
    pointwise
    rfl
  rw [e3]
  have hq := q.isLt
  rw [← sge_word (T * 512 + q.val) l (by omega) (by omega), ← slt_word (T * 512 + q.val) h (by omega) (by omega)]
  generalize IntOp.cmpi .sge (BitVec.ofNat 32 (T * 512 + q.val)) (BitVec.ofNat 32 l) = A
  generalize IntOp.cmpi .slt (BitVec.ofNat 32 (T * 512 + q.val)) (BitVec.ofNat 32 h) = B
  revert A B; decide

theorem pay4_apply (y : FVec F S512x1024 .f32) (T l h : Elt F .i32) (q : Fin 512) (k : Fin 1024) :
    k0_pay4 y T l h (ix2 q k) = if k0_pay3 (F := F) T l h (ix2 q 0) = 1#1 then y (ix2 q k) else Scalar.ofBits (F := F) .f32 0x00000000#32 := by
  unfold k0_pay4
  pointwise
  rfl

theorem pay5_apply (y : FVec F S512x1024 .f32) (T l h : Elt F .i32) (o : Vec F S512x1024 .f32) (q : Fin 512) (k : Fin 1024) :
    k0_pay5 y T l h o (ix2 q k) = if k0_pay3 (F := F) T l h (ix2 q 0) = 1#1 then y (ix2 q k) else o (ix2 q k) := by
  unfold k0_pay5
  pointwise
  rfl

/-! ## The result -/

/-- Tile `T` of the rows. -/
def xblk {α : Type} (x : S131072x1024.Idx → α) (T : Fin 256) : S512x1024.Idx → α := fun j =>
  x (ix2 ⟨T.val * 512 + (j 0).val, by have h : (j 0).val < 512 := (j 0).isLt; have := T.isLt; omega⟩ (j 1))
/-- The same of the rows' packed words. -/
def pblk {α : Type} (x : S131072x512.Idx → α) (T : Fin 256) : S512x512.Idx → α := fun j =>
  x (ix2 ⟨T.val * 512 + (j 0).val, by have h : (j 0).val < 512 := (j 0).isLt; have := T.isLt; omega⟩ (j 1))
/-- Group `e`'s weights and biases. -/
def wblk {α : Type} (x : S32x1024x2048.Idx → α) (e : Fin 32) : S1x1024x2048.Idx → α := fun j => x (ix3 e (j 1) (j 2))
def bblk {α : Type} (x : S32x1x2048.Idx → α) (e : Fin 32) : S1x1x2048.Idx → α := fun j => x (ix3 e (j 1) (j 2))
def dblk {α : Type} (x : S32x1024x1024.Idx → α) (e : Fin 32) : S1x1024x1024.Idx → α := fun j => x (ix3 e (j 1) (j 2))
def cblk {α : Type} (x : S32x1x1024.Idx → α) (e : Fin 32) : S1x1x1024.Idx → α := fun j => x (ix3 e (j 1) (j 2))

section
variable (n : ℕ → ℕ) (x : S131072x512.Idx → Elt F .i32) (w : S32x1024x2048.Idx → Elt F .f32) (b : S32x1x2048.Idx → Elt F .f32)
  (d : S32x1024x1024.Idx → Elt F .f32) (b2 : S32x1x1024.Idx → Elt F .f32)

/-- Tile `T` under group `e`'s weights. -/
def YY (T : Fin 256) (e : Fin 32) : S512x1024.Idx → Elt F .f32 :=
  k0_pay6 (pblk x T) (k0_pay1 (wblk w e)) (bblk b e) (k0_pay2 (dblk d e)) (cblk b2 e)

/-- The group of a row. -/
def grp (r : ℕ) : Fin 32 := ⟨Items.cnt (Items.S n) r % 32, Nat.mod_lt _ (by decide)⟩

/-- The experts' result: each row under its group's weights. -/
def FULL : S131072x1024.Idx → Elt F .f32 := fun i =>
  YY x w b d b2 ⟨(i 0).val / 512, by have h : (i 0).val < 131072 := (i 0).isLt; omega⟩ (grp n (i 0).val)
    (ix2 ⟨(i 0).val % 512, Nat.mod_lt _ (by decide)⟩ (i 1))

/-- Item `t`'s tile and group. -/
def tT (t : ℕ) : Fin 256 := ⟨Items.tile n t % 256, Nat.mod_lt _ (by decide)⟩
def tE (t : ℕ) : Fin 32 := ⟨Items.ex n t % 32, Nat.mod_lt _ (by decide)⟩

/-- A tile of the result after item `t`: its rows up to the end of `t`'s group, zero after. -/
def OUT (t : ℕ) : S512x1024.Idx → Elt F .f32 := fun j =>
  if (tT n t).val * 512 + (j 0).val < Items.hi n t then xblk (FULL n x w b d b2) (tT n t) j else Scalar.ofBits (F := F) .f32 0x00000000#32

end

variable {n : ℕ → ℕ} {pf : pre0.Contents (Elt F)} (hg : Good n pf)
  (x : S131072x512.Idx → Elt F .i32) (w : S32x1024x2048.Idx → Elt F .f32) (b : S32x1x2048.Idx → Elt F .f32)
  (d : S32x1024x1024.Idx → Elt F .f32) (b2 : S32x1x1024.Idx → Elt F .f32)
include hg

theorem tT_val (t : ℕ) : (tT n t).val = Items.tile n t := Nat.mod_eq_of_lt (Items.tile_lt hg.total t)
theorem tE_val (t : ℕ) : (tE n t).val = Items.ex n t := Nat.mod_eq_of_lt (Items.ex_lt hg.total t)

/-- A row of item `t`'s group in `t`'s tile is the result's. -/
theorem YY_eq (t : ℕ) (j : S512x1024.Idx) (h0 : Items.lo n t ≤ Items.tile n t * 512 + (j 0).val) (h1 : Items.tile n t * 512 + (j 0).val < Items.hi n t) :
    YY x w b d b2 (tT n t) (tE n t) j = xblk (FULL n x w b d b2) (tT n t) j := by
  have hj : (j 0).val < 512 := (j 0).isLt
  have hT := tT_val hg t
  have hv : ((tT n t).val * 512 + (j 0).val) / 512 = (tT n t).val := by omega
  have hr : ((tT n t).val * 512 + (j 0).val) % 512 = (j 0).val := by omega
  have hG : grp n ((tT n t).val * 512 + (j 0).val) = tE n t := by
    apply Fin.ext
    show Items.cnt (Items.S n) _ % 32 = Items.ex n t % 32
    rw [hT, Items.group_of hg.total h0 h1]
  have hA : ∀ (A A' : Fin 256) (B B' : Fin 32) (q q' : Fin 512), A = A' → B = B' → q = q' →
      YY x w b d b2 A B (ix2 q (j 1)) = YY x w b d b2 A' B' (ix2 q' (j 1)) := by
    rintro A _ B _ q _ rfl rfl rfl; rfl
  have hj2 : ix2 (⟨(j 0).val, hj⟩ : Fin 512) (j 1) = j := by
    funext a; match a with
    | ⟨0, _⟩ => rfl
    | ⟨1, _⟩ => rfl
  refine (congrArg (YY x w b d b2 (tT n t) (tE n t)) hj2.symm).trans ?_
  exact hA _ _ _ _ _ _ (Fin.ext hv.symm) hG.symm (Fin.ext hr.symm)

/-- A step over what the step before left: the rows up to the end of its own group. -/
theorem step_out (t : Fin 287) (ht : t.val < Items.M n) (o : S512x1024.Idx → Elt F .f32)
    (ho : ¬ Items.First n t.val → o = OUT n x w b d b2 (t.val - 1)) (i : grid0.Coords) (hi : i 0 = t) :
    g13 (pf 0) (pf 2) (pf 3) (pf 4) (pf 5) i (YY x w b d b2 (tT n t.val) (tE n t.val)) o = OUT n x w b d b2 t.val := by
  have hT := Items.tile_lt hg.total t.val
  have hlo : Items.lo n t.val ≤ 131072 := Items.S_le hg.total (by have := Items.ex_lt hg.total t.val; omega)
  have hhi : Items.hi n t.val ≤ 131072 := Items.S_le hg.total (by have := Items.ex_lt hg.total t.val; omega)
  have w0 : word (pf 0) i = BitVec.ofNat 32 (Items.tile n t.val) := by unfold word; rw [hi]; exact hg.tile t
  have w4 : word (pf 4) i = BitVec.ofNat 32 (Items.lo n t.val) := by unfold word; rw [hi]; exact hg.lo t
  have w5 : word (pf 5) i = BitVec.ofNat 32 (Items.hi n t.val) := by unfold word; rw [hi]; exact hg.hi t
  have w3 : word (pf 3) i = 1#32 := by
    unfold word; rw [hi]
    rcases hg.valid t with ⟨-, h⟩ | ⟨h, -⟩
    · exact h
    · exact absurd ht h
  unfold g13
  rw [if_pos w3, w0, w4, w5]
  funext j
  obtain ⟨q, k, rfl⟩ : ∃ (q : Fin 512) (k : Fin 1024), j = ix2 q k := ⟨j 0, j 1, by
    funext a; match a with
    | ⟨0, _⟩ => rfl
    | ⟨1, _⟩ => rfl⟩
  have hm := mine_iff (F := F) (Items.tile n t.val) (Items.lo n t.val) (Items.hi n t.val) hT hlo hhi q
  have hv := tT_val hg t.val
  have hO : OUT n x w b d b2 t.val (ix2 q k) = if Items.tile n t.val * 512 + q.val < Items.hi n t.val then xblk (FULL n x w b d b2) (tT n t.val) (ix2 q k) else Scalar.ofBits (F := F) .f32 0x00000000#32 := by
    unfold OUT; rw [hv]; rfl
  rw [hO]
  rcases hg.first t with ⟨hf, hw⟩ | ⟨hf, hw⟩
  · have w2 : word (pf 2) i = 1#32 := by unfold word; rw [hi]; exact hw
    rw [if_neg (by rw [w2]; decide), if_pos w2, pay4_apply]
    have hl := Items.first_lo hg.total ht hf
    by_cases hr : Items.tile n t.val * 512 + q.val < Items.hi n t.val
    · rw [if_pos hr, if_pos (hm.2 ⟨by omega, hr⟩)]
      exact YY_eq hg x w b d b2 t.val (ix2 q k) (by show _ ≤ _ + q.val; omega) hr
    · rw [if_neg hr, if_neg (fun h => hr (hm.1 h).2)]
  · have w2 : word (pf 2) i = 0#32 := by unfold word; rw [hi]; exact hw
    rw [if_pos w2, pay5_apply]
    by_cases hr : Items.lo n t.val ≤ Items.tile n t.val * 512 + q.val ∧ Items.tile n t.val * 512 + q.val < Items.hi n t.val
    · rw [if_pos hr.2, if_pos (hm.2 hr)]
      exact YY_eq hg x w b d b2 t.val (ix2 q k) hr.1 hr.2
    · rw [if_neg (fun h => hr (hm.1 h)), ho hf]
      obtain ⟨s, hs⟩ : ∃ s, t.val = s + 1 := ⟨t.val - 1, by
        have : t.val ≠ 0 := fun h => hf (Or.inl h)
        omega⟩
      have hs' : t.val - 1 = s := by omega
      have hTs : Items.tile n t.val = Items.tile n s := by
        by_contra h; exact hf (Or.inr (by rw [hs']; exact h))
      have hrl := Items.rest_lo hg.total (t := s) (by omega) (by rw [← hs]; exact hf)
      rw [← hs] at hrl
      have hmono := Items.hi_mono hg.total (show s ≤ t.val by omega)
      have hle := Items.lo_le_hi hg.total t.val
      have hO' : OUT n x w b d b2 (t.val - 1) (ix2 q k) = if Items.tile n t.val * 512 + q.val < Items.hi n s then xblk (FULL n x w b d b2) (tT n t.val) (ix2 q k) else Scalar.ofBits (F := F) .f32 0x00000000#32 := by
        have hE : tT n s = tT n t.val := Fin.ext (by rw [tT_val hg, tT_val hg, hTs])
        rw [hs']; unfold OUT; rw [hE, hv]; rfl
      rw [hO']
      by_cases h1 : Items.tile n t.val * 512 + q.val < Items.hi n s
      · rw [if_pos h1, if_pos (by omega)]
      · rw [if_neg h1, if_neg (fun h => hr ⟨by omega, h⟩)]

/-- Past the last item nothing changes. -/
theorem OUT_past (t : ℕ) (ht : ¬ t < Items.M n) : OUT n x w b d b2 t = OUT n x w b d b2 (t - 1) := by
  obtain ⟨-, h1, h2⟩ := Items.past hg.total ht
  have a : tT n t = tT n (t - 1) := by unfold tT; simp only [h1]
  have e : Items.hi n t = Items.hi n (t - 1) := by unfold Items.hi; rw [h2]
  unfold OUT; rw [a, e]

end Cert.Proof.Experts
-- ==== Proof.Experts.Region.lean ====
/-
  The experts' pipeline: what each grid point finds and leaves, and the array after the run.
-/
module

public import proofs.«01_k».proof.Proof.Experts.Step

@[expose] public section

noncomputable section

namespace Cert.Proof.Experts

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Proof

variable {F : FTy → Type} [FloatOps F]

local notation "𝕄" => MT nD τ sig Unit (Elt F) ℕ UU ℕ

/-! ## Blocks of the arrays -/

section
variable {n : ℕ → ℕ} {pf : pre0.Contents (Elt F)} (hg : Good n pf) (hok : ok0 pf)
include hg

theorem blk0 (X : S131072x512.Idx → Elt F .i32) (t : Fin grid0.N) :
    (((cfgA hok).win 0).blk t).view.read (Elt F) X = pblk X (tT n t.val) := by
  have hi : ((cfgA hok).win 0).index t = ![(tT n t.val).val, 0] := by rw [tT_val hg, ← coord t]; exact tr0 hg (grid0.coords t)
  generalize tT n t.val = T at hi ⊢
  funext j
  refine congrArg X (funext fun a => Fin.ext ?_)
  refine (Pipeline.Window.rect_emb_val ((cfgA hok).win 0) t j a).trans ?_
  rw [hi]
  match a with
  | ⟨0, _⟩ => rfl
  | ⟨1, _⟩ => show 0 * 512 + _ = _; rw [Nat.zero_mul, Nat.zero_add]; rfl

theorem blk5 (X : S131072x1024.Idx → Elt F .f32) (t : Fin grid0.N) :
    (((cfgA hok).win 5).blk t).view.read (Elt F) X = xblk X (tT n t.val) := by
  have hi : ((cfgA hok).win 5).index t = ![(tT n t.val).val, 0] := by rw [tT_val hg]; exact index5 hg hok t
  generalize tT n t.val = T at hi ⊢
  funext j
  refine congrArg X (funext fun a => Fin.ext ?_)
  refine (Pipeline.Window.rect_emb_val ((cfgA hok).win 5) t j a).trans ?_
  rw [hi]
  match a with
  | ⟨0, _⟩ => rfl
  | ⟨1, _⟩ => show 0 * 1024 + _ = _; rw [Nat.zero_mul, Nat.zero_add]; rfl

theorem blk1 (X : S32x1024x2048.Idx → Elt F .f32) (t : Fin grid0.N) :
    (((cfgA hok).win 1).blk t).view.read (Elt F) X = wblk X (tE n t.val) := by
  have hi : ((cfgA hok).win 1).index t = ![Items.ex n t.val, 0, 0] := by rw [← coord t]; exact tr1 hg (grid0.coords t)
  have hT := tE_val hg t.val
  funext j
  refine congrArg X (funext fun a => Fin.ext ?_)
  refine (Pipeline.Window.rect_emb_val ((cfgA hok).win 1) t j a).trans ?_
  rw [hi]
  match a with
  | ⟨0, h⟩ =>
    have hj : (j ⟨0, h⟩).val < 1 := (j ⟨0, h⟩).isLt
    show Items.ex n t.val * 1 + (j ⟨0, h⟩).val = (tE n t.val).val; omega
  | ⟨1, _⟩ => show 0 * 1024 + _ = _; rw [Nat.zero_mul, Nat.zero_add]; rfl
  | ⟨2, _⟩ => show 0 * 2048 + _ = _; rw [Nat.zero_mul, Nat.zero_add]; rfl

theorem blk2 (X : S32x1x2048.Idx → Elt F .f32) (t : Fin grid0.N) :
    (((cfgA hok).win 2).blk t).view.read (Elt F) X = bblk X (tE n t.val) := by
  have hi : ((cfgA hok).win 2).index t = ![Items.ex n t.val, 0, 0] := by rw [← coord t]; exact tr2 hg (grid0.coords t)
  have hT := tE_val hg t.val
  funext j
  refine congrArg X (funext fun a => Fin.ext ?_)
  refine (Pipeline.Window.rect_emb_val ((cfgA hok).win 2) t j a).trans ?_
  rw [hi]
  match a with
  | ⟨0, h⟩ =>
    have hj : (j ⟨0, h⟩).val < 1 := (j ⟨0, h⟩).isLt
    show Items.ex n t.val * 1 + (j ⟨0, h⟩).val = (tE n t.val).val; omega
  | ⟨1, _⟩ => show 0 * 1 + _ = _; rw [Nat.zero_mul, Nat.zero_add]; rfl
  | ⟨2, _⟩ => show 0 * 2048 + _ = _; rw [Nat.zero_mul, Nat.zero_add]; rfl

theorem blk3 (X : S32x1024x1024.Idx → Elt F .f32) (t : Fin grid0.N) :
    (((cfgA hok).win 3).blk t).view.read (Elt F) X = dblk X (tE n t.val) := by
  have hi : ((cfgA hok).win 3).index t = ![Items.ex n t.val, 0, 0] := by rw [← coord t]; exact tr3 hg (grid0.coords t)
  have hT := tE_val hg t.val
  funext j
  refine congrArg X (funext fun a => Fin.ext ?_)
  refine (Pipeline.Window.rect_emb_val ((cfgA hok).win 3) t j a).trans ?_
  rw [hi]
  match a with
  | ⟨0, h⟩ =>
    have hj : (j ⟨0, h⟩).val < 1 := (j ⟨0, h⟩).isLt
    show Items.ex n t.val * 1 + (j ⟨0, h⟩).val = (tE n t.val).val; omega
  | ⟨1, _⟩ => show 0 * 1024 + _ = _; rw [Nat.zero_mul, Nat.zero_add]; rfl
  | ⟨2, _⟩ => show 0 * 1024 + _ = _; rw [Nat.zero_mul, Nat.zero_add]; rfl

theorem blk4 (X : S32x1x1024.Idx → Elt F .f32) (t : Fin grid0.N) :
    (((cfgA hok).win 4).blk t).view.read (Elt F) X = cblk X (tE n t.val) := by
  have hi : ((cfgA hok).win 4).index t = ![Items.ex n t.val, 0, 0] := by rw [← coord t]; exact tr4 hg (grid0.coords t)
  have hT := tE_val hg t.val
  funext j
  refine congrArg X (funext fun a => Fin.ext ?_)
  refine (Pipeline.Window.rect_emb_val ((cfgA hok).win 4) t j a).trans ?_
  rw [hi]
  match a with
  | ⟨0, h⟩ =>
    have hj : (j ⟨0, h⟩).val < 1 := (j ⟨0, h⟩).isLt
    show Items.ex n t.val * 1 + (j ⟨0, h⟩).val = (tE n t.val).val; omega
  | ⟨1, _⟩ => show 0 * 1 + _ = _; rw [Nat.zero_mul, Nat.zero_add]; rfl
  | ⟨2, _⟩ => show 0 * 1024 + _ = _; rw [Nat.zero_mul, Nat.zero_add]; rfl

end

/-! ## The proof data -/

variable (n : ℕ → ℕ) (pf : pre0.Contents (Elt F)) (hok : ok0 pf)
  (V : (c : Dev nD) → (b : Ref sig .tc) → Buf (Elt F) ((c : Thread nD τ).loc b))

/-- The result of the arrays held. -/
abbrev RES (c : Dev nD) : S131072x1024.Idx → Elt F .f32 :=
  FULL n (V c main_arg0) (V c main_arg2) (V c main_v0) (V c main_arg4) (V c main_v1)

/-- The kernel's weight buffers before point `m`: the weights of the point before, rounded. -/
def Scr (c : Dev nD) (m : ℕ) : sProp 𝕄 :=
  iprop(∃ (f14 : S1024x2048.Idx → Elt F .bf16) (f15 : S1024x1024.Idx → Elt F .bf16),
    ⌜m ≠ 0 → f14 = k0_pay1 (wblk (V c main_arg2) (tE n (m - 1))) ∧ f15 = k0_pay2 (dblk (V c main_arg4) (tE n (m - 1)))⌝
      ∗ pt c (Memref.whole cc0_scratch0) fullShare ((Memref.whole cc0_scratch0).view.rep f14)
      ∗ pt c (Memref.whole cc0_scratch1) fullShare ((Memref.whole cc0_scratch1).view.rep f15))

def dat (c : Dev nD) : Dat τ (Elt F) Unit ℕ UU ℕ (cfgA hok) c where
  A w := V c (Pipeline.arrRef spec0 w)
  after w t := match w with
    | ⟨0, _⟩ => pblk (V c main_arg0) (tT n t.val)
    | ⟨1, _⟩ => wblk (V c main_arg2) (tE n t.val)
    | ⟨2, _⟩ => bblk (V c main_v0) (tE n t.val)
    | ⟨3, _⟩ => dblk (V c main_arg4) (tE n t.val)
    | ⟨4, _⟩ => cblk (V c main_v1) (tE n t.val)
    | ⟨5, _⟩ => OUT n (V c main_arg0) (V c main_arg2) (V c main_v0) (V c main_arg4) (V c main_v1) t.val
  Φ m := iprop(Scr n V c m.val ∗ (∃ r, prngReg c r) ∗ Pipeline.ΦT pre0 pf c)
  q _ := fullShare
  owed _ := 0

variable {n pf} (hg : Good n pf)
include hg

theorem before0 (c : Dev nD) (t : Fin grid0.N) (d) : (dat n pf hok V c).before 0 t d = pblk (V c main_arg0) (tT n t.val) :=
  ((dat n pf hok V c).before_in_eq_fetched 0 rfl (fun _ => rfl) (fun _ _ _ => rfl) (fun t => (blk0 hg hok _ t).symm) t d).trans (blk0 hg hok _ t)
theorem before1 (c : Dev nD) (t : Fin grid0.N) (d) : (dat n pf hok V c).before 1 t d = wblk (V c main_arg2) (tE n t.val) :=
  ((dat n pf hok V c).before_in_eq_fetched 1 rfl (fun _ => rfl) (fun _ _ _ => rfl) (fun t => (blk1 hg hok _ t).symm) t d).trans (blk1 hg hok _ t)
theorem before2 (c : Dev nD) (t : Fin grid0.N) (d) : (dat n pf hok V c).before 2 t d = bblk (V c main_v0) (tE n t.val) :=
  ((dat n pf hok V c).before_in_eq_fetched 2 rfl (fun _ => rfl) (fun _ _ _ => rfl) (fun t => (blk2 hg hok _ t).symm) t d).trans (blk2 hg hok _ t)
theorem before3 (c : Dev nD) (t : Fin grid0.N) (d) : (dat n pf hok V c).before 3 t d = dblk (V c main_arg4) (tE n t.val) :=
  ((dat n pf hok V c).before_in_eq_fetched 3 rfl (fun _ => rfl) (fun _ _ _ => rfl) (fun t => (blk3 hg hok _ t).symm) t d).trans (blk3 hg hok _ t)
theorem before4 (c : Dev nD) (t : Fin grid0.N) (d) : (dat n pf hok V c).before 4 t d = cblk (V c main_v1) (tE n t.val) :=
  ((dat n pf hok V c).before_in_eq_fetched 4 rfl (fun _ => rfl) (fun _ _ _ => rfl) (fun t => (blk4 hg hok _ t).symm) t d).trans (blk4 hg hok _ t)

theorem idle5 (t : Fin grid0.N) : (cfgA hok).idle 5 ((cfgA hok).grid.coords t) = decide (¬ t.val < Items.M n) :=
  (idle_iff hg _).trans (by rw [coord])

theorem before5 (c : Dev nD) (t : Fin grid0.N) (hf : ¬ Items.First n t.val) (d) :
    (dat n pf hok V c).before 5 t d = OUT n (V c main_arg0) (V c main_arg2) (V c main_v0) (V c main_arg4) (V c main_v1) (t.val - 1) := by
  have ht : t.val < 287 := t.isLt.trans_eq N_0
  refine ((dat n pf hok V c).before_out_traj 5 rfl (fun _ _ => rfl) ?_ t.val t rfl d).trans ?_
  · intro s hs hi _
    rw [idle5 hok hg] at hi
    exact OUT_past hg _ _ _ _ _ s.val (of_decide_eq_true hi)
  · rw [fresh5 hg hok t.val ht, if_neg (by simpa using hf)]
    rfl

end Cert.Proof.Experts
-- ==== Proof.Experts.Run.lean ====
/-
  The experts' pipeline point by point, and the whole call.
-/
module

public import proofs.«01_k».proof.Proof.Experts.Region

@[expose] public section

noncomputable section

namespace Cert.Proof.Experts

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Proof

variable {F : FTy → Type} [FloatOps F]

local notation "𝕄" => MT nD τ sig Unit (Elt F) ℕ UU ℕ

variable {n : ℕ → ℕ} {pf : pre0.Contents (Elt F)} (hok : ok0 pf)
  (V : (c : Dev nD) → (b : Ref sig .tc) → Buf (Elt F) ((c : Thread nD τ).loc b))

/-- Holding a whole buffer's contents is holding the buffer. -/
theorem own_pt (c : Dev nD) {sp : Space} {sh : Shape} {e : EltTy} (m : Memref sig .tc sp sh e) (h : m.IsWhole)
    (q : PosShare TreeShare) (X : sh.Idx → Elt F e) :
    (owns (c : Thread nD τ) m q X : sProp 𝕄) = pt c m q (m.view.rep X) := by
  rw [owns_eq_rep, h.set_eq_univ]

theorem of_eq {P Q : sProp 𝕄} (h : P = Q) : P ⊢ Q := h ▸ Entails.rfl

theorem bigSep_T {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- The tables, one by one. -/
theorem tables_eq (c : Dev nD) : (Pipeline.ΦT pre0 pf c : sProp 𝕄)
    = iprop(pt c (Memref.whole main_v47) fullShare.right (pf 0) ∗ pt c (Memref.whole main_v31) fullShare.right (pf 1)
      ∗ pt c (Memref.whole main_v53) fullShare.right (pf 2) ∗ pt c (Memref.whole main_v59) fullShare.right (pf 3)
      ∗ pt c (Memref.whole main_v62) fullShare.right (pf 4) ∗ pt c (Memref.whole main_v65) fullShare.right (pf 5)
      ∗ pt c (Memref.whole main_v58) fullShare.right (pf 6)) :=
  bigSep_T _

variable (hg : Good n pf)
include hg

/-- The weights a point computes with are its group's. -/
theorem g14_eq (c : Dev nD) (t : Fin grid0.N) (f14 : S1024x2048.Idx → Elt F .bf16)
    (h : t.val ≠ 0 → f14 = k0_pay1 (wblk (V c main_arg2) (tE n (t.val - 1)))) :
    g14 (pf 6) (grid0.coords t) (wblk (V c main_arg2) (tE n t.val)) f14 = k0_pay1 (wblk (V c main_arg2) (tE n t.val)) := by
  have hw : word (pf 6) (grid0.coords t) = (pf 6 : S287.Idx → BitVec 32) (ValueIdx.ix1 (grid0.coords t 0)) := rfl
  unfold g14
  rcases hg.new (grid0.coords t 0) with ⟨-, h'⟩ | ⟨h0, h'⟩
  · rw [if_pos (hw.trans h')]
  · rw [if_neg (by rw [hw, h']; decide)]
    rw [coord] at h0
    rw [h (fun e => h0 (Or.inl e))]
    have he : Items.ex n t.val = Items.ex n (t.val - 1) := by
      by_contra e; exact h0 (Or.inr e)
    unfold tE; simp only [he]

theorem g15_eq (c : Dev nD) (t : Fin grid0.N) (f15 : S1024x1024.Idx → Elt F .bf16)
    (h : t.val ≠ 0 → f15 = k0_pay2 (dblk (V c main_arg4) (tE n (t.val - 1)))) :
    g15 (pf 6) (grid0.coords t) (dblk (V c main_arg4) (tE n t.val)) f15 = k0_pay2 (dblk (V c main_arg4) (tE n t.val)) := by
  have hw : word (pf 6) (grid0.coords t) = (pf 6 : S287.Idx → BitVec 32) (ValueIdx.ix1 (grid0.coords t 0)) := rfl
  unfold g15
  rcases hg.new (grid0.coords t 0) with ⟨-, h'⟩ | ⟨h0, h'⟩
  · rw [if_pos (hw.trans h')]
  · rw [if_neg (by rw [hw, h']; decide)]
    rw [coord] at h0
    rw [h (fun e => h0 (Or.inl e))]
    have he : Items.ex n t.val = Items.ex n (t.val - 1) := by
      by_contra e; exact h0 (Or.inr e)
    unfold tE; simp only [he]

/-- What a point leaves of the result's tile. -/
theorem g13_eq (c : Dev nD) (t : Fin grid0.N) (d) :
    g13 (pf 0) (pf 2) (pf 3) (pf 4) (pf 5) (grid0.coords t)
        (YY (V c main_arg0) (V c main_arg2) (V c main_v0) (V c main_arg4) (V c main_v1) (tT n t.val) (tE n t.val))
        ((dat n pf hok V c).before 5 t d)
      = OUT n (V c main_arg0) (V c main_arg2) (V c main_v0) (V c main_arg4) (V c main_v1) t.val := by
  have ht : t.val < 287 := t.isLt.trans_eq N_0
  by_cases hv : t.val < Items.M n
  · refine step_out hg _ _ _ _ _ ⟨t.val, ht⟩ hv _ (fun hf => before5 hok V hg c t hf d) _ (Fin.ext (coord t))
  · have hf : ¬ Items.First n t.val := fun h => hv (Items.first_valid hg.total h)
    have w3 : ¬ word (pf 3) (grid0.coords t) = 1#32 := by
      unfold word
      rcases hg.valid (grid0.coords t 0) with ⟨h, -⟩ | ⟨-, h⟩
      · rw [coord] at h; exact absurd h hv
      · rw [h]; decide
    unfold g13
    exact (if_neg w3).trans ((before5 hok V hg c t hf d).trans (OUT_past hg _ _ _ _ _ t.val hv).symm)

theorem in0 (c : Dev nD) (t : Fin grid0.N) (d) :
    (owns (c : Thread nD τ) (stage0_0 ((cfgA hok).slots t 0)) fullShare ((dat n pf hok V c).before 0 t d) : sProp 𝕄)
      ⊢ pt c (stage0_0 ((cfgA hok).slots t 0)) fullShare ((stage0_0 ((cfgA hok).slots t 0)).view.rep (pblk (V c main_arg0) (tT n t.val))) :=
  of_eq ((congrArg _ (before0 hok V hg c t d)).trans (own_pt c _ (stage_whole0 0 ((cfgA hok).slots t 0)) fullShare (pblk (V c main_arg0) (tT n t.val))))

theorem back0 (c : Dev nD) (t : Fin grid0.N) :
    (pt c (stage0_0 ((cfgA hok).slots t 0)) fullShare ((stage0_0 ((cfgA hok).slots t 0)).view.rep (pblk (V c main_arg0) (tT n t.val))) : sProp 𝕄)
      ⊢ owns (c : Thread nD τ) (stage0_0 ((cfgA hok).slots t 0)) fullShare ((dat n pf hok V c).after 0 t) :=
  of_eq (own_pt c _ (stage_whole0 0 ((cfgA hok).slots t 0)) fullShare (pblk (V c main_arg0) (tT n t.val))).symm

theorem in1 (c : Dev nD) (t : Fin grid0.N) (d) :
    (owns (c : Thread nD τ) (stage0_1 ((cfgA hok).slots t 1)) fullShare ((dat n pf hok V c).before 1 t d) : sProp 𝕄)
      ⊢ pt c (stage0_1 ((cfgA hok).slots t 1)) fullShare ((stage0_1 ((cfgA hok).slots t 1)).view.rep (wblk (V c main_arg2) (tE n t.val))) :=
  of_eq ((congrArg _ (before1 hok V hg c t d)).trans (own_pt c _ (stage_whole0 1 ((cfgA hok).slots t 1)) fullShare (wblk (V c main_arg2) (tE n t.val))))

theorem back1 (c : Dev nD) (t : Fin grid0.N) :
    (pt c (stage0_1 ((cfgA hok).slots t 1)) fullShare ((stage0_1 ((cfgA hok).slots t 1)).view.rep (wblk (V c main_arg2) (tE n t.val))) : sProp 𝕄)
      ⊢ owns (c : Thread nD τ) (stage0_1 ((cfgA hok).slots t 1)) fullShare ((dat n pf hok V c).after 1 t) :=
  of_eq (own_pt c _ (stage_whole0 1 ((cfgA hok).slots t 1)) fullShare (wblk (V c main_arg2) (tE n t.val))).symm

theorem in2 (c : Dev nD) (t : Fin grid0.N) (d) :
    (owns (c : Thread nD τ) (stage0_2 ((cfgA hok).slots t 2)) fullShare ((dat n pf hok V c).before 2 t d) : sProp 𝕄)
      ⊢ pt c (stage0_2 ((cfgA hok).slots t 2)) fullShare ((stage0_2 ((cfgA hok).slots t 2)).view.rep (bblk (V c main_v0) (tE n t.val))) :=
  of_eq ((congrArg _ (before2 hok V hg c t d)).trans (own_pt c _ (stage_whole0 2 ((cfgA hok).slots t 2)) fullShare (bblk (V c main_v0) (tE n t.val))))

theorem back2 (c : Dev nD) (t : Fin grid0.N) :
    (pt c (stage0_2 ((cfgA hok).slots t 2)) fullShare ((stage0_2 ((cfgA hok).slots t 2)).view.rep (bblk (V c main_v0) (tE n t.val))) : sProp 𝕄)
      ⊢ owns (c : Thread nD τ) (stage0_2 ((cfgA hok).slots t 2)) fullShare ((dat n pf hok V c).after 2 t) :=
  of_eq (own_pt c _ (stage_whole0 2 ((cfgA hok).slots t 2)) fullShare (bblk (V c main_v0) (tE n t.val))).symm

theorem in3 (c : Dev nD) (t : Fin grid0.N) (d) :
    (owns (c : Thread nD τ) (stage0_3 ((cfgA hok).slots t 3)) fullShare ((dat n pf hok V c).before 3 t d) : sProp 𝕄)
      ⊢ pt c (stage0_3 ((cfgA hok).slots t 3)) fullShare ((stage0_3 ((cfgA hok).slots t 3)).view.rep (dblk (V c main_arg4) (tE n t.val))) :=
  of_eq ((congrArg _ (before3 hok V hg c t d)).trans (own_pt c _ (stage_whole0 3 ((cfgA hok).slots t 3)) fullShare (dblk (V c main_arg4) (tE n t.val))))

theorem back3 (c : Dev nD) (t : Fin grid0.N) :
    (pt c (stage0_3 ((cfgA hok).slots t 3)) fullShare ((stage0_3 ((cfgA hok).slots t 3)).view.rep (dblk (V c main_arg4) (tE n t.val))) : sProp 𝕄)
      ⊢ owns (c : Thread nD τ) (stage0_3 ((cfgA hok).slots t 3)) fullShare ((dat n pf hok V c).after 3 t) :=
  of_eq (own_pt c _ (stage_whole0 3 ((cfgA hok).slots t 3)) fullShare (dblk (V c main_arg4) (tE n t.val))).symm

theorem in4 (c : Dev nD) (t : Fin grid0.N) (d) :
    (owns (c : Thread nD τ) (stage0_4 ((cfgA hok).slots t 4)) fullShare ((dat n pf hok V c).before 4 t d) : sProp 𝕄)
      ⊢ pt c (stage0_4 ((cfgA hok).slots t 4)) fullShare ((stage0_4 ((cfgA hok).slots t 4)).view.rep (cblk (V c main_v1) (tE n t.val))) :=
  of_eq ((congrArg _ (before4 hok V hg c t d)).trans (own_pt c _ (stage_whole0 4 ((cfgA hok).slots t 4)) fullShare (cblk (V c main_v1) (tE n t.val))))

theorem back4 (c : Dev nD) (t : Fin grid0.N) :
    (pt c (stage0_4 ((cfgA hok).slots t 4)) fullShare ((stage0_4 ((cfgA hok).slots t 4)).view.rep (cblk (V c main_v1) (tE n t.val))) : sProp 𝕄)
      ⊢ owns (c : Thread nD τ) (stage0_4 ((cfgA hok).slots t 4)) fullShare ((dat n pf hok V c).after 4 t) :=
  of_eq (own_pt c _ (stage_whole0 4 ((cfgA hok).slots t 4)) fullShare (cblk (V c main_v1) (tE n t.val))).symm

theorem in5 (c : Dev nD) (t : Fin grid0.N) (d) :
    (owns (c : Thread nD τ) (stage0_5 ((cfgA hok).slots t 5)) fullShare ((dat n pf hok V c).before 5 t d) : sProp 𝕄)
      ⊢ pt c (stage0_5 ((cfgA hok).slots t 5)) fullShare ((stage0_5 ((cfgA hok).slots t 5)).view.rep ((dat n pf hok V c).before 5 t d)) :=
  of_eq (own_pt c _ (stage_whole0 5 ((cfgA hok).slots t 5)) fullShare ((dat n pf hok V c).before 5 t d))

theorem back5 (c : Dev nD) (t : Fin grid0.N) :
    (pt c (stage0_5 ((cfgA hok).slots t 5)) fullShare ((stage0_5 ((cfgA hok).slots t 5)).view.rep (OUT n (V c main_arg0) (V c main_arg2) (V c main_v0) (V c main_arg4) (V c main_v1) t.val)) : sProp 𝕄)
      ⊢ owns (c : Thread nD τ) (stage0_5 ((cfgA hok).slots t 5)) fullShare ((dat n pf hok V c).after 5 t) :=
  of_eq (own_pt c _ (stage_whole0 5 ((cfgA hok).slots t 5)) fullShare (OUT n (V c main_arg0) (V c main_arg2) (V c main_v0) (V c main_arg4) (V c main_v1) t.val)).symm

/-- At a point without work the tile stays as it was. -/
theorem rest5 (c : Dev nD) (t : Fin grid0.N) (hv : ¬ t.val < Items.M n) (d) :
    (pt c (stage0_5 ((cfgA hok).slots t 5)) fullShare ((stage0_5 ((cfgA hok).slots t 5)).view.rep (OUT n (V c main_arg0) (V c main_arg2) (V c main_v0) (V c main_arg4) (V c main_v1) t.val)) : sProp 𝕄)
      ⊢ owns (c : Thread nD τ) (stage0_5 ((cfgA hok).slots t 5)) fullShare ((dat n pf hok V c).before 5 t d) :=
  of_eq (((congrArg _ ((before5 hok V hg c t (fun h => hv (Items.first_valid hg.total h)) d).trans (OUT_past hg _ _ _ _ _ t.val hv).symm)).trans
    (own_pt c _ (stage_whole0 5 ((cfgA hok).slots t 5)) fullShare (OUT n (V c main_arg0) (V c main_arg2) (V c main_v0) (V c main_arg4) (V c main_v1) t.val))).symm)

/-- One point: from what the point before left to what this one leaves. -/
theorem point_run (c : Dev nD) (t : Fin grid0.N) (d) (M8 : Memref sig .tc .vmem S512x512 .i32) (h8 : M8.IsWhole)
    (M9 : Memref sig .tc .vmem S1x1024x2048 .f32) (h9 : M9.IsWhole) (M10 : Memref sig .tc .vmem S1x1x2048 .f32) (h10 : M10.IsWhole)
    (M11 : Memref sig .tc .vmem S1x1024x1024 .f32) (h11 : M11.IsWhole) (M12 : Memref sig .tc .vmem S1x1x1024 .f32) (h12 : M12.IsWhole)
    (M13 : Memref sig .tc .vmem S512x1024 .f32) (h13 : M13.IsWhole) (Q : PUnit → sProp 𝕄) :
    iprop((Scr n V c t.val ∗ (∃ r, prngReg c r) ∗ Pipeline.ΦT pre0 pf c)
        ∗ pt c M8 fullShare (M8.view.rep (pblk (V c main_arg0) (tT n t.val)))
        ∗ pt c M9 fullShare (M9.view.rep (wblk (V c main_arg2) (tE n t.val)))
        ∗ pt c M10 fullShare (M10.view.rep (bblk (V c main_v0) (tE n t.val)))
        ∗ pt c M11 fullShare (M11.view.rep (dblk (V c main_arg4) (tE n t.val)))
        ∗ pt c M12 fullShare (M12.view.rep (cblk (V c main_v1) (tE n t.val)))
        ∗ pt c M13 fullShare (M13.view.rep ((dat n pf hok V c).before 5 t d))
        ∗ (((Scr n V c (t.val + 1) ∗ (∃ r, prngReg c r) ∗ Pipeline.ΦT pre0 pf c)
            ∗ pt c M8 fullShare (M8.view.rep (pblk (V c main_arg0) (tT n t.val)))
            ∗ pt c M9 fullShare (M9.view.rep (wblk (V c main_arg2) (tE n t.val)))
            ∗ pt c M10 fullShare (M10.view.rep (bblk (V c main_v0) (tE n t.val)))
            ∗ pt c M11 fullShare (M11.view.rep (dblk (V c main_arg4) (tE n t.val)))
            ∗ pt c M12 fullShare (M12.view.rep (cblk (V c main_v1) (tE n t.val)))
            ∗ pt c M13 fullShare (M13.view.rep
                (OUT n (V c main_arg0) (V c main_arg2) (V c main_v0) (V c main_arg4) (V c main_v1) t.val))) -∗ Q ⟨⟩))
      ⊢ wp frame (wpE (defs₀ (F := F)) Variants.none c none) Set.univ
        (cc0_experts (grid0.coords t) (Memref.whole main_v47) (Memref.isWhole_whole _) (Memref.whole main_v31) (Memref.isWhole_whole _) (Memref.whole main_v53) (Memref.isWhole_whole _) (Memref.whole main_v59) (Memref.isWhole_whole _) (Memref.whole main_v62) (Memref.isWhole_whole _) (Memref.whole main_v65) (Memref.isWhole_whole _) (Memref.whole main_v58) (Memref.isWhole_whole _)
          M8 h8 M9 h9 M10 h10 M11 h11 M12 h12 M13 h13 (Memref.whole cc0_scratch0) (Memref.isWhole_whole _) (Memref.whole cc0_scratch1) (Memref.isWhole_whole _)) Q := by
  rw [tables_eq]
  unfold Scr
  iintro ⟨⟨⟨%f14, %f15, %hs, H14, H15⟩, Hp, ⟨T0, T1, T2, T3, T4, T5, T6⟩⟩, R0, R1, R2, R3, R4, R5, Hk⟩
  have hb := body_run c (grid0.coords t) M8 h8 M9 h9
    M10 h10 M11 h11 M12 h12
    M13 h13 fullShare.right (pf 0) (pf 2) (pf 3) (pf 4) (pf 5) (pf 6)
    (pblk (V c main_arg0) (tT n t.val)) (wblk (V c main_arg2) (tE n t.val)) (bblk (V c main_v0) (tE n t.val))
    (dblk (V c main_arg4) (tE n t.val)) (cblk (V c main_v1) (tE n t.val)) ((dat n pf hok V c).before 5 t d) f14 f15 Set.univ Q
  rw [g14_eq V hg c t f14 (fun h => (hs h).1), g15_eq V hg c t f15 (fun h => (hs h).2)] at hb
  rw [show k0_pay6 (pblk (V c main_arg0) (tT n t.val)) (k0_pay1 (wblk (V c main_arg2) (tE n t.val))) (bblk (V c main_v0) (tE n t.val)) (k0_pay2 (dblk (V c main_arg4) (tE n t.val))) (cblk (V c main_v1) (tE n t.val))
    = YY (V c main_arg0) (V c main_arg2) (V c main_v0) (V c main_arg4) (V c main_v1) (tT n t.val) (tE n t.val) from rfl] at hb
  rw [g13_eq hok V hg c t d] at hb
  iapply hb
  isplitl [T0]; · iexact T0
  isplitl [T2]; · iexact T2
  isplitl [T3]; · iexact T3
  isplitl [T4]; · iexact T4
  isplitl [T5]; · iexact T5
  isplitl [T6]; · iexact T6
  isplitl [R0]; · iexact R0
  isplitl [R1]; · iexact R1
  isplitl [R2]; · iexact R2
  isplitl [R3]; · iexact R3
  isplitl [R4]; · iexact R4
  isplitl [R5]; · iexact R5
  isplitl [H14]; · iexact H14
  isplitl [H15]; · iexact H15
  iintro ⟨T0, T2, T3, T4, T5, T6, R0, R1, R2, R3, R4, R5, H14, H15⟩
  iapply Hk
  isplitl [H14 H15 Hp T0 T1 T2 T3 T4 T5 T6]
  · isplitl [H14 H15]
    · iexists _; iexists _
      isplitr; swap
      · isplitl [H14]; · iexact H14
        iexact H15
      · ipureintro; exact fun _ => ⟨rfl, rfl⟩
    isplitl [Hp]; · iexact Hp
    isplitl [T0]; · iexact T0
    isplitl [T1]; · iexact T1
    isplitl [T2]; · iexact T2
    isplitl [T3]; · iexact T3
    isplitl [T4]; · iexact T4
    isplitl [T5]; · iexact T5
    iexact T6
  isplitl [R0]; · iexact R0
  isplitl [R1]; · iexact R1
  isplitl [R2]; · iexact R2
  isplitl [R3]; · iexact R3
  isplitl [R4]; · iexact R4
  iexact R5

theorem body_obligation (c : Dev nD) : BodyObligation (dat n pf hok V c) (defs₀ (F := F)) Variants.none () Set.univ := fun t => by
  have ht : t.val < 287 := t.isLt.trans_eq N_0
  have hidle := idle5 hok hg t
  have i0 : (cfgA hok).idle (0 : Fin 6) ((cfgA hok).grid.coords t) = false := rfl
  have i1 : (cfgA hok).idle (1 : Fin 6) ((cfgA hok).grid.coords t) = false := rfl
  have i2 : (cfgA hok).idle (2 : Fin 6) ((cfgA hok).grid.coords t) = false := rfl
  have i3 : (cfgA hok).idle (3 : Fin 6) ((cfgA hok).grid.coords t) = false := rfl
  have i4 : (cfgA hok).idle (4 : Fin 6) ((cfgA hok).grid.coords t) = false := rfl
  rw [bigSep_W0, bigSep_W0]
  rw [show (dat n pf hok V c).Φ t.castSucc = iprop(Scr n V c t.val ∗ (∃ r, prngReg c r) ∗ Pipeline.ΦT pre0 pf c) from rfl,
    show (dat n pf hok V c).Φ t.succ = iprop(Scr n V c (t.val + 1) ∗ (∃ r, prngReg c r) ∗ Pipeline.ΦT pre0 pf c) from rfl,
    show (dat n pf hok V c).owesAt () t.succ = (dat n pf hok V c).owesAt () t.castSucc from rfl]
  by_cases hv : t.val < Items.M n
  · have i5 : (cfgA hok).idle (5 : Fin 6) ((cfgA hok).grid.coords t) = false := hidle.trans (decide_eq_false (not_not.mpr hv))
    rewrite [i5]
    dsimp only
    iintro ⟨HΦ, Howes, ⟨%d0, H0⟩, ⟨%d1, H1⟩, ⟨%d2, H2⟩, ⟨%d3, H3⟩, ⟨%d4, H4⟩, ⟨%d5, H5⟩⟩
    have e0 := in0 hok V hg c t d0
    have b0 := back0 hok V hg c t
    ihave H0 := e0 $$ H0
    have e1 := in1 hok V hg c t d1
    have b1 := back1 hok V hg c t
    ihave H1 := e1 $$ H1
    have e2 := in2 hok V hg c t d2
    have b2 := back2 hok V hg c t
    ihave H2 := e2 $$ H2
    have e3 := in3 hok V hg c t d3
    have b3 := back3 hok V hg c t
    ihave H3 := e3 $$ H3
    have e4 := in4 hok V hg c t d4
    have b4 := back4 hok V hg c t
    ihave H4 := e4 $$ H4
    have e5 := in5 hok V hg c t d5
    have b5 := back5 hok V hg c t
    ihave H5 := e5 $$ H5
    iapply (point_run hok V hg c t d5 _ (stage_whole0 0 ((cfgA hok).slots t 0)) _ (stage_whole0 1 ((cfgA hok).slots t 1))
      _ (stage_whole0 2 ((cfgA hok).slots t 2)) _ (stage_whole0 3 ((cfgA hok).slots t 3)) _ (stage_whole0 4 ((cfgA hok).slots t 4))
      _ (stage_whole0 5 ((cfgA hok).slots t 5)) _)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    iintro ⟨HΦ, H0, H1, H2, H3, H4, H5⟩
    isplitl [HΦ]; · iexact HΦ
    isplitl [Howes]; · iexact Howes
    isplitl [H0]; · iapply b0; iexact H0
    isplitl [H1]; · iapply b1; iexact H1
    isplitl [H2]; · iapply b2; iexact H2
    isplitl [H3]; · iapply b3; iexact H3
    isplitl [H4]; · iapply b4; iexact H4
    iapply b5; iexact H5
  · have i5 : (cfgA hok).idle (5 : Fin 6) ((cfgA hok).grid.coords t) = true := hidle.trans (decide_eq_true hv)
    rewrite [i5]
    dsimp only
    split
    · iintro ⟨HΦ, Howes, ⟨%d0, H0⟩, ⟨%d1, H1⟩, ⟨%d2, H2⟩, ⟨%d3, H3⟩, ⟨%d4, H4⟩, ⟨%d5, H5⟩⟩
      have e0 := in0 hok V hg c t d0
      have b0 := back0 hok V hg c t
      ihave H0 := e0 $$ H0
      have e1 := in1 hok V hg c t d1
      have b1 := back1 hok V hg c t
      ihave H1 := e1 $$ H1
      have e2 := in2 hok V hg c t d2
      have b2 := back2 hok V hg c t
      ihave H2 := e2 $$ H2
      have e3 := in3 hok V hg c t d3
      have b3 := back3 hok V hg c t
      ihave H3 := e3 $$ H3
      have e4 := in4 hok V hg c t d4
      have b4 := back4 hok V hg c t
      ihave H4 := e4 $$ H4
      have e5 := in5 hok V hg c t d5
      have b5 := rest5 hok V hg c t hv d5
      ihave H5 := e5 $$ H5
      iapply (point_run hok V hg c t d5 _ (stage_whole0 0 ((cfgA hok).slots t 0)) _ (stage_whole0 1 ((cfgA hok).slots t 1))
        _ (stage_whole0 2 ((cfgA hok).slots t 2)) _ (stage_whole0 3 ((cfgA hok).slots t 3)) _ (stage_whole0 4 ((cfgA hok).slots t 4))
        _ (stage_whole0 5 ((cfgA hok).slots t 5)) _)
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      iintro ⟨HΦ, H0, H1, H2, H3, H4, H5⟩
      isplitl [HΦ]; · iexact HΦ
      isplitl [Howes]; · iexact Howes
      isplitl [H0]; · iapply b0; iexact H0
      isplitl [H1]; · iapply b1; iexact H1
      isplitl [H2]; · iapply b2; iexact H2
      isplitl [H3]; · iapply b3; iexact H3
      isplitl [H4]; · iapply b4; iexact H4
      iexists d5
      iapply b5; iexact H5
    · iintro ⟨HΦ, Howes, ⟨%d0, H0⟩, ⟨%d1, H1⟩, ⟨%d2, H2⟩, ⟨%d3, H3⟩, ⟨%d4, H4⟩, ⟨%d5, H5⟩⟩
      have e0 := in0 hok V hg c t d0
      have b0 := back0 hok V hg c t
      ihave H0 := e0 $$ H0
      have e1 := in1 hok V hg c t d1
      have b1 := back1 hok V hg c t
      ihave H1 := e1 $$ H1
      have e2 := in2 hok V hg c t d2
      have b2 := back2 hok V hg c t
      ihave H2 := e2 $$ H2
      have e3 := in3 hok V hg c t d3
      have b3 := back3 hok V hg c t
      ihave H3 := e3 $$ H3
      have e4 := in4 hok V hg c t d4
      have b4 := back4 hok V hg c t
      ihave H4 := e4 $$ H4
      have e5 := in5 hok V hg c t d5
      have b5 := back5 hok V hg c t
      ihave H5 := e5 $$ H5
      iapply (point_run hok V hg c t d5 _ (stage_whole0 0 ((cfgA hok).slots t 0)) _ (stage_whole0 1 ((cfgA hok).slots t 1))
        _ (stage_whole0 2 ((cfgA hok).slots t 2)) _ (stage_whole0 3 ((cfgA hok).slots t 3)) _ (stage_whole0 4 ((cfgA hok).slots t 4))
        _ (stage_whole0 5 ((cfgA hok).slots t 5)) _)
      isplitl [HΦ]; · iexact HΦ
      isplitl [H0]; · iexact H0
      isplitl [H1]; · iexact H1
      isplitl [H2]; · iexact H2
      isplitl [H3]; · iexact H3
      isplitl [H4]; · iexact H4
      isplitl [H5]; · iexact H5
      iintro ⟨HΦ, H0, H1, H2, H3, H4, H5⟩
      isplitl [HΦ]; · iexact HΦ
      isplitl [Howes]; · iexact Howes
      isplitl [H0]; · iapply b0; iexact H0
      isplitl [H1]; · iapply b1; iexact H1
      isplitl [H2]; · iapply b2; iexact H2
      isplitl [H3]; · iapply b3; iexact H3
      isplitl [H4]; · iapply b4; iexact H4
      iapply b5; iexact H5

end Cert.Proof.Experts
-- ==== Proof.Experts.Whole.lean ====
/-
  The experts' call as a whole: what the result's array ends at, and the run of
  the program from any memory whose tables the host operations fill as they should.
-/
module

public import proofs.«01_k».proof.Proof.Experts.Run

@[expose] public section

noncomputable section

namespace Cert.Proof.Experts

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Proof

variable {F : FTy → Type} [FloatOps F]

local notation "𝕄" => MT nD τ sig Unit (Elt F) ℕ UU ℕ

section
variable {n : ℕ → ℕ} {pf : pre0.Contents (Elt F)} (hok : ok0 pf)
  (V : (c : Dev nD) → (b : Ref sig .tc) → Buf (Elt F) ((c : Thread nD τ).loc b)) (hg : Good n pf)
include hg

/-- A tile written back is the result's. -/
theorem out_flush (c : Dev nD) (t : Fin grid0.N) (hf : ((cfgA hok).win 5).flush t = true) :
    OUT n (V c main_arg0) (V c main_arg2) (V c main_v0) (V c main_arg4) (V c main_v1) t.val = xblk (RES n V c) (tT n t.val) := by
  have ht : t.val < 287 := t.isLt.trans_eq N_0
  rw [flush5 hg hok t] at hf
  have hh := Items.flush_hi hg.total ht (of_decide_eq_true hf)
  have hT := tT_val hg t.val
  funext j
  have hj : (j 0).val < 512 := (j 0).isLt
  unfold OUT
  exact if_pos (by rw [hT]; omega)

/-- Where the result's array ends. -/
theorem result (c : Dev nD) : (dat n pf hok V c).arrAt 5 (cfgA hok).N = RES n V c := by
  refine (dat n pf hok V c).arrAt_eq_of_cover 5 (RES n V c) (fun t hf => ?_) (fun (i : S131072x1024.Idx) => ?_)
  · exact (out_flush hok V hg c t hf).trans (blk5 hg hok (RES n V c) t).symm
  · have h0 : (i 0).val < 131072 := (i 0).isLt
    have h1 : (i 1).val < 1024 := (i 1).isLt
    obtain ⟨t, ht, hT, hl⟩ := Items.cover hg.total (T := (i 0).val / 512) (by omega)
    refine ⟨⟨t, ht.trans_eq N_0.symm⟩, (flush5 hg hok ⟨t, ht.trans_eq N_0.symm⟩).trans (decide_eq_true hl), ?_⟩
    have hi := index5 hg hok ⟨t, ht.trans_eq N_0.symm⟩
    rw [show Items.tile n (⟨t, ht.trans_eq N_0.symm⟩ : Fin grid0.N).val = (i 0).val / 512 from hT] at hi
    have he : i = (((cfgA hok).win 5).blk ⟨t, ht.trans_eq N_0.symm⟩).view.emb
        (ix2 ⟨(i 0).val % 512, Nat.mod_lt _ (by decide)⟩ ⟨(i 1).val, h1⟩ : S512x1024.Idx) := by
      funext a
      refine Fin.ext ?_
      refine Eq.trans ?_ (Pipeline.Window.rect_emb_val ((cfgA hok).win 5) ⟨t, ht.trans_eq N_0.symm⟩
        (ix2 ⟨(i 0).val % 512, Nat.mod_lt _ (by decide)⟩ ⟨(i 1).val, h1⟩ : S512x1024.Idx) a).symm
      rw [hi]
      match a with
      | ⟨0, _⟩ => show (i 0).val = (i 0).val / 512 * 512 + (i 0).val % 512; omega
      | ⟨1, _⟩ => show (i 1).val = 0 * 1024 + (i 1).val; omega
    rw [he]
    exact View.emb_mem_set _ _

end

/-! ## The run -/

variable (m : (ℓ : Loc nD τ sig) → Buf (Elt F) ℓ)

/-- The host operations before the call. -/
abbrev opss : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18, hostOps0_19]

/-- The buffers as the call finds them. -/
def VV (c : Dev nD) (b : Ref sig .tc) : Buf (Elt F) ((c : Thread nD τ).loc b) :=
  StableHlo.after (opss (F := F)).flatten (fun b => m (c, b)) b

/-- The tables as the call finds them. -/
def tbls : pre0.Contents (Elt F) := fun k => VV m 0 (pre0.ref k)

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
   hostOps0_8_sub, hostOps0_9_sub, hostOps0_10_sub, hostOps0_11_sub, hostOps0_12_sub, hostOps0_13_sub, hostOps0_14_sub,
   hostOps0_15_sub, hostOps0_16_sub, hostOps0_17_sub, hostOps0_18_sub, hostOps0_19_sub⟩

theorem opss_fresh : (opss (F := F)).Forall fun ops => ops.Forall fun op => op.fresh = ∅ := by
  simp only [List.Forall]
  repeat' apply And.intro
  all_goals rfl

theorem scratch_in (c : Dev nD) {sp : Space} {sh : Shape} {e : EltTy} (M : Memref sig .tc sp sh e) (h : M.IsWhole) (f : Buf (Elt F) (M.view.loc (c : Thread nD τ))) :
    (pt c M fullShare f : sProp 𝕄) ⊢ pt c M fullShare (M.view.rep (M.view.read (Elt F) f)) :=
  pt_rep c M h f _ rfl

theorem enter (n : ℕ → ℕ) (pf : pre0.Contents (Elt F)) (hok : ok0 pf) (V : (c : Dev nD) → (b : Ref sig .tc) → Buf (Elt F) ((c : Thread nD τ).loc b)) (c : Dev nD) :
    iprop(Pipeline.ΦA spec0 c ∗ Pipeline.ΦT pre0 pf c) ⊢ (dat n pf hok V c).Φ 0 := by
  show iprop(Pipeline.ΦA spec0 c ∗ Pipeline.ΦT pre0 pf c) ⊢ iprop(Scr n V c 0 ∗ (∃ r, prngReg c r) ∗ Pipeline.ΦT pre0 pf c)
  unfold Pipeline.ΦA Scr
  rw [scopedRest0_eq]
  iintro ⟨⟨⟨⟨%f, H14⟩, ⟨%g, H15⟩⟩, Hp⟩, HT⟩
  ihave H14 := (scratch_in c (Memref.whole cc0_scratch0) (Memref.isWhole_whole _) f) $$ H14
  ihave H15 := (scratch_in c (Memref.whole cc0_scratch1) (Memref.isWhole_whole _) g) $$ H15
  isplitl [H14 H15]
  · iexists _; iexists _
    isplitr; swap
    · isplitl [H14]; · iexact H14
      iexact H15
    · ipureintro; exact fun h => absurd rfl h
  isplitl [Hp]; · iexact Hp
  iexact HT

theorem leave (n : ℕ → ℕ) (pf : pre0.Contents (Elt F)) (hok : ok0 pf) (V : (c : Dev nD) → (b : Ref sig .tc) → Buf (Elt F) ((c : Thread nD τ).loc b)) (c : Dev nD) :
    (dat n pf hok V c).Φ (Fin.last (cfgA hok).N) ⊢ Pipeline.ΦA spec0 c := by
  show iprop(Scr n V c (cfgA hok).N ∗ (∃ r, prngReg c r) ∗ Pipeline.ΦT pre0 pf c) ⊢ Pipeline.ΦA spec0 c
  unfold Pipeline.ΦA Scr
  rw [scopedRest0_eq]
  iintro ⟨⟨%f, %g, %h, H14, H15⟩, Hp, HT⟩
  isplitl [H14 H15]
  · isplitl [H14]
    · iexists _; iexact H14
    iexists _; iexact H15
  iexact Hp

theorem hmain : Pipeline.HMainP (Ix := Unit) (Name := ℕ) (U := UR sig nD τ) (Lvl := ℕ) (pcfgs (F := F)) 0 defs₀ Variants.none m (main (F := F)) (VV m) :=
  Pipeline.hmainP_prefixes pcfgs 0 defs₀ Variants.none m main opss opss_sub opss_fresh main_chain

theorem share_full (n : ℕ → ℕ) (pf : pre0.Contents (Elt F)) (hok : ok0 pf) (V : (c : Dev nD) → (b : Ref sig .tc) → Buf (Elt F) ((c : Thread nD τ).loc b)) (c : Dev nD) (w : Fin 6) :
    (dat n pf hok V c).share w = fullShare := by
  fin_cases w <;> rfl

/-- The program's run, as the pipeline library states it. -/
theorem run_frame (n : ℕ → ℕ) (hg : Good n (tbls m)) (hok : ok0 (tbls m)) (ρ : Dev nD → PrngReg) :
    θ_run (defs (F := F)) (onTc (τ := τ) (main (F := F))) ⟨m, fun _ => 0, ρ⟩ fun r =>
      Pipeline.FramePost (Pipeline.pin (pcfgs (F := F)) (fun _ => ⟨tbls m, hok⟩)) (fun _ c => dat n (tbls m) hok (VV m) c) (0 : Fin 1) (VV m) r ∧ r.2.sem = fun _ => 0 :=
  Pipeline.θ_run_frameP_track pcfgs (fun _ => ⟨tbls m, hok⟩) (fun _ c => dat n (tbls m) hok (VV m) c) (0 : Fin 1) launch0 defs₀ Variants.none m ρ main
    (hbody := fun c => (body_obligation hok (VV m) hg c).loose) (hshare := share_full n (tbls m) hok (VV m))
    (howed := fun _ _ => rfl) (V := VV m) (hmain := hmain m)
    (hA := fun _ _ => rfl) (hpf := fun c k => by rw [Subsingleton.elim c 0]; rfl)
    (hin := enter n (tbls m) hok (VV m)) (hout := leave n (tbls m) hok (VV m))
    (Q' := _) (hQ' := fun r h => h)

/-- The program's run: the result, and the arguments as the call found them. -/
theorem program (n : ℕ → ℕ) (hg : Good n (tbls m)) (ρ : Dev nD → PrngReg) :
    θ_run (defs (F := F)) (onTc (τ := τ) (main (F := F))) ⟨m, fun _ => 0, ρ⟩ fun r =>
      (∀ c : Dev nD, r.2.mem ((c : Thread nD τ).loc main_v66) = RES n (VV m) c
        ∧ r.2.mem ((c : Thread nD τ).loc main_arg0) = VV m c main_arg0
        ∧ r.2.mem ((c : Thread nD τ).loc main_arg1) = VV m c main_arg1
        ∧ r.2.mem ((c : Thread nD τ).loc main_arg2) = VV m c main_arg2
        ∧ r.2.mem ((c : Thread nD τ).loc main_arg3) = VV m c main_arg3
        ∧ r.2.mem ((c : Thread nD τ).loc main_arg4) = VV m c main_arg4
        ∧ r.2.mem ((c : Thread nD τ).loc main_arg5) = VV m c main_arg5)
      ∧ r.2.sem = fun _ => 0 := by
  have hok : ok0 (tbls m) := good_ok hg
  refine (θ_run _ _ _).mono (fun r h => ⟨fun c => ?_, h.2⟩) (run_frame m n hg hok ρ)
  obtain ⟨ha, hr⟩ := h.1 c
  refine ⟨(ha (5 : Fin 6)).trans (result hok (VV m) hg c), (ha (0 : Fin 6)).trans ((dat n (tbls m) hok (VV m) c).arrAt_in 0 rfl _), hr main_arg1 ?_,
    (ha (1 : Fin 6)).trans ((dat n (tbls m) hok (VV m) c).arrAt_in 1 rfl _), hr main_arg3 ?_,
    (ha (3 : Fin 6)).trans ((dat n (tbls m) hok (VV m) c).arrAt_in 3 rfl _), hr main_arg5 ?_⟩
  · exact Pipeline.mem_restRefs_of (win := spec0) main_arg1 rfl (by decide)
  · exact Pipeline.mem_restRefs_of (win := spec0) main_arg3 rfl (by decide)
  · exact Pipeline.mem_restRefs_of (win := spec0) main_arg5 rfl (by decide)

end Cert.Proof.Experts
-- ==== Proof.Experts.Words.lean ====
/-
  The integer words the host makes of the group sizes, as numbers.
-/
module

public import proofs.«01_k».proof.Proof.Experts.Items
public import Idealize.ShloMosaic.Lib.Routing.Ops
public import Idealize.ShloMosaic.Lib.Routing.Words
public import Idealize.ShloMosaic.Lib.WordCmp

@[expose] public section

noncomputable section

namespace Cert.Proof.Experts.Words

open Idealize.ShloMosaic Idealize.ShloMosaic.Routing Idealize.ShloMosaic.ValueIdx Idealize.ShloMosaic.WordCmp
open Cert.Proof

theorem sum_list (c : ℕ → ℕ) : ∀ k, ((List.range k).map c).sum = ∑ j ∈ Finset.range k, c j
  | 0 => rfl
  | k + 1 => by rw [List.range_succ, List.map_append, List.sum_append, sum_list c k, Finset.sum_range_succ]; simp

theorem count_cnt (f : ℕ → ℕ) (r : ℕ) : Nat.count (fun k => f (k + 1) ≤ r) 32 = Items.cnt f r := by
  rw [Nat.count_eq_card_filter_range, Items.cnt]

theorem fold_zero {ι : Type} [DecidableEq ι] (s : Finset ι) (g : ι → BitVec 32) (h : ∀ i ∈ s, g i = 0#32) :
    s.fold IntOp.addi (0#32 : BitVec 32) g = 0#32 := by
  induction s using Finset.induction_on with
  | empty => rfl
  | insert a s ha ih =>
    rw [Finset.fold_insert ha, h a (Finset.mem_insert_self _ _), ih fun i hi => h i (Finset.mem_insert_of_mem hi)]
    rfl

/-- The sum of a row with one entry that is not zero. -/
theorem pick {n m : ℕ} (x : IVec (shape2 n m) 32) (h : (shape2 n m).ReducesTo [1] (shape1 n)) (hu : 0 < shape0.numel) (i : Fin n) (E : Fin m)
    (hx : ∀ q : Fin m, q ≠ E → x (ix2 i q) = 0#32) :
    Host.reduce IntOp.addi x (constantI shape0 32 0#32) h hu (ix1 i) = x (ix2 i E) := by
  classical
  have hdrop : ∀ j : (shape2 n m).Idx, h.drop j = ix1 i ↔ j 0 = i := by
    intro j
    have hv : (h.drop j 0 : ℕ) = j 0 := Shape.ReducesTo.drop_apply_val h j 0
    constructor
    · intro e
      rw [e] at hv
      exact Fin.ext hv.symm
    · intro e
      funext a
      match a with
      | ⟨0, _⟩ => exact Fin.ext (hv.trans (congrArg Fin.val e))
  have hj : ∀ j : (shape2 n m).Idx, j 0 = i → j = ix2 i (j 1) := fun j e => by
    funext a
    match a with
    | ⟨0, _⟩ => exact e
    | ⟨1, _⟩ => rfl
  rw [Host.reduce_eq_fold]
  have hm : (ix2 i E : (shape2 n m).Idx) ∈ Finset.univ.filter fun j => h.drop j = ix1 i :=
    Finset.mem_filter.2 ⟨Finset.mem_univ _, (hdrop _).2 rfl⟩
  rw [← Finset.insert_erase hm, Finset.fold_insert (Finset.notMem_erase _ _)]
  show IntOp.addi (x (ix2 i E)) (Finset.fold IntOp.addi (0#32) x _) = _
  rw [fold_zero]
  · exact BitVec.add_zero _
  · intro j hj'
    obtain ⟨hne, hf⟩ := Finset.mem_erase.1 hj'
    have e := hj j ((hdrop j).1 (Finset.mem_filter.1 hf).2)
    have hq : j 1 ≠ E := fun hq => hne (hq ▸ e)
    rw [e]
    exact hx (j 1) hq

theorem bit_or (p : Prop) [Decidable p] : (p ∧ (BitVec.ofBool (decide p)).setWidth 32 = 1#32) ∨ (¬ p ∧ (BitVec.ofBool (decide p)).setWidth 32 = 0#32) := by
  by_cases h : p <;> simp [h]

/-- The mask "the first, or other than the one before". -/
theorem change (a : IVec (shape1 287) 32) (f : ℕ → ℕ) (ha : ∀ t : Fin 287, a (ix1 t) = BitVec.ofNat 32 (f t.val)) (hf : ∀ t, f t < 2 ^ 32)
    (h1 : (shape1 287).Slices ![1] (shape1 286)) (h0 : (shape1 287).Slices ![0] (shape1 286)) (hw : 1 < 32)
    (one : IVec (shape1 1) 32) (hone : one (ix1 0) = 1#32) (h : Shape.Concatenates [shape1 1, shape1 286] (shape1 287) 0) (t : Fin 287) :
    ((t.val = 0 ∨ f t.val ≠ f (t.val - 1)) ∧ concatenate (shape1 287) 0 [⟨shape1 1, one⟩, ⟨shape1 286, extui 32 (cmpi .ne (extractStridedSlice (shape1 286) ![1] a h1) (extractStridedSlice (shape1 286) ![0] a h0)) hw⟩] h (ix1 t) = 1#32)
    ∨ (¬ (t.val = 0 ∨ f t.val ≠ f (t.val - 1)) ∧ concatenate (shape1 287) 0 [⟨shape1 1, one⟩, ⟨shape1 286, extui 32 (cmpi .ne (extractStridedSlice (shape1 286) ![1] a h1) (extractStridedSlice (shape1 286) ![0] a h0)) hw⟩] h (ix1 t) = 0#32) := by
  rcases Nat.eq_zero_or_pos t.val with ht | ht
  · left
    refine ⟨Or.inl ht, ?_⟩
    rw [concatenate_pair_apply_left 0 one _ h (ix1 t) rfl (ix1 0) (fun b => by match b with | ⟨0, _⟩ => exact ht.symm)]
    exact hone
  · have hlt := t.isLt
    have e := concatenate_pair_apply_right 0 one (extui 32 (cmpi .ne (extractStridedSlice (shape1 286) ![1] a h1) (extractStridedSlice (shape1 286) ![0] a h0)) hw)
      h (ix1 t) rfl rfl (ix1 ⟨t.val - 1, by omega⟩) (fun b hb => absurd (Subsingleton.elim _ _) hb) (show t.val - 1 + 1 = t.val by omega)
    rw [e]
    show (_ ∧ (IntOp.cmpi .ne (extractStridedSlice (shape1 286) ![1] a h1 _) (extractStridedSlice (shape1 286) ![0] a h0 _)).setWidth 32 = 1#32)
      ∨ (_ ∧ (IntOp.cmpi .ne (extractStridedSlice (shape1 286) ![1] a h1 _) (extractStridedSlice (shape1 286) ![0] a h0 _)).setWidth 32 = 0#32)
    rw [ slice1 1 a h1 _ (show 1 + (t.val - 1) < 287 by omega), slice1 0 a h0 _ (show 0 + (t.val - 1) < 287 by omega), ha, ha,
      cmpi_ne_ofNat (hf _) (hf _)]
    show ((t.val = 0 ∨ f t.val ≠ f (t.val - 1)) ∧ (BitVec.ofBool (decide (f (1 + (t.val - 1)) ≠ f (0 + (t.val - 1))))).setWidth 32 = 1#32)
      ∨ (¬ (t.val = 0 ∨ f t.val ≠ f (t.val - 1)) ∧ (BitVec.ofBool (decide (f (1 + (t.val - 1)) ≠ f (0 + (t.val - 1))))).setWidth 32 = 0#32)
    rw [show 1 + (t.val - 1) = t.val by omega, show 0 + (t.val - 1) = t.val - 1 by omega, show (t.val = 0 ∨ f t.val ≠ f (t.val - 1)) = (f t.val ≠ f (t.val - 1)) from propext ⟨fun h => h.resolve_left (by omega), Or.inr⟩]
    exact bit_or _

section Chain
variable {c : ℕ → ℕ} (hN : Items.S c 32 = 131072)
include hN

theorem S_lt {k : ℕ} (hk : k ≤ 32) : Items.S c k < 2 ^ 31 := by
  have := Items.S_le hN hk
  omega

theorem I_lt {k : ℕ} (hk : k ≤ 32) : Items.I c k ≤ 287 := by
  have h := Items.I_mono c hk
  have := Items.M_le hN
  unfold Items.M at this
  omega

theorem per_lt {k : ℕ} (hk : k < 32) : Items.per c k ≤ 287 := by
  have h := Items.I_succ c k
  have := I_lt hN (show k + 1 ≤ 32 by omega)
  omega

/-- How many tiles each group meets, as the host computes it. -/
theorem per_word (k : Fin 32) (cnt v2 v4 v9 : BitVec 32) (hc : cnt = BitVec.ofNat 32 (c k.val))
    (h4 : v4 = BitVec.ofNat 32 (Items.S c k.val / 512)) (h9 : 0 < c k.val → v9 = BitVec.ofNat 32 ((Items.S c (k.val + 1) - 1) / 512)) :
    Scalar.select (IntOp.cmpi .sgt cnt 0#32) (v9 - v4 + 1#32) 0#32 = BitVec.ofNat 32 (Items.per c k.val) := by
  have hk := k.isLt
  have h1 := S_lt hN (show k.val + 1 ≤ 32 by omega)
  have h2 := Items.S_succ c k.val
  rw [hc, show (0#32 : BitVec 32) = BitVec.ofNat 32 0 from rfl, cmpi_sgt_ofNat (w := 32) (by omega) (by omega), select_decide]
  unfold Items.per
  by_cases h : 0 < c k.val
  · rw [if_pos h, if_pos h, h9 h, h4, ofNat32_sub (by omega), show (1#32 : BitVec 32) = BitVec.ofNat 32 1 from rfl, BitVec.ofNat_add_ofNat]
  · rw [if_neg h, if_neg h]

end Chain

end Cert.Proof.Experts.Words

end
-- ==== Proof.Experts.Host.lean ====
/-
  What the host operations before the experts' call leave in the call's seven tables.
-/
module

public import proofs.«01_k».proof.Proof.Experts.Whole
public import proofs.«01_k».proof.Proof.Experts.Words
public import Idealize.ShloMosaic.Lib.StableHlo.ReadAt
public import Idealize.ShloMosaic.Lib.Routing.Model

@[expose] public section

noncomputable section

namespace Cert.Proof.Experts

open Cert.ExpertsIdeal Cert.ExpertsIdeal.Gen

open Idealize.ShloMosaic
open Idealize.ShloMosaic.TcCoe Idealize.ShloMosaic.Tactic
open Idealize.ShloMosaic.ValueIdx (ix1 ix2 ix3)
open Cert.Proof

variable {F : FTy → Type} [FloatOps F]

/-! ## The operations in five stretches -/

abbrev Vals (F : FTy → Type) [FloatOps F] := Valuation τ sig (Elt F)

variable (V : Vals F)

def U1 : Vals F := StableHlo.after hostOps0_2 (StableHlo.after hostOps0_1 (StableHlo.after hostOps0 V))
def U2 : Vals F := StableHlo.after hostOps0_5 (StableHlo.after hostOps0_4 (StableHlo.after hostOps0_3 V))
def U3 : Vals F := StableHlo.after hostOps0_8 (StableHlo.after hostOps0_7 (StableHlo.after hostOps0_6 V))
def U4 : Vals F := StableHlo.after hostOps0_9 V
def U5 : Vals F := StableHlo.after hostOps0_11 (StableHlo.after hostOps0_10 V)
def U6 : Vals F := StableHlo.after hostOps0_14 (StableHlo.after hostOps0_13 (StableHlo.after hostOps0_12 V))
def U7 : Vals F := StableHlo.after hostOps0_15 V
def U8 : Vals F := StableHlo.after hostOps0_19 (StableHlo.after hostOps0_18 (StableHlo.after hostOps0_17 (StableHlo.after hostOps0_16 V)))

theorem VV_eq (m : (ℓ : Loc nD τ sig) → Buf (Elt F) ℓ) (c : Dev nD) (b : Ref sig .tc) :
    VV m c b = U8 (U7 (U6 (U5 (U4 (U3 (U2 (U1 fun b => m (c, b)))))))) b := by
  unfold VV
  simp only [opss, List.flatten_cons, List.flatten_nil, List.append_nil, StableHlo.after_append]
  rfl

theorem U1_v2 : (U1 V main_v2 : S32.Idx → BitVec 32) = Host.reduceWindow IntOp.addi ![32] ![1] ![31] ![0] (V main_arg1 : S32.Idx → BitVec 32) (broadcastInDim S_ ![] bcast_S_S_ (constantI S_ 32 0#32)) reduceWindows_S32_S32_w32s1p31_0 h_S_ := by
  unfold U1
  after_reads_simp
  all_goals try simp -implicitDefEqProofs only [StableHlo.TRef.toBuf, StableHlo.TRef.ofBuf, cast_cast, cast_eq]

theorem U1_v3 : (U1 V main_v3 : S32.Idx → BitVec 32) = subi (U1 V main_v2 : S32.Idx → BitVec 32) (V main_arg1 : S32.Idx → BitVec 32) := by
  unfold U1
  after_reads_simp
  all_goals try simp -implicitDefEqProofs only [StableHlo.TRef.toBuf, StableHlo.TRef.ofBuf, cast_cast, cast_eq]

theorem U1_c : (U1 V main_c : S_.Idx → BitVec 32) = (constantI S_ 32 512#32) := by
  unfold U1
  after_reads_simp
  all_goals try simp -implicitDefEqProofs only [StableHlo.TRef.toBuf, StableHlo.TRef.ofBuf, cast_cast, cast_eq]

theorem U2_v4 : (U2 V main_v4 : S32.Idx → BitVec 32) = Routing.pyDiv bcast_S_S32 (V main_v3 : S32.Idx → BitVec 32) (V main_c : S_.Idx → BitVec 32) := by
  unfold U2
  after_reads_simp
  all_goals try simp -implicitDefEqProofs only [StableHlo.TRef.toBuf, StableHlo.TRef.ofBuf, cast_cast, cast_eq]
  all_goals rfl

theorem U2_v6 : (U2 V main_v6 : S32.Idx → BitVec 1) = cmpi .sgt (V main_arg1 : S32.Idx → BitVec 32) (broadcastInDim S32 ![] bcast_S_S32 (constantI S_ 32 0#32)) := by
  unfold U2
  after_reads_simp
  all_goals try simp -implicitDefEqProofs only [StableHlo.TRef.toBuf, StableHlo.TRef.ofBuf, cast_cast, cast_eq]

theorem U2_v9 : (U2 V main_v9 : S32.Idx → BitVec 32) = Routing.pyDiv bcast_S_S32 (subi (V main_v2 : S32.Idx → BitVec 32) (broadcastInDim S32 ![] bcast_S_S32 (constantI S_ 32 1#32))) (constantI S_ 32 512#32) := by
  unfold U2
  after_reads_simp
  all_goals try simp -implicitDefEqProofs only [StableHlo.TRef.toBuf, StableHlo.TRef.ofBuf, cast_cast, cast_eq]
  all_goals rfl

theorem U3_v13 : (U3 V main_v13 : S32.Idx → BitVec 32) = select (V main_v6 : S32.Idx → BitVec 1) (addi (subi (V main_v9 : S32.Idx → BitVec 32) (V main_v4 : S32.Idx → BitVec 32)) (broadcastInDim S32 ![] bcast_S_S32 (constantI S_ 32 1#32))) (broadcastInDim S32 ![] bcast_S_S32 (constantI S_ 32 0#32)) := by
  unfold U3
  after_reads_simp
  all_goals try simp -implicitDefEqProofs only [StableHlo.TRef.toBuf, StableHlo.TRef.ofBuf, cast_cast, cast_eq]
  all_goals rfl

theorem U3_v14 : (U3 V main_v14 : S32.Idx → BitVec 32) = Host.reduceWindow IntOp.addi ![32] ![1] ![31] ![0] (U3 V main_v13 : S32.Idx → BitVec 32) (broadcastInDim S_ ![] bcast_S_S_ (constantI S_ 32 0#32)) reduceWindows_S32_S32_w32s1p31_0 h_S_ := by
  unfold U3
  after_reads_simp
  all_goals try simp -implicitDefEqProofs only [StableHlo.TRef.toBuf, StableHlo.TRef.ofBuf, cast_cast, cast_eq]

theorem U4_v15 : (U4 V main_v15 : S287.Idx → BitVec 32) = iotaInDim S287 32 0 := by
  unfold U4
  after_reads_simp
  all_goals try simp -implicitDefEqProofs only [StableHlo.TRef.toBuf, StableHlo.TRef.ofBuf, cast_cast, cast_eq]

theorem U4_v19 : (U4 V main_v19 : S287.Idx → BitVec 1) = cmpi .slt (iotaInDim S287 32 0) (broadcastInDim S287 ![] bcast_S_S287 (shapeCast S_ (extractStridedSlice S1 ![31] (V main_v14 : S32.Idx → BitVec 32) slices_S32_S1_31) shapeCasts_S1_S_)) := by
  unfold U4
  after_reads_simp
  all_goals try simp -implicitDefEqProofs only [StableHlo.TRef.toBuf, StableHlo.TRef.ofBuf, cast_cast, cast_eq]
  all_goals rfl

theorem U4_v31 : (U4 V main_v31 : S287.Idx → BitVec 32) = Host.reduce IntOp.addi (extui 32 (cmpi .sge (broadcastInDim S287x32 ![0, 1] bcast_S287x1_S287x32_0_1 (broadcastInDim S287x1 ![0] bcast_S287_S287x1_0 (minsi (iotaInDim S287 32 0) (broadcastInDim S287 ![] bcast_S_S287 (subi (shapeCast S_ (extractStridedSlice S1 ![31] (V main_v14 : S32.Idx → BitVec 32) slices_S32_S1_31) shapeCasts_S1_S_) (constantI S_ 32 1#32)))))) (broadcastInDim S287x32 ![0, 1] bcast_S1x32_S287x32_0_1 (broadcastInDim S1x32 ![1] bcast_S32_S1x32_1 (V main_v14 : S32.Idx → BitVec 32)))) natLt_1_32) (constantI S_ 32 0#32) reducesTo_S287x32_S287_d1 h_S_ := by
  unfold U4
  after_reads_simp
  all_goals try simp -implicitDefEqProofs only [StableHlo.TRef.toBuf, StableHlo.TRef.ofBuf, cast_cast, cast_eq]
  all_goals rfl

theorem U4_v37 : (U4 V main_v37 : S287x32.Idx → BitVec 1) = cmpi .eq (broadcastInDim S287x32 ![0, 1] bcast_S287x1_S287x32_0_1 (broadcastInDim S287x1 ![0] bcast_S287_S287x1_0 (U4 V main_v31 : S287.Idx → BitVec 32))) (broadcastInDim S287x32 ![0, 1] bcast_S1x32_S287x32_0_1 (broadcastInDim S1x32 ![1] bcast_S32_S1x32_1 (iotaInDim S32 32 0))) := by
  unfold U4
  after_reads_simp
  all_goals try simp -implicitDefEqProofs only [StableHlo.TRef.toBuf, StableHlo.TRef.ofBuf, cast_cast, cast_eq]
  all_goals try rfl

theorem U4_v38 : (U4 V main_v38 : S1x32.Idx → BitVec 32) = broadcastInDim S1x32 ![1] bcast_S32_S1x32_1 (V main_v4 : S32.Idx → BitVec 32) := by
  unfold U4
  after_reads_simp
  all_goals try simp -implicitDefEqProofs only [StableHlo.TRef.toBuf, StableHlo.TRef.ofBuf, cast_cast, cast_eq]

theorem U4_c_7 : (U4 V main_c_7 : S_.Idx → BitVec 32) = (constantI S_ 32 0#32) := by
  unfold U4
  after_reads_simp
  all_goals try simp -implicitDefEqProofs only [StableHlo.TRef.toBuf, StableHlo.TRef.ofBuf, cast_cast, cast_eq]

theorem U5_v41 : (U5 V main_v41 : S287.Idx → BitVec 32) = addi (Host.reduce IntOp.addi (select (V main_v37 : S287x32.Idx → BitVec 1) (broadcastInDim S287x32 ![0, 1] bcast_S1x32_S287x32_0_1 (V main_v38 : S1x32.Idx → BitVec 32)) (broadcastInDim S287x32 ![] bcast_S_S287x32 (V main_c_7 : S_.Idx → BitVec 32))) (constantI S_ 32 0#32) reducesTo_S287x32_S287_d1 h_S_) (V main_v15 : S287.Idx → BitVec 32) := by
  unfold U5
  after_reads_simp
  all_goals try simp -implicitDefEqProofs only [StableHlo.TRef.toBuf, StableHlo.TRef.ofBuf, cast_cast, cast_eq]
  all_goals rfl

theorem U5_v43 : (U5 V main_v43 : S1x32.Idx → BitVec 32) = broadcastInDim S1x32 ![1] bcast_S32_S1x32_1 (subi (V main_v14 : S32.Idx → BitVec 32) (V main_v13 : S32.Idx → BitVec 32)) := by
  unfold U5
  after_reads_simp
  all_goals try simp -implicitDefEqProofs only [StableHlo.TRef.toBuf, StableHlo.TRef.ofBuf, cast_cast, cast_eq]

theorem U5_c_9 : (U5 V main_c_9 : S_.Idx → BitVec 32) = (constantI S_ 32 0#32) := by
  unfold U5
  after_reads_simp
  all_goals try simp -implicitDefEqProofs only [StableHlo.TRef.toBuf, StableHlo.TRef.ofBuf, cast_cast, cast_eq]

theorem U6_v47 : (U6 V main_v47 : S287.Idx → BitVec 32) = select (V main_v19 : S287.Idx → BitVec 1) (subi (V main_v41 : S287.Idx → BitVec 32) (Host.reduce IntOp.addi (select (V main_v37 : S287x32.Idx → BitVec 1) (broadcastInDim S287x32 ![0, 1] bcast_S1x32_S287x32_0_1 (V main_v43 : S1x32.Idx → BitVec 32)) (broadcastInDim S287x32 ![] bcast_S_S287x32 (V main_c_9 : S_.Idx → BitVec 32))) (constantI S_ 32 0#32) reducesTo_S287x32_S287_d1 h_S_)) (broadcastInDim S287 ![] bcast_S_S287 (constantI S_ 32 255#32)) := by
  unfold U6
  after_reads_simp
  all_goals try simp -implicitDefEqProofs only [StableHlo.TRef.toBuf, StableHlo.TRef.ofBuf, cast_cast, cast_eq]
  all_goals rfl

theorem U7_v53 : (U7 V main_v53 : S287.Idx → BitVec 32) = concatenate S287 0 [⟨S1, broadcastInDim S1 ![] bcast_S_S1 (constantI S_ 32 1#32)⟩,
    ⟨S286, extui 32 (cmpi .ne (extractStridedSlice S286 ![1] (V main_v47 : S287.Idx → BitVec 32) slices_S287_S286_1) (extractStridedSlice S286 ![0] (V main_v47 : S287.Idx → BitVec 32) slices_S287_S286_0)) natLt_1_32⟩] concatenates_S1_S286_S287_d0 := by
  unfold U7
  after_reads_simp
  refine congrArg₂ (fun (a : S1.Idx → BitVec 32) (b : S286.Idx → BitVec 32) => concatenate S287 0 [⟨S1, a⟩, ⟨S286, b⟩] concatenates_S1_S286_S287_d0) ?_ ?_ <;> after_reads_simp

theorem U7_v58 : (U7 V main_v58 : S287.Idx → BitVec 32) = concatenate S287 0 [⟨S1, broadcastInDim S1 ![] bcast_S_S1 (constantI S_ 32 1#32)⟩,
    ⟨S286, extui 32 (cmpi .ne (extractStridedSlice S286 ![1] (V main_v31 : S287.Idx → BitVec 32) slices_S287_S286_1) (extractStridedSlice S286 ![0] (V main_v31 : S287.Idx → BitVec 32) slices_S287_S286_0)) natLt_1_32⟩] concatenates_S1_S286_S287_d0 := by
  unfold U7
  after_reads_simp
  refine congrArg₂ (fun (a : S1.Idx → BitVec 32) (b : S286.Idx → BitVec 32) => concatenate S287 0 [⟨S1, a⟩, ⟨S286, b⟩] concatenates_S1_S286_S287_d0) ?_ ?_ <;> after_reads_simp

theorem U7_v59 : (U7 V main_v59 : S287.Idx → BitVec 32) = extui 32 (V main_v19 : S287.Idx → BitVec 1) natLt_1_32 := by
  unfold U7
  after_reads_simp
  all_goals try simp -implicitDefEqProofs only [StableHlo.TRef.toBuf, StableHlo.TRef.ofBuf, cast_cast, cast_eq]

theorem U7_v60 : (U7 V main_v60 : S1x32.Idx → BitVec 32) = broadcastInDim S1x32 ![1] bcast_S32_S1x32_1 (V main_v3 : S32.Idx → BitVec 32) := by
  unfold U7
  after_reads_simp
  all_goals try simp -implicitDefEqProofs only [StableHlo.TRef.toBuf, StableHlo.TRef.ofBuf, cast_cast, cast_eq]

theorem U7_c_13 : (U7 V main_c_13 : S_.Idx → BitVec 32) = (constantI S_ 32 0#32) := by
  unfold U7
  after_reads_simp
  all_goals try simp -implicitDefEqProofs only [StableHlo.TRef.toBuf, StableHlo.TRef.ofBuf, cast_cast, cast_eq]

theorem U8_v62 : (U8 V main_v62 : S287.Idx → BitVec 32) = Host.reduce IntOp.addi (select (V main_v37 : S287x32.Idx → BitVec 1) (broadcastInDim S287x32 ![0, 1] bcast_S1x32_S287x32_0_1 (V main_v60 : S1x32.Idx → BitVec 32)) (broadcastInDim S287x32 ![] bcast_S_S287x32 (V main_c_13 : S_.Idx → BitVec 32))) (constantI S_ 32 0#32) reducesTo_S287x32_S287_d1 h_S_ := by
  unfold U8
  after_reads_simp
  all_goals try simp -implicitDefEqProofs only [StableHlo.TRef.toBuf, StableHlo.TRef.ofBuf, cast_cast, cast_eq]
  all_goals rfl

theorem U8_v65 : (U8 V main_v65 : S287.Idx → BitVec 32) = Host.reduce IntOp.addi (select (V main_v37 : S287x32.Idx → BitVec 1) (broadcastInDim S287x32 ![0, 1] bcast_S1x32_S287x32_0_1 (broadcastInDim S1x32 ![1] bcast_S32_S1x32_1 (V main_v2 : S32.Idx → BitVec 32))) (broadcastInDim S287x32 ![] bcast_S_S287x32 (constantI S_ 32 0#32))) (constantI S_ 32 0#32) reducesTo_S287x32_S287_d1 h_S_ := by
  unfold U8
  after_reads_simp
  all_goals try simp -implicitDefEqProofs only [StableHlo.TRef.toBuf, StableHlo.TRef.ofBuf, cast_cast, cast_eq]
  all_goals rfl

theorem U1_keep_arg0 : U1 V main_arg0 = V main_arg0 := by
  unfold U1
  after_reads_simp

theorem U1_keep_arg1 : U1 V main_arg1 = V main_arg1 := by
  unfold U1
  after_reads_simp

theorem U1_keep_arg2 : U1 V main_arg2 = V main_arg2 := by
  unfold U1
  after_reads_simp

theorem U1_keep_arg3 : U1 V main_arg3 = V main_arg3 := by
  unfold U1
  after_reads_simp

theorem U1_keep_arg4 : U1 V main_arg4 = V main_arg4 := by
  unfold U1
  after_reads_simp

theorem U1_keep_arg5 : U1 V main_arg5 = V main_arg5 := by
  unfold U1
  after_reads_simp

theorem U2_keep_arg0 : U2 V main_arg0 = V main_arg0 := by
  unfold U2
  after_reads_simp

theorem U2_keep_arg1 : U2 V main_arg1 = V main_arg1 := by
  unfold U2
  after_reads_simp

theorem U2_keep_arg2 : U2 V main_arg2 = V main_arg2 := by
  unfold U2
  after_reads_simp

theorem U2_keep_arg3 : U2 V main_arg3 = V main_arg3 := by
  unfold U2
  after_reads_simp

theorem U2_keep_arg4 : U2 V main_arg4 = V main_arg4 := by
  unfold U2
  after_reads_simp

theorem U2_keep_arg5 : U2 V main_arg5 = V main_arg5 := by
  unfold U2
  after_reads_simp

theorem U2_keep_v0 : U2 V main_v0 = V main_v0 := by
  unfold U2
  after_reads_simp

theorem U2_keep_v1 : U2 V main_v1 = V main_v1 := by
  unfold U2
  after_reads_simp

theorem U2_keep_v2 : U2 V main_v2 = V main_v2 := by
  unfold U2
  after_reads_simp

theorem U2_keep_v3 : U2 V main_v3 = V main_v3 := by
  unfold U2
  after_reads_simp

theorem U3_keep_arg0 : U3 V main_arg0 = V main_arg0 := by
  unfold U3
  after_reads_simp

theorem U3_keep_arg1 : U3 V main_arg1 = V main_arg1 := by
  unfold U3
  after_reads_simp

theorem U3_keep_arg2 : U3 V main_arg2 = V main_arg2 := by
  unfold U3
  after_reads_simp

theorem U3_keep_arg3 : U3 V main_arg3 = V main_arg3 := by
  unfold U3
  after_reads_simp

theorem U3_keep_arg4 : U3 V main_arg4 = V main_arg4 := by
  unfold U3
  after_reads_simp

theorem U3_keep_arg5 : U3 V main_arg5 = V main_arg5 := by
  unfold U3
  after_reads_simp

theorem U3_keep_v0 : U3 V main_v0 = V main_v0 := by
  unfold U3
  after_reads_simp

theorem U3_keep_v1 : U3 V main_v1 = V main_v1 := by
  unfold U3
  after_reads_simp

theorem U3_keep_v2 : U3 V main_v2 = V main_v2 := by
  unfold U3
  after_reads_simp

theorem U3_keep_v3 : U3 V main_v3 = V main_v3 := by
  unfold U3
  after_reads_simp

theorem U3_keep_v4 : U3 V main_v4 = V main_v4 := by
  unfold U3
  after_reads_simp

theorem U4_keep_arg0 : U4 V main_arg0 = V main_arg0 := by
  unfold U4
  after_reads_simp

theorem U4_keep_arg1 : U4 V main_arg1 = V main_arg1 := by
  unfold U4
  after_reads_simp

theorem U4_keep_arg2 : U4 V main_arg2 = V main_arg2 := by
  unfold U4
  after_reads_simp

theorem U4_keep_arg3 : U4 V main_arg3 = V main_arg3 := by
  unfold U4
  after_reads_simp

theorem U4_keep_arg4 : U4 V main_arg4 = V main_arg4 := by
  unfold U4
  after_reads_simp

theorem U4_keep_arg5 : U4 V main_arg5 = V main_arg5 := by
  unfold U4
  after_reads_simp

theorem U4_keep_v0 : U4 V main_v0 = V main_v0 := by
  unfold U4
  after_reads_simp

theorem U4_keep_v1 : U4 V main_v1 = V main_v1 := by
  unfold U4
  after_reads_simp

theorem U4_keep_v2 : U4 V main_v2 = V main_v2 := by
  unfold U4
  after_reads_simp

theorem U4_keep_v3 : U4 V main_v3 = V main_v3 := by
  unfold U4
  after_reads_simp

theorem U4_keep_v13 : U4 V main_v13 = V main_v13 := by
  unfold U4
  after_reads_simp

theorem U4_keep_v14 : U4 V main_v14 = V main_v14 := by
  unfold U4
  after_reads_simp

theorem U5_keep_arg0 : U5 V main_arg0 = V main_arg0 := by
  unfold U5
  after_reads_simp

theorem U5_keep_arg1 : U5 V main_arg1 = V main_arg1 := by
  unfold U5
  after_reads_simp

theorem U5_keep_arg2 : U5 V main_arg2 = V main_arg2 := by
  unfold U5
  after_reads_simp

theorem U5_keep_arg3 : U5 V main_arg3 = V main_arg3 := by
  unfold U5
  after_reads_simp

theorem U5_keep_arg4 : U5 V main_arg4 = V main_arg4 := by
  unfold U5
  after_reads_simp

theorem U5_keep_arg5 : U5 V main_arg5 = V main_arg5 := by
  unfold U5
  after_reads_simp

theorem U5_keep_v0 : U5 V main_v0 = V main_v0 := by
  unfold U5
  after_reads_simp

theorem U5_keep_v1 : U5 V main_v1 = V main_v1 := by
  unfold U5
  after_reads_simp

theorem U5_keep_v2 : U5 V main_v2 = V main_v2 := by
  unfold U5
  after_reads_simp

theorem U5_keep_v3 : U5 V main_v3 = V main_v3 := by
  unfold U5
  after_reads_simp

theorem U5_keep_v19 : U5 V main_v19 = V main_v19 := by
  unfold U5
  after_reads_simp

theorem U5_keep_v31 : U5 V main_v31 = V main_v31 := by
  unfold U5
  after_reads_simp

theorem U5_keep_v37 : U5 V main_v37 = V main_v37 := by
  unfold U5
  after_reads_simp

theorem U6_keep_arg0 : U6 V main_arg0 = V main_arg0 := by
  unfold U6
  after_reads_simp

theorem U6_keep_arg1 : U6 V main_arg1 = V main_arg1 := by
  unfold U6
  after_reads_simp

theorem U6_keep_arg2 : U6 V main_arg2 = V main_arg2 := by
  unfold U6
  after_reads_simp

theorem U6_keep_arg3 : U6 V main_arg3 = V main_arg3 := by
  unfold U6
  after_reads_simp

theorem U6_keep_arg4 : U6 V main_arg4 = V main_arg4 := by
  unfold U6
  after_reads_simp

theorem U6_keep_arg5 : U6 V main_arg5 = V main_arg5 := by
  unfold U6
  after_reads_simp

theorem U6_keep_v0 : U6 V main_v0 = V main_v0 := by
  unfold U6
  after_reads_simp

theorem U6_keep_v1 : U6 V main_v1 = V main_v1 := by
  unfold U6
  after_reads_simp

theorem U6_keep_v2 : U6 V main_v2 = V main_v2 := by
  unfold U6
  after_reads_simp

theorem U6_keep_v3 : U6 V main_v3 = V main_v3 := by
  unfold U6
  after_reads_simp

theorem U6_keep_v19 : U6 V main_v19 = V main_v19 := by
  unfold U6
  after_reads_simp

theorem U6_keep_v31 : U6 V main_v31 = V main_v31 := by
  unfold U6
  after_reads_simp

theorem U6_keep_v37 : U6 V main_v37 = V main_v37 := by
  unfold U6
  after_reads_simp

theorem U7_keep_arg0 : U7 V main_arg0 = V main_arg0 := by
  unfold U7
  after_reads_simp

theorem U7_keep_arg1 : U7 V main_arg1 = V main_arg1 := by
  unfold U7
  after_reads_simp

theorem U7_keep_arg2 : U7 V main_arg2 = V main_arg2 := by
  unfold U7
  after_reads_simp

theorem U7_keep_arg3 : U7 V main_arg3 = V main_arg3 := by
  unfold U7
  after_reads_simp

theorem U7_keep_arg4 : U7 V main_arg4 = V main_arg4 := by
  unfold U7
  after_reads_simp

theorem U7_keep_arg5 : U7 V main_arg5 = V main_arg5 := by
  unfold U7
  after_reads_simp

theorem U7_keep_v0 : U7 V main_v0 = V main_v0 := by
  unfold U7
  after_reads_simp

theorem U7_keep_v1 : U7 V main_v1 = V main_v1 := by
  unfold U7
  after_reads_simp

theorem U7_keep_v2 : U7 V main_v2 = V main_v2 := by
  unfold U7
  after_reads_simp

theorem U7_keep_v19 : U7 V main_v19 = V main_v19 := by
  unfold U7
  after_reads_simp

theorem U7_keep_v31 : U7 V main_v31 = V main_v31 := by
  unfold U7
  after_reads_simp

theorem U7_keep_v37 : U7 V main_v37 = V main_v37 := by
  unfold U7
  after_reads_simp

theorem U7_keep_v47 : U7 V main_v47 = V main_v47 := by
  unfold U7
  after_reads_simp

theorem U8_keep_arg0 : U8 V main_arg0 = V main_arg0 := by
  unfold U8
  after_reads_simp

theorem U8_keep_arg1 : U8 V main_arg1 = V main_arg1 := by
  unfold U8
  after_reads_simp

theorem U8_keep_arg2 : U8 V main_arg2 = V main_arg2 := by
  unfold U8
  after_reads_simp

theorem U8_keep_arg3 : U8 V main_arg3 = V main_arg3 := by
  unfold U8
  after_reads_simp

theorem U8_keep_arg4 : U8 V main_arg4 = V main_arg4 := by
  unfold U8
  after_reads_simp

theorem U8_keep_arg5 : U8 V main_arg5 = V main_arg5 := by
  unfold U8
  after_reads_simp

theorem U8_keep_v0 : U8 V main_v0 = V main_v0 := by
  unfold U8
  after_reads_simp

theorem U8_keep_v1 : U8 V main_v1 = V main_v1 := by
  unfold U8
  after_reads_simp

theorem U8_keep_v31 : U8 V main_v31 = V main_v31 := by
  unfold U8
  after_reads_simp

theorem U8_keep_v47 : U8 V main_v47 = V main_v47 := by
  unfold U8
  after_reads_simp

theorem U8_keep_v53 : U8 V main_v53 = V main_v53 := by
  unfold U8
  after_reads_simp

theorem U8_keep_v58 : U8 V main_v58 = V main_v58 := by
  unfold U8
  after_reads_simp

theorem U8_keep_v59 : U8 V main_v59 = V main_v59 := by
  unfold U8
  after_reads_simp

theorem U1_v0 : U1 V main_v0 = (shapeCast S32x1x2048 (V main_arg3 : S32x2048.Idx → Elt F .f32) shapeCasts_S32x2048_S32x1x2048 : S32x1x2048.Idx → Elt F .f32) := by
  unfold U1
  after_reads_simp
  all_goals try rfl

theorem U1_v1 : U1 V main_v1 = (shapeCast S32x1x1024 (V main_arg5 : S32x1024.Idx → Elt F .f32) shapeCasts_S32x1024_S32x1x1024 : S32x1x1024.Idx → Elt F .f32) := by
  unfold U1
  after_reads_simp
  all_goals try rfl

end Cert.Proof.Experts

end
-- ==== Proof.Experts.Good.lean ====
/-
  The tables hold the items of the group sizes.
-/
module

public import proofs.«01_k».proof.Proof.Experts.Host

@[expose] public section

noncomputable section

namespace Cert.Proof.Experts

open Cert.ExpertsIdeal Cert.ExpertsIdeal.Gen

open Idealize.ShloMosaic Idealize.ShloMosaic.Routing Idealize.ShloMosaic.WordCmp
open Idealize.ShloMosaic.TcCoe Idealize.ShloMosaic.Tactic
open Cert.Proof

variable {F : FTy → Type} [FloatOps F]

variable (V : Vals F) {c : ℕ → ℕ} (hN : Items.S c 32 = 131072)
include hN

/-- The buffers hold the group sizes. -/
def Cnt (V : Vals F) (c : ℕ → ℕ) : Prop := ∀ k : Fin 32, (V main_arg1 : S32.Idx → BitVec 32) (ValueIdx.ix1 k) = BitVec.ofNat 32 (c k.val)
/-- A vector over the groups holds the numbers `f`. -/
abbrev Vec (x : S32.Idx → BitVec 32) (f : ℕ → ℕ) : Prop := ∀ k : Fin 32, x (ValueIdx.ix1 k) = BitVec.ofNat 32 (f k.val)
/-- A vector over the items holds the numbers `f`. -/
abbrev Tab (x : S287.Idx → BitVec 32) (f : ℕ → ℕ) : Prop := ∀ t : Fin 287, x (ValueIdx.ix1 t) = BitVec.ofNat 32 (f t.val)

omit hN in
theorem v2 (hc : Cnt V c) : Vec (U1 V main_v2) fun k => Items.S c (k + 1) := by
  intro k
  rw [U1_v2]
  refine (cumsum1 rfl _ c hc _ rfl _ _ k).trans ?_
  rw [Words.sum_list]
  rfl

omit hN in
theorem v3 (hc : Cnt V c) : Vec (U1 V main_v3) (Items.S c) := by
  intro k
  have e : (U1 V main_v2 : S32.Idx → BitVec 32) (ValueIdx.ix1 k) = BitVec.ofNat 32 (Items.S c (k.val + 1)) := v2 V hc k
  rw [U1_v3, subi_ap, e, hc k, ofNat32_sub (by rw [Items.S_succ]; omega), Items.S_succ, Nat.add_sub_cancel]

theorem v4 (h3 : Vec (V main_v3) (Items.S c)) (h0 : (V main_c : S_.Idx → BitVec 32) = constantI S_ 32 512#32) :
    Vec (U2 V main_v4) fun k => Items.S c k / 512 := by
  intro k
  have hk := k.isLt
  rw [U2_v4]
  exact pyDiv_ap _ _ _ _ (h3 k) (by rw [h0]; rfl) (Words.S_lt hN (by omega)) (by omega) (by omega)

theorem v9 (h2 : Vec (V main_v2) fun k => Items.S c (k + 1)) (k : Fin 32) (hk0 : 0 < c k.val) :
    (U2 V main_v9 : S32.Idx → BitVec 32) (ValueIdx.ix1 k) = BitVec.ofNat 32 ((Items.S c (k.val + 1) - 1) / 512) := by
  have hk := k.isLt
  have h := Items.S_succ c k.val
  have h' := Words.S_lt hN (show k.val + 1 ≤ 32 by omega)
  rw [U2_v9]
  refine pyDiv_ap _ _ _ _ ?_ rfl (by omega) (by omega) (by omega)
  have e : (V main_v2 : S32.Idx → BitVec 32) (ValueIdx.ix1 k) = BitVec.ofNat 32 (Items.S c (k.val + 1)) := h2 k
  rw [subi_ap, e]
  exact ofNat32_sub (b := 1) (by omega)

theorem v13 (h6 : ∀ k : Fin 32, (V main_v6 : S32.Idx → BitVec 1) (ValueIdx.ix1 k) = IntOp.cmpi .sgt (BitVec.ofNat 32 (c k.val)) 0#32)
    (h4 : Vec (V main_v4) fun k => Items.S c k / 512)
    (h9 : ∀ k : Fin 32, 0 < c k.val → (V main_v9 : S32.Idx → BitVec 32) (ValueIdx.ix1 k) = BitVec.ofNat 32 ((Items.S c (k.val + 1) - 1) / 512)) :
    Vec (U3 V main_v13) (Items.per c) := by
  intro k
  rw [U3_v13, select_at, h6 k]
  exact Words.per_word hN k _ 0#32 _ _ rfl (h4 k) (h9 k)

omit hN in
theorem v14 (h13 : Vec (U3 V main_v13) (Items.per c)) : Vec (U3 V main_v14) fun k => Items.I c (k + 1) := by
  intro k
  rw [U3_v14]
  refine (cumsum1 rfl _ (Items.per c) h13 _ rfl _ _ k).trans ?_
  rw [Words.sum_list]
  rfl

omit hN in
theorem last (h14 : Vec (V main_v14) fun k => Items.I c (k + 1)) :
    (shapeCast S_ (extractStridedSlice S1 ![31] (V main_v14 : S32.Idx → BitVec 32) slices_S32_S1_31) shapeCasts_S1_S_ : S_.Idx → BitVec 32) ValueIdx.ix0
      = BitVec.ofNat 32 (Items.M c) := by
  refine (shapeCast_apply _ _ _ (ValueIdx.ix1 0) (by rw [Shape.rowMajor_val_one]; rfl)).trans ?_
  rw [slice1 31 _ _ 0 (by decide)]
  exact h14 31

theorem v19 (h14 : Vec (V main_v14) fun k => Items.I c (k + 1)) (t : Fin 287) :
    (U4 V main_v19 : S287.Idx → BitVec 1) (ValueIdx.ix1 t) = BitVec.ofBool (decide (t.val < Items.M c)) := by
  have hM := Items.M_le hN
  have ht := t.isLt
  rw [U4_v19, cmpi_at, bc0, last V h14]
  show IntOp.cmpi .slt (BitVec.ofNat 32 t.val) _ = _
  exact cmpi_slt_ofNat (w := 32) (by omega) (by omega)

theorem min_word (w : S_.Idx → BitVec 32) (hw : w ValueIdx.ix0 = BitVec.ofNat 32 (Items.M c)) (t : Fin 287) :
    minsi (iotaInDim S287 32 0) (broadcastInDim S287 ![] bcast_S_S287 (subi w (constantI S_ 32 1#32))) (ValueIdx.ix1 t)
      = BitVec.ofNat 32 (min t.val (Items.M c - 1)) := by
  have hM := Items.M_le hN
  have hM' := Items.M_pos hN
  have ht := t.isLt
  have e : broadcastInDim S287 ![] bcast_S_S287 (subi w (constantI S_ 32 1#32)) (ValueIdx.ix1 t) = BitVec.ofNat 32 (Items.M c - 1) := by
    rw [bc0, subi_ap, hw]
    exact ofNat32_sub (b := 1) (by omega)
  refine (show _ = IntOp.minsi (BitVec.ofNat 32 t.val) (broadcastInDim S287 ![] bcast_S_S287 (subi w (constantI S_ 32 1#32)) (ValueIdx.ix1 t)) from rfl).trans ?_
  rw [e]
  unfold IntOp.minsi
  rw [slt_ofNat32 (by omega) (by omega)]
  by_cases h : t.val < Items.M c - 1
  · rw [if_pos (decide_eq_true h), min_eq_left (by omega)]
  · rw [if_neg (by simpa using h), min_eq_right (by omega)]

theorem v31 (h14 : Vec (V main_v14) fun k => Items.I c (k + 1)) : Tab (U4 V main_v31) (Items.ex c) := by
  intro t
  have hM := Items.M_le hN
  have hM' := Items.M_pos hN
  have ht := t.isLt
  rw [U4_v31]
  refine (reduce_count (by decide) _ _ _ _ t (fun k => Items.I c (k + 1) ≤ min t.val (Items.M c - 1)) ?_).trans ?_
  · intro q
    have hq := Words.I_lt hN (show q.val + 1 ≤ 32 by omega)
    have e : (V main_v14 : S32.Idx → BitVec 32) (ValueIdx.ix1 q) = BitVec.ofNat 32 (Items.I c (q.val + 1)) := h14 q
    rw [cmpi_at, bcRows, bcCols, e, min_word hN _ (last V h14) t, cmpi_sge_ofNat (w := 32) (by omega) (by omega), ofBool_decide_eq_one_iff]
  · rw [Words.count_cnt]; rfl

/-- The mask that picks an item's group. -/
abbrev Mask (x : S287x32.Idx → BitVec 1) (c : ℕ → ℕ) : Prop := ∀ (t : Fin 287) (q : Fin 32), x (ValueIdx.ix2 t q) = BitVec.ofBool (decide (Items.ex c t.val = q.val))

theorem v37 (h14 : Vec (V main_v14) fun k => Items.I c (k + 1)) : Mask (U4 V main_v37) c := by
  intro t q
  have h := Items.ex_lt hN t.val
  have hq := q.isLt
  rw [U4_v37, cmpi_at, bcRows, bcCols, v31 V hN h14 t]
  show IntOp.cmpi .eq (BitVec.ofNat 32 (Items.ex c t.val)) (BitVec.ofNat 32 q.val) = _
  exact cmpi_eq_ofNat (w := 32) (by omega) (by omega)

theorem picked (x : S287x32.Idx → BitVec 1) (hx : Mask x c) (y : S1x32.Idx → BitVec 32) (z : S32.Idx → BitVec 32) (f : ℕ → ℕ)
    (hy : y = broadcastInDim S1x32 ![1] bcast_S32_S1x32_1 z) (hz : Vec z f) (w : S_.Idx → BitVec 32) (hw : w = constantI S_ 32 0#32) :
    Tab (Host.reduce IntOp.addi (select x (broadcastInDim S287x32 ![0, 1] bcast_S1x32_S287x32_0_1 y) (broadcastInDim S287x32 ![] bcast_S_S287x32 w))
      (constantI S_ 32 0#32) reducesTo_S287x32_S287_d1 h_S_) fun t => f (Items.ex c t) := by
  intro t
  have h := Items.ex_lt hN t.val
  refine (Words.pick _ _ _ t ⟨Items.ex c t.val, h⟩ fun q hq => ?_).trans ?_
  · rw [select_at, hx, select_decide, if_neg fun e => hq (Fin.ext e.symm), bc0, hw]
    rfl
  · rw [select_at, hx, select_decide, if_pos rfl, hy, bcCols]
    exact hz _

theorem v41 (h37 : Mask (V main_v37) c) (z : S32.Idx → BitVec 32) (hz : Vec z fun k => Items.S c k / 512)
    (h38 : (V main_v38 : S1x32.Idx → BitVec 32) = broadcastInDim S1x32 ![1] bcast_S32_S1x32_1 z)
    (h7 : (V main_c_7 : S_.Idx → BitVec 32) = constantI S_ 32 0#32) (h15 : (V main_v15 : S287.Idx → BitVec 32) = iotaInDim S287 32 0) :
    Tab (U5 V main_v41) fun t => Items.S c (Items.ex c t) / 512 + t := by
  intro t
  rw [U5_v41, addi_ap, picked hN _ h37 _ z _ h38 hz _ h7 t, h15]
  exact BitVec.ofNat_add_ofNat ..

theorem v47 (h37 : Mask (V main_v37) c) (h19 : ∀ t : Fin 287, (V main_v19 : S287.Idx → BitVec 1) (ValueIdx.ix1 t) = BitVec.ofBool (decide (t.val < Items.M c)))
    (h41 : Tab (V main_v41) fun t => Items.S c (Items.ex c t) / 512 + t) (z : S32.Idx → BitVec 32) (hz : Vec z (Items.I c))
    (h43 : (V main_v43 : S1x32.Idx → BitVec 32) = broadcastInDim S1x32 ![1] bcast_S32_S1x32_1 z)
    (h9 : (V main_c_9 : S_.Idx → BitVec 32) = constantI S_ 32 0#32) :
    Tab (U6 V main_v47) (Items.tile c) := by
  intro t
  rw [U6_v47, select_at, h19, select_decide]
  unfold Items.tile
  by_cases h : t.val < Items.M c
  · have h' := (Items.ex_spec hN t.val).2.1
    have h1 : Items.I c (Items.ex c t.val) ≤ t.val := h'.trans (min_le_left _ _)
    have e41 : (V main_v41 : S287.Idx → BitVec 32) (ValueIdx.ix1 t) = BitVec.ofNat 32 (Items.S c (Items.ex c t.val) / 512 + t.val) := h41 t
    rw [if_pos h, if_pos h, subi_ap, picked hN _ h37 _ z _ h43 hz _ h9 t, e41]
    exact ofNat32_sub (show Items.I c (Items.ex c t.val) ≤ Items.S c (Items.ex c t.val) / 512 + t.val by omega)
  · rw [if_neg h, if_neg h, bc0]
    rfl

/-- The tables that the host operations leave. -/
theorem good (m : (ℓ : Loc nD τ sig) → Buf (Elt F) ℓ) (hc : Cnt (fun b => m (0, b)) c) : Good c (tbls m) := by
  let V0 : Vals F := fun b => m (0, b)
  have h2 := v2 V0 hc
  have h3 := v3 V0 hc
  have h4 := v4 (U1 V0) hN h3 (U1_c V0)
  have h9 := v9 (U1 V0) hN h2
  have h13 : Vec (U3 (U2 (U1 V0)) main_v13) (Items.per c) := by
    refine v13 (U2 (U1 V0)) hN (fun k => ?_) h4 h9
    rw [U2_v6, cmpi_at, U1_keep_arg1, bc0]
    exact congrArg (fun a => IntOp.cmpi .sgt a 0#32) (hc k)
  have h14 := v14 (U2 (U1 V0)) h13
  have h19 := v19 (U3 (U2 (U1 V0))) hN h14
  have h31 := v31 (U3 (U2 (U1 V0))) hN h14
  have h37 := v37 (U3 (U2 (U1 V0))) hN h14
  have h41 : Tab (U5 (U4 (U3 (U2 (U1 V0)))) main_v41) fun t => Items.S c (Items.ex c t) / 512 + t := by
    refine v41 (U4 (U3 (U2 (U1 V0)))) hN h37 (U2 (U1 V0) main_v4) h4 ?_ (U4_c_7 (U3 (U2 (U1 V0)))) (U4_v15 (U3 (U2 (U1 V0))))
    rw [U4_v38, U3_keep_v4]
  have h47 : Tab (U6 (U5 (U4 (U3 (U2 (U1 V0))))) main_v47) (Items.tile c) := by
    refine v47 (U5 (U4 (U3 (U2 (U1 V0))))) hN ?_ ?_ h41 (subi ((U4 (U3 (U2 (U1 V0)))) main_v14 : S32.Idx → BitVec 32) ((U4 (U3 (U2 (U1 V0)))) main_v13 : S32.Idx → BitVec 32)) ?_ (U5_v43 (U4 (U3 (U2 (U1 V0))))) (U5_c_9 (U4 (U3 (U2 (U1 V0)))))
    · rw [U5_keep_v37]; exact h37
    · rw [U5_keep_v19]; exact h19
    · intro k
      have e14 : (U3 (U2 (U1 V0)) main_v14 : S32.Idx → BitVec 32) (ValueIdx.ix1 k) = BitVec.ofNat 32 (Items.I c (k.val + 1)) := h14 k
      rw [subi_ap, U4_keep_v14, U4_keep_v13, e14, h13 k, ofNat32_sub (by rw [Items.I_succ]; omega), Items.I_succ, Nat.add_sub_cancel]
  have h31' : Tab ((U6 (U5 (U4 (U3 (U2 (U1 V0)))))) main_v31) (Items.ex c) := by rw [U6_keep_v31, U5_keep_v31]; exact h31
  have h37' : Mask ((U6 (U5 (U4 (U3 (U2 (U1 V0)))))) main_v37) c := by rw [U6_keep_v37, U5_keep_v37]; exact h37
  have h19' : ((U6 (U5 (U4 (U3 (U2 (U1 V0)))))) main_v19 : S287.Idx → BitVec 1) = (U4 (U3 (U2 (U1 V0)))) main_v19 := by rw [U6_keep_v19, U5_keep_v19]
  have h3' : Vec ((U6 (U5 (U4 (U3 (U2 (U1 V0)))))) main_v3) (Items.S c) := by
    rw [U6_keep_v3, U5_keep_v3, U4_keep_v3, U3_keep_v3, U2_keep_v3]; exact h3
  have h2' : Vec ((U6 (U5 (U4 (U3 (U2 (U1 V0)))))) main_v2) fun k => Items.S c (k + 1) := by
    rw [U6_keep_v2, U5_keep_v2, U4_keep_v2, U3_keep_v2, U2_keep_v2]; exact h2
  have hVV : ∀ b : Ref sig .tc, VV m 0 b = U8 (U7 (U6 (U5 (U4 (U3 (U2 (U1 V0))))))) b := fun b => VV_eq m 0 b
  have hT : ∀ t, Items.tile c t < 2 ^ 32 := fun t => by have := Items.tile_lt hN t; omega
  have hE : ∀ t, Items.ex c t < 2 ^ 32 := fun t => by have := Items.ex_lt hN t; omega
  refine ⟨hN, ?_, ?_, ?_, ?_, ?_, ?_, ?_⟩
  · intro t
    show (VV m 0 main_v47 : S287.Idx → BitVec 32) (ValueIdx.ix1 t) = _
    rw [hVV, U8_keep_v47, U7_keep_v47]; exact h47 t
  · intro t
    show (VV m 0 main_v31 : S287.Idx → BitVec 32) (ValueIdx.ix1 t) = _
    rw [hVV, U8_keep_v31, U7_keep_v31]; exact h31' t
  · intro t
    show (_ ∧ (VV m 0 main_v53 : S287.Idx → BitVec 32) (ValueIdx.ix1 t) = _) ∨ (_ ∧ (VV m 0 main_v53 : S287.Idx → BitVec 32) (ValueIdx.ix1 t) = _)
    rw [hVV, U8_keep_v53, U7_v53]
    exact Words.change _ (Items.tile c) h47 hT _ _ _ _ rfl _ t
  · intro t
    show (_ ∧ (VV m 0 main_v59 : S287.Idx → BitVec 32) (ValueIdx.ix1 t) = _) ∨ (_ ∧ (VV m 0 main_v59 : S287.Idx → BitVec 32) (ValueIdx.ix1 t) = _)
    rw [hVV, U8_keep_v59, U7_v59, extui_at, h19', h19]
    exact Words.bit_or _
  · intro t
    show (VV m 0 main_v62 : S287.Idx → BitVec 32) (ValueIdx.ix1 t) = _
    rw [hVV, U8_v62]
    refine picked hN _ ?_ _ ((U6 (U5 (U4 (U3 (U2 (U1 V0)))))) main_v3) _ (U7_v60 (U6 (U5 (U4 (U3 (U2 (U1 V0))))))) h3' _ (U7_c_13 (U6 (U5 (U4 (U3 (U2 (U1 V0))))))) t
    rw [U7_keep_v37]; exact h37'
  · intro t
    show (VV m 0 main_v65 : S287.Idx → BitVec 32) (ValueIdx.ix1 t) = _
    rw [hVV, U8_v65]
    refine picked hN _ ?_ _ ((U7 (U6 (U5 (U4 (U3 (U2 (U1 V0))))))) main_v2) (fun k => Items.S c (k + 1)) rfl ?_ _ rfl t
    · rw [U7_keep_v37]; exact h37'
    · rw [U7_keep_v2]; exact h2'
  · intro t
    show (_ ∧ (VV m 0 main_v58 : S287.Idx → BitVec 32) (ValueIdx.ix1 t) = _) ∨ (_ ∧ (VV m 0 main_v58 : S287.Idx → BitVec 32) (ValueIdx.ix1 t) = _)
    rw [hVV, U8_keep_v58, U7_v58]
    exact Words.change _ (Items.ex c) h31' hE _ _ _ _ rfl _ t

end Cert.Proof.Experts

end
-- ==== Proof.Experts.Pre.lean ====
/-
  What the precondition says of the group sizes, and the experts' run under it.
-/
module

public import proofs.«01_k».proof.Proof.Experts.Good
public import proofs.«01_k».proof.Pre_sorted_rows
public import proofs.«01_k».proof.Proof.Gen.Pre_sorted_rows
public import Idealize.ShloMosaic.Lib.Affine
public import Idealize.ShloMosaic.Lib.ReduceAll

@[expose] public section

noncomputable section

namespace Cert.Proof.Experts

open Idealize.ShloMosaic Idealize.ShloMosaic.Routing Idealize.ShloMosaic.WordCmp
open Cert.Proof

variable {F : FTy → Type} [FloatOps F]

/-- The group sizes as numbers. -/
def sizes (x : Cert.Pre_sorted_rows.S32.Idx → BitVec 32) (k : ℕ) : ℕ := if h : k < 32 then (x (ValueIdx.ix1 ⟨k, h⟩)).toNat else 0

theorem sizes_word (x : Cert.Pre_sorted_rows.S32.Idx → BitVec 32) (k : Fin 32) : x (ValueIdx.ix1 k) = BitVec.ofNat 32 (sizes x k.val) := by
  rw [sizes, dif_pos k.isLt]
  exact (BitVec.ofNat_toNat 32 _).symm ▸ (BitVec.setWidth_eq _).symm

theorem le_of_bounds (v : BitVec 32) (h0 : (0#32 : BitVec 32).toInt ≤ v.toInt) (h1 : v.toInt ≤ (32768#32 : BitVec 32).toInt) : v.toNat ≤ 32768 := by
  have e := BitVec.toInt_eq_toNat_cond v
  have e0 : (0#32 : BitVec 32).toInt = 0 := by decide
  have e1 : (32768#32 : BitVec 32).toInt = 32768 := by decide
  have := v.isLt
  rw [e0] at h0
  rw [e1] at h1
  split at e <;> omega

theorem total_of_pre (a0 : IVec Cert.Pre_sorted_rows.S131072x512 32) (x : Cert.Pre_sorted_rows.S32.Idx → BitVec 32)
    (a2 : FVec F Cert.Pre_sorted_rows.S32x1024x2048 .f32) (a3 : FVec F Cert.Pre_sorted_rows.S32x2048 .f32)
    (a4 : FVec F Cert.Pre_sorted_rows.S32x1024x1024 .f32) (a5 : FVec F Cert.Pre_sorted_rows.S32x1024 .f32)
    (h : @Cert.Pre_sorted_rows.fn Cert.Pre_sorted_rows.Gen.facts F _ a0 x a2 a3 a4 a5 = fun _ => 1#1) : Items.S (sizes x) 32 = 131072 := by
  dsimp only [Cert.Pre_sorted_rows.fn] at h
  have h := congrFun h ValueIdx.ix0
  obtain ⟨hA, hB⟩ := IntOp.andi_eq_one.1 h
  have hle : ∀ k : ℕ, sizes x k ≤ 32768 := by
    intro k
    unfold sizes
    split
    · rename_i hk
      have hk' := Idealize.ShloMosaic.Host.reduce_andi_all _ _ _ _ _ hA (ValueIdx.ix1 ⟨k, hk⟩)
      obtain ⟨h1, h2⟩ := IntOp.andi_eq_one.1 hk'
      exact le_of_bounds _ (IntOp.cmpi_sge.1 h1) (IntOp.cmpi_sle.1 h2)
    · exact Nat.zero_le _
  have hs := reduce_sum (N := 32) x (sizes x) (sizes_word x) Cert.Pre_sorted_rows.Gen.facts.reducesTo_S32_S_d0 Cert.Pre_sorted_rows.Gen.facts.h_S_
  rw [Words.sum_list] at hs
  have hb : ∑ j ∈ Finset.range 32, sizes x j ≤ 32 * 32768 :=
    (Finset.sum_le_card_nsmul _ _ 32768 fun k _ => hle k).trans (by rw [Finset.card_range]; decide)
  have e := (IntOp.cmpi_eq.1 hB)
  have e' : BitVec.ofNat 32 (∑ j ∈ Finset.range 32, sizes x j) = 131072#32 := hs.symm.trans e
  have e2 := congrArg BitVec.toNat e'
  rw [BitVec.toNat_ofNat, BitVec.toNat_ofNat, Nat.mod_eq_of_lt (by omega)] at e2
  exact e2.trans (by decide)

end Cert.Proof.Experts

end
-- ==== Proof.Experts.Spec.lean ====
/-
  The experts' result in extended reals: a row's group's first weights, the clipped gate, the second weights.
-/
module

public import Idealize.ShloMosaic.Lib.IdealHost
public import Idealize.ShloMosaic.Lib.MatmulPlain
public import Idealize.ShloMosaic.Lib.Pipeline.ValueKit
public import Idealize.ShloMosaic.Lib.Pipeline.Value

@[expose] public section

noncomputable section

namespace Cert.Proof.Experts.Spec

open Idealize.ShloMosaic

abbrev A2 (a b : ℕ) := (⟨2, ![a, b]⟩ : Shape).Idx → EReal
abbrev A3 (a b c : ℕ) := (⟨3, ![a, b, c]⟩ : Shape).Idx → EReal

abbrev W2 (a b : ℕ) := (⟨2, ![a, b]⟩ : Shape).Idx → BitVec 32

/-- The number in a word's low half, and the one in its high half. -/
def low (w : BitVec 32) : EReal := Ideal.ofBits .f32 (w <<< 16)
def high (w : BitVec 32) : EReal := Ideal.ofBits .f32 (w &&& 0xFFFF0000#32)

/-- Rows of packed words as numbers: the low halves first, the high halves after. -/
def unpack {R : ℕ} (x : W2 R 512) : A2 R 1024 := fun i =>
  if h : (i 1).val < 512 then low (x (ValueIdx.ix2 (i 0) ⟨(i 1).val, h⟩))
  else high (x (ValueIdx.ix2 (i 0) ⟨(i 1).val - 512, by have hi : (i 1).val < 1024 := (i 1).isLt; omega⟩))

theorem unpack_low {R : ℕ} (x : W2 R 512) (r : Fin R) (k : Fin 1024) (hk : k.val < 512) :
    unpack x (ValueIdx.ix2 r k) = low (x (ValueIdx.ix2 r ⟨k.val, hk⟩)) := by
  unfold unpack
  exact dif_pos (show ((ValueIdx.ix2 r k : (⟨2, ![R, 1024]⟩ : Shape).Idx) 1).val < 512 from hk)

theorem unpack_high {R : ℕ} (x : W2 R 512) (r : Fin R) (k : Fin 1024) (hk : ¬ k.val < 512) :
    unpack x (ValueIdx.ix2 r k) = high (x (ValueIdx.ix2 r ⟨k.val - 512, by have := k.isLt; omega⟩)) := by
  unfold unpack
  exact dif_neg (show ¬ ((ValueIdx.ix2 r k : (⟨2, ![R, 1024]⟩ : Shape).Idx) 1).val < 512 from hk)

/-- Low halves beside high halves are the unpacked rows. -/
theorem beside {R : ℕ} (x : W2 R 512) (u v : A2 R 512) (hu : ∀ i, u i = low (x i)) (hv : ∀ i, v i = high (x i))
    (h : Shape.Concatenates [⟨2, ![R, 512]⟩, ⟨2, ![R, 512]⟩] (⟨2, ![R, 1024]⟩ : Shape) (1 : Fin 2)) (r : Fin R) (k : Fin 1024) :
    concatenate (⟨2, ![R, 1024]⟩ : Shape) (1 : Fin 2) [⟨⟨2, ![R, 512]⟩, u⟩, ⟨⟨2, ![R, 512]⟩, v⟩] h (ValueIdx.ix2 r k) = unpack x (ValueIdx.ix2 r k) := by
  by_cases hk : k.val < 512
  · refine (concatenate_pair_apply_left (1 : Fin 2) u v h (ValueIdx.ix2 r k) rfl (ValueIdx.ix2 r ⟨k.val, hk⟩) fun b => ?_).trans ((hu _).trans ?_)
    · match b with
      | ⟨0, _⟩ => rfl
      | ⟨1, _⟩ => rfl
    · exact (unpack_low x r k hk).symm
  · have hk2 : k.val - 512 < 512 := by have := k.isLt; omega
    refine (concatenate_pair_apply_right (1 : Fin 2) u v h (ValueIdx.ix2 r k) rfl rfl (ValueIdx.ix2 r ⟨k.val - 512, hk2⟩) (fun b hb => ?_) ?_).trans ((hv _).trans ?_)
    · match b, hb with
      | ⟨0, _⟩, _ => rfl
      | ⟨1, _⟩, hb => exact absurd rfl hb
    · show k.val - 512 + 512 = k.val
      omega
    · exact (unpack_high x r k hk).symm

/-- A word shifted left by sixteen. -/
theorem shl16 (u : ArithUnit) (w : BitVec 32) : IntOp.shli u w 16#32 = w <<< 16 := by
  unfold IntOp.shli
  rw [if_pos (by decide)]
  rfl

/-- Shifted right and back left by sixteen, a word keeps its high half. -/
theorem high_half (u : ArithUnit) (w : BitVec 32) : IntOp.shli u (IntOp.shrui u w 16#32) 16#32 = w &&& 0xFFFF0000#32 := by
  rw [shl16]
  unfold IntOp.shrui
  rw [if_pos (by decide)]
  show (w >>> 16) <<< 16 = _
  have hm : (0xFFFF0000#32 : BitVec 32) = (BitVec.allOnes 32 >>> 16) <<< 16 := by decide
  rw [hm]
  apply BitVec.eq_of_getLsbD_eq
  intro i hi
  simp only [BitVec.getLsbD_and, BitVec.getLsbD_shiftLeft, BitVec.getLsbD_ushiftRight, BitVec.getLsbD_allOnes]
  by_cases h : i < 16
  · simp [h]
  · have e : 16 + (i - 16) = i := by omega
    simp [h, hi, e]

/-- 7 and −7, the bounds of the clipping, and the gate's 1.702, as the 32-bit numbers they are. -/
def seven : EReal := Ideal.ofBits .f32 0x40E00000#32
def minusSeven : EReal := Ideal.ofBits .f32 0xC0E00000#32
def slope : EReal := Ideal.ofBits .f32 0x3FD9DB23#32

/-- The gate: `g` clipped from above, times its logistic at the slope, times `l`, clipped from both sides, plus one. -/
def act (g l : EReal) : EReal :=
  min g seven * Ideal.logistic (slope * min g seven) * (min seven (max minusSeven l) + 1)

/-- Row `r` under group `e`'s first weights and biases, at column `q`. -/
def up (x : A2 131072 1024) (w : A3 32 1024 2048) (b : A2 32 2048) (e : Fin 32) (r : Fin 131072) (q : Fin 2048) : EReal :=
  ∑ k : Fin 1024, x (ValueIdx.ix2 r k) * w (ValueIdx.ix3 e k q) + b (ValueIdx.ix2 e q)

/-- The row after the gate, at column `f`. -/
def mid (x : A2 131072 1024) (w : A3 32 1024 2048) (b : A2 32 2048) (e : Fin 32) (r : Fin 131072) (f : Fin 1024) : EReal :=
  act (up x w b e r ⟨f.val, by omega⟩) (up x w b e r ⟨1024 + f.val, by omega⟩)

/-- The result's row, at column `j`. -/
def down (x : A2 131072 1024) (w : A3 32 1024 2048) (b : A2 32 2048) (d : A3 32 1024 1024) (b2 : A2 32 1024) (e : Fin 32)
    (r : Fin 131072) (j : Fin 1024) : EReal :=
  ∑ f : Fin 1024, mid x w b e r f * d (ValueIdx.ix3 e f j) + b2 (ValueIdx.ix2 e j)

end Cert.Proof.Experts.Spec

end
-- ==== Proof.Experts.Value.lean ====
/-
  What the experts' steps leave, in extended reals.
-/
module

public import proofs.«01_k».proof.Proof.Experts.Step
public import proofs.«01_k».proof.Proof.Experts.Spec
public import Idealize.ShloMosaic.Lib.Pipeline.Value
public import Idealize.ShloMosaic.Lib.ValueLayout

@[expose] public section

noncomputable section

namespace Cert.Proof.Experts

open Cert.ExpertsIdeal Cert.ExpertsIdeal.Gen

open Idealize.ShloMosaic

/-- A tile's packed words as numbers. -/
def unp (x : IVec S512x512 32) : FVec Ideal S512x1024 .bf16 :=
  truncf .bf16 (concatenate S512x1024 1 [⟨S512x512, bitcastToFloat (F := Ideal) .f32 (shli x (broadcast S512x512 16#32))⟩,
    ⟨S512x512, bitcastToFloat (F := Ideal) .f32 (andi x (broadcast S512x512 4294901760#32))⟩] concatenates_S512x512_S512x512_S512x1024_d1) bitsLt_bf16_f32

theorem unp_apply (x : IVec S512x512 32) (a : Fin 512) (k : Fin 1024) : unp x (ValueIdx.ix2 a k) = Spec.unpack x (ValueIdx.ix2 a k) :=
  Spec.beside x _ _ (fun i => congrArg (Ideal.ofBits .f32) (Spec.shl16 _ (x i))) (fun _ => rfl) concatenates_S512x512_S512x512_S512x1024_d1 a k

/-- A tile under one group's first weights. -/
def gu (x : FVec Ideal S512x1024 .bf16) (w : FVec Ideal S1024x2048 .bf16) (b : FVec Ideal S1x1x2048 .f32) : FVec Ideal S512x2048 .f32 :=
  addf (matmul dot_S512x1024_S1024x2048_S512x2048_1_0_0_1_n_n none x w (constant S512x2048 .f32 0x00000000#32))
    (broadcastTo S512x2048 (shapeCast S1x2048 b shapeCasts_S1x1x2048_S1x2048) broadcasts_S1x2048_S512x2048)

/-- The gate over a tile. -/
def gate (g : FVec Ideal S512x2048 .f32) : FVec Ideal S512x1024 .f32 :=
  have v19 : FVec Ideal S512x1024 .f32 := minimumf (extractStridedSlice S512x1024 ![0, 0] g slices_S512x2048_o0_0_S512x1024)
    (broadcast S512x1024 (Scalar.ofBits .f32 0x40E00000#32))
  mulf (mulf v19 (logistic (mulf (broadcast S512x1024 (Scalar.ofBits .f32 0x3FD9DB23#32)) v19)))
    (addf (minimumf (broadcast S512x1024 (Scalar.ofBits .f32 0x40E00000#32))
      (maximumf (broadcast S512x1024 (Scalar.ofBits .f32 0xC0E00000#32)) (extractStridedSlice S512x1024 ![0, 1024] g slices_S512x2048_o0_1024_S512x1024)))
      (broadcast S512x1024 (Scalar.ofBits .f32 0x3F800000#32)))

theorem pay6_eq (x : IVec S512x512 32) (w : FVec Ideal S1024x2048 .bf16) (b : FVec Ideal S1x1x2048 .f32) (d : FVec Ideal S1024x1024 .bf16)
    (c : FVec Ideal S1x1x1024 .f32) :
    k0_pay6 x w b d c = addf (matmul dot_S512x1024_S1024x1024_S512x1024_1_0_0_1_n_n none (truncf .bf16 (gate (gu (unp x) w b)) bitsLt_bf16_f32) d
        (constant S512x1024 .f32 0x00000000#32))
      (broadcastTo S512x1024 (shapeCast S1x1024 c shapeCasts_S1x1x1024_S1x1024) broadcasts_S1x1024_S512x1024) := rfl

/-- A row of biases repeated down a tile. -/
theorem bias {N : ℕ} (hN : N ≠ 1) (b : (⟨3, ![1, 1, N]⟩ : Shape).Idx → EReal) (h : (⟨3, ![1, 1, N]⟩ : Shape).ShapeCasts ⟨2, ![1, N]⟩)
    (h' : (⟨2, ![1, N]⟩ : Shape).Broadcasts ⟨2, ![512, N]⟩) (a : Fin 512) (q : Fin N) :
    broadcastTo ⟨2, ![512, N]⟩ (shapeCast ⟨2, ![1, N]⟩ b h) h' (ValueIdx.ix2 a q) = b (ValueIdx.ix3 (0 : Fin 1) (0 : Fin 1) q) := by
  refine (broadcastTo_apply _ h' _ (ValueIdx.ix2 (0 : Fin 1) q) fun k => ?_).trans (ValueIdx.shapeCast_1ab_ab_apply b h 0 q)
  match k with
  | ⟨0, _⟩ => rfl
  | ⟨1, _⟩ =>
    show q.val = if N = 1 then 0 else q.val
    rw [if_neg hN]

theorem gu_apply (x : FVec Ideal S512x1024 .bf16) (w : FVec Ideal S1024x2048 .bf16) (b : FVec Ideal S1x1x2048 .f32) (a : Fin 512) (q : Fin 2048) :
    gu x w b (ValueIdx.ix2 a q) = (∑ k : Fin 1024, x (ValueIdx.ix2 a k) * w (ValueIdx.ix2 k q) + b (ValueIdx.ix3 (0 : Fin 1) (0 : Fin 1) q) : EReal) := by
  have h1 := Ideal.matmul_plain_apply none x w (constant S512x2048 .f32 0x00000000#32) a q
  have h2 := bias (by decide) b shapeCasts_S1x1x2048_S1x2048 broadcasts_S1x2048_S512x2048 a q
  have h0 : (constant S512x2048 .f32 0x00000000#32 : FVec Ideal S512x2048 .f32) (ValueIdx.ix2 a q) = (0 : EReal) := Ideal.ofBits_zero_f32
  rw [h0, zero_add] at h1
  exact congrArg₂ (fun u v : EReal => u + v) h1 h2

theorem gate_apply (g : FVec Ideal S512x2048 .f32) (a : Fin 512) (f : Fin 1024) :
    gate g (ValueIdx.ix2 a f) = Spec.act (g (ValueIdx.ix2 a (⟨f.val, by omega⟩ : Fin 2048))) (g (ValueIdx.ix2 a (⟨1024 + f.val, by omega⟩ : Fin 2048))) := by
  have h1 : extractStridedSlice S512x1024 ![0, 0] g slices_S512x2048_o0_0_S512x1024 (ValueIdx.ix2 a f) = g (ValueIdx.ix2 a (⟨f.val, by omega⟩ : Fin 2048)) :=
    extractStridedSlice_apply _ g _ _ _ fun k => by
      match k with
      | ⟨0, _⟩ => exact (Nat.zero_add _).symm
      | ⟨1, _⟩ => exact (Nat.zero_add _).symm
  have h2 : extractStridedSlice S512x1024 ![0, 1024] g slices_S512x2048_o0_1024_S512x1024 (ValueIdx.ix2 a f) = g (ValueIdx.ix2 a (⟨1024 + f.val, by omega⟩ : Fin 2048)) :=
    extractStridedSlice_apply _ g _ _ _ fun k => by
      match k with
      | ⟨0, _⟩ => exact (Nat.zero_add _).symm
      | ⟨1, _⟩ => rfl
  have h3 : (Ideal.ofBits .f32 0x3F800000#32 : EReal) = 1 := Ideal.ofBits_one_f32
  rw [← h1, ← h2, Spec.act, ← h3]
  rfl

/-- A tile under one group's weights, entry by entry. -/
theorem YY_apply (x : S131072x512.Idx → BitVec 32) (w : S32x1024x2048.Idx → Elt Ideal .f32) (b : S32x1x2048.Idx → Elt Ideal .f32)
    (d : S32x1024x1024.Idx → Elt Ideal .f32) (b2 : S32x1x1024.Idx → Elt Ideal .f32) (B : Spec.A2 32 2048) (B2 : Spec.A2 32 1024)
    (hB : ∀ e q, b (ValueIdx.ix3 e (0 : Fin 1) q) = B (ValueIdx.ix2 e q)) (hB2 : ∀ e q, b2 (ValueIdx.ix3 e (0 : Fin 1) q) = B2 (ValueIdx.ix2 e q))
    (T : Fin 256) (e : Fin 32) (a : Fin 512) (j : Fin 1024) (r : Fin 131072) (hr : T.val * 512 + a.val = r.val) :
    YY x w b d b2 T e (ValueIdx.ix2 a j) = Spec.down (Spec.unpack x) w B d B2 e r j := by
  have hx : ∀ k : Fin 1024, unp (pblk x T) (ValueIdx.ix2 a k) = Spec.unpack x (ValueIdx.ix2 r k) := fun k => by
    have hp : ∀ q : Fin 512, pblk x T (ValueIdx.ix2 a q) = x (ValueIdx.ix2 r q) := fun q =>
      congrArg x (congrArg (fun z : Fin 131072 => ValueIdx.ix2 z q) (Fin.ext hr))
    rw [unp_apply]
    by_cases hk : k.val < 512
    · exact (Spec.unpack_low _ a k hk).trans ((congrArg Spec.low (hp _)).trans (Spec.unpack_low x r k hk).symm)
    · exact (Spec.unpack_high _ a k hk).trans ((congrArg Spec.high (hp _)).trans (Spec.unpack_high x r k hk).symm)
  have hw : ∀ (k : Fin 1024) (q : Fin 2048), k0_pay1 (F := Ideal) (wblk w e) (ValueIdx.ix2 k q) = w (ValueIdx.ix3 e k q) := fun k q => by
    unfold k0_pay1
    rw [shapeCast_self]
    exact (ValueIdx.shapeCast_1ab_ab_apply (wblk w e) shapeCasts_S1x1024x2048_S1024x2048 k q)
  have hd : ∀ (k : Fin 1024) (q : Fin 1024), k0_pay2 (F := Ideal) (dblk d e) (ValueIdx.ix2 k q) = d (ValueIdx.ix3 e k q) := fun k q => by
    unfold k0_pay2
    rw [shapeCast_self]
    exact (ValueIdx.shapeCast_1ab_ab_apply (dblk d e) shapeCasts_S1x1024x1024_S1024x1024 k q)
  have hg : ∀ q : Fin 2048, gu (unp (pblk x T)) (k0_pay1 (F := Ideal) (wblk w e)) (bblk b e) (ValueIdx.ix2 a q) = Spec.up (Spec.unpack x) w B e r q := fun q => by
    rw [gu_apply, Spec.up]
    refine congrArg₂ (fun u v : EReal => u + v) (Finset.sum_congr rfl fun k _ => ?_) (hB e q)
    rw [hx, hw]
  have hm : ∀ f : Fin 1024, gate (gu (unp (pblk x T)) (k0_pay1 (F := Ideal) (wblk w e)) (bblk b e)) (ValueIdx.ix2 a f) = Spec.mid (Spec.unpack x) w B e r f := fun f => by
    rw [gate_apply, hg, hg]
    rfl
  rw [YY, pay6_eq, Spec.down]
  have h1 := Ideal.matmul_plain_apply none (truncf .bf16 (gate (gu (unp (pblk x T)) (k0_pay1 (F := Ideal) (wblk w e)) (bblk b e))) bitsLt_bf16_f32)
    (k0_pay2 (F := Ideal) (dblk d e)) (constant S512x1024 .f32 0x00000000#32) a j
  have h2 := bias (by decide) (cblk b2 e) shapeCasts_S1x1x1024_S1x1024 broadcasts_S1x1024_S512x1024 a j
  have h0 : (constant S512x1024 .f32 0x00000000#32 : FVec Ideal S512x1024 .f32) (ValueIdx.ix2 a j) = (0 : EReal) := Ideal.ofBits_zero_f32
  rw [h0, zero_add] at h1
  refine (congrArg₂ (fun u v : EReal => u + v) h1 h2).trans (congrArg₂ (fun u v : EReal => u + v) (Finset.sum_congr rfl fun f _ => ?_) (hB2 e j))
  exact congrArg₂ (fun u v : EReal => u * v) (hm f) (hd f j)

/-- The experts' result, entry by entry. -/
theorem FULL_apply (n : ℕ → ℕ) (x : S131072x512.Idx → BitVec 32) (w : S32x1024x2048.Idx → Elt Ideal .f32) (b : S32x1x2048.Idx → Elt Ideal .f32)
    (d : S32x1024x1024.Idx → Elt Ideal .f32) (b2 : S32x1x1024.Idx → Elt Ideal .f32) (B : Spec.A2 32 2048) (B2 : Spec.A2 32 1024)
    (hB : ∀ e q, b (ValueIdx.ix3 e (0 : Fin 1) q) = B (ValueIdx.ix2 e q)) (hB2 : ∀ e q, b2 (ValueIdx.ix3 e (0 : Fin 1) q) = B2 (ValueIdx.ix2 e q))
    (r : Fin 131072) (j : Fin 1024) :
    FULL n x w b d b2 (ValueIdx.ix2 r j) = Spec.down (Spec.unpack x) w B d B2 (grp n r.val) r j :=
  YY_apply x w b d b2 B B2 hB hB2 _ _ _ _ r (Nat.div_add_mod' _ _)

end Cert.Proof.Experts

end
-- ==== Proof.Experts.RefValue.lean ====
/-
  What the experts' reference leaves, in extended reals.
-/
module

public import proofs.«01_k».proof.Proof.Experts.Words
public import proofs.«01_k».proof.Proof.Experts.Items
public import proofs.«01_k».proof.Proof.Experts.Spec
public import proofs.«01_k».proof.Proof.Gen.ExpertsRefIdeal
public import proofs.«01_k».proof.Proof.Gen.ExpertsRefIdeal.Run
public import Idealize.ShloMosaic.Lib.Routing.Ops
public import Idealize.ShloMosaic.Lib.WordCmp
public import Idealize.ShloMosaic.Lib.Pipeline.Value

@[expose] public section

noncomputable section

namespace Cert.Proof.Experts.Ref

open Cert.ExpertsRefIdeal Cert.ExpertsRefIdeal.Gen

open Idealize.ShloMosaic Idealize.ShloMosaic.Routing Idealize.ShloMosaic.WordCmp
open Cert.Proof

/-! ## Two operations read at an index -/

/-- The dimension numbers of taking whole matrices from a stack. -/
abbrev stack (n K N R : ℕ) (wf : GatherDims.WF ⟨3, ![n, K, N]⟩ ⟨2, ![R, 1]⟩ ⟨3, ![R, K, N]⟩ [1, 2] [0] [] [0] [] 1 ![1, K, N]) :
    GatherDims ⟨3, ![n, K, N]⟩ ⟨2, ![R, 1]⟩ ⟨3, ![R, K, N]⟩ := ⟨[1, 2], [0], [], [], [0], 1, ![1, K, N], wf⟩

/-- Whole matrices taken from a stack: where the index vector holds the matrix number `e`, entry `(r, k, j)` is the stack's `(e, k, j)`. -/
theorem take3 {α : Type} {n K N R : ℕ} (wf : GatherDims.WF ⟨3, ![n, K, N]⟩ ⟨2, ![R, 1]⟩ ⟨3, ![R, K, N]⟩ [1, 2] [0] [] [0] [] 1 ![1, K, N])
    (x : (⟨3, ![n, K, N]⟩ : Shape).Idx → α) (idx : IVec ⟨2, ![R, 1]⟩ 32) (r : Fin R) (k : Fin K) (j : Fin N) (e : Fin n)
    (he : idx (ValueIdx.ix2 r (0 : Fin 1)) = BitVec.ofNat 32 e.val) (hn : n < 2 ^ 31) :
    Host.gather (stack n K N R wf) x idx (ValueIdx.ix3 r k j) = x (ValueIdx.ix3 e k j) := by
  unfold Host.gather
  refine congrArg x (funext fun a => Fin.ext ?_)
  match a with
  | ⟨0, _⟩ =>
    show (stack n K N R wf).start (ValueIdx.ix3 r k j) idx (0 : Fin 3) + (stack n K N R wf).batchCoord (ValueIdx.ix3 r k j) (0 : Fin 3)
      + (stack n K N R wf).offCoord (ValueIdx.ix3 r k j) (0 : Fin 3) = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hs : (stack n K N R wf).siIdx (ValueIdx.ix3 r k j) ⟨List.idxOf (0 : Fin 3) [0], List.idxOf_lt_length_iff.2 (List.mem_singleton.mpr rfl)⟩ = ValueIdx.ix2 r (0 : Fin 1) := by
      funext b
      refine Fin.ext ?_
      match b with
      | ⟨0, _⟩ => rfl
      | ⟨1, _⟩ => rfl
    have hlt := e.isLt
    refine (congrArg (fun z : BitVec 32 => min z.toInt.toNat (n - 1)) ((congrArg idx hs).trans he)).trans ?_
    show min (BitVec.ofNat 32 e.val).toInt.toNat (n - 1) = e.val
    rw [StableHlo.Predicate.toInt_ofNat_small _ (by omega)]
    omega
  | ⟨1, _⟩ =>
    show (stack n K N R wf).start (ValueIdx.ix3 r k j) idx (1 : Fin 3) + (stack n K N R wf).batchCoord (ValueIdx.ix3 r k j) (1 : Fin 3)
      + (stack n K N R wf).offCoord (ValueIdx.ix3 r k j) (1 : Fin 3) = k.val
    rw [GatherDims.batchCoord_eq_zero _ _ _ List.not_mem_nil]
    unfold GatherDims.start
    rw [dif_neg (fun h => absurd (List.mem_singleton.1 h) (show ¬(1 : Fin 3) = 0 by decide)), Nat.zero_add]
    rfl
  | ⟨2, _⟩ =>
    show (stack n K N R wf).start (ValueIdx.ix3 r k j) idx (2 : Fin 3) + (stack n K N R wf).batchCoord (ValueIdx.ix3 r k j) (2 : Fin 3)
      + (stack n K N R wf).offCoord (ValueIdx.ix3 r k j) (2 : Fin 3) = j.val
    rw [GatherDims.batchCoord_eq_zero _ _ _ List.not_mem_nil]
    unfold GatherDims.start
    rw [dif_neg (fun h => absurd (List.mem_singleton.1 h) (show ¬(2 : Fin 3) = 0 by decide)), Nat.zero_add]
    rfl

/-- Row by row, a row times its own matrix. -/
theorem rows_apply {R K N : ℕ} (w : DotDims.WF ⟨2, ![R, K]⟩ ⟨3, ![R, K, N]⟩ ⟨2, ![R, N]⟩ [1] [1] [] [2] [0] [0])
    (A : FVec Ideal ⟨2, ![R, K]⟩ .f32) (B : FVec Ideal ⟨3, ![R, K, N]⟩ .f32) (r : Fin R) (j : Fin N) :
    Host.dotGeneral (⟨[1], [1], [], [2], [0], [0], w⟩ : DotDims _ _ _) none A B (ValueIdx.ix2 r j)
      = (∑ k : Fin K, A (ValueIdx.ix2 r k) * B (ValueIdx.ix3 r k j) : EReal) := by
  show FloatOps.dotGeneral _ none _ A B (ValueIdx.ix2 r j) = _
  rw [Ideal.dotGeneral_apply, ← Equiv.sum_comp (ValueIdx.contrEquiv1 (⟨[1], [1], [], [2], [0], [0], w⟩ : DotDims _ _ _) K rfl rfl).symm]
  refine Finset.sum_congr rfl fun k _ => ?_
  have hk := ValueIdx.contrEquiv1_symm_val (⟨[1], [1], [], [2], [0], [0], w⟩ : DotDims ⟨2, ![R, K]⟩ ⟨3, ![R, K, N]⟩ ⟨2, ![R, N]⟩) K rfl rfl k
  refine congrArg₂ (fun u v : EReal => u * v) (congrArg A (funext fun a => Fin.ext ?_)) (congrArg B (funext fun a => Fin.ext ?_))
  · match a with
    | ⟨0, _⟩ => simp [DotDims.lhsIdx]; rfl
    | ⟨1, _⟩ => simp [DotDims.lhsIdx]; exact hk
  · match a with
    | ⟨0, _⟩ => simp [DotDims.rhsIdx]; rfl
    | ⟨1, _⟩ => simp [DotDims.rhsIdx]; exact hk
    | ⟨2, _⟩ => simp [DotDims.rhsIdx]; rfl

/-! ## The rows' groups -/

/-- The ends of the groups. -/
def ends (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- How many groups end at or before each row. -/
def group (x : IVec S32 32) : IVec S131072 32 :=
  Host.reduce IntOp.addi (extui 32 (cmpi .sge (broadcastInDim S131072x32 ![0, 1] bcast_S131072x1_S131072x32_0_1 (broadcastInDim S131072x1 ![0] bcast_S131072_S131072x1_0 (iotaInDim S131072 32 0))) (broadcastInDim S131072x32 ![0, 1] bcast_S1x32_S131072x32_0_1 (broadcastInDim S1x32 ![1] bcast_S32_S1x32_1 (ends x)))) natLt_1_32) (constantI S_ 32 0#32) reducesTo_S131072x32_S131072_d1 h_S_

/-- The same as a column of indices. -/
def index (x : IVec S32 32) : IVec S131072x1 32 :=
  broadcastInDim S131072x1 ![0] bcast_S131072_S131072x1_0
    (select (cmpi .slt (group x) (broadcastInDim S131072 ![] bcast_S_S131072 (constantI S_ 32 0#32)))
      (addi (group x) (broadcastInDim S131072 ![] bcast_S_S131072 (constantI S_ 32 32#32))) (group x))

section
variable (x : IVec S32 32) (c : ℕ → ℕ) (hc : ∀ k : Fin 32, x (ValueIdx.ix1 k) = BitVec.ofNat 32 (c k.val)) (hN : Items.S c 32 = 131072)
include hc hN

theorem group_apply (r : Fin 131072) : group x (ValueIdx.ix1 r) = BitVec.ofNat 32 (Items.cnt (Items.S c) r.val) := by
  have hr := r.isLt
  refine (reduce_count (by decide) _ _ _ _ r (fun k => Items.S c (k + 1) ≤ r.val) ?_).trans ?_
  · intro q
    have hq : Items.S c (q.val + 1) ≤ 131072 := hN ▸ Items.S_mono c (show q.val + 1 ≤ 32 by omega)
    have e : ends x (ValueIdx.ix1 q) = BitVec.ofNat 32 (Items.S c (q.val + 1)) :=
      (cumsum1 rfl _ c hc _ rfl _ _ q).trans (by rw [Words.sum_list]; rfl)
    rw [cmpi_at, bcRows, bcCols, e]
    show IntOp.cmpi .sge (BitVec.ofNat 32 r.val) _ = 1#1 ↔ _
    rw [cmpi_sge_ofNat (w := 32) (by omega) (by omega), ofBool_decide_eq_one_iff]
  · rw [Words.count_cnt]

theorem index_apply (r : Fin 131072) : index x (ValueIdx.ix2 r (0 : Fin 1)) = BitVec.ofNat 32 (Items.cnt (Items.S c) r.val) := by
  have hr := r.isLt
  have h := (Items.cnt_spec (Items.S_mono c) rfl (r := r.val) (by omega)).1
  refine (bcCol _ _ r).trans ?_
  rw [select_at, cmpi_at, group_apply x c hc hN r, bc0]
  show Scalar.select (IntOp.cmpi .slt (BitVec.ofNat 32 (Items.cnt (Items.S c) r.val)) (BitVec.ofNat 32 0)) _ _ = _
  rw [cmpi_slt_ofNat (w := 32) (by omega) (by omega), select_decide, if_neg (by omega)]

end

/-! ## The rows under their groups' weights -/

/-- The packed words as numbers. -/
def unp (x : IVec S131072x512 32) : FVec Ideal S131072x1024 .f32 :=
  concatenate S131072x1024 1 [⟨S131072x512, bitcastToFloat (F := Ideal) .f32 (Host.shli x (broadcastInDim S131072x512 ![] bcast_S_S131072x512 (constantI S_ 32 16#32)))⟩,
    ⟨S131072x512, bitcastToFloat (F := Ideal) .f32 (Host.shli (Host.shrui x (broadcastInDim S131072x512 ![] bcast_S_S131072x512 (constantI S_ 32 16#32))) (broadcastInDim S131072x512 ![] bcast_S_S131072x512 (constantI S_ 32 16#32)))⟩]
    concatenates_S131072x512_S131072x512_S131072x1024_d1

theorem unp_apply (x : IVec S131072x512 32) (r : Fin 131072) (k : Fin 1024) : unp x (ValueIdx.ix2 r k) = Spec.unpack x (ValueIdx.ix2 r k) :=
  Spec.beside x _ _ (fun i => congrArg (Ideal.ofBits .f32) (Spec.shl16 _ (x i))) (fun i => congrArg (Ideal.ofBits .f32) (Spec.high_half _ (x i)))
    concatenates_S131072x512_S131072x512_S131072x1024_d1 r k

/-- Each row under its group's first weights. -/
def gu (x : IVec S131072x512 32) (n : IVec S32 32) (w : FVec Ideal S32x1024x2048 .f32) (b : FVec Ideal S32x2048 .f32) : FVec Ideal S131072x2048 .f32 :=
  addf (Host.dotGeneral dot_S131072x1024_S131072x1024x2048_S131072x2048_1_1_n_2_0_0 none (unp x)
      (Host.gather gather_S32x1024x2048_S131072x1_S131072x1024x2048_12_0_n_n_0_1_110242048 w (index n)))
    (Host.gather gather_S32x2048_S131072x1_S131072x2048_1_0_n_n_0_1_12048 b (index n))

/-- The gate over all rows. -/
def gate (g : FVec Ideal S131072x2048 .f32) : FVec Ideal S131072x1024 .f32 :=
  mulf (mulf (minimumf (extractStridedSlice S131072x1024 ![0, 0] g slices_S131072x2048_S131072x1024_0_0) (broadcastInDim S131072x1024 ![] bcast_S_S131072x1024 (constant S_ .f32 0x40E00000#32)))
      (Host.divf (broadcastInDim S131072x1024 ![] bcast_S_S131072x1024 (constant S_ .f32 0x3F800000#32)) (addf (broadcastInDim S131072x1024 ![] bcast_S_S131072x1024 (constant S_ .f32 0x3F800000#32)) (Host.exp (Host.negf (mulf (broadcastInDim S131072x1024 ![] bcast_S_S131072x1024 (constant S_ .f32 0x3FD9DB23#32)) (minimumf (extractStridedSlice S131072x1024 ![0, 0] g slices_S131072x2048_S131072x1024_0_0) (broadcastInDim S131072x1024 ![] bcast_S_S131072x1024 (constant S_ .f32 0x40E00000#32)))))))))
    (addf (minimumf (broadcastInDim S131072x1024 ![] bcast_S_S131072x1024 (id (constant S_ .f32 0x40E00000#32)))
        (maximumf (broadcastInDim S131072x1024 ![] bcast_S_S131072x1024 (id (constant S_ .f32 0xC0E00000#32))) (extractStridedSlice S131072x1024 ![0, 1024] g slices_S131072x2048_S131072x1024_0_1024)))
      (broadcastInDim S131072x1024 ![] bcast_S_S131072x1024 (constant S_ .f32 0x3F800000#32)))

/-- The reference's result. -/
def out (x : IVec S131072x512 32) (n : IVec S32 32) (w : FVec Ideal S32x1024x2048 .f32) (b : FVec Ideal S32x2048 .f32)
    (d : FVec Ideal S32x1024x1024 .f32) (b2 : FVec Ideal S32x1024 .f32) : FVec Ideal S131072x1024 .f32 :=
  addf (Host.dotGeneral dot_S131072x1024_S131072x1024x1024_S131072x1024_1_1_n_2_0_0 none (gate (gu x n w b))
      (Host.gather gather_S32x1024x1024_S131072x1_S131072x1024x1024_12_0_n_n_0_1_110241024 d (index n)))
    (Host.gather gather_S32x1024_S131072x1_S131072x1024_1_0_n_n_0_1_11024 b2 (index n))

theorem res_eq (m : (ℓ : Loc nD τ sig) → Buf (Elt Ideal) ℓ) (c : Dev nD) :
    Value.res_main_v66 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v66 out gate gu unp index group ends
  rfl

theorem gate_apply (g : FVec Ideal S131072x2048 .f32) (a : Fin 131072) (f : Fin 1024) :
    gate g (ValueIdx.ix2 a f) = Spec.act (g (ValueIdx.ix2 a (⟨f.val, by omega⟩ : Fin 2048))) (g (ValueIdx.ix2 a (⟨1024 + f.val, by omega⟩ : Fin 2048))) := by
  have h1 : extractStridedSlice S131072x1024 ![0, 0] g slices_S131072x2048_S131072x1024_0_0 (ValueIdx.ix2 a f) = g (ValueIdx.ix2 a (⟨f.val, by omega⟩ : Fin 2048)) :=
    extractStridedSlice_apply _ g _ _ _ fun k => by
      match k with
      | ⟨0, _⟩ => exact (Nat.zero_add _).symm
      | ⟨1, _⟩ => exact (Nat.zero_add _).symm
  have h2 : extractStridedSlice S131072x1024 ![0, 1024] g slices_S131072x2048_S131072x1024_0_1024 (ValueIdx.ix2 a f) = g (ValueIdx.ix2 a (⟨1024 + f.val, by omega⟩ : Fin 2048)) :=
    extractStridedSlice_apply _ g _ _ _ fun k => by
      match k with
      | ⟨0, _⟩ => exact (Nat.zero_add _).symm
      | ⟨1, _⟩ => rfl
  have h3 : (Ideal.ofBits .f32 0x3F800000#32 : EReal) = 1 := Ideal.ofBits_one_f32
  rw [← h1, ← h2, Spec.act, Ideal.logistic, ← h3]
  rfl

section
variable (x : IVec S131072x512 32) (n : IVec S32 32) (w : FVec Ideal S32x1024x2048 .f32) (b : FVec Ideal S32x2048 .f32)
  (d : FVec Ideal S32x1024x1024 .f32) (b2 : FVec Ideal S32x1024 .f32)
  (r : Fin 131072) (e : Fin 32) (he : index n (ValueIdx.ix2 r (0 : Fin 1)) = BitVec.ofNat 32 e.val)
include he

theorem gu_apply (q : Fin 2048) : gu x n w b (ValueIdx.ix2 r q) = Spec.up (Spec.unpack x) w b e r q := by
  refine congrArg₂ (fun u v : EReal => u + v) ((rows_apply _ _ _ r q).trans (Finset.sum_congr rfl fun k _ => ?_)) ?_
  · exact congrArg₂ (fun u v : EReal => u * v) (unp_apply x r k) (take3 _ w (index n) r k q e he (by decide))
  · exact gather_row _ rfl rfl rfl rfl rfl b (index n) r q e he (by decide)

theorem out_apply (j : Fin 1024) : out x n w b d b2 (ValueIdx.ix2 r j) = Spec.down (Spec.unpack x) w b d b2 e r j := by
  refine congrArg₂ (fun u v : EReal => u + v) ((rows_apply _ _ _ r j).trans (Finset.sum_congr rfl fun f _ => ?_)) ?_
  · refine congrArg₂ (fun u v : EReal => u * v) ?_ (take3 _ d (index n) r f j e he (by decide))
    rw [gate_apply, gu_apply x n w b r e he, gu_apply x n w b r e he]
    rfl
  · exact gather_row _ rfl rfl rfl rfl rfl b2 (index n) r j e he (by decide)

end

end Cert.Proof.Experts.Ref

end
-- ==== Proof.Experts.Final.lean ====
/-
  The experts' run under the precondition: what it leaves of its arguments and what its result is.
-/
module

public import proofs.«01_k».proof.Proof.Experts.Pre
public import proofs.«01_k».proof.Proof.Experts.Whole
public import proofs.«01_k».proof.Proof.Experts.Value
public import proofs.«01_k».proof.Proof.Experts.RefValue

@[expose] public section

noncomputable section

namespace Cert.Proof.Experts

open Idealize.ShloMosaic Idealize.SL.Sem Cert.ExpertsIdeal Cert.ExpertsIdeal.Gen
open Idealize.ShloMosaic.TcCoe
open Cert.Proof

section
variable {F : FTy → Type} [FloatOps F] [∀ e, Nonempty (Elt F e)]
variable (m : (ℓ : Loc nD τ sig) → Buf (Elt F) ℓ) (c : Dev nD)

theorem VV_arg0 : VV m c main_arg0 = m (c, main_arg0) := by
  rw [VV_eq, U8_keep_arg0, U7_keep_arg0, U6_keep_arg0, U5_keep_arg0, U4_keep_arg0, U3_keep_arg0, U2_keep_arg0, U1_keep_arg0]
theorem VV_arg1 : VV m c main_arg1 = m (c, main_arg1) := by
  rw [VV_eq, U8_keep_arg1, U7_keep_arg1, U6_keep_arg1, U5_keep_arg1, U4_keep_arg1, U3_keep_arg1, U2_keep_arg1, U1_keep_arg1]
theorem VV_arg2 : VV m c main_arg2 = m (c, main_arg2) := by
  rw [VV_eq, U8_keep_arg2, U7_keep_arg2, U6_keep_arg2, U5_keep_arg2, U4_keep_arg2, U3_keep_arg2, U2_keep_arg2, U1_keep_arg2]
theorem VV_arg3 : VV m c main_arg3 = m (c, main_arg3) := by
  rw [VV_eq, U8_keep_arg3, U7_keep_arg3, U6_keep_arg3, U5_keep_arg3, U4_keep_arg3, U3_keep_arg3, U2_keep_arg3, U1_keep_arg3]
theorem VV_arg4 : VV m c main_arg4 = m (c, main_arg4) := by
  rw [VV_eq, U8_keep_arg4, U7_keep_arg4, U6_keep_arg4, U5_keep_arg4, U4_keep_arg4, U3_keep_arg4, U2_keep_arg4, U1_keep_arg4]
theorem VV_arg5 : VV m c main_arg5 = m (c, main_arg5) := by
  rw [VV_eq, U8_keep_arg5, U7_keep_arg5, U6_keep_arg5, U5_keep_arg5, U4_keep_arg5, U3_keep_arg5, U2_keep_arg5, U1_keep_arg5]
theorem VV_v0 : VV m c main_v0 = shapeCast S32x1x2048 (m (c, main_arg3)) shapeCasts_S32x2048_S32x1x2048 := by
  rw [VV_eq, U8_keep_v0, U7_keep_v0, U6_keep_v0, U5_keep_v0, U4_keep_v0, U3_keep_v0, U2_keep_v0, U1_v0]
theorem VV_v1 : VV m c main_v1 = shapeCast S32x1x1024 (m (c, main_arg5)) shapeCasts_S32x1024_S32x1x1024 := by
  rw [VV_eq, U8_keep_v1, U7_keep_v1, U6_keep_v1, U5_keep_v1, U4_keep_v1, U3_keep_v1, U2_keep_v1, U1_v1]

/-- The group sizes of device 0, the only one. -/
def num : ℕ → ℕ := sizes (m ((0 : Dev nD), main_arg1))

theorem experts_run (ρ : Dev nD → PrngReg) (hN : Items.S (num m) 32 = 131072) :
    θ_run (defs (F := F)) (onTc (τ := τ) (main (F := F))) ⟨m, fun _ => 0, ρ⟩ fun r =>
      (∀ c : Dev nD, r.2.mem ((c.tc : Thread nD τ).loc main_v66) = RES (num m) (VV m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run _ _ _).mono (fun _ q => ⟨fun c => by
      obtain ⟨h, h0, h1, h2, h3, h4, h5⟩ := q.1 c
      exact ⟨h, h0.trans (VV_arg0 m c), h1.trans (VV_arg1 m c), h2.trans (VV_arg2 m c), h3.trans (VV_arg3 m c), h4.trans (VV_arg4 m c), h5.trans (VV_arg5 m c)⟩, q.2⟩)
    (program m (num m) (good hN m fun k => sizes_word _ k) ρ)

end

/-- A table of biases with a unit axis between its two. -/
theorem spread {N : ℕ} (x : Spec.A2 32 N) (h : (⟨2, ![32, N]⟩ : Shape).ShapeCasts ⟨3, ![32, 1, N]⟩) (e : Fin 32) (q : Fin N) :
    shapeCast ⟨3, ![32, 1, N]⟩ x h (ValueIdx.ix3 e (0 : Fin 1) q) = x (ValueIdx.ix2 e q) := by
  refine shapeCast_apply x h _ _ ?_
  rw [Shape.rowMajor_val_three, Shape.rowMajor_val_two]
  show e.val * N + q.val = (e.val * 1 + 0) * N + q.val
  rw [Nat.mul_one, Nat.add_zero]

/-- The experts' result is their reference's term. -/
theorem value_eq (m : (ℓ : Loc nD τ sig) → Buf (Elt Ideal) ℓ) (hN : Items.S (num m) 32 = 131072) (c : Dev nD) :
    (RES (num m) (VV m) c : S131072x1024.Idx → EReal) = Ref.out (m (c, main_arg0)) (m (c, main_arg1)) (m (c, main_arg2)) (m (c, main_arg3)) (m (c, main_arg4)) (m (c, main_arg5)) := by
  obtain rfl : c = (0 : Dev nD) := Subsingleton.elim _ _
  have hmod : ∀ r : Fin 131072, (grp (num m) r.val).val = Items.cnt (Items.S (num m)) r.val := fun r => by
    have hr := r.isLt
    exact Nat.mod_eq_of_lt (Items.cnt_spec (Items.S_mono _) rfl (r := r.val) (by omega)).1
  have hB : ∀ (e : Fin 32) (q : Fin 2048), (VV m 0 main_v0 : S32x1x2048.Idx → EReal) (ValueIdx.ix3 e (0 : Fin 1) q) = (m ((0 : Dev nD), main_arg3) : Spec.A2 32 2048) (ValueIdx.ix2 e q) := fun e q => by
    rw [VV_v0]
    exact spread _ _ e q
  have hB2 : ∀ (e : Fin 32) (q : Fin 1024), (VV m 0 main_v1 : S32x1x1024.Idx → EReal) (ValueIdx.ix3 e (0 : Fin 1) q) = (m ((0 : Dev nD), main_arg5) : Spec.A2 32 1024) (ValueIdx.ix2 e q) := fun e q => by
    rw [VV_v1]
    exact spread _ _ e q
  funext i
  obtain ⟨r, j, rfl⟩ : ∃ (r : Fin 131072) (j : Fin 1024), i = ValueIdx.ix2 r j := ⟨i 0, i 1, ValueIdx.eq_ix2 i⟩
  refine (FULL_apply (num m) _ _ _ _ _ _ _ hB hB2 r j).trans ?_
  rw [VV_arg0, VV_arg2, VV_arg4]
  refine (Ref.out_apply _ _ _ _ _ _ r (grp (num m) r.val) ?_ j).symm
  rw [hmod]
  exact Ref.index_apply _ (num m) (fun k => sizes_word _ k) hN r

end Cert.Proof.Experts

end
-- ==== Proof.Experts.SameFirst.lean ====
/-
  The experts' program printed for the machine and printed for extended reals is one text: the first part of the host's operations.
-/
module

public import proofs.«01_k».proof.Experts
public import proofs.«01_k».proof.ExpertsIdeal
public import proofs.«01_k».proof.Proof.Gen.Experts
public import proofs.«01_k».proof.Proof.Gen.ExpertsIdeal

@[expose] public section

noncomputable section

namespace Cert.Proof.Experts

open Idealize.ShloMosaic Idealize.SL.Sem

variable {F : FTy → Type} [FloatOps F]

set_option maxHeartbeats 4000000 in
theorem same_part0 : Cert.Experts.main_part0 (F := F) = Cert.ExpertsIdeal.main_part0 (F := F) := rfl

end Cert.Proof.Experts

end
-- ==== Proof.Experts.SameSecond.lean ====
/-
  The experts' program printed for the machine and printed for extended reals is one text: the second part of the host's operations.
-/
module

public import proofs.«01_k».proof.Experts
public import proofs.«01_k».proof.ExpertsIdeal
public import proofs.«01_k».proof.Proof.Gen.Experts
public import proofs.«01_k».proof.Proof.Gen.ExpertsIdeal

@[expose] public section

noncomputable section

namespace Cert.Proof.Experts

open Idealize.ShloMosaic Idealize.SL.Sem

variable {F : FTy → Type} [FloatOps F]

set_option maxHeartbeats 4000000 in
theorem same_part1 : Cert.Experts.main_part1 (F := F) = Cert.ExpertsIdeal.main_part1 (F := F) := rfl

end Cert.Proof.Experts

end
-- ==== Proof.Experts.Same.lean ====
/-
  The experts' program printed for the machine and printed for extended reals is one text, so that a run of the one is a run of the other.
-/
module

public import proofs.«01_k».proof.Experts
public import proofs.«01_k».proof.ExpertsIdeal
public import proofs.«01_k».proof.Proof.Gen.Experts
public import proofs.«01_k».proof.Proof.Gen.ExpertsIdeal
public import proofs.«01_k».proof.Proof.Experts.SameFirst
public import proofs.«01_k».proof.Proof.Experts.SameSecond

@[expose] public section

noncomputable section

namespace Cert.Proof.Experts

open Idealize.ShloMosaic Idealize.SL.Sem

variable {F : FTy → Type} [FloatOps F]

set_option maxHeartbeats 1000000 in
theorem same_kernel : Cert.Experts.cc0_experts (F := F) = Cert.ExpertsIdeal.cc0_experts (F := F) := rfl

set_option maxHeartbeats 1000000 in
theorem same_table : Cert.Experts.defs₀ (F := F) = Cert.ExpertsIdeal.defs₀ (F := F) := by
  unfold Cert.Experts.defs₀ Cert.ExpertsIdeal.defs₀
  refine congrArg _ (funext fun l => funext fun x => ?_)
  match l, x with
  | 0, (t, s) => rfl
  | ⟨_ + 1, h⟩, _ => exact absurd h (Nat.not_lt.2 (Nat.le_add_left _ _))

set_option maxHeartbeats 4000000 in
theorem same_defs : Cert.Experts.defs (F := F) = Cert.ExpertsIdeal.defs (F := F) :=
  congrArg (Pipeline.defs Cert.ExpertsIdeal.pcfgs) (same_table (F := F))

set_option maxHeartbeats 4000000 in
theorem same_main : Cert.Experts.main (F := F) = Cert.ExpertsIdeal.main (F := F) :=
  funext fun d => congrArg₂ (fun (p q : Prog (TpuEff Cert.ExpertsIdeal.nD Cert.ExpertsIdeal.τ Cert.ExpertsIdeal.sig (Elt F)
      (Pipeline.Sig Cert.ExpertsIdeal.Λ₀ (Fin 1) fun p => (Cert.ExpertsIdeal.pcfgs (F := F) p).Adm) .tc) PUnit) => (do p; q))
    (congrFun (same_part0 (F := F)) d) (congrFun (same_part1 (F := F)) d)

set_option maxHeartbeats 4000000 in
theorem same_run : θ_run (Cert.Experts.defs (F := F)) (onTc (τ := Cert.Experts.τ) (Cert.Experts.main (F := F)))
    = θ_run (Cert.ExpertsIdeal.defs (F := F)) (onTc (τ := Cert.ExpertsIdeal.τ) (Cert.ExpertsIdeal.main (F := F))) :=
  congrArg₂ (fun D M => θ_run D (onTc (τ := Cert.ExpertsIdeal.τ) M)) (same_defs (F := F)) (same_main (F := F))

/-- A run of the program printed for extended reals is a run of the one printed for the machine. -/
theorem run_of_ideal (σ) (Q) (h : (θ_run (Cert.ExpertsIdeal.defs (F := F)) (onTc (τ := Cert.ExpertsIdeal.τ) (Cert.ExpertsIdeal.main (F := F))) σ) Q) :
    (θ_run (Cert.Experts.defs (F := F)) (onTc (τ := Cert.Experts.τ) (Cert.Experts.main (F := F))) σ) Q :=
  (congrArg (fun X => (X σ) Q) (same_run (F := F))).mpr h

end Cert.Proof.Experts

end
-- ==== Proof.Ple.Spec.lean ====
/-
  The gated sum and the per-layer embedding in extended reals, token by token.
-/
module

public import Idealize.ShloMosaic.Lib.IdealHost
public import Idealize.ShloMosaic.Lib.Pointwise
public import Idealize.ShloMosaic.Lib.Pipeline.ValueKit
public import Idealize.ShloMosaic.Lib.Pipeline.Value

@[expose] public section

noncomputable section

namespace Cert.Proof.Ple.Spec

open Idealize.ShloMosaic

abbrev A2 (a b : ℕ) := (⟨2, ![a, b]⟩ : Shape).Idx → EReal
abbrev A3 (a b c : ℕ) := (⟨3, ![a, b, c]⟩ : Shape).Idx → EReal

/-- Choice `k`'s expert row of token `r`, at column `j`, times its gate. -/
def term (y : A3 4096 32 1024) (g : A2 32768 16) (r : Fin 32768) (j : Fin 1024) (k : Fin 4) : EReal :=
  y (ix3 (⟨r.val / 8, by omega⟩ : Fin 4096) (⟨8 * k.val + r.val % 8, by omega⟩ : Fin 32) j) * g (ix2 r (⟨4 + k.val, by omega⟩ : Fin 16))

/-- Token `r` after its four expert rows, at column `j`. -/
def row (h : A2 32768 1024) (y : A3 4096 32 1024) (g : A2 32768 16) (r : Fin 32768) (j : Fin 1024) : EReal :=
  h (ix2 r j) + term y g r j 0 + term y g r j 1 + term y g r j 2 + term y g r j 3

/-- The reciprocal root of a row's mean square. -/
def inv (h : Fin 1024 → EReal) : EReal :=
  Ideal.rsqrt (Ideal.div (∑ k : Fin 1024, h k * h k) (Ideal.ofBits .f32 0x44800000#32) + Ideal.ofBits .f32 0x358637BD#32)

/-- A row plus its embedding times its gate, at column `j`. -/
def out (h : Fin 1024 → EReal) (p : Fin 256 → EReal) (g : Fin 1024 → EReal) (a : A2 1024 1024) (b : A2 256 1024) (j : Fin 1024) : EReal :=
  h j + (∑ k : Fin 256, p k * b (ix2 k j)) * Ideal.logistic (∑ k : Fin 1024, h k * inv h * g k * a (ix2 k j))

end Cert.Proof.Ple.Spec

end
-- ==== Proof.Ple.RefValue.lean ====
/-
  What the embedding's reference leaves, in extended reals.
-/
module

public import proofs.«01_k».proof.Proof.Ple.Spec
public import proofs.«01_k».proof.Proof.Gen.PleRefIdeal
public import proofs.«01_k».proof.Proof.Gen.PleRefIdeal.Run
public import Idealize.ShloMosaic.Lib.Pointwise

@[expose] public section

noncomputable section

namespace Cert.Proof.Ple.Ref

open Cert.PleRefIdeal Cert.PleRefIdeal.Gen
open Idealize.ShloMosaic
open Cert.Proof.Ple

/-- The expert rows, token by token. -/
def rows (a1 : FVec Ideal S4096x32x1024 .f32) : FVec Ideal S32768x4x1024 .f32 :=
  shapeCast _ (transpose S4096x8x4x1024 [0, 2, 1, 3] (shapeCast _ a1 shapeCasts_S4096x32x1024_S4096x4x8x1024) transposes_S4096x4x8x1024_S4096x8x4x1024_0_2_1_3) shapeCasts_S4096x8x4x1024_S32768x4x1024

/-- The residual after the expert rows. -/
def sum (a0 : FVec Ideal S32768x1024 .f32) (a1 : FVec Ideal S4096x32x1024 .f32) (a2 : FVec Ideal S32768x16 .f32) : FVec Ideal S32768x1024 .f32 :=
  addf a0 (Host.reduceAdd (mulf (rows a1) (broadcastInDim S32768x4x1024 ![0, 1, 2] bcast_S32768x4x1_S32768x4x1024_0_1_2 (broadcastInDim S32768x4x1 ![0, 1] bcast_S32768x4_S32768x4x1_0_1 (extractStridedSlice S32768x4 ![0, 4] a2 slices_S32768x16_S32768x4_0_4)))) (constant S_ .f32 0x00000000#32) reducesTo_S32768x4x1024_S32768x1024_d1 h_S_)

/-- The reciprocal root of each row's mean square. -/
def rinv (h : FVec Ideal S32768x1024 .f32) : FVec Ideal S32768x1 .f32 :=
  Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))

/-- The rows made ready for the gate. -/
def normed (h : FVec Ideal S32768x1024 .f32) (a4 : FVec Ideal S1024 .f32) : FVec Ideal S32768x1024 .f32 :=
  mulf (mulf h (broadcastInDim S32768x1024 ![0, 1] bcast_S32768x1_S32768x1024_0_1 (rinv h))) (broadcastInDim S32768x1024 ![0, 1] bcast_S1x1024_S32768x1024_0_1 (broadcastInDim S1x1024 ![1] bcast_S1024_S1x1024_1 a4))

/-- The rows plus the gated embedding. -/
def out (h : FVec Ideal S32768x1024 .f32) (a3 : FVec Ideal S32768x256 .f32) (a4 : FVec Ideal S1024 .f32) (a5 : FVec Ideal S1024x1024 .f32) (a6 : FVec Ideal S256x1024 .f32) : FVec Ideal S32768x1024 .f32 :=
  addf h (mulf (Host.dotGeneral dot_S32768x256_S256x1024_S32768x1024_1_0_0_1_n_n none a3 a6) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (Host.dotGeneral dot_S32768x1024_S1024x1024_S32768x1024_1_0_0_1_n_n none (normed h a4) a5))))))

theorem rows_apply (a1 : FVec Ideal S4096x32x1024 .f32) (r : Fin 32768) (k : Fin 4) (j : Fin 1024) :
    rows a1 (ix3 r k j) = a1 (ix3 (⟨r.val / 8, by omega⟩ : Fin 4096) (⟨8 * k.val + r.val % 8, by omega⟩ : Fin 32) j) := by
  unfold rows
  rw [shapeCast_apply _ _ _ (ix4 (⟨r.val / 8, by omega⟩ : Fin 4096) (⟨r.val % 8, by omega⟩ : Fin 8) k j : S4096x8x4x1024.Idx) (by
      rw [Shape.rowMajor_val_four, Shape.rowMajor_val_three]
      show ((r.val / 8 * 8 + r.val % 8) * 4 + k.val) * 1024 + j.val = (r.val * 4 + k.val) * 1024 + j.val
      omega)]
  rw [transpose_apply _ _ _ _ (ix4 (⟨r.val / 8, by omega⟩ : Fin 4096) k (⟨r.val % 8, by omega⟩ : Fin 8) j : S4096x4x8x1024.Idx) (fun b => by
      match b with | ⟨0, _⟩ => rfl | ⟨1, _⟩ => rfl | ⟨2, _⟩ => rfl | ⟨3, _⟩ => rfl)]
  exact shapeCast_apply _ _ _ _ (by
      rw [Shape.rowMajor_val_three, Shape.rowMajor_val_four]
      show (r.val / 8 * 32 + (8 * k.val + r.val % 8)) * 1024 + j.val = ((r.val / 8 * 4 + k.val) * 8 + r.val % 8) * 1024 + j.val
      omega)

theorem sum_apply (a0 : FVec Ideal S32768x1024 .f32) (a1 : FVec Ideal S4096x32x1024 .f32) (a2 : FVec Ideal S32768x16 .f32) (r : Fin 32768) (j : Fin 1024) :
    sum a0 a1 a2 (ix2 r j) = Spec.row a0 a1 a2 r j := by
  unfold sum
  pointwise
  unfold Spec.row Spec.term
  rw [Fin.sum_univ_four]
  simp only [rows_apply]
  simp only [add_assoc]

theorem rinv_apply (h : FVec Ideal S32768x1024 .f32) (r : Fin 32768) :
    rinv h (ix2 r 0) = Spec.inv fun k => h (ix2 r k) := by
  unfold rinv Spec.inv
  pointwise

theorem normed_apply (h : FVec Ideal S32768x1024 .f32) (a4 : FVec Ideal S1024 .f32) (r : Fin 32768) (j : Fin 1024) :
    normed h a4 (ix2 r j) = h (ix2 r j) * (Spec.inv fun k => h (ix2 r k)) * a4 (ix1 j) := by
  rw [← rinv_apply h r]
  unfold normed
  pointwise

theorem out_apply (h : FVec Ideal S32768x1024 .f32) (a3 : FVec Ideal S32768x256 .f32) (a4 : FVec Ideal S1024 .f32) (a5 : FVec Ideal S1024x1024 .f32) (a6 : FVec Ideal S256x1024 .f32)
    (r : Fin 32768) (j : Fin 1024) :
    out h a3 a4 a5 a6 (ix2 r j) = Spec.out (fun k => h (ix2 r k)) (fun k => a3 (ix2 r k)) (fun k => a4 (ix1 k)) a5 a6 j := by
  unfold out Spec.out
  pointwise
  unfold Ideal.logistic
  simp only [normed_apply]

/-- The reference's result, entry by entry. -/
theorem value (a0 : FVec Ideal S32768x1024 .f32) (a1 : FVec Ideal S4096x32x1024 .f32) (a2 : FVec Ideal S32768x16 .f32) (a3 : FVec Ideal S32768x256 .f32)
    (a4 : FVec Ideal S1024 .f32) (a5 : FVec Ideal S1024x1024 .f32) (a6 : FVec Ideal S256x1024 .f32) (i : S32768x1024.Idx) :
    out (sum a0 a1 a2) a3 a4 a5 a6 i = Spec.out (Spec.row a0 a1 a2 (i 0)) (fun k => a3 (ix2 (i 0) k)) (fun k => a4 (ix1 k)) a5 a6 (i 1) := by
  obtain ⟨r, j, rfl⟩ : ∃ (r : Fin 32768) (j : Fin 1024), i = (ix2 r j : S32768x1024.Idx) := ⟨i 0, i 1, eq_ix2 i⟩
  rw [out_apply]
  congr 1
  exact funext fun k => sum_apply a0 a1 a2 r k

end Cert.Proof.Ple.Ref

end
-- ==== Proof.Ple.Block.lean ====
/-
  What the gated sum's kernel writes back at a grid point, as its own operations applied
  to the blocks it was given.
-/
module

public import proofs.«01_k».proof.Proof.Gen.PleIdeal.Value
public import Idealize.ShloMosaic.Lib.Pipeline.ValueKit
public import Idealize.ShloMosaic.Lib.Pipeline.ReadBack
public import Idealize.ShloMosaic.Lib.Pipeline.Value
public import Idealize.ShloMosaic.Lib.Pointwise

@[expose] public section

noncomputable section

namespace Cert.Proof.Ple.Block

open Cert.PleIdeal Cert.PleIdeal.Gen
open Idealize.ShloMosaic Idealize.ShloMosaic.TcCoe

variable {F : FTy → Type} [FloatOps F]
variable (m : (ℓ : Loc nD τ sig) → Buf (Elt F) ℓ)

/-- Eight of the thirty-two places, from place `k` on, of the sixty-four groups point `t` reads. -/
def slab (y : Vec F S4096x32x1024 .f32) (t : Fin 64) (k : ℕ) (hk : k + 8 ≤ 32) : Vec F S64x8x1024 .f32 := fun i =>
  y (ix3 (⟨64 * t.val + (i 0).val, by have h : (i 0).val < 64 := (i 0).isLt; have := t.isLt; omega⟩ : Fin 4096)
    (⟨k + (i 1).val, by have h : (i 1).val < 8 := (i 1).isLt; omega⟩ : Fin 32) (i 2))

/-- What a ring buffer gives from place `k` on, once block `t` of the expert rows has landed in it. -/
theorem landed (y : Vec F S4096x32x1024 .f32) (s : Fin 3) (t : Fin 64) (k : ℕ) (hk : k + 8 ≤ 32) (inb) :
    (rslot0_0 s).view.readCov (Val := Elt F) [⟨Rect.whole S64x32x1024, ReadAs.same.apply (View.read (Elt F) (srcB0_0 t).view y)⟩]
      (Rect.unit (s := S64x32x1024) ![0, k, 0] ![64, 8, 1024] inb).toLoadRect = slab y t k hk := by
  rw [View.readCov_eq_canon']
  funext j
  have e := View.canon_cons_emb (Val := Elt F) (e := .f32) (Rect.whole S64x32x1024) (ReadAs.same.apply (View.read (Elt F) (srcB0_0 t).view y)) []
    ((Rect.unit (s := S64x32x1024) ![0, k, 0] ![64, 8, 1024] inb).toLoadRect.idx j)
  rw [Rect.emb_whole_apply] at e
  refine e.trans ?_
  unfold slab
  show y _ = y _
  refine congrArg y (funext fun a => Fin.ext ?_)
  match a with
  | ⟨0, _⟩ => show 64 * t.val + 1 * (0 + 1 * (j 0).val) = 64 * t.val + (j 0).val; omega
  | ⟨1, _⟩ => show 0 + 1 * (k + 1 * (j 1).val) = k + (j 1).val; omega
  | ⟨2, _⟩ => show 0 + 1 * (0 + 1 * (j 2).val) = (j 2).val; omega

/-- The kernel's operations, on a point's blocks. -/
def stored (x0 : Vec F S512x1024 .f32) (x1 : Vec F S512x16 .f32) (x2 : Vec F S512x256 .f32) (x3 : Vec F S1x1024 .f32) (x4 : Vec F S1024x1024 .bf16)
    (x5 : Vec F S256x1024 .bf16) (y0 y1 y2 y3 : Vec F S64x8x1024 .f32) : Vec F S512x1024 .f32 :=
  k0_pay1 (k0_pay2 x0 x1 y0 y1 y2 y3) (k0_pay3 x3) (k0_pay4 x0 x1 y0 y1 y2 y3) (FloatOps.ofBits .f32 0x358637BD#32) x4 x2 x5

theorem flushed (c : Dev nD) (t : Fin 64) :
    (dats m 0 c).flushed 6 t = (win0 6).cut (grid0.coords t) (stored (iblk m c 0 t) (iblk m c 1 t) (iblk m c 2 t) (iblk m c 3 t) (iblk m c 4 t) (iblk m c 5 t)
      (slab (V m c main_arg1) t 0 (by omega)) (slab (V m c main_arg1) t 8 (by omega)) (slab (V m c main_arg1) t 16 (by omega)) (slab (V m c main_arg1) t 24 (by omega))) := by
  have hb : Ring.bk 64 t.val = t := Fin.ext (Ring.bk_val t.isLt)
  unfold stored
  by_cases h0 : t.val % 64 = 0
  · have h1 : t.val < 62 := by have := t.isLt; omega
    rw [Value.flushed6_A m c t h0 h1]
    frame_out
    rw [landed _ _ _ 0 (by omega), landed _ _ _ 8 (by omega), landed _ _ _ 16 (by omega), landed _ _ _ 24 (by omega), hb]
  · by_cases h1 : t.val < 62
    · rw [Value.flushed6_B m c t h0 h1]
      frame_out
      rw [landed _ _ _ 0 (by omega), landed _ _ _ 8 (by omega), landed _ _ _ 16 (by omega), landed _ _ _ 24 (by omega), hb]
    · rw [Value.flushed6_C m c t h0 h1]
      frame_out
      rw [landed _ _ _ 0 (by omega), landed _ _ _ 8 (by omega), landed _ _ _ 16 (by omega), landed _ _ _ 24 (by omega), hb]

end Cert.Proof.Ple.Block

end
-- ==== Proof.Ple.Value.lean ====
/-
  The array the gated sum's kernel leaves, in extended reals.
-/
module

public import proofs.«01_k».proof.Proof.Ple.Block
public import proofs.«01_k».proof.Proof.Ple.Spec

@[expose] public section

noncomputable section

namespace Cert.Proof.Ple.Value

open Cert.PleIdeal Cert.PleIdeal.Gen
open Idealize.ShloMosaic Idealize.ShloMosaic.TcCoe
open Cert.Proof.Ple Cert.Proof.Ple.Block

/-! ## The kernel's operations, entry by entry -/

section
variable (x0 : Vec Ideal S512x1024 .f32) (x1 : Vec Ideal S512x16 .f32) (x2 : Vec Ideal S512x256 .f32) (x3 : Vec Ideal S1x1024 .f32) (x4 : Vec Ideal S1024x1024 .bf16)
  (x5 : Vec Ideal S256x1024 .bf16) (y0 y1 y2 y3 : Vec Ideal S64x8x1024 .f32)

theorem pay2_apply (a : Fin 512) (j : Fin 1024) :
    (k0_pay2 x0 x1 y0 y1 y2 y3 : S512x1024.Idx → EReal) (ix2 a j) =
      (x0 (ix2 a j) : EReal) + (y0 (ix3 (⟨a.val / 8, by omega⟩ : Fin 64) (⟨a.val % 8, by omega⟩ : Fin 8) j) : EReal) * (x1 (ix2 a (4 : Fin 16)) : EReal)
        + (y1 (ix3 (⟨a.val / 8, by omega⟩ : Fin 64) (⟨a.val % 8, by omega⟩ : Fin 8) j) : EReal) * (x1 (ix2 a (5 : Fin 16)) : EReal)
        + (y2 (ix3 (⟨a.val / 8, by omega⟩ : Fin 64) (⟨a.val % 8, by omega⟩ : Fin 8) j) : EReal) * (x1 (ix2 a (6 : Fin 16)) : EReal)
        + (y3 (ix3 (⟨a.val / 8, by omega⟩ : Fin 64) (⟨a.val % 8, by omega⟩ : Fin 8) j) : EReal) * (x1 (ix2 a (7 : Fin 16)) : EReal) := by
  pointwise [k0_pay2]

theorem stored_apply (a : Fin 512) (j : Fin 1024) :
    (stored x0 x1 x2 x3 x4 x5 y0 y1 y2 y3 : S512x1024.Idx → EReal) (ix2 a j) =
      Spec.out (fun k => (k0_pay2 x0 x1 y0 y1 y2 y3 : S512x1024.Idx → EReal) (ix2 a k)) (fun k => x2 (ix2 a k)) (fun k => x3 (ix2 (0 : Fin 1) k)) x4 x5 j := by
  unfold stored Spec.out Spec.inv
  pointwise [k0_pay1, k0_pay3, k0_pay4]

end

/-! ## The windows -/

section
variable (m : (ℓ : Loc nD τ sig) → Buf (Elt Ideal) ℓ)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel

/-- The token in row `a` of point `t`'s blocks. -/
def tok (t : Fin 64) (a : Fin 512) : Fin 32768 := ⟨512 * t.val + a.val, by omega⟩

theorem iblk0 (c : Dev nD) (t : Fin 64) (a : Fin 512) (j : Fin 1024) :
    (iblk m c 0 t : S512x1024.Idx → EReal) (ix2 a j) = (V m c main_arg0 : S32768x1024.Idx → EReal) (ix2 (tok t a) j) := by
  show V m c main_arg0 ((win0_0.rect t).emb (ix2 a j)) = _
  refine congrArg (V m c main_arg0) (funext fun b => Fin.ext ?_)
  refine (win0_0.rect_emb_val t _ b).trans ?_
  match b with
  | ⟨0, _⟩ => show win0_0.index t 0 * 512 + a.val = 512 * t.val + a.val; rw [(index0 t).1]; omega
  | ⟨1, _⟩ => show win0_0.index t 1 * 1024 + j.val = j.val; rw [(index0 t).2]; omega

theorem iblk1 (c : Dev nD) (t : Fin 64) (a : Fin 512) (j : Fin 16) :
    (iblk m c 1 t : S512x16.Idx → EReal) (ix2 a j) = (V m c main_arg2 : S32768x16.Idx → EReal) (ix2 (tok t a) j) := by
  show V m c main_arg2 ((win0_1.rect t).emb (ix2 a j)) = _
  refine congrArg (V m c main_arg2) (funext fun b => Fin.ext ?_)
  refine (win0_1.rect_emb_val t _ b).trans ?_
  match b with
  | ⟨0, _⟩ => show win0_1.index t 0 * 512 + a.val = 512 * t.val + a.val; rw [(index1 t).1]; omega
  | ⟨1, _⟩ => show win0_1.index t 1 * 16 + j.val = j.val; rw [(index1 t).2]; omega

theorem iblk2 (c : Dev nD) (t : Fin 64) (a : Fin 512) (j : Fin 256) :
    (iblk m c 2 t : S512x256.Idx → EReal) (ix2 a j) = (V m c main_arg3 : S32768x256.Idx → EReal) (ix2 (tok t a) j) := by
  show V m c main_arg3 ((win0_2.rect t).emb (ix2 a j)) = _
  refine congrArg (V m c main_arg3) (funext fun b => Fin.ext ?_)
  refine (win0_2.rect_emb_val t _ b).trans ?_
  match b with
  | ⟨0, _⟩ => show win0_2.index t 0 * 512 + a.val = 512 * t.val + a.val; rw [(index2 t).1]; omega
  | ⟨1, _⟩ => show win0_2.index t 1 * 256 + j.val = j.val; rw [(index2 t).2]; omega

theorem iblk3 (c : Dev nD) (t : Fin 64) : (iblk m c 3 t : S1x1024.Idx → EReal) = (V m c main_v0 : S1x1024.Idx → EReal) := by
  funext i
  show V m c main_v0 ((win0_3.rect t).emb i) = V m c main_v0 i
  refine congrArg (V m c main_v0) (funext fun b => Fin.ext ?_)
  match b with
  | ⟨0, _⟩ => exact win0_3.rect_emb_val_of_index_zero t 0 (index3 t).1 _
  | ⟨1, _⟩ => exact win0_3.rect_emb_val_of_index_zero t 1 (index3 t).2 _

theorem iblk4 (c : Dev nD) (t : Fin 64) : (iblk m c 4 t : S1024x1024.Idx → EReal) = (V m c main_v1 : S1024x1024.Idx → EReal) := by
  funext i
  show V m c main_v1 ((win0_4.rect t).emb i) = V m c main_v1 i
  refine congrArg (V m c main_v1) (funext fun b => Fin.ext ?_)
  match b with
  | ⟨0, _⟩ => exact win0_4.rect_emb_val_of_index_zero t 0 (index4 t).1 _
  | ⟨1, _⟩ => exact win0_4.rect_emb_val_of_index_zero t 1 (index4 t).2 _

theorem iblk5 (c : Dev nD) (t : Fin 64) : (iblk m c 5 t : S256x1024.Idx → EReal) = (V m c main_v2 : S256x1024.Idx → EReal) := by
  funext i
  show V m c main_v2 ((win0_5.rect t).emb i) = V m c main_v2 i
  refine congrArg (V m c main_v2) (funext fun b => Fin.ext ?_)
  match b with
  | ⟨0, _⟩ => exact win0_5.rect_emb_val_of_index_zero t 0 (index5 t).1 _
  | ⟨1, _⟩ => exact win0_5.rect_emb_val_of_index_zero t 1 (index5 t).2 _

theorem emb6 (t : Fin 64) (a : Fin 512) (j : Fin 1024) : ((cfg0.win 6).blk t).view.emb (ix2 a j : S512x1024.Idx) = (ix2 (tok t a) j : S32768x1024.Idx) := by
  show (win0_6.rect t).emb (ix2 a j) = _
  refine funext fun b => Fin.ext ?_
  refine (win0_6.rect_emb_val t _ b).trans ?_
  match b with
  | ⟨0, _⟩ => show win0_6.index t 0 * 512 + a.val = 512 * t.val + a.val; rw [(index6 t).1]; omega
  | ⟨1, _⟩ => show win0_6.index t 1 * 1024 + j.val = j.val; rw [(index6 t).2]; omega

/-! ## What the host hands the kernel -/

theorem v0_apply (c : Dev nD) (k : Fin 1024) : (V m c main_v0 : S1x1024.Idx → EReal) (ix2 (0 : Fin 1) k) = (m ((c : Thread nD τ).loc main_arg4) : S1024.Idx → EReal) (ix1 k) := by
  have e : V m c main_v0 = shapeCast S1x1024 (m ((c : Thread nD τ).loc main_arg4)) shapeCasts_S1024_S1x1024 := by
    unfold V
    after_results_simp <;> rfl
  rw [e]
  pointwise

theorem v1_eq (c : Dev nD) : (V m c main_v1 : S1024x1024.Idx → EReal) = (m ((c : Thread nD τ).loc main_arg5) : S1024x1024.Idx → EReal) := by
  unfold V
  after_results_simp <;> rfl

theorem v2_eq (c : Dev nD) : (V m c main_v2 : S256x1024.Idx → EReal) = (m ((c : Thread nD τ).loc main_arg6) : S256x1024.Idx → EReal) := by
  unfold V
  after_results_simp <;> rfl

/-! ## The array -/

/-- What the kernel's result holds of its arguments. -/
def result (a0 : Spec.A2 32768 1024) (a1 : Spec.A3 4096 32 1024) (a2 : Spec.A2 32768 16) (a3 : Spec.A2 32768 256) (a4 : S1024.Idx → EReal) (a5 : Spec.A2 1024 1024)
    (a6 : Spec.A2 256 1024) : S32768x1024.Idx → EReal := fun i =>
  Spec.out (Spec.row a0 a1 a2 (i 0)) (fun k => a3 (ix2 (i 0) k)) (fun k => a4 (ix1 k)) a5 a6 (i 1)

/-- Device `c`'s result array, of its argument arrays. -/
abbrev goal (c : Dev nD) : Buf (Elt Ideal) ((c : Thread nD τ).loc main_v3) :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem slab_apply (y : S4096x32x1024.Idx → EReal) (t : Fin 64) (k : Fin 4) (a : Fin 512) (j : Fin 1024) (n : ℕ) (hk : n + 8 ≤ 32) (hn : n = 8 * k.val) :
    (slab (F := Ideal) y t n hk : S64x8x1024.Idx → EReal) (ix3 (⟨a.val / 8, by omega⟩ : Fin 64) (⟨a.val % 8, by omega⟩ : Fin 8) j) =
      y (ix3 (⟨(tok t a).val / 8, by omega⟩ : Fin 4096) (⟨8 * k.val + (tok t a).val % 8, by omega⟩ : Fin 32) j) := by
  subst hn
  unfold slab tok
  refine congrArg y (funext fun b => Fin.ext ?_)
  match b with
  | ⟨0, _⟩ => show 64 * t.val + a.val / 8 = (512 * t.val + a.val) / 8; omega
  | ⟨1, _⟩ => show 8 * k.val + a.val % 8 = 8 * k.val + (512 * t.val + a.val) % 8; omega
  | ⟨2, _⟩ => rfl

/-- Every point writes back its block of the goal. -/
theorem flushed_eq (c : Dev nD) (t : Fin 64) : (dats m 0 c).flushed 6 t = ((cfg0.win 6).blk t).view.read (Elt Ideal) (goal m c) := by
  rw [Block.flushed m c t]
  funext i
  obtain ⟨a, j, rfl⟩ : ∃ (a : Fin 512) (j : Fin 1024), i = (ix2 a j : S512x1024.Idx) := ⟨i 0, i 1, eq_ix2 i⟩
  show stored _ _ _ _ _ _ _ _ _ _ (ix2 a j) = goal m c (((cfg0.win 6).blk t).view.emb (ix2 a j : S512x1024.Idx))
  rw [emb6]
  refine (stored_apply _ _ _ _ _ _ _ _ _ _ a j).trans ?_
  show _ = Spec.out _ _ _ _ _ j
  congr 1
  · funext k
    rw [pay2_apply, iblk0, iblk1, iblk1, iblk1, iblk1, slab_apply _ t 0 a k 0 (by omega) rfl, slab_apply _ t 1 a k 8 (by omega) rfl, slab_apply _ t 2 a k 16 (by omega) rfl,
      slab_apply _ t 3 a k 24 (by omega) rfl, V_main_arg0, V_main_arg1, V_main_arg2]
    rfl
  · funext k
    rw [iblk2, V_main_arg3]
    rfl
  · funext k
    rw [iblk3]
    exact v0_apply m c k
  · exact (iblk4 m c t).trans (v1_eq m c)
  · exact (iblk5 m c t).trans (v2_eq m c)

/-- Every entry is in some point's block. -/
theorem cover (i : S32768x1024.Idx) : ∃ t : Fin cfg0.N, (cfg0.win 6).flush t = true ∧ i ∈ ((cfg0.win 6).blk t).view.set := by
  have h : (i 0).val < 32768 := (i 0).isLt
  let t : Fin 64 := ⟨(i 0).val / 512, by omega⟩
  refine ⟨t, flush0_6 t, ?_⟩
  have e : ((cfg0.win 6).blk t).view.emb (ix2 (⟨(i 0).val % 512, by omega⟩ : Fin 512) (i 1) : S512x1024.Idx) = i := by
    refine (emb6 t _ _).trans ?_
    refine funext fun b => Fin.ext ?_
    match b with
    | ⟨0, _⟩ => show 512 * ((i 0).val / 512) + (i 0).val % 512 = (i 0).val; omega
    | ⟨1, _⟩ => rfl
  rw [← e]
  exact ((cfg0.win 6).blk t).view.emb_mem_set _

/-- So the array ends at the goal. -/
theorem final (c : Dev nD) : (dats m 0 c).arrAt 6 cfg0.N = goal m c :=
  (dats m 0 c).arrAt_eq_of_cover 6 (goal m c) (fun t _ => flushed_eq m c t) cover

end

end Cert.Proof.Ple.Value

end
-- ==== Proof.Proj.Spec.lean ====
/-
  The keys' latent rows in extended reals, token by token.
-/
module

public import Idealize.ShloMosaic.Lib.IdealHost
public import Idealize.ShloMosaic.Lib.Pointwise
public import Idealize.ShloMosaic.Lib.Pipeline.ValueKit
public import Idealize.ShloMosaic.Lib.Pipeline.Value

@[expose] public section

noncomputable section

namespace Cert.Proof.Proj.Spec

open Idealize.ShloMosaic

abbrev A2 (a b : ℕ) := (⟨2, ![a, b]⟩ : Shape).Idx → EReal

/-- The reciprocal root of a token's mean square. -/
def inv (x : Fin 1024 → EReal) : EReal :=
  Ideal.rsqrt (Ideal.div (∑ k : Fin 1024, x k * x k) (Ideal.ofBits .f32 0x44800000#32) + Ideal.ofBits .f32 0x358637BD#32)

/-- The reciprocal root of a latent row's mean square. -/
def linv (z : Fin 256 → EReal) : EReal :=
  Ideal.rsqrt (Ideal.div (∑ k : Fin 256, z k * z k) (Ideal.ofBits .f32 0x43800000#32) + Ideal.ofBits .f32 0x358637BD#32)

/-- The normed token times column `896 + j` of the weights. -/
def dot (x g : Fin 1024 → EReal) (w : A2 1024 1184) (j : Fin 256) : EReal :=
  ∑ k : Fin 1024, x k * inv x * g k * w (ix2 k (⟨896 + j.val, by omega⟩ : Fin 1184))

/-- The token's latent row at column `j`. -/
def out (x g : Fin 1024 → EReal) (w : A2 1024 1184) (gk : Fin 256 → EReal) (j : Fin 256) : EReal :=
  dot x g w j * linv (dot x g w) * gk j

end Cert.Proof.Proj.Spec

end
-- ==== Proof.Proj.Prompt.lean ====
/-
  The latent rows the projection's kernel leaves of the prompt, in extended reals.
-/
module

public import proofs.«01_k».proof.Proof.Proj.Spec
public import proofs.«01_k».proof.Proof.Gen.ProjIdeal.Frame
public import Idealize.ShloMosaic.Lib.Pipeline.Value
public import Idealize.ShloMosaic.Lib.Pipeline.ReadBack

@[expose] public section

noncomputable section

namespace Cert.Proof.Proj.Prompt

open Cert.ProjIdeal Cert.ProjIdeal.Gen
open Idealize.ShloMosaic Idealize.ShloMosaic.TcCoe Idealize.SL.Sem
open Cert.Proof.Proj

/-! ## The kernel's operations, entry by entry -/

section
variable (x0 : Vec Ideal S512x1024 .f32) (x3 : Vec Ideal S1x1024 .f32) (x4 : Vec Ideal S1024x1408 .bf16) (x7 : Vec Ideal S1x256 .f32)

/-- Column `896 + j` of the product, the weights having 1408 columns. -/
theorem dot_apply (a : Fin 512) (j : Fin 256) :
    (k0_pay8 x0 x3 x4 : S512x256.Idx → EReal) (ix2 a j) =
      ∑ k : Fin 1024, (x0 (ix2 a k) : EReal) * Spec.inv (fun l => x0 (ix2 a l)) * (x3 (ix2 (0 : Fin 1) k) : EReal) * (x4 (ix2 k (⟨896 + j.val, by omega⟩ : Fin 1408)) : EReal) := by
  unfold Spec.inv
  pointwise [k0_pay8, k0_pay5]

theorem lat_apply (z : FVec Ideal S512x256 .f32) (a : Fin 512) (j : Fin 256) :
    (k0_pay14 z x7 : S512x256.Idx → EReal) (ix2 a j) = (z (ix2 a j) : EReal) * Spec.linv (fun l => z (ix2 a l)) * (x7 (ix2 (0 : Fin 1) j) : EReal) := by
  unfold Spec.linv
  pointwise [k0_pay14]

end

/-! ## The windows -/

section
variable (m : (ℓ : Loc nD τ sig) → Buf (Elt Ideal) ℓ)

theorem index0 : ∀ t : Fin grid0.N, win0_0.index t 0 = t.val ∧ win0_0.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index7 : ∀ t : Fin grid0.N, win0_7.index t 0 = 0 ∧ win0_7.index t 1 = 0 := by decide +kernel
theorem index16 : ∀ t : Fin grid0.N, win0_16.index t 0 = t.val ∧ win0_16.index t 1 = 0 := by decide +kernel

/-- The token in row `a` of point `t`'s blocks. -/
def tok (t : Fin 64) (a : Fin 512) : Fin 32768 := ⟨512 * t.val + a.val, by omega⟩

theorem iblk0 (c : Dev nD) (t : Fin 64) (a : Fin 512) (j : Fin 1024) :
    (iblk m c 0 t : S512x1024.Idx → EReal) (ix2 a j) = (V m c main_arg0 : S32768x1024.Idx → EReal) (ix2 (tok t a) j) := by
  show V m c main_arg0 ((win0_0.rect t).emb (ix2 a j)) = _
  refine congrArg (V m c main_arg0) (funext fun b => Fin.ext ?_)
  refine (win0_0.rect_emb_val t _ b).trans ?_
  match b with
  | ⟨0, _⟩ => show win0_0.index t 0 * 512 + a.val = 512 * t.val + a.val; rw [(index0 t).1]; omega
  | ⟨1, _⟩ => show win0_0.index t 1 * 1024 + j.val = j.val; rw [(index0 t).2]; omega

theorem iblk3 (c : Dev nD) (t : Fin 64) : (iblk m c 3 t : S1x1024.Idx → EReal) = (V m c main_v13 : S1x1024.Idx → EReal) := by
  funext i
  show V m c main_v13 ((win0_3.rect t).emb i) = V m c main_v13 i
  refine congrArg (V m c main_v13) (funext fun b => Fin.ext ?_)
  match b with
  | ⟨0, _⟩ => exact win0_3.rect_emb_val_of_index_zero t 0 (index3 t).1 _
  | ⟨1, _⟩ => exact win0_3.rect_emb_val_of_index_zero t 1 (index3 t).2 _

theorem iblk4 (c : Dev nD) (t : Fin 64) : (iblk m c 4 t : S1024x1408.Idx → EReal) = (V m c main_v12 : S1024x1408.Idx → EReal) := by
  funext i
  show V m c main_v12 ((win0_4.rect t).emb i) = V m c main_v12 i
  refine congrArg (V m c main_v12) (funext fun b => Fin.ext ?_)
  match b with
  | ⟨0, _⟩ => exact win0_4.rect_emb_val_of_index_zero t 0 (index4 t).1 _
  | ⟨1, _⟩ => exact win0_4.rect_emb_val_of_index_zero t 1 (index4 t).2 _

theorem iblk7 (c : Dev nD) (t : Fin 64) : (iblk m c 7 t : S1x256.Idx → EReal) = (V m c main_v15 : S1x256.Idx → EReal) := by
  funext i
  show V m c main_v15 ((win0_7.rect t).emb i) = V m c main_v15 i
  refine congrArg (V m c main_v15) (funext fun b => Fin.ext ?_)
  match b with
  | ⟨0, _⟩ => exact win0_7.rect_emb_val_of_index_zero t 0 (index7 t).1 _
  | ⟨1, _⟩ => exact win0_7.rect_emb_val_of_index_zero t 1 (index7 t).2 _

theorem emb16 (t : Fin 64) (a : Fin 512) (j : Fin 256) : ((cfg0.win 16).blk t).view.emb (ix2 a j : S512x256.Idx) = (ix2 (tok t a) j : S32768x256.Idx) := by
  show (win0_16.rect t).emb (ix2 a j) = _
  refine funext fun b => Fin.ext ?_
  refine (win0_16.rect_emb_val t _ b).trans ?_
  match b with
  | ⟨0, _⟩ => show win0_16.index t 0 * 512 + a.val = 512 * t.val + a.val; rw [(index16 t).1]; omega
  | ⟨1, _⟩ => show win0_16.index t 1 * 256 + j.val = j.val; rw [(index16 t).2]; omega

/-! ## What the host hands the kernel -/

theorem v13_apply (c : Dev nD) (k : Fin 1024) : (V m c main_v13 : S1x1024.Idx → EReal) (ix2 (0 : Fin 1) k) = (m ((c : Thread nD τ).loc main_arg3) : S1024.Idx → EReal) (ix1 k) := by
  have e : V m c main_v13 = shapeCast S1x1024 (m ((c : Thread nD τ).loc main_arg3)) shapeCasts_S1024_S1x1024 := by
    unfold V
    after_results_simp <;> rfl
  rw [e]
  pointwise

theorem v15_apply (c : Dev nD) (k : Fin 256) : (V m c main_v15 : S1x256.Idx → EReal) (ix2 (0 : Fin 1) k) = (m ((c : Thread nD τ).loc main_arg7) : S256.Idx → EReal) (ix1 k) := by
  have e : V m c main_v15 = shapeCast S1x256 (m ((c : Thread nD τ).loc main_arg7)) shapeCasts_S256_S1x256 := by
    unfold V
    after_results_simp <;> rfl
  rw [e]
  pointwise

/-- The weights with the rotary columns and their partners behind them. -/
theorem v12_eq (c : Dev nD) : ∃ y z : S1024x128.Idx → EReal, (V m c main_v12 : S1024x1408.Idx → EReal) =
    concatenate S1024x1408 1 [⟨S1024x1152, extractStridedSlice S1024x1152 ![0, 0] (m ((c : Thread nD τ).loc main_arg4) : S1024x1184.Idx → EReal) slices_S1024x1184_S1024x1152_0_0⟩,
      ⟨S1024x128, y⟩, ⟨S1024x128, z⟩] concatenates_S1024x1152_S1024x128_S1024x128_S1024x1408_d1 := by
  refine ⟨V m c main_v4, V m c main_v10, ?_⟩
  unfold V
  after_results_simp <;> rfl

theorem v12_apply (c : Dev nD) (k : Fin 1024) (j : Fin 256) : (V m c main_v12 : S1024x1408.Idx → EReal) (ix2 k (⟨896 + j.val, by omega⟩ : Fin 1408)) =
    (m ((c : Thread nD τ).loc main_arg4) : S1024x1184.Idx → EReal) (ix2 k (⟨896 + j.val, by omega⟩ : Fin 1184)) := by
  obtain ⟨y, z, e⟩ := v12_eq m c
  rw [e]
  pointwise
  exact dif_pos (by omega)

/-! ## The array -/

/-- What the kernel's result holds of its arguments. -/
def result (x : Spec.A2 32768 1024) (g : S1024.Idx → EReal) (w : Spec.A2 1024 1184) (gk : S256.Idx → EReal) : S32768x256.Idx → EReal := fun i =>
  Spec.out (fun k => x (ix2 (i 0) k)) (fun k => g (ix1 k)) w (fun k => gk (ix1 k)) (i 1)

/-- Device `c`'s result array, of its argument arrays. -/
abbrev goal (c : Dev nD) : Buf (Elt Ideal) ((c : Thread nD τ).loc main_v16_4) :=
  result (m ((c : Thread nD τ).loc main_arg0)) (m ((c : Thread nD τ).loc main_arg3)) (m ((c : Thread nD τ).loc main_arg4)) (m ((c : Thread nD τ).loc main_arg7))

/-- The product's columns, of the arguments. -/
theorem dot_eq (c : Dev nD) (t : Fin 64) (a : Fin 512) (j : Fin 256) :
    (k0_pay8 (iblk m c 0 t) (iblk m c 3 t) (iblk m c 4 t) : S512x256.Idx → EReal) (ix2 a j) =
      Spec.dot (fun k => (m ((c : Thread nD τ).loc main_arg0) : S32768x1024.Idx → EReal) (ix2 (tok t a) k)) (fun k => (m ((c : Thread nD τ).loc main_arg3) : S1024.Idx → EReal) (ix1 k))
        (m ((c : Thread nD τ).loc main_arg4)) j := by
  rw [dot_apply]
  unfold Spec.dot
  refine Finset.sum_congr rfl fun k _ => ?_
  have e0 : ∀ l : Fin 1024, (iblk m c 0 t : S512x1024.Idx → EReal) (ix2 a l) = (m ((c : Thread nD τ).loc main_arg0) : S32768x1024.Idx → EReal) (ix2 (tok t a) l) := fun l => by
    rw [iblk0, V_main_arg0]
  have e3 := (congrFun (iblk3 m c t) (ix2 (0 : Fin 1) k)).trans (v13_apply m c k)
  have e4 := (congrFun (iblk4 m c t) (ix2 k (⟨896 + j.val, by omega⟩ : Fin 1408))).trans (v12_apply m c k j)
  rw [e0 k, funext e0]
  exact congr (congrArg HMul.hMul (congrArg _ e3)) e4

/-- What point `t` writes back is the body's result for the latent's window. -/
theorem flushed (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t)) := by
  show (cfg0.win 16).cut (grid0.coords t) ((dats m 0 c).after 16 t) = _
  rw [after0_16]

/-- Every point writes back its block of the goal. -/
theorem flushed_eq (c : Dev nD) (t : Fin 64) : (dats m 0 c).flushed 16 t = ((cfg0.win 16).blk t).view.read (Elt Ideal) (goal m c) := by
  rw [flushed m c t]
  unfold_out out0_16
  frame_out
  funext i
  obtain ⟨a, j, rfl⟩ : ∃ (a : Fin 512) (j : Fin 256), i = (ix2 a j : S512x256.Idx) := ⟨i 0, i 1, eq_ix2 i⟩
  show k0_pay14 (k0_pay8 (iblk m c 0 t) (iblk m c 3 t) (iblk m c 4 t)) (iblk m c 7 t) (ix2 a j) = goal m c (((cfg0.win 16).blk t).view.emb (ix2 a j : S512x256.Idx))
  rw [emb16]
  refine (lat_apply _ _ a j).trans ?_
  rw [dot_eq, funext fun l => dot_eq m c t a l]
  exact congrArg _ ((congrFun (iblk7 m c t) (ix2 (0 : Fin 1) j)).trans (v15_apply m c j))

/-- Every entry is in some point's block. -/
theorem cover (i : S32768x256.Idx) : ∃ t : Fin cfg0.N, (cfg0.win 16).flush t = true ∧ i ∈ ((cfg0.win 16).blk t).view.set := by
  have h : (i 0).val < 32768 := (i 0).isLt
  let t : Fin 64 := ⟨(i 0).val / 512, by omega⟩
  refine ⟨t, flush0_16 t, ?_⟩
  have e : ((cfg0.win 16).blk t).view.emb (ix2 (⟨(i 0).val % 512, by omega⟩ : Fin 512) (i 1) : S512x256.Idx) = i := by
    refine (emb16 t _ _).trans ?_
    refine funext fun b => Fin.ext ?_
    match b with
    | ⟨0, _⟩ => show 512 * ((i 0).val / 512) + (i 0).val % 512 = (i 0).val; omega
    | ⟨1, _⟩ => rfl
  rw [← e]
  exact ((cfg0.win 16).blk t).view.emb_mem_set _

/-- So the array ends at the goal. -/
theorem final (c : Dev nD) : (dats m 0 c).arrAt 16 cfg0.N = goal m c :=
  (dats m 0 c).arrAt_eq_of_cover 16 (goal m c) (fun t _ => flushed_eq m c t) cover

/-- The kernel's run: the result at the goal, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v16_4) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨((h c).1 16).trans (final m c), ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c)))⟩)
    (run_main m ρ)

end

end Cert.Proof.Proj.Prompt

end
-- ==== Proof.Proj.PromptRef.lean ====
/-
  What the projection's reference leaves of the prompt, in extended reals.
-/
module

public import proofs.«01_k».proof.Proof.Proj.Spec
public import proofs.«01_k».proof.Proof.Gen.ProjRefIdeal
public import proofs.«01_k».proof.Proof.Gen.ProjRefIdeal.Run

@[expose] public section

noncomputable section

namespace Cert.Proof.Proj.PromptRef

open Cert.ProjRefIdeal Cert.ProjRefIdeal.Gen
open Idealize.ShloMosaic
open Cert.Proof.Proj

/-- The reciprocal root of each token's mean square. -/
def rinv (x : FVec Ideal S32768x1024 .f32) : FVec Ideal S32768x1 .f32 :=
  Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))

/-- The normed tokens times the latent's columns. -/
def dot (x : FVec Ideal S32768x1024 .f32) (g : FVec Ideal S1024 .f32) (w : FVec Ideal S1024x1184 .f32) : FVec Ideal S32768x256 .f32 :=
  Host.dotGeneral dot_S32768x1024_S1024x256_S32768x256_1_0_0_1_n_n none (mulf (mulf x (broadcastInDim S32768x1024 ![0, 1] bcast_S32768x1_S32768x1024_0_1 (rinv x))) (broadcastInDim S32768x1024 ![0, 1] bcast_S1x1024_S32768x1024_0_1 (broadcastInDim S1x1024 ![1] bcast_S1024_S1x1024_1 g))) (extractStridedSlice S1024x256 ![0, 896] w slices_S1024x1184_S1024x256_0_896)

/-- The reciprocal root of each latent row's mean square. -/
def linv (z : FVec Ideal S32768x256 .f32) : FVec Ideal S32768x1 .f32 :=
  Host.rsqrt (addf (Host.divf (broadcastInDim S32768x1 ![0] bcast_S32768_S32768x1_0 (Host.reduceAdd (mulf z z) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))

/-- The latent rows, of the product. -/
def out (z : FVec Ideal S32768x256 .f32) (gk : FVec Ideal S256 .f32) : FVec Ideal S32768x256 .f32 :=
  mulf (mulf z (broadcastInDim S32768x256 ![0, 1] bcast_S32768x1_S32768x256_0_1 (linv z))) (broadcastInDim S32768x256 ![0, 1] bcast_S1x256_S32768x256_0_1 (broadcastInDim S1x256 ![1] bcast_S256_S1x256_1 gk))

theorem rinv_apply (x : FVec Ideal S32768x1024 .f32) (r : Fin 32768) : rinv x (ix2 r 0) = Spec.inv fun k => x (ix2 r k) := by
  unfold rinv Spec.inv
  pointwise

theorem linv_apply (z : FVec Ideal S32768x256 .f32) (r : Fin 32768) : linv z (ix2 r 0) = Spec.linv fun k => z (ix2 r k) := by
  unfold linv Spec.linv
  pointwise

theorem dot_apply (x : FVec Ideal S32768x1024 .f32) (g : FVec Ideal S1024 .f32) (w : FVec Ideal S1024x1184 .f32) (r : Fin 32768) (j : Fin 256) :
    dot x g w (ix2 r j) = Spec.dot (fun k => x (ix2 r k)) (fun k => g (ix1 k)) w j := by
  unfold Spec.dot
  rw [← rinv_apply x r]
  unfold dot
  pointwise

/-- The reference's result, entry by entry. -/
theorem value (x : FVec Ideal S32768x1024 .f32) (g : FVec Ideal S1024 .f32) (w : FVec Ideal S1024x1184 .f32) (gk : FVec Ideal S256 .f32) (i : S32768x256.Idx) :
    out (dot x g w) gk i = Spec.out (fun k => x (ix2 (i 0) k)) (fun k => g (ix1 k)) w (fun k => gk (ix1 k)) (i 1) := by
  obtain ⟨r, j, rfl⟩ : ∃ (r : Fin 32768) (j : Fin 256), i = (ix2 r j : S32768x256.Idx) := ⟨i 0, i 1, eq_ix2 i⟩
  show _ = Spec.out (fun k => x (ix2 r k)) (fun k => g (ix1 k)) w (fun k => gk (ix1 k)) j
  unfold Spec.out
  rw [← funext fun l => dot_apply x g w r l, ← linv_apply (dot x g w) r]
  unfold out
  pointwise

end Cert.Proof.Proj.PromptRef

end
-- ==== Proof.Proj.Sample.lean ====
/-
  The latent rows the projection's kernel leaves of the sample, in extended reals.
-/
module

public import proofs.«01_k».proof.Proof.Proj.Spec
public import proofs.«01_k».proof.Proof.Gen.ProjSampleIdeal.Value
public import Idealize.ShloMosaic.Lib.Pipeline.ReadBack

@[expose] public section

noncomputable section

namespace Cert.Proof.Proj.Sample

open Cert.ProjSampleIdeal Cert.ProjSampleIdeal.Gen
open Idealize.ShloMosaic Idealize.ShloMosaic.TcCoe
open Cert.Proof.Proj

/-! ## The kernel's operations, entry by entry -/

section
variable (x0 : Vec Ideal S512x1024 .f32) (x3 : Vec Ideal S1x1024 .f32) (x4 : Vec Ideal S1024x1408 .bf16) (x7 : Vec Ideal S1x256 .f32)

/-- Column `896 + j` of the product, the weights having 1408 columns. -/
theorem dot_apply (a : Fin 512) (j : Fin 256) :
    (k0_pay7 x0 x3 x4 : S512x256.Idx → EReal) (ix2 a j) =
      ∑ k : Fin 1024, (x0 (ix2 a k) : EReal) * Spec.inv (fun l => x0 (ix2 a l)) * (x3 (ix2 (0 : Fin 1) k) : EReal) * (x4 (ix2 k (⟨896 + j.val, by omega⟩ : Fin 1408)) : EReal) := by
  unfold Spec.inv
  pointwise [k0_pay7, k0_pay4]

theorem lat_apply (z : FVec Ideal S512x256 .f32) (a : Fin 512) (j : Fin 256) :
    (k0_pay13 z x7 : S512x256.Idx → EReal) (ix2 a j) = (z (ix2 a j) : EReal) * Spec.linv (fun l => z (ix2 a l)) * (x7 (ix2 (0 : Fin 1) j) : EReal) := by
  unfold Spec.linv
  pointwise [k0_pay13]

end

/-! ## The windows -/

section
variable (m : (ℓ : Loc nD τ sig) → Buf (Elt Ideal) ℓ)

theorem index0 : ∀ t : Fin grid0.N, win0_0.index t 0 = t.val ∧ win0_0.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index7 : ∀ t : Fin grid0.N, win0_7.index t 0 = 0 ∧ win0_7.index t 1 = 0 := by decide +kernel
theorem index15 : ∀ t : Fin grid0.N, win0_15.index t 0 = t.val ∧ win0_15.index t 1 = 0 := by decide +kernel

/-- The token in row `a` of point `t`'s blocks. -/
def tok (t : Fin 1) (a : Fin 512) : Fin 512 := ⟨512 * t.val + a.val, by omega⟩

theorem iblk0 (c : Dev nD) (t : Fin 1) (a : Fin 512) (j : Fin 1024) :
    (iblk m c 0 t : S512x1024.Idx → EReal) (ix2 a j) = (V m c main_arg0 : S512x1024.Idx → EReal) (ix2 (tok t a) j) := by
  show V m c main_arg0 ((win0_0.rect t).emb (ix2 a j)) = _
  refine congrArg (V m c main_arg0) (funext fun b => Fin.ext ?_)
  refine (win0_0.rect_emb_val t _ b).trans ?_
  match b with
  | ⟨0, _⟩ => show win0_0.index t 0 * 512 + a.val = 512 * t.val + a.val; rw [(index0 t).1]; omega
  | ⟨1, _⟩ => show win0_0.index t 1 * 1024 + j.val = j.val; rw [(index0 t).2]; omega

theorem iblk3 (c : Dev nD) (t : Fin 1) : (iblk m c 3 t : S1x1024.Idx → EReal) = (V m c main_v13 : S1x1024.Idx → EReal) := by
  funext i
  show V m c main_v13 ((win0_3.rect t).emb i) = V m c main_v13 i
  refine congrArg (V m c main_v13) (funext fun b => Fin.ext ?_)
  match b with
  | ⟨0, _⟩ => exact win0_3.rect_emb_val_of_index_zero t 0 (index3 t).1 _
  | ⟨1, _⟩ => exact win0_3.rect_emb_val_of_index_zero t 1 (index3 t).2 _

theorem iblk4 (c : Dev nD) (t : Fin 1) : (iblk m c 4 t : S1024x1408.Idx → EReal) = (V m c main_v12 : S1024x1408.Idx → EReal) := by
  funext i
  show V m c main_v12 ((win0_4.rect t).emb i) = V m c main_v12 i
  refine congrArg (V m c main_v12) (funext fun b => Fin.ext ?_)
  match b with
  | ⟨0, _⟩ => exact win0_4.rect_emb_val_of_index_zero t 0 (index4 t).1 _
  | ⟨1, _⟩ => exact win0_4.rect_emb_val_of_index_zero t 1 (index4 t).2 _

theorem iblk7 (c : Dev nD) (t : Fin 1) : (iblk m c 7 t : S1x256.Idx → EReal) = (V m c main_v15 : S1x256.Idx → EReal) := by
  funext i
  show V m c main_v15 ((win0_7.rect t).emb i) = V m c main_v15 i
  refine congrArg (V m c main_v15) (funext fun b => Fin.ext ?_)
  match b with
  | ⟨0, _⟩ => exact win0_7.rect_emb_val_of_index_zero t 0 (index7 t).1 _
  | ⟨1, _⟩ => exact win0_7.rect_emb_val_of_index_zero t 1 (index7 t).2 _

theorem emb15 (t : Fin 1) (a : Fin 512) (j : Fin 256) : ((cfg0.win 15).blk t).view.emb (ix2 a j : S512x256.Idx) = (ix2 (tok t a) j : S512x256.Idx) := by
  show (win0_15.rect t).emb (ix2 a j) = _
  refine funext fun b => Fin.ext ?_
  refine (win0_15.rect_emb_val t _ b).trans ?_
  match b with
  | ⟨0, _⟩ => show win0_15.index t 0 * 512 + a.val = 512 * t.val + a.val; rw [(index15 t).1]; omega
  | ⟨1, _⟩ => show win0_15.index t 1 * 256 + j.val = j.val; rw [(index15 t).2]; omega

/-! ## What the host hands the kernel -/

theorem v13_apply (c : Dev nD) (k : Fin 1024) : (V m c main_v13 : S1x1024.Idx → EReal) (ix2 (0 : Fin 1) k) = (m ((c : Thread nD τ).loc main_arg3) : S1024.Idx → EReal) (ix1 k) := by
  have e : V m c main_v13 = shapeCast S1x1024 (m ((c : Thread nD τ).loc main_arg3)) shapeCasts_S1024_S1x1024 := by
    unfold V
    after_results_simp <;> rfl
  rw [e]
  pointwise

theorem v15_apply (c : Dev nD) (k : Fin 256) : (V m c main_v15 : S1x256.Idx → EReal) (ix2 (0 : Fin 1) k) = (m ((c : Thread nD τ).loc main_arg7) : S256.Idx → EReal) (ix1 k) := by
  have e : V m c main_v15 = shapeCast S1x256 (m ((c : Thread nD τ).loc main_arg7)) shapeCasts_S256_S1x256 := by
    unfold V
    after_results_simp <;> rfl
  rw [e]
  pointwise

/-- The weights with the rotary columns and their partners behind them. -/
theorem v12_eq (c : Dev nD) : ∃ y z : S1024x128.Idx → EReal, (V m c main_v12 : S1024x1408.Idx → EReal) =
    concatenate S1024x1408 1 [⟨S1024x1152, extractStridedSlice S1024x1152 ![0, 0] (m ((c : Thread nD τ).loc main_arg4) : S1024x1184.Idx → EReal) slices_S1024x1184_S1024x1152_0_0⟩,
      ⟨S1024x128, y⟩, ⟨S1024x128, z⟩] concatenates_S1024x1152_S1024x128_S1024x128_S1024x1408_d1 := by
  refine ⟨V m c main_v4, V m c main_v10, ?_⟩
  unfold V
  after_results_simp <;> rfl

theorem v12_apply (c : Dev nD) (k : Fin 1024) (j : Fin 256) : (V m c main_v12 : S1024x1408.Idx → EReal) (ix2 k (⟨896 + j.val, by omega⟩ : Fin 1408)) =
    (m ((c : Thread nD τ).loc main_arg4) : S1024x1184.Idx → EReal) (ix2 k (⟨896 + j.val, by omega⟩ : Fin 1184)) := by
  obtain ⟨y, z, e⟩ := v12_eq m c
  rw [e]
  pointwise
  exact dif_pos (by omega)

/-! ## The array -/

/-- What the kernel's result holds of its arguments. -/
def result (x : Spec.A2 512 1024) (g : S1024.Idx → EReal) (w : Spec.A2 1024 1184) (gk : S256.Idx → EReal) : S512x256.Idx → EReal := fun i =>
  Spec.out (fun k => x (ix2 (i 0) k)) (fun k => g (ix1 k)) w (fun k => gk (ix1 k)) (i 1)

/-- Device `c`'s result array, of its argument arrays. -/
abbrev goal (c : Dev nD) : Buf (Elt Ideal) ((c : Thread nD τ).loc main_v16_3) :=
  result (m ((c : Thread nD τ).loc main_arg0)) (m ((c : Thread nD τ).loc main_arg3)) (m ((c : Thread nD τ).loc main_arg4)) (m ((c : Thread nD τ).loc main_arg7))

/-- The product's columns, of the arguments. -/
theorem dot_eq (c : Dev nD) (t : Fin 1) (a : Fin 512) (j : Fin 256) :
    (k0_pay7 (iblk m c 0 t) (iblk m c 3 t) (iblk m c 4 t) : S512x256.Idx → EReal) (ix2 a j) =
      Spec.dot (fun k => (m ((c : Thread nD τ).loc main_arg0) : S512x1024.Idx → EReal) (ix2 (tok t a) k)) (fun k => (m ((c : Thread nD τ).loc main_arg3) : S1024.Idx → EReal) (ix1 k))
        (m ((c : Thread nD τ).loc main_arg4)) j := by
  rw [dot_apply]
  unfold Spec.dot
  refine Finset.sum_congr rfl fun k _ => ?_
  have e0 : ∀ l : Fin 1024, (iblk m c 0 t : S512x1024.Idx → EReal) (ix2 a l) = (m ((c : Thread nD τ).loc main_arg0) : S512x1024.Idx → EReal) (ix2 (tok t a) l) := fun l => by
    rw [iblk0, V_main_arg0]
  have e3 := (congrFun (iblk3 m c t) (ix2 (0 : Fin 1) k)).trans (v13_apply m c k)
  have e4 := (congrFun (iblk4 m c t) (ix2 k (⟨896 + j.val, by omega⟩ : Fin 1408))).trans (v12_apply m c k j)
  rw [e0 k, funext e0]
  exact congr (congrArg HMul.hMul (congrArg _ e3)) e4

/-- Every point writes back its block of the goal. -/
theorem flushed_eq (c : Dev nD) (t : Fin 1) : (dats m 0 c).flushed 15 t = ((cfg0.win 15).blk t).view.read (Elt Ideal) (goal m c) := by
  rw [Value.flushed15 m c t]
  unfold_out out0_15
  frame_out
  funext i
  obtain ⟨a, j, rfl⟩ : ∃ (a : Fin 512) (j : Fin 256), i = (ix2 a j : S512x256.Idx) := ⟨i 0, i 1, eq_ix2 i⟩
  show k0_pay13 (k0_pay7 (iblk m c 0 t) (iblk m c 3 t) (iblk m c 4 t)) (iblk m c 7 t) (ix2 a j) = goal m c (((cfg0.win 15).blk t).view.emb (ix2 a j : S512x256.Idx))
  rw [emb15]
  refine (lat_apply _ _ a j).trans ?_
  rw [dot_eq, funext fun l => dot_eq m c t a l]
  exact congrArg _ ((congrFun (iblk7 m c t) (ix2 (0 : Fin 1) j)).trans (v15_apply m c j))

/-- Every entry is in some point's block. -/
theorem cover (i : S512x256.Idx) : ∃ t : Fin cfg0.N, (cfg0.win 15).flush t = true ∧ i ∈ ((cfg0.win 15).blk t).view.set := by
  have h : (i 0).val < 512 := (i 0).isLt
  let t : Fin 1 := ⟨(i 0).val / 512, by omega⟩
  refine ⟨t, flush0_15 t, ?_⟩
  have e : ((cfg0.win 15).blk t).view.emb (ix2 (⟨(i 0).val % 512, by omega⟩ : Fin 512) (i 1) : S512x256.Idx) = i := by
    refine (emb15 t _ _).trans ?_
    refine funext fun b => Fin.ext ?_
    match b with
    | ⟨0, _⟩ => show 512 * ((i 0).val / 512) + (i 0).val % 512 = (i 0).val; omega
    | ⟨1, _⟩ => rfl
  rw [← e]
  exact ((cfg0.win 15).blk t).view.emb_mem_set _

/-- So the array ends at the goal. -/
theorem final (c : Dev nD) : (dats m 0 c).arrAt 15 cfg0.N = goal m c :=
  (dats m 0 c).arrAt_eq_of_cover 15 (goal m c) (fun t _ => flushed_eq m c t) cover

end

end Cert.Proof.Proj.Sample

end
-- ==== Proof.Proj.SampleRef.lean ====
/-
  What the projection's reference leaves of the sample, in extended reals.
-/
module

public import proofs.«01_k».proof.Proof.Proj.Spec
public import proofs.«01_k».proof.Proof.Gen.ProjSampleRefIdeal
public import proofs.«01_k».proof.Proof.Gen.ProjSampleRefIdeal.Run

@[expose] public section

noncomputable section

namespace Cert.Proof.Proj.SampleRef

open Cert.ProjSampleRefIdeal Cert.ProjSampleRefIdeal.Gen
open Idealize.ShloMosaic
open Cert.Proof.Proj

/-- The reciprocal root of each token's mean square. -/
def rinv (x : FVec Ideal S512x1024 .f32) : FVec Ideal S512x1 .f32 :=
  Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))

/-- The normed tokens times the latent's columns. -/
def dot (x : FVec Ideal S512x1024 .f32) (g : FVec Ideal S1024 .f32) (w : FVec Ideal S1024x1184 .f32) : FVec Ideal S512x256 .f32 :=
  Host.dotGeneral dot_S512x1024_S1024x256_S512x256_1_0_0_1_n_n none (mulf (mulf x (broadcastInDim S512x1024 ![0, 1] bcast_S512x1_S512x1024_0_1 (rinv x))) (broadcastInDim S512x1024 ![0, 1] bcast_S1x1024_S512x1024_0_1 (broadcastInDim S1x1024 ![1] bcast_S1024_S1x1024_1 g))) (extractStridedSlice S1024x256 ![0, 896] w slices_S1024x1184_S1024x256_0_896)

/-- The reciprocal root of each latent row's mean square. -/
def linv (z : FVec Ideal S512x256 .f32) : FVec Ideal S512x1 .f32 :=
  Host.rsqrt (addf (Host.divf (broadcastInDim S512x1 ![0] bcast_S512_S512x1_0 (Host.reduceAdd (mulf z z) (constant S_ .f32 0x00000000#32) reducesTo_S512x256_S512_d1 h_S_)) (broadcastInDim S512x1 ![] bcast_S_S512x1 (constant S_ .f32 0x43800000#32))) (broadcastInDim S512x1 ![] bcast_S_S512x1 (constant S_ .f32 0x358637BD#32)))

/-- The latent rows, of the product. -/
def out (z : FVec Ideal S512x256 .f32) (gk : FVec Ideal S256 .f32) : FVec Ideal S512x256 .f32 :=
  mulf (mulf z (broadcastInDim S512x256 ![0, 1] bcast_S512x1_S512x256_0_1 (linv z))) (broadcastInDim S512x256 ![0, 1] bcast_S1x256_S512x256_0_1 (broadcastInDim S1x256 ![1] bcast_S256_S1x256_1 gk))

theorem rinv_apply (x : FVec Ideal S512x1024 .f32) (r : Fin 512) : rinv x (ix2 r 0) = Spec.inv fun k => x (ix2 r k) := by
  unfold rinv Spec.inv
  pointwise

theorem linv_apply (z : FVec Ideal S512x256 .f32) (r : Fin 512) : linv z (ix2 r 0) = Spec.linv fun k => z (ix2 r k) := by
  unfold linv Spec.linv
  pointwise

theorem dot_apply (x : FVec Ideal S512x1024 .f32) (g : FVec Ideal S1024 .f32) (w : FVec Ideal S1024x1184 .f32) (r : Fin 512) (j : Fin 256) :
    dot x g w (ix2 r j) = Spec.dot (fun k => x (ix2 r k)) (fun k => g (ix1 k)) w j := by
  unfold Spec.dot
  rw [← rinv_apply x r]
  unfold dot
  pointwise

/-- The reference's result, entry by entry. -/
theorem value (x : FVec Ideal S512x1024 .f32) (g : FVec Ideal S1024 .f32) (w : FVec Ideal S1024x1184 .f32) (gk : FVec Ideal S256 .f32) (i : S512x256.Idx) :
    out (dot x g w) gk i = Spec.out (fun k => x (ix2 (i 0) k)) (fun k => g (ix1 k)) w (fun k => gk (ix1 k)) (i 1) := by
  obtain ⟨r, j, rfl⟩ : ∃ (r : Fin 512) (j : Fin 256), i = (ix2 r j : S512x256.Idx) := ⟨i 0, i 1, eq_ix2 i⟩
  show _ = Spec.out (fun k => x (ix2 r k)) (fun k => g (ix1 k)) w (fun k => gk (ix1 k)) j
  unfold Spec.out
  rw [← funext fun l => dot_apply x g w r l, ← linv_apply (dot x g w) r]
  unfold out
  pointwise

end Cert.Proof.Proj.SampleRef

end
-- ==== Proof.lean ====
/-
  The claims. The combine and its reference run to the end with their arguments as
  they were and every semaphore at zero, and end with the same result — bit for
  bit, and at the ideal instance. The experts and their reference run to the end in
  the same way, and end with the same result at the ideal instance; so do the gated
  sum with its embedding and their reference, of any arguments. One run of the combine
  and one of the experts, for any float values, serves its two frames and its value
  claims.
-/
module

public import proofs.«01_k».proof.Defs
public import proofs.«01_k».proof.Proof.Gen.Combine
public import proofs.«01_k».proof.Proof.Gen.Combine.Skeleton
public import proofs.«01_k».proof.Proof.Gen.CombineIdeal
public import proofs.«01_k».proof.Proof.Gen.CombineIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_range
public import proofs.«01_k».proof.Proof.Gen.Pre_sorted_rows
public import proofs.«01_k».proof.Proof.Gen.Experts
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsRefIdeal
public import proofs.«01_k».proof.Proof.Gen.ExpertsRefIdeal.Run
public import proofs.«01_k».proof.Proof.Gen.Ple
public import proofs.«01_k».proof.Proof.Gen.Ple.Frame
public import proofs.«01_k».proof.Proof.Gen.PleIdeal
public import proofs.«01_k».proof.Proof.Gen.PleIdeal.Value
public import proofs.«01_k».proof.Proof.Gen.PleRefIdeal
public import proofs.«01_k».proof.Proof.Gen.PleRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjSample
public import proofs.«01_k».proof.Proof.Gen.ProjSample.Frame
public import proofs.«01_k».proof.Proof.Gen.ProjSampleIdeal
public import proofs.«01_k».proof.Proof.Gen.ProjSampleIdeal.Value
public import proofs.«01_k».proof.Proof.Gen.ProjSampleRefIdeal
public import proofs.«01_k».proof.Proof.Gen.ProjSampleRefIdeal.Run
public import proofs.«01_k».proof.Proof.Value
public import proofs.«01_k».proof.Proof.Experts.Final
public import proofs.«01_k».proof.Proof.Experts.Same
public import proofs.«01_k».proof.Proof.Ple.RefValue
public import proofs.«01_k».proof.Proof.Ple.Value
public import proofs.«01_k».proof.Proof.Proj.Prompt
public import proofs.«01_k».proof.Proof.Proj.PromptRef
public import proofs.«01_k».proof.Proof.Proj.Sample
public import proofs.«01_k».proof.Proof.Proj.SampleRef
public import Idealize.ShloMosaic.Adequacy
public import Idealize.ShloMosaic.Init

@[expose] public section

noncomputable section

namespace Cert.Proof

open Idealize.ShloMosaic Idealize.SL.Sem Cert.Combine
open Cert.Proof.Launch Cert.Proof.Value

section
variable {F : FTy → Type} [FloatOps F] [∀ e, Nonempty (Elt F e)]

/-- The kernel's run where every index word names a row, the result written as the reference's term. -/
theorem kernel_run (m : (ℓ : Loc nD τ sig) → Buf (Elt F) ℓ) (ρ : Dev nD → PrngReg) (h : ∀ d : Dev nD, Named (m (xLoc d))) :
    θ_run (Cert.Combine.defs (F := F)) (Cert.Combine.threads (F := F)) ⟨m, fun _ => 0, ρ⟩ fun r =>
      (∀ d : Dev nD, r.2.mem (oLoc d) = refOut (m (yLoc d)) (m (xLoc d)) ∧ r.2.mem (yLoc d) = m (yLoc d) ∧ r.2.mem (xLoc d) = m (xLoc d))
      ∧ r.2.sem = fun _ => 0 :=
  (θ_run _ _ _).mono (fun _ q => ⟨fun d => ⟨(q.1 d).2.2.trans (refOut_eq _ (h d)).symm, (q.1 d).1, (q.1 d).2.1⟩, q.2⟩)
    (run_main m ρ fun d => inRange_tbl (h d))

end

theorem frame_kernel : @Cert.quiescent_Combine Cert.Combine.Gen.facts Cert.Pre_in_range.Gen.facts := fun m ρ hp =>
  (θ_run _ _ _).mono (fun _ q => ⟨fun c => (q.1 c).2, q.2⟩) (kernel_run (F := Bits) m ρ fun d => named_of_pre _ _ (hp d))

theorem frame_ideal : @Cert.quiescent_CombineIdeal Cert.CombineIdeal.Gen.facts Cert.Pre_in_range.Gen.facts := fun m ρ hp =>
  (θ_run _ _ _).mono (fun _ q => ⟨fun c => (q.1 c).2, q.2⟩) (kernel_run (F := Ideal) m ρ fun d => named_of_pre (F := Ideal) (m (yLoc d)) (m (xLoc d)) (hp d))

theorem frame_reference : @Cert.quiescent_Reference Cert.Reference.Gen.facts Cert.Pre_in_range.Gen.facts := fun m ρ _ =>
  (θ_run _ _ _).mono (fun r q => ⟨fun c => (q c).2, sem_eq_zero_of_no_sems (by decide) r.2⟩) (Cert.Reference.Value.run (F := Bits) m ρ)

theorem frame_reference_ideal : @Cert.quiescent_ReferenceIdeal Cert.ReferenceIdeal.Gen.facts Cert.Pre_in_range.Gen.facts := fun m ρ _ =>
  (θ_run _ _ _).mono (fun r q => ⟨fun c => (q c).2, sem_eq_zero_of_no_sems (by decide) r.2⟩) (Cert.ReferenceIdeal.Value.run (F := Ideal) m ρ)

theorem bits_equal : @Cert.bitexact_Combine_Reference Cert.Combine.Gen.facts Cert.Reference.Gen.facts Cert.Pre_in_range.Gen.facts :=
  fun m ρ m' ρ' hp hag => ⟨fun c => refOut (F := Bits) (m (yLoc c)) (m (xLoc c)),
    (θ_run _ _ _).mono (fun _ q c => q.1 c) (kernel_run (F := Bits) m ρ fun d => named_of_pre _ _ (hp d)),
    (θ_run _ _ _).mono (fun _ q c => ⟨(q c).1.trans (congrArg₂ (refOut (F := Bits)) (hag c).1 (hag c).2), (q c).2⟩) (Cert.Reference.Value.run (F := Bits) m' ρ')⟩

theorem ideal_equal : @Cert.algebraic_CombineIdeal_ReferenceIdeal Cert.CombineIdeal.Gen.facts Cert.ReferenceIdeal.Gen.facts Cert.Pre_in_range.Gen.facts :=
  fun m ρ m' ρ' hp hag => ⟨fun c => refOut (F := Ideal) (m (yLoc c)) (m (xLoc c)),
    (θ_run _ _ _).mono (fun _ q c => q.1 c) (kernel_run (F := Ideal) m ρ fun d => named_of_pre (F := Ideal) (m (yLoc d)) (m (xLoc d)) (hp d)),
    (θ_run _ _ _).mono (fun _ q c => ⟨(q c).1.trans (congrArg₂ (refOut (F := Ideal)) (hag c).1 (hag c).2), (q c).2⟩)
      (Cert.ReferenceIdeal.Value.run (F := Ideal) m' ρ')⟩

/-! ## The experts -/

theorem frame_experts : @Cert.quiescent_Experts Cert.Experts.Gen.facts Cert.Pre_sorted_rows.Gen.facts := fun m ρ hp =>
  Experts.run_of_ideal (F := Bits) _ _ ((θ_run (Cert.ExpertsIdeal.defs (F := Bits)) _ _).mono (fun _ q => ⟨fun c => (q.1 c).2, q.2⟩)
    (Experts.experts_run (F := Bits) m ρ (Experts.total_of_pre (F := Bits) _ _ _ _ _ _ (hp 0))))

theorem frame_experts_ideal : @Cert.quiescent_ExpertsIdeal Cert.ExpertsIdeal.Gen.facts Cert.Pre_sorted_rows.Gen.facts := fun m ρ hp =>
  (θ_run _ _ _).mono (fun _ q => ⟨fun c => (q.1 c).2, q.2⟩) (Experts.experts_run (F := Ideal) m ρ (Experts.total_of_pre (F := Ideal) _ _ _ _ _ _ (hp 0)))

theorem frame_experts_reference : @Cert.quiescent_ExpertsRefIdeal Cert.ExpertsRefIdeal.Gen.facts Cert.Pre_sorted_rows.Gen.facts := fun m ρ _ =>
  (θ_run _ _ _).mono (fun r q => ⟨fun c => (q c).2, sem_eq_zero_of_no_sems (by decide) r.2⟩) (Cert.ExpertsRefIdeal.Value.run (F := Ideal) m ρ)

/-- The experts' reference as a function of its six arguments. -/
theorem out_congr {a a' n n' w w' b b' d d' b2 b2'} (h0 : a' = a) (h1 : n' = n) (h2 : w' = w) (h3 : b' = b) (h4 : d' = d) (h5 : b2' = b2) :
    Experts.Ref.out a' n' w' b' d' b2' = Experts.Ref.out a n w b d b2 := by
  subst h0 h1 h2 h3 h4 h5
  rfl

theorem experts_equal : @Cert.algebraic_ExpertsIdeal_ExpertsRefIdeal Cert.ExpertsIdeal.Gen.facts Cert.ExpertsRefIdeal.Gen.facts Cert.Pre_sorted_rows.Gen.facts :=
  fun m ρ m' ρ' hp hag =>
    have hN := Experts.total_of_pre (F := Ideal) _ _ _ _ _ _ (hp 0)
    ⟨fun c => Experts.RES (Experts.num m) (Experts.VV m) c,
      (θ_run _ _ _).mono (fun _ q c => q.1 c) (Experts.experts_run (F := Ideal) m ρ hN),
      (θ_run _ _ _).mono (fun _ q c => ⟨((q c).1.trans (Experts.Ref.res_eq m' c)).trans
          ((out_congr (hag c).1 (hag c).2.1 (hag c).2.2.1 (hag c).2.2.2.1 (hag c).2.2.2.2.1 (hag c).2.2.2.2.2).trans (Experts.value_eq m hN c).symm), (q c).2⟩)
        (Cert.ExpertsRefIdeal.Value.run (F := Ideal) m' ρ')⟩

/-! ## The gated sum and the per-layer embedding -/

theorem frame_ple : @Cert.quiescent_Ple Cert.Ple.Gen.facts := fun m ρ _ => Cert.Ple.Gen.frame m ρ

theorem frame_ple_ideal : @Cert.quiescent_PleIdeal Cert.PleIdeal.Gen.facts := fun m ρ _ => Cert.PleIdeal.Gen.frame m ρ

theorem frame_ple_reference : @Cert.quiescent_PleRefIdeal Cert.PleRefIdeal.Gen.facts := fun m ρ _ =>
  (θ_run _ _ _).mono (fun r q => ⟨fun c => (q c).2, sem_eq_zero_of_no_sems (by decide) r.2⟩) (Cert.PleRefIdeal.Value.run (F := Ideal) m ρ)

/-- The embedding's reference as a function of its seven arguments. -/
theorem embed_congr {a0 b0 a1 b1 a2 b2 a3 b3 a4 b4 a5 b5 a6 b6} (h0 : b0 = a0) (h1 : b1 = a1) (h2 : b2 = a2) (h3 : b3 = a3) (h4 : b4 = a4) (h5 : b5 = a5)
    (h6 : b6 = a6) : Ple.Ref.out (Ple.Ref.sum b0 b1 b2) b3 b4 b5 b6 = Ple.Value.result a0 a1 a2 a3 a4 a5 a6 := by
  subst h0 h1 h2 h3 h4 h5 h6
  exact funext fun i => Ple.Ref.value _ _ _ _ _ _ _ i

theorem ple_equal : @Cert.algebraic_PleIdeal_PleRefIdeal Cert.PleIdeal.Gen.facts Cert.PleRefIdeal.Gen.facts :=
  fun m ρ m' ρ' _ hag =>
    ⟨fun c => Ple.Value.goal m c,
      (θ_run _ _ _).mono (fun _ q c => ⟨(q c).1.trans (Ple.Value.final m c), (q c).2⟩) (Cert.PleIdeal.Value.run_blocks (F := Ideal) m ρ),
      (θ_run _ _ _).mono (fun _ q c => ⟨(q c).1.trans
          (embed_congr (hag c).1 (hag c).2.1 (hag c).2.2.1 (hag c).2.2.2.1 (hag c).2.2.2.2.1 (hag c).2.2.2.2.2.1 (hag c).2.2.2.2.2.2), (q c).2⟩)
        (Cert.PleRefIdeal.Value.run (F := Ideal) m' ρ')⟩

/-! ## The latent rows of the input projection -/

theorem frame_proj : @Cert.quiescent_Proj Cert.Proj.Gen.facts := fun m ρ _ => Cert.Proj.Gen.frame m ρ

theorem frame_proj_ideal : @Cert.quiescent_ProjIdeal Cert.ProjIdeal.Gen.facts := fun m ρ _ => Cert.ProjIdeal.Gen.frame m ρ

theorem frame_proj_reference : @Cert.quiescent_ProjRefIdeal Cert.ProjRefIdeal.Gen.facts := fun m ρ _ =>
  (θ_run _ _ _).mono (fun r q => ⟨fun c => (q c).2, sem_eq_zero_of_no_sems (by decide) r.2⟩) (Cert.ProjRefIdeal.Value.run (F := Ideal) m ρ)

/-- The prompt's projection's reference as a function of the four arguments it reads. -/
theorem proj_congr {a0 b0 a1 b1 a2 b2 a3 b3} (h0 : b0 = a0) (h1 : b1 = a1) (h2 : b2 = a2) (h3 : b3 = a3) :
    Proj.PromptRef.out (Proj.PromptRef.dot b0 b1 b2) b3 = Proj.Prompt.result a0 a1 a2 a3 := by
  subst h0 h1 h2 h3
  exact funext fun i => Proj.PromptRef.value _ _ _ _ i

theorem proj_equal : @Cert.algebraic_ProjIdeal_ProjRefIdeal Cert.ProjIdeal.Gen.facts Cert.ProjRefIdeal.Gen.facts :=
  fun m ρ m' ρ' _ hag =>
    ⟨fun c => Proj.Prompt.goal m c,
      Proj.Prompt.run m ρ,
      (θ_run _ _ _).mono (fun _ q c => ⟨(q c).1.trans (proj_congr (hag c).1 (hag c).2.2.2.1 (hag c).2.2.2.2.1 (hag c).2.2.2.2.2.2.2.1), (q c).2⟩)
        (Cert.ProjRefIdeal.Value.run (F := Ideal) m' ρ')⟩

theorem frame_projs : @Cert.quiescent_ProjSample Cert.ProjSample.Gen.facts := fun m ρ _ => Cert.ProjSample.Gen.frame m ρ

theorem frame_projs_ideal : @Cert.quiescent_ProjSampleIdeal Cert.ProjSampleIdeal.Gen.facts := fun m ρ _ => Cert.ProjSampleIdeal.Gen.frame m ρ

theorem frame_projs_reference : @Cert.quiescent_ProjSampleRefIdeal Cert.ProjSampleRefIdeal.Gen.facts := fun m ρ _ =>
  (θ_run _ _ _).mono (fun r q => ⟨fun c => (q c).2, sem_eq_zero_of_no_sems (by decide) r.2⟩) (Cert.ProjSampleRefIdeal.Value.run (F := Ideal) m ρ)

/-- The sample's projection's reference as a function of the four arguments it reads. -/
theorem projs_congr {a0 b0 a1 b1 a2 b2 a3 b3} (h0 : b0 = a0) (h1 : b1 = a1) (h2 : b2 = a2) (h3 : b3 = a3) :
    Proj.SampleRef.out (Proj.SampleRef.dot b0 b1 b2) b3 = Proj.Sample.result a0 a1 a2 a3 := by
  subst h0 h1 h2 h3
  exact funext fun i => Proj.SampleRef.value _ _ _ _ i

theorem projs_equal : @Cert.algebraic_ProjSampleIdeal_ProjSampleRefIdeal Cert.ProjSampleIdeal.Gen.facts Cert.ProjSampleRefIdeal.Gen.facts :=
  fun m ρ m' ρ' _ hag =>
    ⟨fun c => Proj.Sample.goal m c,
      (θ_run _ _ _).mono (fun _ q c => ⟨(q c).2.2.2.1.trans (Proj.Sample.final m c), (q c).2.2.2.2.2.2⟩) (Cert.ProjSampleIdeal.Value.run_blocks (F := Ideal) m ρ),
      (θ_run _ _ _).mono (fun _ q c => ⟨(q c).1.trans (projs_congr (hag c).1 (hag c).2.2.2.1 (hag c).2.2.2.2.1 (hag c).2.2.2.2.2.2.2.1), (q c).2⟩)
        (Cert.ProjSampleRefIdeal.Value.run (F := Ideal) m' ρ')⟩

theorem claim : Cert.Claim := ⟨Cert.Combine.Gen.facts, Cert.CombineIdeal.Gen.facts, Cert.ReferenceIdeal.Gen.facts, Cert.Reference.Gen.facts,
  Cert.Experts.Gen.facts, Cert.ExpertsIdeal.Gen.facts, Cert.ExpertsRefIdeal.Gen.facts, Cert.Ple.Gen.facts, Cert.PleIdeal.Gen.facts, Cert.PleRefIdeal.Gen.facts,
  Cert.Proj.Gen.facts, Cert.ProjIdeal.Gen.facts, Cert.ProjRefIdeal.Gen.facts, Cert.ProjSample.Gen.facts, Cert.ProjSampleIdeal.Gen.facts, Cert.ProjSampleRefIdeal.Gen.facts,
  Cert.Pre_in_range.Gen.facts, Cert.Pre_sorted_rows.Gen.facts,
  frame_kernel, frame_ideal, frame_reference_ideal, frame_reference, frame_experts, frame_experts_ideal, frame_experts_reference,
  frame_ple, frame_ple_ideal, frame_ple_reference,
  frame_proj, frame_proj_ideal, frame_proj_reference, frame_projs, frame_projs_ideal, frame_projs_reference,
  trivial, ideal_equal, bits_equal, trivial, experts_equal, trivial, ple_equal, trivial, proj_equal, trivial, projs_equal⟩

end Cert.Proof

end
